-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_table_finite [hPre_table_finite : Cert.Pre_table_finite.Facts] (m : (ℓ : Loc Cert.KernelIdeal.nD Cert.KernelIdeal.τ Cert.KernelIdeal.sig) → Buf (Elt Ideal) ℓ) : Prop :=
  ∀ c : Dev Cert.KernelIdeal.nD,
    (Cert.Pre_table_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_table_finite [hPre_table_finite : Cert.Pre_table_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_table_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_table_finite [hKernelIdeal : Cert.KernelIdeal.Facts] [hPre_table_finite : Cert.Pre_table_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_table_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_table_finite [hReferenceIdeal : Cert.ReferenceIdeal.Facts] [hPre_table_finite : Cert.Pre_table_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_table_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def preserves_Kernel_KernelIdeal : Prop :=
  True

def algebraic_KernelIdeal_ReferenceIdeal_pre_table_finite [hKernelIdeal : Cert.KernelIdeal.Facts] [hReferenceIdeal : Cert.ReferenceIdeal.Facts] [hPre_table_finite : Cert.Pre_table_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_table_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v84_0)) (v1 : (c : Dev Cert.Kernel2Ideal.nD) → Buf (Elt Ideal) ((c.tc : Thread Cert.Kernel2Ideal.nD Cert.Kernel2Ideal.τ).loc Cert.Kernel2Ideal.main_v84_1)) (v2 : (c : Dev Cert.Kernel2Ideal.nD) → Buf (Elt Ideal) ((c.tc : Thread Cert.Kernel2Ideal.nD Cert.Kernel2Ideal.τ).loc Cert.Kernel2Ideal.main_v84_2)) (v3 : (c : Dev Cert.Kernel2Ideal.nD) → Buf (Elt Ideal) ((c.tc : Thread Cert.Kernel2Ideal.nD Cert.Kernel2Ideal.τ).loc Cert.Kernel2Ideal.main_v95)) (v4 : (c : Dev Cert.Kernel2Ideal.nD) → Buf (Elt Ideal) ((c.tc : Thread Cert.Kernel2Ideal.nD Cert.Kernel2Ideal.τ).loc Cert.Kernel2Ideal.main_v90)) (v5 : (c : Dev Cert.Kernel2Ideal.nD) → Buf (Elt Ideal) ((c.tc : Thread Cert.Kernel2Ideal.nD Cert.Kernel2Ideal.τ).loc Cert.Kernel2Ideal.main_v93)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v84_0) = v0 c
          ∧ r.2.mem ((c.tc : Thread Cert.Kernel2Ideal.nD Cert.Kernel2Ideal.τ).loc Cert.Kernel2Ideal.main_v84_1) = v1 c
          ∧ r.2.mem ((c.tc : Thread Cert.Kernel2Ideal.nD Cert.Kernel2Ideal.τ).loc Cert.Kernel2Ideal.main_v84_2) = v2 c
          ∧ r.2.mem ((c.tc : Thread Cert.Kernel2Ideal.nD Cert.Kernel2Ideal.τ).loc Cert.Kernel2Ideal.main_v95) = v3 c
          ∧ r.2.mem ((c.tc : Thread Cert.Kernel2Ideal.nD Cert.Kernel2Ideal.τ).loc Cert.Kernel2Ideal.main_v90) = v4 c
          ∧ r.2.mem ((c.tc : Thread Cert.Kernel2Ideal.nD Cert.Kernel2Ideal.τ).loc Cert.Kernel2Ideal.main_v93) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v194) = v0 c
          ∧ r.2.mem ((c.tc : Thread Cert.Reference2Ideal.nD Cert.Reference2Ideal.τ).loc Cert.Reference2Ideal.main_v195) = v1 c
          ∧ r.2.mem ((c.tc : Thread Cert.Reference2Ideal.nD Cert.Reference2Ideal.τ).loc Cert.Reference2Ideal.main_v196) = v2 c
          ∧ r.2.mem ((c.tc : Thread Cert.Reference2Ideal.nD Cert.Reference2Ideal.τ).loc Cert.Reference2Ideal.main_v123) = v3 c
          ∧ r.2.mem ((c.tc : Thread Cert.Reference2Ideal.nD Cert.Reference2Ideal.τ).loc Cert.Reference2Ideal.main_v178) = v4 c
          ∧ r.2.mem ((c.tc : Thread Cert.Reference2Ideal.nD Cert.Reference2Ideal.τ).loc Cert.Reference2Ideal.main_v155) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)) (v2 : (c : Dev Cert.Kernel3Ideal.nD) → Buf (Elt Ideal) ((c.tc : Thread Cert.Kernel3Ideal.nD Cert.Kernel3Ideal.τ).loc Cert.Kernel3Ideal.main_v10_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_v10_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)) (v3 : (c : Dev Cert.Kernel5Ideal.nD) → Buf (Elt Ideal) ((c.tc : Thread Cert.Kernel5Ideal.nD Cert.Kernel5Ideal.τ).loc Cert.Kernel5Ideal.main_v6_3)) (v4 : (c : Dev Cert.Kernel5Ideal.nD) → Buf (Elt Ideal) ((c.tc : Thread Cert.Kernel5Ideal.nD Cert.Kernel5Ideal.τ).loc Cert.Kernel5Ideal.main_v6_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_v6_3) = v3 c
          ∧ r.2.mem ((c.tc : Thread Cert.Kernel5Ideal.nD Cert.Kernel5Ideal.τ).loc Cert.Kernel5Ideal.main_v6_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v29) = v3 c
          ∧ r.2.mem ((c.tc : Thread Cert.Reference5Ideal.nD Cert.Reference5Ideal.τ).loc Cert.Reference5Ideal.main_v26) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v23) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v39) = v0 c
          ∧ r.2.mem ((c.tc : Thread Cert.Reference7Ideal.nD Cert.Reference7Ideal.τ).loc Cert.Reference7Ideal.main_v41) = v1 c
          ∧ r.2.mem ((c.tc : Thread Cert.Reference7Ideal.nD Cert.Reference7Ideal.τ).loc Cert.Reference7Ideal.main_v40) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5_0) = v0 c
          ∧ r.2.mem ((c.tc : Thread Cert.Kernel11Ideal.nD Cert.Kernel11Ideal.τ).loc Cert.Kernel11Ideal.main_v5_1) = v1 c
          ∧ r.2.mem ((c.tc : Thread Cert.Kernel11Ideal.nD Cert.Kernel11Ideal.τ).loc Cert.Kernel11Ideal.main_v5_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v3) = v1 c
          ∧ r.2.mem ((c.tc : Thread Cert.Reference11Ideal.nD Cert.Reference11Ideal.τ).loc Cert.Reference11Ideal.main_v6) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v19) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_table_finite : Cert.Pre_table_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_finite8 : Cert.Pre_finite8.Facts) (hPre_finite9 : Cert.Pre_finite9.Facts) (hPre_finite10 : Cert.Pre_finite10.Facts) (hPre_finite11 : Cert.Pre_finite11.Facts) (hPre_finite12 : Cert.Pre_finite12.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_KernelIdeal_pre_table_finite (hKernelIdeal := hKernelIdeal) (hPre_table_finite := hPre_table_finite)
    ∧ quiescent_ReferenceIdeal (hReferenceIdeal := hReferenceIdeal)
    ∧ quiescent_ReferenceIdeal_pre_table_finite (hReferenceIdeal := hReferenceIdeal) (hPre_table_finite := hPre_table_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_table_finite (hKernelIdeal := hKernelIdeal) (hReferenceIdeal := hReferenceIdeal) (hPre_table_finite := hPre_table_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
-- ==== Pre_finite10.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S4096x1024 .f32) (main_arg3 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_finite11.lean ====
abbrev S4096x1024 : Shape := ⟨2, ![4096, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S4096x1024 .f32) (main_arg1 : FVec F S1024x2816 .f32) (main_arg2 : FVec F S1024x2816 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  main_v13
-- ==== Pre_finite12.lean ====
abbrev S2x512 : Shape := ⟨2, ![2, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel

variable [Facts]

def fn {F : FTy → Type} [FloatOps F] (main_arg0 : FVec F S2x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  main_v3
-- ==== Pre_finite13.lean ====
abbrev S8x257 : Shape := ⟨2, ![8, 257]⟩
abbrev S_ : Shape := ⟨0, ![]⟩

class Facts : Prop where
  bcast_S_S8x257 : S_.BroadcastsInDim S8x257 (![] : Fin 0 → Fin S8x257.rank)
  reducesTo_S8x257_S_d0_1 : S8x257.ReducesTo [0, 1] S_
  h_S_ : 0 < S_.numel

variable [Facts]

def fn {F : FTy → Type} [FloatOps F] (main_arg0 : FVec F S8x257 .f32) : IVec S_ 1 :=
  let main_v0 : FVec F S8x257 .f32 := Host.absf main_arg0
  let main_cst : FVec F S_ .f32 := constant S_ .f32 0x7F800000#32
  let main_v1 : FVec F S8x257 .f32 := broadcastInDim S8x257 ![] bcast_S_S8x257 main_cst
  let main_v2 : IVec S8x257 1 := cmpf .olt main_v0 main_v1
  let main_c : IVec S_ 1 := constantI S_ 1 1#1
  let main_v3 : IVec S_ 1 := (fun x v => Host.reduce IntOp.andi x v reducesTo_S8x257_S_d0_1 h_S_) main_v2 main_c
  main_v3
-- ==== Pre_finite14.lean ====
abbrev S4096x1024 : Shape := ⟨2, ![4096, 1024]⟩
abbrev S1024x3584 : Shape := ⟨2, ![1024, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_

variable [Facts]

def fn {F : FTy → Type} [FloatOps F] (main_arg0 : FVec F S4096x1024 .f32) (main_arg1 : FVec F S1024x3584 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x3584 .f32 := Host.absf main_arg1
  let main_cst_0 : FVec F S_ .f32 := constant S_ .f32 0x7F800000#32
  let main_v5 : FVec F S1024x3584 .f32 := broadcastInDim S1024x3584 ![] bcast_S_S1024x3584 main_cst_0
  let main_v6 : IVec S1024x3584 1 := cmpf .olt main_v4 main_v5
  let main_c_1 : IVec S_ 1 := constantI S_ 1 1#1
  let main_v7 : IVec S_ 1 := (fun x v => Host.reduce IntOp.andi x v reducesTo_S1024x3584_S_d0_1 h_S_) main_v6 main_c_1
  let main_v8 : IVec S_ 1 := andi main_v3 main_v7
  main_v8
-- ==== Pre_finite2.lean ====
abbrev S4096x3584 : Shape := ⟨2, ![4096, 3584]⟩
abbrev S4096x1024 : Shape := ⟨2, ![4096, 1024]⟩
abbrev S8x64x576 : Shape := ⟨3, ![8, 64, 576]⟩
abbrev S1x64 : Shape := ⟨2, ![1, 64]⟩
abbrev S_ : Shape := ⟨0, ![]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8x64x576 : S_.BroadcastsInDim S8x64x576 (![] : Fin 0 → Fin S8x64x576.rank)
  reducesTo_S8x64x576_S_d0_1_2 : S8x64x576.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S4096x3584 .f32) (main_arg1 : FVec F S4096x1024 .f32) (main_arg2 : FVec F S8x64x576 .f32) (main_arg3 : FVec F S1x64 .f32) (main_arg4 : FVec F S1x64 .f32) : IVec S_ 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8x64x576 .f32 := Host.absf main_arg2
  let main_cst_2 : FVec F S_ .f32 := constant S_ .f32 0x7F800000#32
  let main_v10 : FVec F S8x64x576 .f32 := broadcastInDim S8x64x576 ![] bcast_S_S8x64x576 main_cst_2
  let main_v11 : IVec S8x64x576 1 := cmpf .olt main_v9 main_v10
  let main_c_3 : IVec S_ 1 := constantI S_ 1 1#1
  let main_v12 : IVec S_ 1 := (fun x v => Host.reduce IntOp.andi x v reducesTo_S8x64x576_S_d0_1_2 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_v13 main_v16
-- ==== Pre_finite3.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite4.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S4096x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x2816 .f32) (main_arg1 : FVec F S1024x2816 .f32) (main_arg2 : FVec F S4096x1024 .f32) (main_arg3 : FVec F S4096x1024 .f32) (main_arg4 : FVec F S1x1024 .f32) (main_arg5 : FVec F S4096x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite5.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S4096x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S4096x1024 .f32) (main_arg2 : FVec F S1024x2816 .f32) (main_arg3 : FVec F S1024x2816 .f32) (main_arg4 : FVec F S2816x1024 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite6.lean ====
abbrev S2x8x64x576 : Shape := ⟨4, ![2, 8, 64, 576]⟩
abbrev S_ : Shape := ⟨0, ![]⟩

class Facts : Prop where
  bcast_S_S2x8x64x576 : S_.BroadcastsInDim S2x8x64x576 (![] : Fin 0 → Fin S2x8x64x576.rank)
  reducesTo_S2x8x64x576_S_d0_1_2_3 : S2x8x64x576.ReducesTo [0, 1, 2, 3] S_
  h_S_ : 0 < S_.numel

variable [Facts]

def fn {F : FTy → Type} [FloatOps F] (main_arg0 : FVec F S2x8x64x576 .f32) : IVec S_ 1 :=
  let main_v0 : FVec F S2x8x64x576 .f32 := Host.absf main_arg0
  let main_cst : FVec F S_ .f32 := constant S_ .f32 0x7F800000#32
  let main_v1 : FVec F S2x8x64x576 .f32 := broadcastInDim S2x8x64x576 ![] bcast_S_S2x8x64x576 main_cst
  let main_v2 : IVec S2x8x64x576 1 := cmpf .olt main_v0 main_v1
  let main_c : IVec S_ 1 := constantI S_ 1 1#1
  let main_v3 : IVec S_ 1 := (fun x v => Host.reduce IntOp.andi x v reducesTo_S2x8x64x576_S_d0_1_2_3 h_S_) main_v2 main_c
  main_v3
-- ==== Pre_finite7.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S_ : Shape := ⟨0, ![]⟩

class Facts : Prop where
  bcast_S_S4096x3584 : S_.BroadcastsInDim S4096x3584 (![] : Fin 0 → Fin S4096x3584.rank)
  reducesTo_S4096x3584_S_d0_1 : S4096x3584.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x3584 .f32) (main_arg1 : FVec F S1024x3584 .f32) (main_arg2 : FVec F S4096x1024 .f32) (main_arg3 : FVec F S1x1024 .f32) (main_arg4 : FVec F S4096x1024 .f32) : IVec S_ 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_c : IVec S_ 1 := constantI S_ 1 1#1
  let main_v3 : IVec S_ 1 := (fun x v => Host.reduce IntOp.andi x v reducesTo_S4096x3584_S_d0_1 h_S_) main_v2 main_c
  let main_v4 : FVec F S1024x3584 .f32 := Host.absf main_arg1
  let main_cst_0 : FVec F S_ .f32 := constant S_ .f32 0x7F800000#32
  let main_v5 : FVec F S1024x3584 .f32 := broadcastInDim S1024x3584 ![] bcast_S_S1024x3584 main_cst_0
  let main_v6 : IVec S1024x3584 1 := cmpf .olt main_v4 main_v5
  let main_c_1 : IVec S_ 1 := constantI S_ 1 1#1
  let main_v7 : IVec S_ 1 := (fun x v => Host.reduce IntOp.andi x v reducesTo_S1024x3584_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Pre_finite8.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Pre_finite9.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  main_v18

def fn {F : FTy → Type} [FloatOps F] (main_arg0 : FVec F S4096x2816 .f32) (main_arg1 : FVec F S2816x1024 .f32) (main_arg2 : FVec F S4096x1024 .f32) (main_arg3 : FVec F S1x1024 .f32) : IVec S_ 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_v13 main_v16
-- ==== Pre_table_finite.lean ====
abbrev S2x512 : Shape := ⟨2, ![2, 512]⟩
abbrev S2x1x512 : Shape := ⟨3, ![2, 1, 512]⟩
abbrev S_ : Shape := ⟨0, ![]⟩

class Facts : Prop where
  bcast_S_S2x512 : S_.BroadcastsInDim S2x512 (![] : Fin 0 → Fin S2x512.rank)
  reducesTo_S2x512_S_d0_1 : S2x512.ReducesTo [0, 1] S_
  h_S_ : 0 < S_.numel
  bcast_S_S2x1x512 : S_.BroadcastsInDim S2x1x512 (![] : Fin 0 → Fin S2x1x512.rank)
  reducesTo_S2x1x512_S_d0_1_2 : S2x1x512.ReducesTo [0, 1, 2] S_

variable [Facts]

def fn {F : FTy → Type} [FloatOps F] (main_arg0 : FVec F S2x512 .f32) (main_arg1 : FVec F S2x1x512 .f32) : IVec S_ 1 :=
  let main_v0 : FVec F S2x512 .f32 := Host.absf main_arg0
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  let main_c : IVec S_ 1 := constantI S_ 1 1#1
  let main_v3 : IVec S_ 1 := (fun x v => Host.reduce IntOp.andi x v reducesTo_S2x512_S_d0_1 h_S_) main_v2 main_c
  let main_v4 : FVec F S2x1x512 .f32 := Host.absf main_arg1
  let main_cst_0 : FVec F S_ .f32 := constant S_ .f32 0x7F800000#32
  let main_v5 : FVec F S2x1x512 .f32 := broadcastInDim S2x1x512 ![] bcast_S_S2x1x512 main_cst_0
  let main_v6 : IVec S2x1x512 1 := cmpf .olt main_v4 main_v5
  let main_c_1 : IVec S_ 1 := constantI S_ 1 1#1
  let main_v7 : IVec S_ 1 := (fun x v => Host.reduce IntOp.andi x v reducesTo_S2x1x512_S_d0_1_2 h_S_) main_v6 main_c_1
  let main_v8 : IVec S_ 1 := andi main_v3 main_v7
  main_v8
-- ==== Kernel.lean ====
abbrev S2x512 : Shape := ⟨2, ![2, 512]⟩
abbrev S2x1x512 : Shape := ⟨3, ![2, 1, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 3
  | .vmem => 3
  | .smem => 0
  | _ => 0

abbrev bufTy : (tb : Table) → Fin (tcTables nBuf tb) → BufTy
  | .hbm, ⟨0, _⟩ => ⟨S2x512, .f32⟩
  | .hbm, ⟨1, _⟩ => ⟨S2x1x512, .f32⟩
  | .hbm, ⟨2, _⟩ => ⟨S2x512, .f32⟩
  | .local _ .vmem, ⟨0, _⟩ => ⟨S2x512, .f32⟩
  | .local _ .vmem, ⟨1, _⟩ => ⟨S2x1x512, .f32⟩
  | .local _ .vmem, ⟨2, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x512 : Shape := ⟨2, ![2, 512]⟩
abbrev S2x1x512 : Shape := ⟨3, ![2, 1, 512]⟩
abbrev S_ : Shape := ⟨0, ![]⟩
abbrev S512 : Shape := ⟨1, ![512]⟩
abbrev S1x512 : Shape := ⟨2, ![1, 512]⟩

abbrev nBuf : Space → Nat
  | .hbm => 67
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x1x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S2x512, .f32⟩
  | .hbm, ⟨6, _⟩ => ⟨S2x512, .i1⟩
  | .hbm, ⟨7, _⟩ => ⟨S2x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S2x512, .f32⟩
  | .hbm, ⟨29, _⟩ => ⟨S2x512, .f32⟩
  | .hbm, ⟨30, _⟩ => ⟨S2x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S2x512, .f32⟩
  | .hbm, ⟨35, _⟩ => ⟨S2x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S2x512, .f32⟩
  | .hbm, ⟨43, _⟩ => ⟨S1x512, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S1x512, .f32⟩
  | .hbm, ⟨48, _⟩ => ⟨S_, .f32⟩
  | .hbm, ⟨49, _⟩ => ⟨S2x512, .f32⟩
  | .hbm, ⟨50, _⟩ => ⟨S_, .f32⟩
  | .hbm, ⟨51, _⟩ => ⟨S_, .f32⟩
  | .hbm, ⟨52, _⟩ => ⟨S2x512, .f32⟩
  | .hbm, ⟨53, _⟩ => ⟨S2x512, .f32⟩
  | .hbm, ⟨54, _⟩ => ⟨S2x512, .f32⟩
  | .hbm, ⟨55, _⟩ => ⟨S2x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S1x512, .f32⟩
  | .hbm, ⟨60, _⟩ => ⟨S2x512, .f32⟩
  | .hbm, ⟨61, _⟩ => ⟨S2x512, .f32⟩
  | .hbm, ⟨62, _⟩ => ⟨S_, .f32⟩
  | .hbm, ⟨63, _⟩ => ⟨S512, .f32⟩
  | .hbm, ⟨64, _⟩ => ⟨S2x512, .f32⟩
  | .hbm, ⟨65, _⟩ => ⟨S2x512, .f32⟩
  | .hbm, ⟨66, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_call1_call0_cst : Ref sig .tc := ⟨.hbm, 50, rfl⟩
abbrev main_call1_call0_v0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_12 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== Kernel2.lean ====
abbrev S4096x3584 : Shape := ⟨2, ![4096, 3584]⟩
abbrev S4096x1024 : Shape := ⟨2, ![4096, 1024]⟩
abbrev S8x64x576 : Shape := ⟨3, ![8, 64, 576]⟩
abbrev S1x64 : Shape := ⟨2, ![1, 64]⟩
abbrev S4096x512 : Shape := ⟨2, ![4096, 512]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x32x64x8x64 : Shape := ⟨5, ![2, 32, 64, 8, 64]⟩
abbrev S2x512x8x64 : Shape := ⟨4, ![2, 512, 8, 64]⟩
abbrev S2x2560x8x64 : Shape := ⟨4, ![2, 2560, 8, 64]⟩
abbrev S2x1x2560x8x64 : Shape := ⟨5, ![2, 1, 2560, 8, 64]⟩
abbrev S2x33x2560x8x64 : Shape := ⟨5, ![2, 33, 2560, 8, 64]⟩
abbrev S2x84480x8x64 : Shape := ⟨4, ![2, 84480, 8, 64]⟩
abbrev S2x83968x8x64 : Shape := ⟨4, ![2, 83968, 8, 64]⟩
abbrev S2x32x2624x8x64 : Shape := ⟨5, ![2, 32, 2624, 8, 64]⟩
abbrev S2x32x576x8x64 : Shape := ⟨5, ![2, 32, 576, 8, 64]⟩
abbrev S2x32x8x64x576 : Shape := ⟨5, ![2, 32, 8, 64, 576]⟩
abbrev S1x1x8x64x576 : Shape := ⟨5, ![1, 1, 8, 64, 576]⟩
abbrev S32x576 : Shape := ⟨2, ![32, 576]⟩
abbrev S1x32x1x1x576 : Shape := ⟨5, ![1, 32, 1, 1, 576]⟩
abbrev S2x32x8x64 : Shape := ⟨4, ![2, 32, 8, 64]⟩
abbrev S2x32x8x64x1 : Shape := ⟨5, ![2, 32, 8, 64, 1]⟩
abbrev S2x32x8x64x64 : Shape := ⟨5, ![2, 32, 8, 64, 64]⟩
abbrev S8x64x64 : Shape := ⟨3, ![8, 64, 64]⟩
abbrev S8x64x640 : Shape := ⟨3, ![8, 64, 640]⟩
abbrev S4x128x640 : Shape := ⟨3, ![4, 128, 640]⟩
abbrev S4x640x128 : Shape := ⟨3, ![4, 640, 128]⟩
abbrev S2560x128 : Shape := ⟨2, ![2560, 128]⟩
abbrev S1x128 : Shape := ⟨2, ![1, 128]⟩
abbrev S2x2560x128 : Shape := ⟨3, ![2, 2560, 128]⟩
abbrev S8x1x128 : Shape := ⟨3, ![8, 1, 128]⟩
abbrev S2048x128 : Shape := ⟨2, ![2048, 128]⟩
abbrev S640x128 : Shape := ⟨2, ![640, 128]⟩
abbrev S1x640x128 : Shape := ⟨3, ![1, 640, 128]⟩
abbrev S1x1x128 : Shape := ⟨3, ![1, 1, 128]⟩
abbrev S2624x128 : Shape := ⟨2, ![2624, 128]⟩
abbrev S128x128 : Shape := ⟨2, ![128, 128]⟩
abbrev S576x128 : Shape := ⟨2, ![576, 128]⟩
abbrev S64x128 : Shape := ⟨2, ![64, 128]⟩
abbrev S128 : Shape := ⟨1, ![128]⟩
abbrev S8x128 : Shape := ⟨2, ![8, 128]⟩
abbrev S128x640 : Shape := ⟨2, ![128, 640]⟩
abbrev S2x4x640x2x64 : Shape := ⟨5, ![2, 4, 640, 2, 64]⟩
abbrev S2x4x2x64x640 : Shape := ⟨5, ![2, 4, 2, 64, 640]⟩
abbrev S2x8x64x640 : Shape := ⟨4, ![2, 8, 64, 640]⟩
abbrev S16x64 : Shape := ⟨2, ![16, 64]⟩
abbrev S64 : Shape := ⟨1, ![64]⟩

abbrev nBuf : Space → Nat
  | .hbm => 127
  | .vmem => 33
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S8x64x576, .f32⟩
  | .hbm, ⟨3, _⟩ => ⟨S1x64, .f32⟩
  | .hbm, ⟨4, _⟩ => ⟨S1x64, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S2x2048x8x64, .f32⟩
  | .hbm, ⟨9, _⟩ => ⟨S2x2048x8x64, .f32⟩
  | .hbm, ⟨10, _⟩ => ⟨S_, .f32⟩
  | .hbm, ⟨11, _⟩ => ⟨S2x2048x8, .f32⟩
  | .hbm, ⟨12, _⟩ => ⟨S2x2048x8x1, .f32⟩
  | .hbm, ⟨13, _⟩ => ⟨S_, .f32⟩
  | .hbm, ⟨14, _⟩ => ⟨S2x2048x8x1, .f32⟩
  | .hbm, ⟨15, _⟩ => ⟨S2x2048x8x1, .f32⟩
  | .hbm, ⟨16, _⟩ => ⟨S_, .f32⟩
  | .hbm, ⟨17, _⟩ => ⟨S2x2048x8x1, .f32⟩
  | .hbm, ⟨18, _⟩ => ⟨S2x2048x8x1, .f32⟩
  | .hbm, ⟨19, _⟩ => ⟨S2x2048x8x1, .f32⟩
  | .hbm, ⟨20, _⟩ => ⟨S2x2048x8x64, .f32⟩
  | .hbm, ⟨21, _⟩ => ⟨S2x2048x8x64, .f32⟩
  | .hbm, ⟨22, _⟩ => ⟨S1x1x1x64, .f32⟩
  | .hbm, ⟨23, _⟩ => ⟨S2x2048x8x64, .f32⟩
  | .hbm, ⟨24, _⟩ => ⟨S2x2048x8x64, .f32⟩
  | .hbm, ⟨25, _⟩ => ⟨S2x32x64x8x64, .f32⟩
  | .hbm, ⟨26, _⟩ => ⟨S2x2048x8x64, .f32⟩
  | .hbm, ⟨27, _⟩ => ⟨S2x2048x8x64, .f32⟩
  | .hbm, ⟨28, _⟩ => ⟨S_, .f32⟩
  | .hbm, ⟨29, _⟩ => ⟨S2x2048x8, .f32⟩
  | .hbm, ⟨30, _⟩ => ⟨S2x2048x8x1, .f32⟩
  | .hbm, ⟨31, _⟩ => ⟨S_, .f32⟩
  | .hbm, ⟨32, _⟩ => ⟨S2x2048x8x1, .f32⟩
  | .hbm, ⟨33, _⟩ => ⟨S2x2048x8x1, .f32⟩
  | .hbm, ⟨34, _⟩ => ⟨S_, .f32⟩
  | .hbm, ⟨35, _⟩ => ⟨S2x2048x8x1, .f32⟩
  | .hbm, ⟨36, _⟩ => ⟨S2x2048x8x1, .f32⟩
  | .hbm, ⟨37, _⟩ => ⟨S2x2048x8x1, .f32⟩
  | .hbm, ⟨38, _⟩ => ⟨S2x2048x8x64, .f32⟩
  | .hbm, ⟨39, _⟩ => ⟨S2x2048x8x64, .f32⟩
  | .hbm, ⟨40, _⟩ => ⟨S1x1x1x64, .f32⟩
  | .hbm, ⟨41, _⟩ => ⟨S2x2048x8x64, .f32⟩
  | .hbm, ⟨42, _⟩ => ⟨S2x2048x8x64, .f32⟩
  | .hbm, ⟨43, _⟩ => ⟨S2x2048x8x64, .f32⟩
  | .hbm, ⟨44, _⟩ => ⟨S_, .f32⟩
  | .hbm, ⟨45, _⟩ => ⟨S2x512x8x64, .f32⟩
  | .hbm, ⟨46, _⟩ => ⟨S2x2560x8x64, .f32⟩
  | .hbm, ⟨47, _⟩ => ⟨S2x1x2560x8x64, .f32⟩
  | .hbm, ⟨48, _⟩ => ⟨S2x33x2560x8x64, .f32⟩
  | .hbm, ⟨49, _⟩ => ⟨S2x84480x8x64, .f32⟩
  | .hbm, ⟨50, _⟩ => ⟨S2x83968x8x64, .f32⟩
  | .hbm, ⟨51, _⟩ => ⟨S2x32x2624x8x64, .f32⟩
  | .hbm, ⟨52, _⟩ => ⟨S2x32x576x8x64, .f32⟩
  | .hbm, ⟨53, _⟩ => ⟨S2x2560x8x64, .f32⟩
  | .hbm, ⟨54, _⟩ => ⟨S2x1x2560x8x64, .f32⟩
  | .hbm, ⟨55, _⟩ => ⟨S2x33x2560x8x64, .f32⟩
  | .hbm, ⟨56, _⟩ => ⟨S2x84480x8x64, .f32⟩
  | .hbm, ⟨57, _⟩ => ⟨S2x83968x8x64, .f32⟩
  | .hbm, ⟨58, _⟩ => ⟨S2x32x2624x8x64, .f32⟩
  | .hbm, ⟨59, _⟩ => ⟨S2x32x576x8x64, .f32⟩
  | .hbm, ⟨60, _⟩ => ⟨S2x32x8x64x576, .f32⟩
  | .hbm, ⟨61, _⟩ => ⟨S_, .f32⟩
  | .hbm, ⟨62, _⟩ => ⟨S2x32x8x64x576, .f32⟩
  | .hbm, ⟨63, _⟩ => ⟨S2x32x8x64x576, .f32⟩
  | .hbm, ⟨64, _⟩ => ⟨S1x1x8x64x576, .f32⟩
  | .hbm, ⟨65, _⟩ => ⟨S2x32x8x64x576, .f32⟩
  | .hbm, ⟨66, _⟩ => ⟨S2x32x8x64x576, .f32⟩
  | .hbm, ⟨67, _⟩ => ⟨S32x576, .i32⟩
  | .hbm, ⟨68, _⟩ => ⟨S_, .i32⟩
  | .hbm, ⟨69, _⟩ => ⟨S32x576, .i32⟩
  | .hbm, ⟨70, _⟩ => ⟨S32x576, .i32⟩
  | .hbm, ⟨71, _⟩ => ⟨S32x576, .i32⟩
  | .hbm, ⟨72, _⟩ => ⟨S32x576, .i32⟩
  | .hbm, ⟨73, _⟩ => ⟨S_, .i32⟩
  | .hbm, ⟨74, _⟩ => ⟨S32x576, .i32⟩
  | .hbm, ⟨75, _⟩ => ⟨S32x576, .i1⟩
  | .hbm, ⟨76, _⟩ => ⟨S1x32x1x1x576, .i1⟩
  | .hbm, ⟨77, _⟩ => ⟨S_, .f32⟩
  | .hbm, ⟨78, _⟩ => ⟨S_, .f32⟩
  | .hbm, ⟨79, _⟩ => ⟨S2x32x8x64x576, .i1⟩
  | .hbm, ⟨80, _⟩ => ⟨S2x32x8x64x576, .f32⟩
  | .hbm, ⟨81, _⟩ => ⟨S2x32x8x64x576, .f32⟩
  | .hbm, ⟨82, _⟩ => ⟨S_, .f32⟩
  | .hbm, ⟨83, _⟩ => ⟨S2x32x8x64, .f32⟩
  | .hbm, ⟨84, _⟩ => ⟨S_, .f32⟩
  | .hbm, ⟨85, _⟩ => ⟨S2x32x8x64, .f32⟩
  | .hbm, ⟨86, _⟩ => ⟨S2x32x8x64, .f32⟩
  | .hbm, ⟨87, _⟩ => ⟨S2x32x8x64x1, .f32⟩
  | .hbm, ⟨88, _⟩ => ⟨S2x32x8x64x576, .f32⟩
  | .hbm, ⟨89, _⟩ => ⟨S2x32x8x64x576, .f32⟩
  | .hbm, ⟨90, _⟩ => ⟨S2x32x8x64x576, .f32⟩
  | .hbm, ⟨91, _⟩ => ⟨S_, .f32⟩
  | .hbm, ⟨92, _⟩ => ⟨S2x32x8x64, .f32⟩
  | .hbm, ⟨93, _⟩ => ⟨S2x32x8x64x1, .f32⟩
  | .hbm, ⟨94, _⟩ => ⟨S2x32x8x64x576, .f32⟩
  | .hbm, ⟨95, _⟩ => ⟨S2x32x8x64x576, .f32⟩
  | .hbm, ⟨96, _⟩ => ⟨S2x32x8x64x64, .f32⟩
  | .hbm, ⟨97, _⟩ => ⟨S2x32x64x8x64, .f32⟩
  | .hbm, ⟨98, _⟩ => ⟨S4096x512, .f32⟩
  | .hbm, ⟨99, _⟩ => ⟨S_, .f32⟩
  | .hbm, ⟨100, _⟩ => ⟨S8x64x64, .f32⟩
  | .hbm, ⟨101, _⟩ => ⟨S8x64x640, .f32⟩
  | .hbm, ⟨102, _⟩ => ⟨S4x128x640, .f32⟩
  | .hbm, ⟨103, _⟩ => ⟨S4x640x128, .f32⟩
  | .hbm, ⟨104, _⟩ => ⟨S2560x128, .f32⟩
  | .hbm, ⟨105, _⟩ => ⟨S1x128, .f32⟩
  | .hbm, ⟨106, _⟩ => ⟨S1x128, .f32⟩
  | .hbm, ⟨107, _⟩ => ⟨S4096x512, .bf16⟩
  | .hbm, ⟨108, _⟩ => ⟨S4096x512, .bf16⟩
  | .hbm, ⟨109, _⟩ => ⟨S4096x512, .bf16⟩
  | .hbm, ⟨110, _⟩ => ⟨S2x2560x128, .f32⟩
  | .hbm, ⟨111, _⟩ => ⟨S8x1x128, .f32⟩
  | .hbm, ⟨112, _⟩ => ⟨S8x1x128, .f32⟩
  | .hbm, ⟨113, _⟩ => ⟨S2x4x640x2x64, .f32⟩
  | .hbm, ⟨114, _⟩ => ⟨S2x4x2x64x640, .f32⟩
  | .hbm, ⟨115, _⟩ => ⟨S2x8x64x640, .f32⟩
  | .hbm, ⟨116, _⟩ => ⟨S16x64, .f32⟩
  | .hbm, ⟨117, _⟩ => ⟨S_, .f32⟩
  | .hbm, ⟨118, _⟩ => ⟨S64, .f32⟩
  | .hbm, ⟨119, _⟩ => ⟨S1x64, .f32⟩
  | .hbm, ⟨120, _⟩ => ⟨S16x64, .f32⟩
  | .hbm, ⟨121, _⟩ => ⟨S_, .f32⟩
  | .hbm, ⟨122, _⟩ => ⟨S64, .f32⟩
  | .hbm, ⟨123, _⟩ => ⟨S1x64, .f32⟩
  | .hbm, ⟨124, _⟩ => ⟨S_, .f32⟩
  | .hbm, ⟨125, _⟩ => ⟨S8x64x640, .f32⟩
  | .hbm, ⟨126, _⟩ => ⟨S8x64x576, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S640x128, .f32⟩
  | .local _ .vmem, ⟨11, _⟩ => ⟨S640x128, .f32⟩
  | .local _ .vmem, ⟨12, _⟩ => ⟨S1x128, .f32⟩
  | .local _ .vmem, ⟨13, _⟩ => ⟨S1x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S1x640x128, .f32⟩
  | .local _ .vmem, ⟨21, _⟩ => ⟨S1x640x128, .f32⟩
  | .local _ .vmem, ⟨22, _⟩ => ⟨S1x1x128, .f32⟩
  | .local _ .vmem, ⟨23, _⟩ => ⟨S1x1x128, .f32⟩
  | .local _ .vmem, ⟨24, _⟩ => ⟨S1x1x128, .f32⟩
  | .local _ .vmem, ⟨25, _⟩ => ⟨S1x1x128, .f32⟩
  | .local _ .vmem, ⟨26, _⟩ => ⟨S2048x128, .bf16⟩
  | .local _ .vmem, ⟨27, _⟩ => ⟨S2624x128, .bf16⟩
  | .local _ .vmem, ⟨28, _⟩ => ⟨S2624x128, .bf16⟩
  | .local _ .vmem, ⟨29, _⟩ => ⟨S2048x128, .f32⟩
  | .local _ .vmem, ⟨30, _⟩ => ⟨S2624x128, .f32⟩
  | .local _ .vmem, ⟨31, _⟩ => ⟨S2624x128, .f32⟩
  | .local _ .vmem, ⟨32, _⟩ => ⟨S640x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c_7 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v62 : Ref sig .tc := ⟨.hbm, 81, rfl⟩
abbrev main_cst_9 : Ref sig .tc := ⟨.hbm, 82, rfl⟩
abbrev main_v63 : Ref sig .tc := ⟨.hbm, 83, rfl⟩
abbrev main_cst_10 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_12 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84_0 : Ref sig .tc := ⟨.hbm, 107, rfl⟩
abbrev main_v84_1 : Ref sig .tc := ⟨.hbm, 108, rfl⟩
abbrev main_v84_2 : Ref sig .tc := ⟨.hbm, 109, rfl⟩
abbrev main_v84_3 : Ref sig .tc := ⟨.hbm, 110, rfl⟩
abbrev main_v84_4 : Ref sig .tc := ⟨.hbm, 111, rfl⟩
abbrev main_v84_5 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_14 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32 : BitVec 32 := 0#32
  let c8_i32 : BitVec 32 := 8#32
  let v105 : BitVec 32 := Scalar.addi c0_i32 c8_i32
  let c1_i32 : BitVec 32 := 1#32
  ⟨c0_i32, v105, c1_i32⟩
def k0_mult1 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32 : BitVec 32 := 4#32
  let v197 : BitVec 32 := Scalar.muli arg23 c4_i32
  let c0_i32_88 : BitVec 32 := 0#32
  let v198 : BitVec 32 := Scalar.addi v197 c0_i32_88
  let c64_i32_93 : BitVec 32 := 64#32
  let v205 : BitVec 32 := Scalar.muli v198 c64_i32_93
  v205
def k0_off1 (k0_t1 : Fin k0_t1_loop.trips) (c0_i32_88 : BitVec 32) : Fin 2 → Nat :=
  let c0_i32 : BitVec 32 := 0#32
  let c1_i32 : BitVec 32 := 1#32
  let arg23 : BitVec 32 := Scf.iv c0_i32 c1_i32 k0_t1
  let c4_i32 : BitVec 32 := 4#32
  let v197 : BitVec 32 := Scalar.muli arg23 c4_i32
  let v198 : BitVec 32 := Scalar.addi v197 c0_i32_88
  let c64_i32_93 : BitVec 32 := 64#32
  let v205 : BitVec 32 := Scalar.muli v198 c64_i32_93
  let v206 : BitVec 32 := v205
  let v207 : Index := Scalar.indexCast v206
  let c0_94 : Index := 0#32
  ![v207.toNat, 0]
def k0_off2 (k0_t1 : Fin k0_t1_loop.trips) (c0_i32_88 : BitVec 32) : Fin 2 → Nat :=
  let c0_i32 : BitVec 32 := 0#32
  let c1_i32 : BitVec 32 := 1#32
  let arg23 : BitVec 32 := Scf.iv c0_i32 c1_i32 k0_t1
  let c4_i32 : BitVec 32 := 4#32
  let v197 : BitVec 32 := Scalar.muli arg23 c4_i32
  let v198 : BitVec 32 := Scalar.addi v197 c0_i32_88
  let c64_i32_93 : BitVec 32 := 64#32
  let v205 : BitVec 32 := Scalar.muli v198 c64_i32_93
  let v206 : BitVec 32 := v205
  let v216 : Index := Scalar.indexCast v206
  let c0_97 : Index := 0#32
  ![v216.toNat, 0]
def k0_mult2 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32_89 : BitVec 32 := 4#32
  let v199 : BitVec 32 := Scalar.muli arg23 c4_i32_89
  let c1_i32_90 : BitVec 32 := 1#32
  let v200 : BitVec 32 := Scalar.addi v199 c1_i32_90
  let c64_i32_106 : BitVec 32 := 64#32
  let v235 : BitVec 32 := Scalar.muli v200 c64_i32_106
  v235
def k0_mult3 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32_91 : BitVec 32 := 4#32
  let v201 : BitVec 32 := Scalar.muli arg23 c4_i32_91
  let c2_i32 : BitVec 32 := 2#32
  let v202 : BitVec 32 := Scalar.addi v201 c2_i32
  let c64_i32_119 : BitVec 32 := 64#32
  let v265 : BitVec 32 := Scalar.muli v202 c64_i32_119
  v265
def k0_mult4 (k0_t1 : Fin k0_t1_loop.trips) : BitVec 32 :=
  let c0_i32 : BitVec 32 := 0#32
  let c1_i32 : BitVec 32 := 1#32
  let arg23 : BitVec 32 := Scf.iv c0_i32 c1_i32 k0_t1
  let c4_i32_92 : BitVec 32 := 4#32
  let v203 : BitVec 32 := Scalar.muli arg23 c4_i32_92
  let c3_i32 : BitVec 32 := 3#32
  let v204 : BitVec 32 := Scalar.addi v203 c3_i32
  let c64_i32_132 : BitVec 32 := 64#32
  let v295 : BitVec 32 := Scalar.muli v204 c64_i32_132
  v295
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x640x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4096x3584 : Shape := ⟨2, ![4096, 3584]⟩
abbrev S4096x1024 : Shape := ⟨2, ![4096, 1024]⟩
abbrev S8x64x576 : Shape := ⟨3, ![8, 64, 576]⟩
abbrev S1x64 : Shape := ⟨2, ![1, 64]⟩
abbrev S4096x512 : Shape := ⟨2, ![4096, 512]⟩
abbrev S2x2048x8x64 : Shape := ⟨4, ![2, 2048, 8, 64]⟩
abbrev S_ : Shape := ⟨0, ![]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x32x64x8x64 : Shape := ⟨5, ![2, 32, 64, 8, 64]⟩
abbrev S2x512x8x64 : Shape := ⟨4, ![2, 512, 8, 64]⟩
abbrev S2x2560x8x64 : Shape := ⟨4, ![2, 2560, 8, 64]⟩
abbrev S2x1x2560x8x64 : Shape := ⟨5, ![2, 1, 2560, 8, 64]⟩
abbrev S2x33x2560x8x64 : Shape := ⟨5, ![2, 33, 2560, 8, 64]⟩
abbrev S2x84480x8x64 : Shape := ⟨4, ![2, 84480, 8, 64]⟩
abbrev S2x83968x8x64 : Shape := ⟨4, ![2, 83968, 8, 64]⟩
abbrev S2x32x2624x8x64 : Shape := ⟨5, ![2, 32, 2624, 8, 64]⟩
abbrev S2x32x576x8x64 : Shape := ⟨5, ![2, 32, 576, 8, 64]⟩
abbrev S2x32x8x64x576 : Shape := ⟨5, ![2, 32, 8, 64, 576]⟩
abbrev S1x1x8x64x576 : Shape := ⟨5, ![1, 1, 8, 64, 576]⟩
abbrev S32x576 : Shape := ⟨2, ![32, 576]⟩
abbrev S1x32x1x1x576 : Shape := ⟨5, ![1, 32, 1, 1, 576]⟩
abbrev S2x32x8x64 : Shape := ⟨4, ![2, 32, 8, 64]⟩
abbrev S2x32x8x64x1 : Shape := ⟨5, ![2, 32, 8, 64, 1]⟩
abbrev S2x32x8x64x64 : Shape := ⟨5, ![2, 32, 8, 64, 64]⟩
abbrev S2x32x8x576x64 : Shape := ⟨5, ![2, 32, 8, 576, 64]⟩
abbrev S64 : Shape := ⟨1, ![64]⟩

abbrev nBuf : Space → Nat
  | .hbm => 257
  | .vmem => 0
  | .smem => 0
  | _ => 0

abbrev hbmTy0_0 (i : Nat) : BufTy := match i % 128 with
  | 0 => ⟨S4096x3584, .f32⟩
  | 1 => ⟨S4096x1024, .f32⟩
  | 2 => ⟨S8x64x576, .f32⟩
  | 3 => ⟨S1x64, .f32⟩
  | 4 => ⟨S1x64, .f32⟩
  | 5 => ⟨S4096x512, .f32⟩
  | 6 => ⟨S4096x512, .f32⟩
  | 7 => ⟨S4096x512, .f32⟩
  | 8 => ⟨S2x2048x8x64, .f32⟩
  | 9 => ⟨S2x2048x8x64, .f32⟩
  | 10 => ⟨S_, .f32⟩
  | 11 => ⟨S2x2048x8, .f32⟩
  | 12 => ⟨S2x2048x8x1, .f32⟩
  | 13 => ⟨S_, .f32⟩
  | 14 => ⟨S2x2048x8x1, .f32⟩
  | 15 => ⟨S2x2048x8x1, .f32⟩
  | 16 => ⟨S_, .f32⟩
  | 17 => ⟨S2x2048x8x1, .f32⟩
  | 18 => ⟨S2x2048x8x1, .f32⟩
  | 19 => ⟨S2x2048x8x1, .f32⟩
  | 20 => ⟨S2x2048x8x1, .f32⟩
  | 21 => ⟨S_, .f32⟩
  | 22 => ⟨S2x2048x8x1, .f32⟩
  | 23 => ⟨S2x2048x8x1, .f32⟩
  | 24 => ⟨S2x2048x8x64, .f32⟩
  | 25 => ⟨S2x2048x8x64, .f32⟩
  | 26 => ⟨S1x1x1x64, .f32⟩
  | 27 => ⟨S2x2048x8x64, .f32⟩
  | 28 => ⟨S2x2048x8x64, .f32⟩
  | 29 => ⟨S2x32x64x8x64, .f32⟩
  | 30 => ⟨S2x2048x8x64, .f32⟩
  | 31 => ⟨S2x2048x8x64, .f32⟩
  | 32 => ⟨S_, .f32⟩
  | 33 => ⟨S2x2048x8, .f32⟩
  | 34 => ⟨S2x2048x8x1, .f32⟩
  | 35 => ⟨S_, .f32⟩
  | 36 => ⟨S2x2048x8x1, .f32⟩
  | 37 => ⟨S2x2048x8x1, .f32⟩
  | 38 => ⟨S_, .f32⟩
  | 39 => ⟨S2x2048x8x1, .f32⟩
  | 40 => ⟨S2x2048x8x1, .f32⟩
  | 41 => ⟨S2x2048x8x1, .f32⟩
  | 42 => ⟨S2x2048x8x1, .f32⟩
  | 43 => ⟨S_, .f32⟩
  | 44 => ⟨S2x2048x8x1, .f32⟩
  | 45 => ⟨S2x2048x8x1, .f32⟩
  | 46 => ⟨S2x2048x8x64, .f32⟩
  | 47 => ⟨S2x2048x8x64, .f32⟩
  | 48 => ⟨S1x1x1x64, .f32⟩
  | 49 => ⟨S2x2048x8x64, .f32⟩
  | 50 => ⟨S2x2048x8x64, .f32⟩
  | 51 => ⟨S2x2048x8x64, .f32⟩
  | 52 => ⟨S_, .f32⟩
  | 53 => ⟨S2x512x8x64, .f32⟩
  | 54 => ⟨S2x2560x8x64, .f32⟩
  | 55 => ⟨S_, .f32⟩
  | 56 => ⟨S2x512x8x64, .f32⟩
  | 57 => ⟨S2x1x2560x8x64, .f32⟩
  | 58 => ⟨S2x33x2560x8x64, .f32⟩
  | 59 => ⟨S2x84480x8x64, .f32⟩
  | 60 => ⟨S2x83968x8x64, .f32⟩
  | 61 => ⟨S2x32x2624x8x64, .f32⟩
  | 62 => ⟨S2x32x576x8x64, .f32⟩
  | 63 => ⟨S2x2560x8x64, .f32⟩
  | 64 => ⟨S_, .f32⟩
  | 65 => ⟨S2x512x8x64, .f32⟩
  | 66 => ⟨S2x1x2560x8x64, .f32⟩
  | 67 => ⟨S2x33x2560x8x64, .f32⟩
  | 68 => ⟨S2x84480x8x64, .f32⟩
  | 69 => ⟨S2x83968x8x64, .f32⟩
  | 70 => ⟨S2x32x2624x8x64, .f32⟩
  | 71 => ⟨S2x32x576x8x64, .f32⟩
  | 72 => ⟨S2x32x8x64x576, .f32⟩
  | 73 => ⟨S_, .f32⟩
  | 74 => ⟨S2x32x8x64x576, .f32⟩
  | 75 => ⟨S2x32x8x64x576, .f32⟩
  | 76 => ⟨S1x1x8x64x576, .f32⟩
  | 77 => ⟨S2x32x8x64x576, .f32⟩
  | 78 => ⟨S2x32x8x64x576, .f32⟩
  | 79 => ⟨S32x576, .i32⟩
  | 80 => ⟨S_, .i32⟩
  | 81 => ⟨S32x576, .i32⟩
  | 82 => ⟨S32x576, .i32⟩
  | 83 => ⟨S32x576, .i32⟩
  | 84 => ⟨S32x576, .i32⟩
  | 85 => ⟨S_, .i32⟩
  | 86 => ⟨S32x576, .i32⟩
  | 87 => ⟨S32x576, .i1⟩
  | 88 => ⟨S1x32x1x1x576, .i1⟩
  | 89 => ⟨S_, .f32⟩
  | 90 => ⟨S_, .f32⟩
  | 91 => ⟨S2x32x8x64x576, .i1⟩
  | 92 => ⟨S2x32x8x64x576, .f32⟩
  | 93 => ⟨S2x32x8x64x576, .f32⟩
  | 94 => ⟨S_, .f32⟩
  | 95 => ⟨S2x32x8x64x576, .f32⟩
  | 96 => ⟨S_, .f32⟩
  | 97 => ⟨S2x32x8x64, .f32⟩
  | 98 => ⟨S2x32x8x64x1, .f32⟩
  | 99 => ⟨S2x32x8x64x576, .f32⟩
  | 100 => ⟨S2x32x8x64x576, .i1⟩
  | 101 => ⟨S2x32x8x64x576, .f32⟩
  | 102 => ⟨S_, .f32⟩
  | 103 => ⟨S2x32x8x64, .f32⟩
  | 104 => ⟨S_, .f32⟩
  | 105 => ⟨S2x32x8x64, .f32⟩
  | 106 => ⟨S2x32x8x64, .f32⟩
  | 107 => ⟨S_, .f32⟩
  | 108 => ⟨S2x32x8x64, .f32⟩
  | 109 => ⟨S2x32x8x64, .i1⟩
  | 110 => ⟨S_, .f32⟩
  | 111 => ⟨S2x32x8x64, .f32⟩
  | 112 => ⟨S2x32x8x64, .i1⟩
  | 113 => ⟨S_, .f32⟩
  | 114 => ⟨S2x32x8x64, .f32⟩
  | 115 => ⟨S_, .f32⟩
  | 116 => ⟨S2x32x8x64, .f32⟩
  | 117 => ⟨S_, .f32⟩
  | 118 => ⟨S2x32x8x64, .f32⟩
  | 119 => ⟨S2x32x8x64, .f32⟩
  | 120 => ⟨S2x32x8x64, .f32⟩
  | 121 => ⟨S2x32x8x64x1, .f32⟩
  | 122 => ⟨S2x32x8x64x576, .f32⟩
  | 123 => ⟨S2x32x8x64x576, .f32⟩
  | 124 => ⟨S2x32x8x64x576, .f32⟩
  | 125 => ⟨S_, .f32⟩
  | 126 => ⟨S2x32x8x64, .f32⟩
  | 127 => ⟨S2x32x8x64x1, .f32⟩
  | _ => ⟨S4096x3584, .f32⟩

abbrev hbmTy0_1 (i : Nat) : BufTy := match i % 128 with
  | 0 => ⟨S2x32x8x64x576, .f32⟩
  | 1 => ⟨S2x32x8x64x576, .f32⟩
  | 2 => ⟨S2x32x8x64x1, .f32⟩
  | 3 => ⟨S_, .f32⟩
  | 4 => ⟨S2x32x8x64x1, .f32⟩
  | 5 => ⟨S2x32x8x64x1, .f32⟩
  | 6 => ⟨S2x32x8x64x64, .f32⟩
  | 7 => ⟨S2x32x64x8x64, .f32⟩
  | 8 => ⟨S4096x512, .f32⟩
  | 9 => ⟨S4096x512, .f32⟩
  | 10 => ⟨S2x32x64x8x64, .f32⟩
  | 11 => ⟨S2x32x8x64x64, .f32⟩
  | 12 => ⟨S2x32x8x64x576, .f32⟩
  | 13 => ⟨S2x32x8x64x576, .f32⟩
  | 14 => ⟨S2x32x576x8x64, .f32⟩
  | 15 => ⟨S2x32x8x64x576, .f32⟩
  | 16 => ⟨S2x32x8x64x576, .f32⟩
  | 17 => ⟨S2x32x8x64x576, .f32⟩
  | 18 => ⟨S_, .f32⟩
  | 19 => ⟨S2x32x8x64, .f32⟩
  | 20 => ⟨S2x32x8x64x1, .f32⟩
  | 21 => ⟨S2x32x8x64x1, .f32⟩
  | 22 => ⟨S2x32x8x64x576, .f32⟩
  | 23 => ⟨S2x32x8x64x576, .f32⟩
  | 24 => ⟨S_, .f32⟩
  | 25 => ⟨S2x32x8x64, .f32⟩
  | 26 => ⟨S2x32x8x64x576, .f32⟩
  | 27 => ⟨S2x32x8x64x576, .f32⟩
  | 28 => ⟨S2x32x8x64x576, .f32⟩
  | 29 => ⟨S_, .f32⟩
  | 30 => ⟨S2x32x8x64x576, .f32⟩
  | 31 => ⟨S2x32x8x64x576, .f32⟩
  | 32 => ⟨S_, .f32⟩
  | 33 => ⟨S8x64x576, .f32⟩
  | 34 => ⟨S1x1x8x64x576, .f32⟩
  | 35 => ⟨S_, .f32⟩
  | 36 => ⟨S8x64x576, .f32⟩
  | 37 => ⟨S_, .f32⟩
  | 38 => ⟨S2x32x8x64x576, .f32⟩
  | 39 => ⟨S2x32x8x64x576, .f32⟩
  | 40 => ⟨S2x32x8x576x64, .f32⟩
  | 41 => ⟨S2x32x576x8x64, .f32⟩
  | 42 => ⟨S2x32x8x64x64, .f32⟩
  | 43 => ⟨S2x32x64x8x64, .f32⟩
  | 44 => ⟨S_, .f32⟩
  | 45 => ⟨S2x32x2624x8x64, .f32⟩
  | 46 => ⟨S2x83968x8x64, .f32⟩
  | 47 => ⟨S_, .f32⟩
  | 48 => ⟨S2x84480x8x64, .f32⟩
  | 49 => ⟨S2x33x2560x8x64, .f32⟩
  | 50 => ⟨S_, .f32⟩
  | 51 => ⟨S2x2560x8x64, .f32⟩
  | 52 => ⟨S2x1x2560x8x64, .f32⟩
  | 53 => ⟨S_, .f32⟩
  | 54 => ⟨S2x2560x8x64, .f32⟩
  | 55 => ⟨S2x512x8x64, .f32⟩
  | 56 => ⟨S2x2048x8x64, .f32⟩
  | 57 => ⟨S_, .f32⟩
  | 58 => ⟨S2x32x2624x8x64, .f32⟩
  | 59 => ⟨S2x83968x8x64, .f32⟩
  | 60 => ⟨S_, .f32⟩
  | 61 => ⟨S2x84480x8x64, .f32⟩
  | 62 => ⟨S2x33x2560x8x64, .f32⟩
  | 63 => ⟨S_, .f32⟩
  | 64 => ⟨S2x2560x8x64, .f32⟩
  | 65 => ⟨S2x1x2560x8x64, .f32⟩
  | 66 => ⟨S_, .f32⟩
  | 67 => ⟨S2x2560x8x64, .f32⟩
  | 68 => ⟨S2x512x8x64, .f32⟩
  | 69 => ⟨S2x2048x8x64, .f32⟩
  | 70 => ⟨S4096x512, .f32⟩
  | 71 => ⟨S2x2048x8x64, .f32⟩
  | 72 => ⟨S_, .f32⟩
  | 73 => ⟨S64, .f32⟩
  | 74 => ⟨S1x1x1x64, .f32⟩
  | 75 => ⟨S2x2048x8x64, .f32⟩
  | 76 => ⟨S2x2048x8x64, .f32⟩
  | 77 => ⟨S_, .f32⟩
  | 78 => ⟨S64, .f32⟩
  | 79 => ⟨S1x64, .f32⟩
  | 80 => ⟨S2x2048x8x64, .f32⟩
  | 81 => ⟨S_, .f32⟩
  | 82 => ⟨S2x2048x8, .f32⟩
  | 83 => ⟨S2x2048x8x1, .f32⟩
  | 84 => ⟨S2x2048x8x64, .f32⟩
  | 85 => ⟨S2x2048x8x64, .f32⟩
  | 86 => ⟨S2x2048x8x1, .f32⟩
  | 87 => ⟨S_, .f32⟩
  | 88 => ⟨S2x2048x8x1, .f32⟩
  | 89 => ⟨S2x2048x8x1, .f32⟩
  | 90 => ⟨S_, .f32⟩
  | 91 => ⟨S2x2048x8, .f32⟩
  | 92 => ⟨S2x2048x8x64, .f32⟩
  | 93 => ⟨S2x2048x8x64, .f32⟩
  | 94 => ⟨S2x2048x8x64, .f32⟩
  | 95 => ⟨S2x2048x8x64, .f32⟩
  | 96 => ⟨S2x2048x8x64, .f32⟩
  | 97 => ⟨S4096x512, .f32⟩
  | 98 => ⟨S2x2048x8x64, .f32⟩
  | 99 => ⟨S2x2048x8x64, .f32⟩
  | 100 => ⟨S_, .f32⟩
  | 101 => ⟨S64, .f32⟩
  | 102 => ⟨S1x1x1x64, .f32⟩
  | 103 => ⟨S2x2048x8x64, .f32⟩
  | 104 => ⟨S2x2048x8x64, .f32⟩
  | 105 => ⟨S_, .f32⟩
  | 106 => ⟨S64, .f32⟩
  | 107 => ⟨S1x64, .f32⟩
  | 108 => ⟨S2x2048x8x64, .f32⟩
  | 109 => ⟨S_, .f32⟩
  | 110 => ⟨S2x2048x8, .f32⟩
  | 111 => ⟨S2x2048x8x1, .f32⟩
  | 112 => ⟨S2x2048x8x64, .f32⟩
  | 113 => ⟨S2x2048x8x64, .f32⟩
  | 114 => ⟨S2x2048x8x1, .f32⟩
  | 115 => ⟨S_, .f32⟩
  | 116 => ⟨S2x2048x8x1, .f32⟩
  | 117 => ⟨S2x2048x8x1, .f32⟩
  | 118 => ⟨S_, .f32⟩
  | 119 => ⟨S2x2048x8, .f32⟩
  | 120 => ⟨S2x2048x8x64, .f32⟩
  | 121 => ⟨S2x2048x8x64, .f32⟩
  | 122 => ⟨S2x2048x8x64, .f32⟩
  | 123 => ⟨S2x2048x8x64, .f32⟩
  | 124 => ⟨S2x2048x8x64, .f32⟩
  | 125 => ⟨S4096x512, .f32⟩
  | 126 => ⟨S4096x512, .bf16⟩
  | 127 => ⟨S4096x512, .bf16⟩
  | _ => ⟨S4096x3584, .f32⟩

abbrev hbmTy0_2 (i : Nat) : BufTy := match i % 128 with
  | 0 => ⟨S4096x512, .bf16⟩
  | _ => ⟨S4096x3584, .f32⟩

abbrev hbmTy (i : Nat) : BufTy := match i / 128 with
  | 0 => hbmTy0_0 i
  | 1 => hbmTy0_1 i
  | 2 => hbmTy0_2 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_c_11 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_call0_v0 : Ref sig .tc := ⟨.hbm, 90, rfl⟩
abbrev main_v70_1 : Ref sig .tc := ⟨.hbm, 91, rfl⟩
abbrev main_call0_v2 : Ref sig .tc := ⟨.hbm, 92, rfl⟩
abbrev main_v70_0 : Ref sig .tc := ⟨.hbm, 93, rfl⟩
abbrev main_call0_cst : Ref sig .tc := ⟨.hbm, 94, rfl⟩
abbrev main_v70_2 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_14 : Ref sig .tc := ⟨.hbm, 102, rfl⟩
abbrev main_v76 : Ref sig .tc := ⟨.hbm, 103, rfl⟩
abbrev main_cst_15 : Ref sig .tc := ⟨.hbm, 104, rfl⟩
abbrev main_v77 : Ref sig .tc := ⟨.hbm, 105, rfl⟩
abbrev main_v78 : Ref sig .tc := ⟨.hbm, 106, rfl⟩
abbrev main_cst_16 : Ref sig .tc := ⟨.hbm, 107, rfl⟩
abbrev main_v79 : Ref sig .tc := ⟨.hbm, 108, rfl⟩
abbrev main_v80 : Ref sig .tc := ⟨.hbm, 109, rfl⟩
abbrev main_cst_17 : Ref sig .tc := ⟨.hbm, 110, rfl⟩
abbrev main_v81 : Ref sig .tc := ⟨.hbm, 111, rfl⟩
abbrev main_v82 : Ref sig .tc := ⟨.hbm, 112, rfl⟩
abbrev main_cst_18 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_21 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_22 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_cst_23 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_24 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_call1_cst : Ref sig .tc := ⟨.hbm, 157, rfl⟩
abbrev main_call1_v0 : Ref sig .tc := ⟨.hbm, 158, rfl⟩
abbrev main_v120 : Ref sig .tc := ⟨.hbm, 159, rfl⟩
abbrev main_cst_25 : Ref sig .tc := ⟨.hbm, 160, rfl⟩
abbrev main_v121 : Ref sig .tc := ⟨.hbm, 161, rfl⟩
abbrev main_v122 : Ref sig .tc := ⟨.hbm, 162, rfl⟩
abbrev main_cst_26 : Ref sig .tc := ⟨.hbm, 163, rfl⟩
abbrev main_v123 : Ref sig .tc := ⟨.hbm, 164, rfl⟩
abbrev main_cst_27 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_28 : Ref sig .tc := ⟨.hbm, 172, rfl⟩
abbrev main_v130 : Ref sig .tc := ⟨.hbm, 173, rfl⟩
abbrev main_v131 : Ref sig .tc := ⟨.hbm, 174, rfl⟩
abbrev main_cst_29 : Ref sig .tc := ⟨.hbm, 175, rfl⟩
abbrev main_v132 : Ref sig .tc := ⟨.hbm, 176, rfl⟩
abbrev main_v133 : Ref sig .tc := ⟨.hbm, 177, rfl⟩
abbrev main_cst_30 : Ref sig .tc := ⟨.hbm, 178, rfl⟩
abbrev main_v134 : Ref sig .tc := ⟨.hbm, 179, rfl⟩
abbrev main_v135 : Ref sig .tc := ⟨.hbm, 180, rfl⟩
abbrev main_cst_31 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_32 : Ref sig .tc := ⟨.hbm, 185, rfl⟩
abbrev main_v139 : Ref sig .tc := ⟨.hbm, 186, rfl⟩
abbrev main_v140 : Ref sig .tc := ⟨.hbm, 187, rfl⟩
abbrev main_cst_33 : Ref sig .tc := ⟨.hbm, 188, rfl⟩
abbrev main_v141 : Ref sig .tc := ⟨.hbm, 189, rfl⟩
abbrev main_v142 : Ref sig .tc := ⟨.hbm, 190, rfl⟩
abbrev main_cst_34 : Ref sig .tc := ⟨.hbm, 191, rfl⟩
abbrev main_v143 : Ref sig .tc := ⟨.hbm, 192, rfl⟩
abbrev main_v144 : Ref sig .tc := ⟨.hbm, 193, rfl⟩
abbrev main_cst_35 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_36 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_cst_37 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_cst_38 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_cst_39 : Ref sig .tc := ⟨.hbm, 215, rfl⟩
abbrev main_v162 : Ref sig .tc := ⟨.hbm, 216, rfl⟩
abbrev main_v163 : Ref sig .tc := ⟨.hbm, 217, rfl⟩
abbrev main_cst_40 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_41 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_42 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_43 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_44 : Ref sig .tc := ⟨.hbm, 243, rfl⟩
abbrev main_v185 : Ref sig .tc := ⟨.hbm, 244, rfl⟩
abbrev main_v186 : Ref sig .tc := ⟨.hbm, 245, rfl⟩
abbrev main_cst_45 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩

abbrev nD : Nat := 1
abbrev τ : Topo := Topo.v7x

variable {F : FTy → Type} [FloatOps F]
-- ==== Kernel3.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 18
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S1024x2816, .bf16⟩
  | .hbm, ⟨7, _⟩ => ⟨S4096x2816, .f32⟩
  | .hbm, ⟨8, _⟩ => ⟨S4096x2816, .bf16⟩
  | .hbm, ⟨9, _⟩ => ⟨S4096x1024, .bf16⟩
  | .hbm, ⟨10, _⟩ => ⟨S1024x2816, .bf16⟩
  | .hbm, ⟨11, _⟩ => ⟨S4096x2816, .f32⟩
  | .hbm, ⟨12, _⟩ => ⟨S4096x2816, .bf16⟩
  | .hbm, ⟨13, _⟩ => ⟨S4096x1024, .bf16⟩
  | .hbm, ⟨14, _⟩ => ⟨S2816x1024, .bf16⟩
  | .hbm, ⟨15, _⟩ => ⟨S4096x2816, .bf16⟩
  | .hbm, ⟨16, _⟩ => ⟨S4096x2816, .bf16⟩
  | .hbm, ⟨17, _⟩ => ⟨S2816x1024, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S1408x1024, .f32⟩
  | .local _ .vmem, ⟨13, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_19 : BitVec 32 := 0#32
  let v41 : BitVec 1 := Scalar.cmpi .ne v40 c0_i32_19
  v41

def k0_cond2 (i : grid0.Coords) : BitVec 1 :=
  let arg1 : BitVec 32 := BitVec.ofNat 32 (i 1).val
  let c0_i32_20 : BitVec 32 := 0#32
  let v42 : BitVec 1 := Scalar.cmpi .sgt arg1 c0_i32_20
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1408x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S2816x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .bf16⟩
  | .hbm, ⟨38, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩

abbrev nD : Nat := 1
abbrev τ : Topo := Topo.v7x

variable {F : FTy → Type} [FloatOps F]
-- ==== Kernel4.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x1024, .f32⟩
  | .hbm, ⟨10, _⟩ => ⟨S4096x1024, .bf16⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_21 : BitVec 32 := 0#32
  let v41 : BitVec 1 := Scalar.cmpi .ne v40 c0_i32_21
  v41

def k0_cond2 (i : grid0.Coords) : BitVec 1 :=
  let arg0 : BitVec 32 := BitVec.ofNat 32 (i 0).val
  let c0_i32_22 : BitVec 32 := 0#32
  let v42 : BitVec 1 := Scalar.cmpi .sgt arg0 c0_i32_22
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== Reference4Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S1024x2816, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1x1024 : Shape := ⟨2, ![1, 1024]⟩
abbrev S512x1024 : Shape := ⟨2, ![512, 1024]⟩
abbrev S1408x1024 : Shape := ⟨2, ![1408, 1024]⟩
abbrev S512x1408 : Shape := ⟨2, ![512, 1408]⟩
abbrev S1024 : Shape := ⟨1, ![1024]⟩

abbrev nBuf : Space → Nat
  | .hbm => 17
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .bf16⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x2816, .bf16⟩
  | .hbm, ⟨13, _⟩ => ⟨S4096x2816, .bf16⟩
  | .hbm, ⟨14, _⟩ => ⟨S4096x1024, .f32⟩
  | .hbm, ⟨15, _⟩ => ⟨S4096x1024, .bf16⟩
  | .hbm, ⟨16, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S512x1024, .f32⟩
  | .local _ .vmem, ⟨11, _⟩ => ⟨S512x1024, .f32⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1024, .f32⟩
  | .local _ .vmem, ⟨17, _⟩ => ⟨S512x1024, .f32⟩
  | .local _ .vmem, ⟨18, _⟩ => ⟨S512x1024, .bf16⟩
  | .local _ .vmem, ⟨19, _⟩ => ⟨S512x1024, .bf16⟩
  | .local _ .vmem, ⟨20, _⟩ => ⟨S1x1024, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v31 : BitVec 1 := Scalar.cmpi .eq arg1 c1_i32
  let v32 : BitVec 32 := Scalar.extui v31
  let c0_i32_19 : BitVec 32 := 0#32
  let v33 : BitVec 1 := Scalar.cmpi .ne v32 c0_i32_19
  v33

def k0_cond4 (i : grid0.Coords) : BitVec 1 :=
  let arg0 : BitVec 32 := BitVec.ofNat 32 (i 0).val
  let c0_i32_33 : BitVec 32 := 0#32
  let v49 : BitVec 1 := Scalar.cmpi .eq arg0 c0_i32_33
  let v50 : BitVec 32 := Scalar.extui v49
  let c0_i32_34 : BitVec 32 := 0#32
  let v51 : BitVec 1 := Scalar.cmpi .ne v50 c0_i32_34
  v51

def k0_cond5 (i : grid0.Coords) : BitVec 1 :=
  let arg0 : BitVec 32 := BitVec.ofNat 32 (i 0).val
  let c0_i32_35 : BitVec 32 := 0#32
  let v52 : BitVec 1 := Scalar.cmpi .sgt arg0 c0_i32_35
  let v53 : BitVec 32 := Scalar.extui v52
  let c0_i32_36 : BitVec 32 := 0#32
  let v54 : BitVec 1 := Scalar.cmpi .ne v53 c0_i32_36
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference5Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096 : Shape := ⟨1, ![4096]⟩
abbrev S1024 : Shape := ⟨1, ![1024]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x2816, .bf16⟩
  | .hbm, ⟨52, _⟩ => ⟨S4096x2816, .bf16⟩
  | .hbm, ⟨53, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_cst_5 : Ref sig .tc := ⟨.hbm, 37, rfl⟩
abbrev main_cst_6 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩

abbrev nD : Nat := 1
abbrev τ : Topo := Topo.v7x

variable {F : FTy → Type} [FloatOps F]
-- ==== Kernel6.lean ====
abbrev S2x8x64x576 : Shape := ⟨4, ![2, 8, 64, 576]⟩
abbrev S2x64x8x576 : Shape := ⟨4, ![2, 64, 8, 576]⟩
abbrev S_ : Shape := ⟨0, ![]⟩
abbrev S2x64x8x640 : Shape := ⟨4, ![2, 64, 8, 640]⟩
abbrev S8x384 : Shape := ⟨2, ![8, 384]⟩
abbrev S640x384 : Shape := ⟨2, ![640, 384]⟩
abbrev S1x1x8x640 : Shape := ⟨4, ![1, 1, 8, 640]⟩
abbrev S8x640 : Shape := ⟨2, ![8, 640]⟩

abbrev nBuf : Space → Nat
  | .hbm => 6
  | .vmem => 2
  | .smem => 0
  | _ => 0

abbrev bufTy : (tb : Table) → Fin (tcTables nBuf tb) → BufTy
  | .hbm, ⟨0, _⟩ => ⟨S2x8x64x576, .f32⟩
  | .hbm, ⟨1, _⟩ => ⟨S2x64x8x576, .f32⟩
  | .hbm, ⟨2, _⟩ => ⟨S_, .i32⟩
  | .hbm, ⟨3, _⟩ => ⟨S_, .f32⟩
  | .hbm, ⟨4, _⟩ => ⟨S2x64x8x640, .f32⟩
  | .hbm, ⟨5, _⟩ => ⟨S8x384, .f32⟩
  | .local _ .vmem, ⟨0, _⟩ => ⟨S2x64x8x640, .f32⟩
  | .local _ .vmem, ⟨1, _⟩ => ⟨S8x384, .f32⟩
  | _, _ => ⟨S2x8x64x576, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c64_i32 : BitVec 32 := 64#32
  let v3 : BitVec 32 := Scalar.addi c0_i32 c64_i32
  let c1_i32 : BitVec 32 := 1#32
  ⟨c0_i32, v3, c1_i32⟩
def k0_off1 (k0_t1 : Fin k0_t1_loop.trips) : Fin 4 → Nat :=
  let c0_3 : Index := 0#32
  let c0_i32 : BitVec 32 := 0#32
  let c1_i32 : BitVec 32 := 1#32
  let arg3 : BitVec 32 := Scf.iv c0_i32 c1_i32 k0_t1
  let v18 : Index := Scalar.indexCast arg3
  let c0_4 : Index := 0#32
  let c0_5 : Index := 0#32
  ![0, v18.toNat, 0, 0]
def k0_off2 (k0_t1 : Fin k0_t1_loop.trips) : Fin 4 → Nat :=
  let c1 : Index := 1#32
  let c0_i32 : BitVec 32 := 0#32
  let c1_i32 : BitVec 32 := 1#32
  let arg3 : BitVec 32 := Scf.iv c0_i32 c1_i32 k0_t1
  let v21 : Index := Scalar.indexCast arg3
  let c0_6 : Index := 0#32
  let c0_7 : Index := 0#32
  ![1, v21.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2x64x8x640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== Reference6Ideal.lean ====
abbrev S2x8x64x576 : Shape := ⟨4, ![2, 8, 64, 576]⟩
abbrev S_ : Shape := ⟨0, ![]⟩
abbrev S8x257 : Shape := ⟨2, ![8, 257]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x384 : Shape := ⟨2, ![8, 384]⟩

abbrev nBuf : Space → Nat
  | .hbm => 41
  | .vmem => 0
  | .smem => 0
  | _ => 0

abbrev bufTy : (tb : Table) → Fin (tcTables nBuf tb) → BufTy
  | .hbm, ⟨0, _⟩ => ⟨S2x8x64x576, .f32⟩
  | .hbm, ⟨1, _⟩ => ⟨S_, .f32⟩
  | .hbm, ⟨2, _⟩ => ⟨S8x257, .f32⟩
  | .hbm, ⟨3, _⟩ => ⟨S64, .i32⟩
  | .hbm, ⟨4, _⟩ => ⟨S64x1, .i32⟩
  | .hbm, ⟨5, _⟩ => ⟨S_, .i32⟩
  | .hbm, ⟨6, _⟩ => ⟨S64x1, .i32⟩
  | .hbm, ⟨7, _⟩ => ⟨S64x1, .i32⟩
  | .hbm, ⟨8, _⟩ => ⟨S576, .i32⟩
  | .hbm, ⟨9, _⟩ => ⟨S1x576, .i32⟩
  | .hbm, ⟨10, _⟩ => ⟨S64x576, .i32⟩
  | .hbm, ⟨11, _⟩ => ⟨S64x576, .i32⟩
  | .hbm, ⟨12, _⟩ => ⟨S64x576, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i32⟩
  | .hbm, ⟨24, _⟩ => ⟨S_, .i32⟩
  | .hbm, ⟨25, _⟩ => ⟨S64x576, .i32⟩
  | .hbm, ⟨26, _⟩ => ⟨S64x576, .i1⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S64x576, .i32⟩
  | .hbm, ⟨31, _⟩ => ⟨S64x576x1, .i32⟩
  | .hbm, ⟨32, _⟩ => ⟨S8x64x576, .f32⟩
  | .hbm, ⟨33, _⟩ => ⟨S_, .f32⟩
  | .hbm, ⟨34, _⟩ => ⟨S8x64x576, .f32⟩
  | .hbm, ⟨35, _⟩ => ⟨S_, .f32⟩
  | .hbm, ⟨36, _⟩ => ⟨S8x257, .f32⟩
  | .hbm, ⟨37, _⟩ => ⟨S8x257, .f32⟩
  | .hbm, ⟨38, _⟩ => ⟨S_, .i32⟩
  | .hbm, ⟨39, _⟩ => ⟨S_, .f32⟩
  | .hbm, ⟨40, _⟩ => ⟨S8x384, .f32⟩
  | _, _ => ⟨S2x8x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_c_3 : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_call1_v0 : Ref sig .tc := ⟨.hbm, 39, rfl⟩
abbrev main_v23 : Ref sig .tc := ⟨.hbm, 40, rfl⟩

abbrev nD : Nat := 1
abbrev τ : Topo := Topo.v7x

variable {F : FTy → Type} [FloatOps F]
-- ==== Kernel7.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S3584x1024 : Shape := ⟨2, ![3584, 1024]⟩
abbrev S512x3584 : Shape := ⟨2, ![512, 3584]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S3584x1024, .f32⟩
  | .hbm, ⟨6, _⟩ => ⟨S3584x1024, .bf16⟩
  | .hbm, ⟨7, _⟩ => ⟨S4096x3584, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x3584, .bf16⟩
  | .local _ .vmem, ⟨1, _⟩ => ⟨S512x3584, .bf16⟩
  | .local _ .vmem, ⟨2, _⟩ => ⟨S3584x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_19 : BitVec 32 := 0#32
  let v39 : BitVec 1 := Scalar.cmpi .ne v38 c0_i32_19
  v39

def k0_cond2 (i : grid0.Coords) : BitVec 1 :=
  let arg0 : BitVec 32 := BitVec.ofNat 32 (i 0).val
  let c0_i32_20 : BitVec 32 := 0#32
  let v40 : BitVec 1 := Scalar.cmpi .sgt arg0 c0_i32_20
  let v41 : BitVec 32 := Scalar.extui v40
  let c0_i32_21 : BitVec 32 := 0#32
  let v42 : BitVec 1 := Scalar.cmpi .ne v41 c0_i32_21
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== Reference7Ideal.lean ====
abbrev S4096x3584 : Shape := ⟨2, ![4096, 3584]⟩
abbrev S1024x3584 : Shape := ⟨2, ![1024, 3584]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3584, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | .hbm, ⟨55, _⟩ => ⟨S4096x1024, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .bf16⟩
  | .hbm, ⟨5, _⟩ => ⟨S2816x1024, .bf16⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S1024x1024, .bf16⟩
  | .hbm, ⟨5, _⟩ => ⟨S4096x1024, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S4096x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .bf16⟩
  | .hbm, ⟨6, _⟩ => ⟨S4096x2816, .bf16⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel12.lean ====
abbrev S2x512 : Shape := ⟨2, ![2, 512]⟩
abbrev S1x512 : Shape := ⟨2, ![1, 512]⟩
abbrev S512 : Shape := ⟨1, ![512]⟩

abbrev nBuf : Space → Nat
  | .hbm => 2
  | .vmem => 2
  | .smem => 0
  | _ => 0

abbrev bufTy : (tb : Table) → Fin (tcTables nBuf tb) → BufTy
  | .hbm, ⟨0, _⟩ => ⟨S2x512, .f32⟩
  | .hbm, ⟨1, _⟩ => ⟨S1x512, .f32⟩
  | .local _ .vmem, ⟨0, _⟩ => ⟨S2x512, .f32⟩
  | .local _ .vmem, ⟨1, _⟩ => ⟨S1x512, .f32⟩
  | _, _ => ⟨S2x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference12Ideal.lean ====
abbrev S2x512 : Shape := ⟨2, ![2, 512]⟩
abbrev S_ : Shape := ⟨0, ![]⟩
abbrev S512 : Shape := ⟨1, ![512]⟩
abbrev S1x512 : Shape := ⟨2, ![1, 512]⟩

abbrev nBuf : Space → Nat
  | .hbm => 19
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S2x512, .f32⟩
  | .hbm, ⟨8, _⟩ => ⟨S2x512, .f32⟩
  | .hbm, ⟨9, _⟩ => ⟨S2x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S_, .f32⟩
  | .hbm, ⟨17, _⟩ => ⟨S2x512, .f32⟩
  | .hbm, ⟨18, _⟩ => ⟨S1x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel13.lean ====
abbrev S8x257 : Shape := ⟨2, ![8, 257]⟩
abbrev S_ : Shape := ⟨0, ![]⟩
abbrev S8x384 : Shape := ⟨2, ![8, 384]⟩
abbrev S64x8x640 : Shape := ⟨3, ![64, 8, 640]⟩
abbrev S8x8x640 : Shape := ⟨3, ![8, 8, 640]⟩
abbrev S384x640 : Shape := ⟨2, ![384, 640]⟩
abbrev S8x640 : Shape := ⟨2, ![8, 640]⟩
abbrev S1x8x640 : Shape := ⟨3, ![1, 8, 640]⟩

abbrev nBuf : Space → Nat
  | .hbm => 5
  | .vmem => 3
  | .smem => 0
  | _ => 0

abbrev bufTy : (tb : Table) → Fin (tcTables nBuf tb) → BufTy
  | .hbm, ⟨0, _⟩ => ⟨S8x257, .f32⟩
  | .hbm, ⟨1, _⟩ => ⟨S_, .i32⟩
  | .hbm, ⟨2, _⟩ => ⟨S_, .f32⟩
  | .hbm, ⟨3, _⟩ => ⟨S8x384, .f32⟩
  | .hbm, ⟨4, _⟩ => ⟨S64x8x640, .f32⟩
  | .local _ .vmem, ⟨0, _⟩ => ⟨S8x384, .f32⟩
  | .local _ .vmem, ⟨1, _⟩ => ⟨S8x8x640, .f32⟩
  | .local _ .vmem, ⟨2, _⟩ => ⟨S8x8x640, .f32⟩
  | _, _ => ⟨S8x257, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg3 : BitVec 32 := Scf.iv c0_i32 c1_i32 k0_t1
  let v32 : Index := Scalar.indexCast arg3
  let c0_6 : Index := 0#32
  let c0_7 : Index := 0#32
  ![v32.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x8x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference13Ideal.lean ====
abbrev S8x257 : Shape := ⟨2, ![8, 257]⟩
abbrev S64 : Shape := ⟨1, ![64]⟩
abbrev S64x1 : Shape := ⟨2, ![64, 1]⟩
abbrev S_ : Shape := ⟨0, ![]⟩
abbrev S640 : Shape := ⟨1, ![640]⟩
abbrev S1x640 : Shape := ⟨2, ![1, 640]⟩
abbrev S64x640 : Shape := ⟨2, ![64, 640]⟩
abbrev S64x640x1 : Shape := ⟨3, ![64, 640, 1]⟩
abbrev S8x64x640 : Shape := ⟨3, ![8, 64, 640]⟩
abbrev S64x8x640 : Shape := ⟨3, ![64, 8, 640]⟩

abbrev nBuf : Space → Nat
  | .hbm => 32
  | .vmem => 0
  | .smem => 0
  | _ => 0

abbrev bufTy : (tb : Table) → Fin (tcTables nBuf tb) → BufTy
  | .hbm, ⟨0, _⟩ => ⟨S8x257, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S640, .i32⟩
  | .hbm, ⟨7, _⟩ => ⟨S1x640, .i32⟩
  | .hbm, ⟨8, _⟩ => ⟨S64x640, .i32⟩
  | .hbm, ⟨9, _⟩ => ⟨S64x640, .i32⟩
  | .hbm, ⟨10, _⟩ => ⟨S64x640, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x640, .i32⟩
  | .hbm, ⟨15, _⟩ => ⟨S64x640, .i32⟩
  | .hbm, ⟨16, _⟩ => ⟨S_, .i32⟩
  | .hbm, ⟨17, _⟩ => ⟨S64x640, .i32⟩
  | .hbm, ⟨18, _⟩ => ⟨S64x640, .i32⟩
  | .hbm, ⟨19, _⟩ => ⟨S_, .i32⟩
  | .hbm, ⟨20, _⟩ => ⟨S64x640, .i32⟩
  | .hbm, ⟨21, _⟩ => ⟨S64x640, .i32⟩
  | .hbm, ⟨22, _⟩ => ⟨S_, .i32⟩
  | .hbm, ⟨23, _⟩ => ⟨S64x640, .i32⟩
  | .hbm, ⟨24, _⟩ => ⟨S64x640, .i1⟩
  | .hbm, ⟨25, _⟩ => ⟨S_, .i32⟩
  | .hbm, ⟨26, _⟩ => ⟨S64x640, .i32⟩
  | .hbm, ⟨27, _⟩ => ⟨S64x640, .i32⟩
  | .hbm, ⟨28, _⟩ => ⟨S64x640, .i32⟩
  | .hbm, ⟨29, _⟩ => ⟨S64x640x1, .i32⟩
  | .hbm, ⟨30, _⟩ => ⟨S8x64x640, .f32⟩
  | .hbm, ⟨31, _⟩ => ⟨S64x8x640, .f32⟩
  | _, _ => ⟨S8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel14.lean ====
abbrev S4096x1024 : Shape := ⟨2, ![4096, 1024]⟩
abbrev S1024x3584 : Shape := ⟨2, ![1024, 3584]⟩
abbrev S3584x1024 : Shape := ⟨2, ![3584, 1024]⟩
abbrev S4096x3584 : Shape := ⟨2, ![4096, 3584]⟩
abbrev S256x1024 : Shape := ⟨2, ![256, 1024]⟩
abbrev S256x3584 : Shape := ⟨2, ![256, 3584]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S3584x1024, .f32⟩
  | .hbm, ⟨3, _⟩ => ⟨S3584x1024, .bf16⟩
  | .hbm, ⟨4, _⟩ => ⟨S4096x1024, .bf16⟩
  | .hbm, ⟨5, _⟩ => ⟨S4096x3584, .f32⟩
  | .local _ .vmem, ⟨0, _⟩ => ⟨S256x1024, .bf16⟩
  | .local _ .vmem, ⟨1, _⟩ => ⟨S256x1024, .bf16⟩
  | .local _ .vmem, ⟨2, _⟩ => ⟨S3584x1024, .bf16⟩
  | .local _ .vmem, ⟨3, _⟩ => ⟨S256x3584, .f32⟩
  | .local _ .vmem, ⟨4, _⟩ => ⟨S256x3584, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S1024x3584 : Shape := ⟨2, ![1024, 3584]⟩
abbrev S4096x3584 : Shape := ⟨2, ![4096, 3584]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x3584, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S1x128x1024 : Shape := ⟨3, ![1, 128, 1024]⟩
abbrev S4x128x1024 : Shape := ⟨3, ![4, 128, 1024]⟩
abbrev S1x32x1024 : Shape := ⟨3, ![1, 32, 1024]⟩
abbrev S4x32x1024 : Shape := ⟨3, ![4, 32, 1024]⟩
abbrev S32x1024 : Shape := ⟨2, ![32, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x32x1024, .f32⟩
  | .local _ .vmem, ⟨1, _⟩ => ⟨S1x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S4x32x1024, .bf16⟩
  | .local _ .vmem, ⟨7, _⟩ => ⟨S4x32x1024, .bf16⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S1x128x1024 : Shape := ⟨3, ![1, 128, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Proof.Lib.Reals.lean ====
module

public import Idealize.ShloMosaic.Lib.Pipeline.Value
public import Idealize.ShloMosaic.PureOps.Ideal.Laws
public import Idealize.ShloMosaic.Lib.ReduceAll
public import Idealize.ShloMosaic.Lib.IdealHost

@[expose] public section

noncomputable section

namespace Cert.Proof.Reals

open Idealize.ShloMosaic

/-! Finite extended reals: every operation of the two programs, at finite operands, is the real operation. -/

/-- A finite sum of reals read in the extended reals is the real sum. -/
theorem sum_coe {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Division of reals by a real that is not zero. -/
theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- The exponential of a real. -/
theorem exp_coe (x : ℝ) : Ideal.exp (x : EReal) = ((Real.exp x : ℝ) : EReal) := rfl

/-- The exponential of the mask value. -/
theorem exp_bot : Ideal.exp ⊥ = 0 := rfl

/-- The reciprocal square root of a positive real. -/
theorem rsqrt_coe (x : ℝ) (hx : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.mpr hx.le), if_neg hx.ne']

/-- The larger of two reals. -/
theorem max_coe (x y : ℝ) : max (x : EReal) (y : EReal) = ((max x y : ℝ) : EReal) := by
  rcases le_total x y with h | h
  · rw [max_eq_right h, max_eq_right (by exact_mod_cast h)]
  · rw [max_eq_left h, max_eq_left (by exact_mod_cast h)]

/-- An extended real whose absolute value is below infinity is a real. -/
theorem real_of_abs_lt (x : EReal) (h : max x (-x) < ⊤) : ∃ r : ℝ, x = (r : EReal) := by
  induction x using EReal.rec with
  | bot => exact absurd h (by simp)
  | coe r => exact ⟨r, rfl⟩
  | top => exact absurd h (by simp)

theorem ofBits_one : Ideal.ofBits .f32 0x3F800000#32 = 1 := by simp [Ideal.ofBits, Ideal.ieee, -EReal.coe_mul]; norm_num
theorem ofBits_inf : Ideal.ofBits .f32 0x7F800000#32 = ⊤ := by simp [Ideal.ofBits, Ideal.ieee]
theorem ofBits_neg_inf : Ideal.ofBits .f32 0xFF800000#32 = ⊥ := by simp [Ideal.ofBits, Ideal.ieee]

/-- An array whose `|x| < ∞` mask is all ones is an array of reals. -/
theorem reals_of_mask {s : Shape} (x : FVec Ideal s .f32) (h : ∀ i, cmpf .olt (Host.absf x) (fun _ => (⊤ : EReal)) i = 1#1) :
    ∃ r : s.Idx → ℝ, x = fun i => ((r i : ℝ) : EReal) := by
  have hx : ∀ i, ∃ r : ℝ, x i = (r : EReal) := by
    intro i
    apply real_of_abs_lt
    have := h i
    by_contra hn
    have h0 : Ideal.cmp .olt (max (x i) (-(x i))) ⊤ = 1#1 := this
    simp only [Ideal.cmp] at h0
    rw [show decide (max (x i) (-(x i)) < (⊤ : EReal)) = false from decide_eq_false hn] at h0
    simp at h0
  choose r hr using hx
  exact ⟨r, funext hr⟩

/-- The printed form of that mask, reduced over all axes, being one. -/
theorem reals_of_reduce {s u : Shape} {axes : List (Fin s.rank)} [Subsingleton u.Idx] (x : FVec Ideal s .f32) (init : IVec u 1)
    (y : FVec Ideal s .f32) (hy : ∀ i, y i = ⊤) (hr : s.ReducesTo axes u) (hu : 0 < u.numel) (j : u.Idx)
    (h : Host.reduce IntOp.andi (cmpf .olt (Host.absf x) y) init hr hu j = 1#1) :
    ∃ r : s.Idx → ℝ, x = fun i => ((r i : ℝ) : EReal) := by
  obtain rfl : y = fun _ => ⊤ := funext hy
  exact reals_of_mask x fun i => Host.reduce_andi_all _ _ hr hu j h i

/-- The conjunction of two one-bit arrays being one. -/
theorem and_eq_one {u : Shape} (x y : IVec u 1) (h : andi x y = fun _ => 1#1) : (x = fun _ => 1#1) ∧ (y = fun _ => 1#1) := by
  have h' : ∀ i, IntOp.andi (x i) (y i) = 1#1 := fun i => congrFun h i
  exact ⟨funext fun i => (IntOp.andi_eq_one.1 (h' i)).1, funext fun i => (IntOp.andi_eq_one.1 (h' i)).2⟩

/-- A host sum over any set of axes, re-indexed: `f` runs over the source indices that reduce to `j`, `g` reads the running index back. -/
theorem hostReduceAdd_fiber {s : Shape} {axes : List (Fin s.rank)} {t : Shape} {K : Type} [Fintype K] (h : s.ReducesTo axes t)
    (x : s.Idx → EReal) (init : EReal) (j : t.Idx) (f : K → s.Idx) (g : s.Idx → K) (hf : ∀ k, h.drop (f k) = j)
    (hg : ∀ i, h.drop i = j → f (g i) = i) (hgf : ∀ k, g (f k) = k) :
    Ideal.hostReduceAdd h x init j = init + ∑ k, x (f k) := by
  unfold Ideal.hostReduceAdd
  congr 1
  refine Finset.sum_bij' (fun i _ => g i) (fun k _ => f k) ?_ ?_ ?_ ?_ ?_
  · intro i _; exact Finset.mem_univ _
  · intro k _; exact Finset.mem_filter.2 ⟨Finset.mem_univ _, hf k⟩
  · intro i hi; exact hg i (Finset.mem_filter.1 hi).2
  · intro k _; exact hgf k
  · intro i hi; rw [hg i (Finset.mem_filter.1 hi).2]

end Cert.Proof.Reals

end
-- ==== Proof.Lb.Value.lean ====
module

public import proofs.«01_k».proof.Defs
public import proofs.«01_k».proof.Proof.Gen.KernelIdeal.Value
public import proofs.«01_k».proof.Proof.Gen.ReferenceIdeal.Read
public import proofs.«01_k».proof.Proof.Lib.Reals
public import Idealize.ShloMosaic.Lib.Pointwise

@[expose] public section

noncomputable section

namespace Cert.Proof.Lb

open Idealize.ShloMosaic Cert.Proof.Reals
open Idealize.ShloMosaic.Pointwise

abbrev T : Shape := ⟨2, ![2, 512]⟩
abbrev D : Shape := ⟨3, ![2, 1, 512]⟩

/-- What both programs leave at row `i`, column `j` of the table: the softmax row's entry times the difference between the
    cotangent (row 0 only) and row 0's share of it. -/
def grad (x : T.Idx → ℝ) (d : D.Idx → ℝ) (i : Fin 2) (j : Fin 512) : ℝ :=
  let m := max (x (ix2 0 j)) (x (ix2 1 j))
  let e := fun k : Fin 2 => Real.exp (x (ix2 k j) - m)
  let s := e 0 + e 1
  let ct := d (ix3 0 0 j) + d (ix3 1 0 j)
  e i / s * ((if i = 0 then ct else 0) - e 0 / s * ct)

/-- The larger of two real rows, folded from minus infinity. -/
theorem fold_max (x : T.Idx → ℝ) (j : Fin 512) :
    Finset.fold max (Ideal.ofBits FTy.f32 4286578688#32) (fun k : Fin 2 => ((x (ix2 k j) : ℝ) : EReal)) Finset.univ
      = ((max (x (ix2 0 j)) (x (ix2 1 j)) : ℝ) : EReal) := by
  rw [ofBits_neg_inf, show (Finset.univ : Finset (Fin 2)) = {0, 1} by decide, Finset.fold_insert (by decide), Finset.fold_singleton, max_bot_right, max_coe]

/-- The kernel's output, at real arguments. -/
theorem kernel_eq (x : T.Idx → ℝ) (d : D.Idx → ℝ) (i : Fin 2) (j : Fin 512) :
    Cert.KernelIdeal.Value.G2 (F := Ideal) (fun i => (x i : EReal)) (fun i => (d i : EReal)) (ix2 i j) = ((grad x d i j : ℝ) : EReal) := by
  have hs : Real.exp (x (ix2 0 j) - max (x (ix2 0 j)) (x (ix2 1 j))) + Real.exp (x (ix2 1 j) - max (x (ix2 0 j)) (x (ix2 1 j))) ≠ 0 := by positivity
  pointwise [Cert.KernelIdeal.Value.G2, Cert.KernelIdeal.Gen.k0_pay1]
  simp only [fold_max, Fin.sum_univ_two, ← EReal.coe_sub, exp_coe, ← EReal.coe_add, div_coe _ _ hs, ← EReal.coe_mul]
  unfold grad
  dsimp only
  obtain rfl | rfl : i = 0 ∨ i = 1 := by omega
  · rw [show Scalar.select (IntOp.cmpi CmpIPredicate.eq (BitVec.ofNat 32 ↑(0 : Fin 2)) 0#32) ((d (ix3 0 0 j) + d (ix3 1 0 j) : ℝ) : EReal) 0
      = ((d (ix3 0 0 j) + d (ix3 1 0 j) : ℝ) : EReal) from rfl, ← EReal.coe_sub, ← EReal.coe_mul, if_pos rfl]
  · rw [show Scalar.select (IntOp.cmpi CmpIPredicate.eq (BitVec.ofNat 32 ↑(1 : Fin 2)) 0#32) ((d (ix3 0 0 j) + d (ix3 1 0 j) : ℝ) : EReal) 0
      = ((0 : ℝ) : EReal) from rfl, ← EReal.coe_sub, ← EReal.coe_mul, if_neg (by decide)]

open Cert.ReferenceIdeal.Read in
/-- The cotangent of the running sums: the two parts' sum in row 0, zero in row 1. -/
theorem pad_eq (x1 : FVec Ideal D .f32) (d : D.Idx → ℝ) (hx : x1 = fun i => (d i : EReal)) (i : Fin 2) (j : Fin 512) :
    val_main_v33 (F := Ideal) x1 (ix2 i j) = ((if i = 0 then d (ix3 0 0 j) + d (ix3 1 0 j) else 0 : ℝ) : EReal) := by
  have h31 : val_main_v31 (F := Ideal) x1 (ix1 j) = ((d (ix3 0 0 j) + d (ix3 1 0 j) : ℝ) : EReal) := by
    pointwise [val_main_v31, val_main_cst_9, hx]
    rw [hostReduceAdd_fiber (K := Fin 2) _ _ _ _ (fun k => ix3 k 0 j) (fun i : D.Idx => i 0)]
    · rw [Fin.sum_univ_two, zero_add, EReal.coe_add]
    · intro k
      funext a
      obtain rfl : a = 0 := Subsingleton.elim _ _
      rfl
    · intro i hi
      have h1 : (i 1) = (0 : Fin 1) := Subsingleton.elim (α := Fin 1) _ _
      have h2 : (i 2) = j := congrFun hi 0
      funext a
      match a with
      | ⟨0, _⟩ => rfl
      | ⟨1, _⟩ => exact h1.symm
      | ⟨2, _⟩ => exact h2.symm
    · intro k
      rfl
  pointwise [val_main_v33, val_main_v32, val_main_cst_10]
  rw [h31]
  obtain rfl | rfl : i = 0 ∨ i = 1 := by omega
  · rw [dif_pos (by decide), if_pos rfl]
  · rw [dif_neg (by decide), if_neg (by decide), EReal.coe_zero]

open Cert.ReferenceIdeal.Read in
/-- The window sum that the running sum's transpose is: each row and the row below it. -/
theorem window_eq (x1 : FVec Ideal D .f32) (d : D.Idx → ℝ) (hx : x1 = fun i => (d i : EReal)) (i : Fin 2) (j : Fin 512) :
    val_main_v34 (F := Ideal) x1 (ix2 i j) = ((if i = 0 then d (ix3 0 0 j) + d (ix3 1 0 j) else 0 : ℝ) : EReal) := by
  have h0 : val_main_call1_call0_v0 (F := Ideal) (Shape.Idx.first Cert.ReferenceIdeal.Gen.h_S_) = 0 := by
    pointwise [val_main_call1_call0_v0, val_main_call1_call0_cst]
  have hsym : ∀ n : Fin 2, (⟨2, ![2, 1]⟩ : Shape).rowMajor.symm n = ix2 n 0 := by
    intro n
    obtain rfl | rfl : n = 0 ∨ n = 1 := by omega
    all_goals
      funext a
      match a with
      | ⟨0, _⟩ => rfl
      | ⟨1, _⟩ => rfl
  have hrow : ∀ (i n k : Fin 2) (h : ∀ a, ((ix2 i j : T.Idx) a).val * ![1, 1] a + ((⟨2, ![2, 1]⟩ : Shape).rowMajor.symm n a).val - ![0, 0] a < T.size a),
      i.val + n.val = k.val →
      (fun a => ⟨((ix2 i j : T.Idx) a).val * ![1, 1] a + ((⟨2, ![2, 1]⟩ : Shape).rowMajor.symm n a).val - ![0, 0] a, h a⟩ : T.Idx) = ix2 k j := by
    intro i n k h hk
    funext a
    match a with
    | ⟨0, _⟩ => exact Fin.ext (show i.val * 1 + ((⟨2, ![2, 1]⟩ : Shape).rowMajor.symm n 0).val - 0 = k.val by rw [hsym]; show i.val * 1 + n.val - 0 = _; omega)
    | ⟨1, _⟩ => exact Fin.ext (show j.val * 1 + ((⟨2, ![2, 1]⟩ : Shape).rowMajor.symm n 1).val - 0 = j.val by rw [hsym]; show j.val * 1 + 0 - 0 = _; omega)
  have hin : ∀ (i n : Fin 2), i.val + n.val < 2 → ∀ a : Fin 2, (![0, 0] : Fin 2 → Nat) a ≤ ((ix2 i j : T.Idx) a).val * ![1, 1] a + ((⟨2, ![2, 1]⟩ : Shape).rowMajor.symm n a).val
      ∧ ((ix2 i j : T.Idx) a).val * ![1, 1] a + ((⟨2, ![2, 1]⟩ : Shape).rowMajor.symm n a).val - ![0, 0] a < T.size a := by
    intro i n hk a
    match a with
    | ⟨0, _⟩ => exact ⟨Nat.zero_le _, show i.val * 1 + ((⟨2, ![2, 1]⟩ : Shape).rowMajor.symm n 0).val - 0 < 2 by rw [hsym]; show i.val * 1 + n.val - 0 < _; omega⟩
    | ⟨1, _⟩ => exact ⟨Nat.zero_le _, show j.val * 1 + ((⟨2, ![2, 1]⟩ : Shape).rowMajor.symm n 1).val - 0 < 512 by rw [hsym]; show j.val * 1 + 0 - 0 < _; omega⟩
  unfold val_main_v34 Host.reduceWindowAdd
  rw [Ideal.hostReduceWindowAdd_def, h0]
  unfold Ideal.hostReduceWindowAdd Host.reduceWindow
  dsimp only
  rw [show List.finRange (Shape.numel ⟨2, ![2, 1]⟩) = [⟨0, by decide⟩, ⟨1, by decide⟩] by rfl]
  simp only [List.foldl_cons, List.foldl_nil]
  obtain rfl | rfl : i = 0 ∨ i = 1 := by omega
  · refine Eq.trans (congrArg₂ (· + ·) (congrArg₂ (· + ·) rfl
      ((dif_pos (hin 0 0 (by decide))).trans (congrArg (val_main_v33 (F := Ideal) x1) (hrow 0 0 0 _ rfl))))
      ((dif_pos (hin 0 1 (by decide))).trans (congrArg (val_main_v33 (F := Ideal) x1) (hrow 0 1 1 _ rfl)))) ?_
    rw [pad_eq x1 d hx, pad_eq x1 d hx, if_pos rfl, if_neg (by decide), EReal.coe_zero, zero_add, add_zero]
  · have hout : ¬ ∀ a : Fin 2, (![0, 0] : Fin 2 → Nat) a ≤ ((ix2 (1 : Fin 2) j : T.Idx) a).val * ![1, 1] a + ((⟨2, ![2, 1]⟩ : Shape).rowMajor.symm (1 : Fin 2) a).val
        ∧ ((ix2 (1 : Fin 2) j : T.Idx) a).val * ![1, 1] a + ((⟨2, ![2, 1]⟩ : Shape).rowMajor.symm (1 : Fin 2) a).val - ![0, 0] a < T.size a := fun h =>
      absurd (h 0).2 (show ¬ (1 * 1 + ((⟨2, ![2, 1]⟩ : Shape).rowMajor.symm (1 : Fin 2) 0).val - 0 < 2) by rw [hsym]; decide)
    refine Eq.trans (congrArg₂ (· + ·) (congrArg₂ (· + ·) rfl
      ((dif_pos (hin 1 0 (by decide))).trans (congrArg (val_main_v33 (F := Ideal) x1) (hrow 1 0 1 _ rfl)))) (dif_neg hout)) ?_
    rw [pad_eq x1 d hx, if_neg (by decide), EReal.coe_zero, zero_add, add_zero]

open Cert.ReferenceIdeal.Read in
/-- The reference's result, at real arguments. -/
theorem reference_eq (x0 : FVec Ideal T .f32) (x1 : FVec Ideal D .f32) (x : T.Idx → ℝ) (d : D.Idx → ℝ) (hx : x0 = fun i => (x i : EReal))
    (hd : x1 = fun i => (d i : EReal)) (i : Fin 2) (j : Fin 512) :
    val_main_v46 (F := Ideal) x0 x1 (ix2 i j) = ((grad x d i j : ℝ) : EReal) := by
  have hw := window_eq x1 d hd
  have hs : Real.exp (x (ix2 0 j) - max (x (ix2 0 j)) (x (ix2 1 j))) + Real.exp (x (ix2 1 j) - max (x (ix2 0 j)) (x (ix2 1 j))) ≠ 0 := by positivity
  have hm : ∀ k, val_main_v19 (F := Ideal) x0 (ix2 k j) = ((x (ix2 k j) - max (x (ix2 0 j)) (x (ix2 1 j)) : ℝ) : EReal) := by
    intro k
    pointwise [val_main_v19, val_main_v18, val_main_v17, val_main_v16, val_main_v15, val_main_v14, val_main_v13, val_main_v12, val_main_v7, val_main_v6, val_main_cst_1, val_main_v0, val_main_cst, hx]
    rw [fold_max, ofBits_neg_inf, max_bot_left, EReal.coe_sub]
  pointwise [val_main_v46, val_main_v45, val_main_v44, val_main_v43, val_main_v42, val_main_v41, val_main_v40, val_main_v39, val_main_v38, val_main_v37,
    val_main_v36, val_main_v35, val_main_v27, val_main_v26, val_main_v25, val_main_v23, val_main_v22, val_main_v21, val_main_v20,
    val_main_cst_7, val_main_cst_8, val_main_cst_11, val_main_cst_12]
  simp only [hm, hw, ofBits_one, ← EReal.coe_one, Fin.sum_univ_two, Fin.sum_univ_one, exp_coe, ← EReal.coe_add, div_coe _ _ hs, div_coe _ _ (mul_ne_zero hs hs),
    ← EReal.coe_mul, ← EReal.coe_neg, zero_add]
  rw [EReal.coe_eq_coe_iff]
  unfold grad
  dsimp only
  obtain rfl | rfl : i = 0 ∨ i = 1 := by omega
  · simp
    field_simp
    ring
  · simp
    field_simp

end Cert.Proof.Lb

end
-- ==== Proof.Lb.Claims.lean ====
module

public import proofs.«01_k».proof.Proof.Lb.Value
public import Idealize.ShloMosaic.Adequacy
public import Idealize.ShloMosaic.Init
public import Idealize.ShloMosaic.Lib.Quiescent

@[expose] public section

noncomputable section

namespace Cert.Proof.Lb

open Idealize.ShloMosaic Idealize.SL.Sem Cert.Proof.Reals
open Idealize.ShloMosaic.Pointwise

/-- The shape facts the precondition states. -/
theorem pre_facts : Cert.Pre_table_finite.Facts := ⟨by decide, by decide, by decide, by decide, by decide⟩

/-- An array with one index per axis of size none has one index. -/
instance : Subsingleton Cert.Pre_table_finite.S_.Idx := ⟨fun a b => funext fun i => i.elim0⟩

/-- The precondition says that both arguments are real everywhere. -/
theorem reals_of_pre [h : Cert.Pre_table_finite.Facts] (x0 : FVec Ideal T .f32) (x1 : FVec Ideal D .f32)
    (hp : Cert.Pre_table_finite.fn (F := Ideal) x0 x1 = fun _ => 1#1) :
    (∃ x : T.Idx → ℝ, x0 = fun i => (x i : EReal)) ∧ ∃ d : D.Idx → ℝ, x1 = fun i => (d i : EReal) := by
  unfold Cert.Pre_table_finite.fn at hp
  obtain ⟨h0, h1⟩ := and_eq_one _ _ hp
  exact ⟨reals_of_reduce _ _ _ (fun i => ofBits_inf) _ _ (fun i => i.elim0) (congrFun h0 _),
    reals_of_reduce _ _ _ (fun i => ofBits_inf) _ _ (fun i => i.elim0) (congrFun h1 _)⟩

/-- The idealized kernel and the reference leave the same gradient of the lower-bound table. -/
theorem algebraic [Cert.Pre_table_finite.Facts] : Cert.algebraic_KernelIdeal_ReferenceIdeal_pre_table_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2, Cert.ReferenceIdeal.Read.val_main_v46_eq]
  obtain ⟨⟨x, hx⟩, d, hd⟩ := reals_of_pre _ _ (hpre c)
  funext i
  rw [hx, hd, eq_ix2 i]
  exact (reference_eq _ _ x d rfl rfl _ _).trans (kernel_eq x d _ _).symm

/-- The idealized reference runs and ends quiescent. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Lb

end
-- ==== Proof.Attn.Chunk.lean ====
module

public import proofs.«01_k».proof.Proof.Gen.Kernel2Ideal.Skeleton
public import Idealize.ShloMosaic.Lib.VecWindow

@[expose] public section

noncomputable section

namespace Cert.Proof.Attn

open Idealize.ShloMosaic Cert.Kernel2Ideal Cert.Kernel2Ideal.Gen

variable {F : FTy → Type} [FloatOps F] [Cert.Kernel2Ideal.Facts]

/-- What one chunk of the backward pass reads: its 64 query rows, the band of 640 key and value rows, the bias, its rows
    of the forward output and of the cotangent, and the chunk's number. -/
structure Blocks (F : FTy → Type) [FloatOps F] where
  q : Vec F S64x128 .bf16
  kb : Vec F S640x128 .bf16
  vb : Vec F S640x128 .bf16
  bias : Vec F S640x128 .f32
  o : Vec F S64x128 .f32
  dout : Vec F S64x128 .f32
  n : BitVec 32

namespace Blocks

variable (B : Blocks F)

/-- The scores, keys down, the two heads' queries across. -/
def st : FVec F S640x128 .f32 := k0_pay4 B.q B.kb B.bias
/-- The probabilities. -/
def p : FVec F S640x128 .f32 := k0_pay38 (k0_pay24 B.n B.st) (k0_pay25 B.n B.st)
/-- The cotangents of the probabilities. -/
def dp : FVec F S640x128 .f32 := k0_pay7 B.vb B.dout
/-- Per query, the sum of cotangent times output. -/
def row : FVec F S1x128 .f32 := k0_pay26 (k0_pay5 B.dout) B.o
/-- The cotangents of the scores. -/
def ds : FVec F S640x128 .f32 := k0_pay43 B.dp B.row B.p
/-- The query rows' gradient before the norm. -/
def dq : FVec F S64x128 .f32 := k0_pay52 B.kb B.dp B.row B.p
/-- The bias sum with this chunk added. -/
def addB (x : Vec F S640x128 .f32) : FVec F S640x128 .f32 := k0_pay51 B.dp B.row B.p x
/-- The band's key sums with this chunk added. -/
def addK (x : Vec F S640x128 .f32) : FVec F S640x128 .f32 := k0_pay61 (k0_pay3 B.q) (k0_pay44 B.dp B.row B.p) x
/-- The band's value sums with this chunk added. -/
def addV (x : Vec F S640x128 .f32) : FVec F S640x128 .f32 := k0_pay66 (k0_pay6 B.dout) B.p x

/-- The second printed chunk of a trip computes these. -/
theorem p_1 : B.p = k0_pay39 (k0_pay27 (k0_pay9 B.q B.kb B.bias) (iota .tc S640x128 32 [0] iota_S640x128_d0_w32) (Scalar.subi 9#32 B.n) 64#32)
    (k0_pay28 (k0_pay9 B.q B.kb B.bias) (iota .tc S640x128 32 [0] iota_S640x128_d0_w32) (Scalar.subi 9#32 B.n) 64#32) := rfl
theorem row_1 : B.row = k0_pay29 (k0_pay10 B.dout) B.o := rfl
theorem dq_1 : B.dq = k0_pay55 B.kb (k0_pay54 (k0_pay12 B.vb B.dout) B.row B.p) (constant S128x128 .f32 0x00000000#32) := rfl
theorem addB_1 (x) : B.addB x = k0_pay53 (k0_pay12 B.vb B.dout) B.row B.p x := rfl
theorem addK_1 (x) : B.addK x = k0_pay62 (k0_pay8 B.q) (k0_pay46 (k0_pay12 B.vb B.dout) B.row B.p) x := rfl
theorem addV_1 (x) : B.addV x = k0_pay67 (k0_pay11 B.dout) B.p x := rfl

/-- The third does. -/
theorem p_2 : B.p = k0_pay40 (k0_pay30 B.n (k0_pay14 (k0_pay13 B.q) B.kb B.bias)) (k0_pay31 B.n (k0_pay14 (k0_pay13 B.q) B.kb B.bias)) := rfl
theorem row_2 : B.row = k0_pay32 (k0_pay15 B.dout) B.o := rfl
theorem dq_2 : B.dq = k0_pay57 B.kb (k0_pay47 (k0_pay17 B.vb B.dout) B.row B.p) := rfl
theorem addB_2 (x) : B.addB x = k0_pay56 (k0_pay47 (k0_pay17 B.vb B.dout) B.row B.p) x := rfl
theorem addK_2 (x) : B.addK x = k0_pay63 (k0_pay13 B.q) (k0_pay48 (k0_pay17 B.vb B.dout) B.row B.p) x := rfl
theorem addV_2 (x) : B.addV x = k0_pay68 (k0_pay16 B.dout) B.p x := rfl

/-- Its cotangent of the output and the iotas that stack it. -/
def dp3 : FVec F S640x128 .f32 := k0_pay23 B.vb B.dout (iota .tc S64x128 32 [1] iota_S64x128_d1_w32) k0_pay20
theorem dp_3 : B.dp = B.dp3 := rfl
/-- The fourth chunk's row sums. -/
def row3 : FVec F S1x128 .f32 := k0_pay36 (k0_pay35 (k0_pay21 B.dout (iota .tc S64x128 32 [1] iota_S64x128_d1_w32) k0_pay20) B.o) (FloatOps.ofBits .bf16 16256#16)
theorem row_3 : B.row = B.row3 := rfl
/-- The fourth chunk's probabilities before the division, and the sums they are divided by. -/
def e3 : FVec F S640x128 .f32 := k0_pay37 (k0_pay33 B.n (k0_pay19 B.q B.kb B.bias)) (k0_pay34 B.n (k0_pay19 B.q B.kb B.bias))
def z3 := k0_pay41 (k0_pay33 B.n (k0_pay19 B.q B.kb B.bias)) (k0_pay34 B.n (k0_pay19 B.q B.kb B.bias))
theorem dq_3 : B.dq = k0_pay60 B.kb (k0_pay59 (k0_pay49 B.dp3 B.row3 B.e3 B.z3)) (constant S128x128 .f32 0x00000000#32) := rfl
theorem addB_3 (x) : B.addB x = k0_pay58 (k0_pay49 B.dp3 B.row3 B.e3 B.z3) x := rfl
theorem addK_3 (x) : B.addK x = k0_pay65 (k0_pay64 (k0_pay18 B.q) (k0_pay50 B.dp3 B.row3 B.e3 B.z3) x) := rfl
theorem addV_3 (x) : B.addV x = k0_pay85 x (k0_pay69 (k0_pay22 B.dout (iota .tc S64x128 32 [1] iota_S64x128_d1_w32) k0_pay20) (k0_pay42 B.e3 B.z3)) := rfl

end Blocks

end Cert.Proof.Attn
-- ==== Proof.Attn.Trip.lean ====
module

public import proofs.«01_k».proof.Proof.Attn.Chunk
public import proofs.«01_k».proof.Proof.Gen.Kernel2Ideal.Loops

@[expose] public section

noncomputable section

namespace Cert.Proof.Attn

open Idealize.ShloMosaic Cert.Kernel2Ideal Cert.Kernel2Ideal.Gen Idealize.ShloMosaic.TcCoe VecWindow

variable {F : FTy → Type} [FloatOps F] [Cert.Kernel2Ideal.Facts]

/-- A load, a value computed of it and its store at the same window: the window replaced by the value of what it held. -/
theorem read_accumulate {sig : RefSig} {κ : Kind} {sp : Space} {s : Shape} {e : EltTy} {Val : EltTy → Type} (v : View sig κ sp s e)
    (f : v.ty.Contents Val) {off off' size : Fin s.rank → ℕ} (inb : ∀ a, off a + size a ≤ s.size a) (h : off = off')
    (inb' : ∀ a, off' a + size a ≤ s.size a) (g : (((a : Fin s.rank) → Fin (size a)) → Val e) → ((a : Fin s.rank) → Fin (size a)) → Val e)
    (L : List (View.Piece Val s e)) {x : s.Idx → Val e} (hx : v.read Val (v.writes Val f L) = x) (w : ((a : Fin s.rank) → Fin (size a)) → Val e)
    (hw : w = g (v.readAt Val (Rect.unit off size inb).toLoadRect (v.writes Val f L))) :
    v.read Val (v.writes Val f (⟨Rect.unit off size inb, w⟩ :: L)) = put x off' size (g (window x off' size inb')) := by
  subst h hx
  rw [View.read_writes_cons_put v f inb w L rfl, hw, View.readAt_unit v _ inb rfl inb']

/-- The same over a whole memref. -/
theorem read_accumulate_all {sig : RefSig} {κ : Kind} {sp : Space} {s : Shape} {e : EltTy} {Val : EltTy → Type} (v : View sig κ sp s e)
    (f : v.ty.Contents Val) {off : Fin s.rank → ℕ} (inb : ∀ a, off a + s.size a ≤ s.size a) (g : (s.Idx → Val e) → s.Idx → Val e)
    (L : List (View.Piece Val s e)) {x : s.Idx → Val e} (hx : v.read Val (v.writes Val f L) = x) (w : s.Idx → Val e)
    (hw : w = g (v.readAt Val (Rect.unit off s.size inb).toLoadRect (v.writes Val f L))) :
    v.read Val (v.writes Val f (⟨Rect.unit off s.size inb, w⟩ :: L)) = g x := by
  subst hx
  rw [View.read_writes_full, hw, View.readAt_full]

/-- What a whole store left is read alike with and without what it was written over. -/
theorem readCov_eq_readAt {sig : RefSig} {κ : Kind} {sp : Space} {s : Shape} {e : EltTy} {Val : EltTy → Type} [∀ e, Nonempty (Val e)] (v : View sig κ sp s e)
    (f : v.ty.Contents Val) {off : Fin s.rank → ℕ} (inb : ∀ a, off a + s.size a ≤ s.size a) (w : s.Idx → Val e) (L : List (View.Piece Val s e)) :
    v.readCov (⟨Rect.unit off s.size inb, w⟩ :: L) (Rect.unit off s.size inb).toLoadRect
      = v.readAt Val (Rect.unit off s.size inb).toLoadRect (v.writes Val f (⟨Rect.unit off s.size inb, w⟩ :: L)) :=
  (View.readCov_full v inb inb w L).trans (View.readAt_writes_full v f inb inb w L).symm

/-- A store of a window. -/
theorem read_set {sig : RefSig} {κ : Kind} {sp : Space} {s : Shape} {e : EltTy} {Val : EltTy → Type} (v : View sig κ sp s e)
    (f : v.ty.Contents Val) {off off' size : Fin s.rank → ℕ} (inb : ∀ a, off a + size a ≤ s.size a) (h : off = off')
    (g : ((a : Fin s.rank) → Fin (size a)) → Val e)
    (L : List (View.Piece Val s e)) {x : s.Idx → Val e} (hx : v.read Val (v.writes Val f L) = x) (w : ((a : Fin s.rank) → Fin (size a)) → Val e)
    (hw : w = g) : v.read Val (v.writes Val f (⟨Rect.unit off size inb, w⟩ :: L)) = put x off' size g := by
  subst h hx hw
  exact View.read_writes_cons_put v f inb w L rfl

/-- Chunk `c`'s query rows lie within the 2048. -/
theorem rows_inb (c : Fin 32) : ∀ a, (![64 * c.val, 0] : Fin 2 → ℕ) a + S64x128.size a ≤ S2048x128.size a := by
  have := c.isLt
  intro a
  fin_cases a
  · show 64 * c.val + 64 ≤ 2048
    omega
  · show 0 + 128 ≤ 128
    omega

/-- Chunk `c`'s band lies within the 2624 key rows. -/
theorem band_inb (c : Fin 32) : ∀ a, (![64 * c.val, 0] : Fin 2 → ℕ) a + S640x128.size a ≤ S2624x128.size a := by
  have := c.isLt
  intro a
  fin_cases a
  · show 64 * c.val + 640 ≤ 2624
    omega
  · show 0 + 128 ≤ 128
    omega

/-- Chunk `c`'s rows of an array of queries. -/
def rowsOf {e : EltTy} (x : Vec F S2048x128 e) (c : Fin 32) : Vec F S64x128 e := window x ![64 * c.val, 0] S64x128.size (rows_inb c)
/-- Chunk `c`'s band of an array of keys. -/
def bandOf {e : EltTy} (x : Vec F S2624x128 e) (c : Fin 32) : Vec F S640x128 e := window x ![64 * c.val, 0] S640x128.size (band_inb c)

/-- What chunk `c` reads, of the whole arrays of one block of the grid. -/
def blk (q : Vec F S2048x128 .bf16) (k v : Vec F S2624x128 .bf16) (bias : Vec F S640x128 .f32) (o dout : Vec F S2048x128 .f32) (c : Fin 32) : Blocks F :=
  ⟨rowsOf q c, bandOf k c, bandOf v c, bias, rowsOf o c, rowsOf dout c, BitVec.ofNat 32 c.val⟩

/-- The gradient of the queries with chunk `c`'s rows set. -/
def setQ (b : Fin 32 → Blocks F) (x : Vec F S2048x128 .f32) (c : Fin 32) : Vec F S2048x128 .f32 := put x ![64 * c.val, 0] S64x128.size (b c).dq
/-- The sums over the keys with chunk `c`'s band added. -/
def accK (b : Fin 32 → Blocks F) (x : Vec F S2624x128 .f32) (c : Fin 32) : Vec F S2624x128 .f32 :=
  put x ![64 * c.val, 0] S640x128.size ((b c).addK (bandOf x c))
/-- The sums over the values with chunk `c`'s band added. -/
def accV (b : Fin 32 → Blocks F) (x : Vec F S2624x128 .f32) (c : Fin 32) : Vec F S2624x128 .f32 :=
  put x ![64 * c.val, 0] S640x128.size ((b c).addV (bandOf x c))
/-- The bias sums with chunk `c` added. -/
def accB (b : Fin 32 → Blocks F) (x : Vec F S640x128 .f32) (c : Fin 32) : Vec F S640x128 .f32 := (b c).addB x

/-- The first `n` chunks done, in order. -/
def after {α : Type} (step : α → Fin 32 → α) (x : α) : ℕ → α
  | 0 => x
  | n + 1 => if h : n < 32 then step (after step x n) ⟨n, h⟩ else after step x n

theorem after_succ {α : Type} (step : α → Fin 32 → α) (x : α) (n : ℕ) (h : n < 32) : after step x (n + 1) = step (after step x n) ⟨n, h⟩ := dif_pos h

/-- The chunk a trip's `a`-th is. -/
def chunkOf (k : Fin k0_t1_loop.trips) (a : Fin 4) : Fin 32 := ⟨4 * k.val + a.val, by have := Nat.lt_of_lt_of_le k.isLt k0_t1_abs.2.1; omega⟩

/-- A trip's four chunks are the next four. -/
theorem after_trip {α : Type} (step : α → Fin 32 → α) (x : α) (k : Fin k0_t1_loop.trips) :
    after step x (4 * (k.val + 1)) = step (step (step (step (after step x (4 * k.val)) (chunkOf k 0)) (chunkOf k 1)) (chunkOf k 2)) (chunkOf k 3) := by
  have := Nat.lt_of_lt_of_le k.isLt k0_t1_abs.2.1
  show after step x (4 * k.val + 3 + 1) = _
  rw [after_succ _ _ _ (by omega), after_succ _ _ (4 * k.val + 2) (by omega), after_succ _ _ (4 * k.val + 1) (by omega), after_succ _ _ (4 * k.val) (by omega)]
  rfl

theorem trip_cases (P : Fin k0_t1_loop.trips → Prop) (h : ∀ n (hn : n < k0_t1_loop.trips), n < 8 → P ⟨n, hn⟩) (k : Fin k0_t1_loop.trips) : P k :=
  h k.val k.isLt (Nat.lt_of_lt_of_le k.isLt k0_t1_abs.2.1)

theorem number_eq (k : Fin k0_t1_loop.trips) (a : Fin 4) :
    Scalar.addi (Scalar.muli (Scf.iv 0#32 1#32 k.val) 4#32) (BitVec.ofNat 32 a.val) = BitVec.ofNat 32 (chunkOf k a).val := by
  revert a
  refine trip_cases (fun k => ∀ a : Fin 4, Scalar.addi (Scalar.muli (Scf.iv 0#32 1#32 k.val) 4#32) (BitVec.ofNat 32 a.val) = BitVec.ofNat 32 (chunkOf k a).val) (fun n hn h => ?_) k
  obtain rfl | rfl | rfl | rfl | rfl | rfl | rfl | rfl : n = 0 ∨ n = 1 ∨ n = 2 ∨ n = 3 ∨ n = 4 ∨ n = 5 ∨ n = 6 ∨ n = 7 := by omega
  all_goals exact fun a => by fin_cases a <;> rfl

/-- Chunk `c`'s first row, as the words compute it. -/
theorem row_words : ∀ c : Fin 32, (Scalar.indexCast (Scalar.muli (BitVec.ofNat 32 c.val) 64#32) : Index).toNat = 64 * c.val := by decide

theorem off1_eq (k : Fin k0_t1_loop.trips) (a : Fin 4) : k0_off1 k (BitVec.ofNat 32 a.val) = ![64 * (chunkOf k a).val, 0] := by
  show ![(Scalar.indexCast (Scalar.muli (Scalar.addi (Scalar.muli (Scf.iv 0#32 1#32 k.val) 4#32) (BitVec.ofNat 32 a.val)) 64#32) : Index).toNat, 0] = _
  rw [number_eq, row_words]

theorem off2_eq (k : Fin k0_t1_loop.trips) (a : Fin 4) : k0_off2 k (BitVec.ofNat 32 a.val) = ![64 * (chunkOf k a).val, 0] := off1_eq k a

variable (𝒱 : Variants) (c : Dev nD) (bd : Option 𝒱.V) (i : grid0.Coords) (arg2 : Memref sig .tc .vmem S2048x128 .f32) (harg2 : arg2.IsWhole)
   (arg3 : Memref sig .tc .vmem S2048x128 .f32) (harg3 : arg3.IsWhole) (arg4 : Memref sig .tc .vmem S2048x128 .f32) (harg4 : arg4.IsWhole)
   (arg5 : Memref sig .tc .vmem S2048x128 .f32) (harg5 : arg5.IsWhole) (arg6 : Memref sig .tc .vmem S2048x128 .f32) (harg6 : arg6.IsWhole)
   (arg7 : Memref sig .tc .vmem S640x128 .f32) (harg7 : arg7.IsWhole) (arg8 : Memref sig .tc .vmem S1x128 .f32) (harg8 : arg8.IsWhole)
   (arg9 : Memref sig .tc .vmem S1x128 .f32) (harg9 : arg9.IsWhole) (arg10 : Memref sig .tc .vmem S2048x128 .bf16) (harg10 : arg10.IsWhole)
   (arg11 : Memref sig .tc .vmem S2048x128 .bf16) (harg11 : arg11.IsWhole) (arg12 : Memref sig .tc .vmem S2048x128 .bf16) (harg12 : arg12.IsWhole)
   (arg13 : Memref sig .tc .vmem S1x640x128 .f32) (harg13 : arg13.IsWhole) (arg14 : Memref sig .tc .vmem S1x1x128 .f32) (harg14 : arg14.IsWhole)
   (arg15 : Memref sig .tc .vmem S1x1x128 .f32) (harg15 : arg15.IsWhole) (arg16 : Memref sig .tc .vmem S2048x128 .bf16) (harg16 : arg16.IsWhole)
   (arg17 : Memref sig .tc .vmem S2624x128 .bf16) (harg17 : arg17.IsWhole) (arg18 : Memref sig .tc .vmem S2624x128 .bf16) (harg18 : arg18.IsWhole)
   (arg19 : Memref sig .tc .vmem S2048x128 .f32) (harg19 : arg19.IsWhole) (arg20 : Memref sig .tc .vmem S2624x128 .f32) (harg20 : arg20.IsWhole)
   (arg21 : Memref sig .tc .vmem S2624x128 .f32) (harg21 : arg21.IsWhole) (arg22 : Memref sig .tc .vmem S640x128 .f32) (harg22 : arg22.IsWhole)
   (v60 : FVec F S2048x128 .f32) (v61 : FVec F S2048x128 .f32) (v81 : FVec F S1x128 .f32) (X_arg5 : BufTy.Contents (Elt F) arg5.view.ty)
   (X_arg6 : BufTy.Contents (Elt F) arg6.view.ty) (X_arg7 : BufTy.Contents (Elt F) arg7.view.ty) (X_arg16 : BufTy.Contents (Elt F) arg16.view.ty)
   (X_arg17 : BufTy.Contents (Elt F) arg17.view.ty) (X_arg18 : BufTy.Contents (Elt F) arg18.view.ty)

/-- What the trip's `a`-th chunk loads. -/
def tripBlk (k : Fin k0_t1_loop.trips) (a : Fin 4) : Blocks F :=
  ⟨arg16.view.readAt (Elt F) (Rect.unit (s := S2048x128) (k0_off1 k (BitVec.ofNat 32 a.val)) S64x128.size (k0_off1_inb k a)).toLoadRect X_arg16,
    arg17.view.readAt (Elt F) (Rect.unit (s := S2624x128) (k0_off2 k (BitVec.ofNat 32 a.val)) S640x128.size (k0_off2_inb k a)).toLoadRect X_arg17,
    arg18.view.readAt (Elt F) (Rect.unit (s := S2624x128) (k0_off2 k (BitVec.ofNat 32 a.val)) S640x128.size (k0_off2_inb k a)).toLoadRect X_arg18,
    arg7.view.readAt (Elt F) (Rect.unit ![0, 0] S640x128.size inb_S640x128_S640x128_0_0).toLoadRect X_arg7,
    arg5.view.readAt (Elt F) (Rect.unit (s := S2048x128) (k0_off1 k (BitVec.ofNat 32 a.val)) S64x128.size (k0_off1_inb k a)).toLoadRect X_arg5,
    arg6.view.readAt (Elt F) (Rect.unit (s := S2048x128) (k0_off1 k (BitVec.ofNat 32 a.val)) S64x128.size (k0_off1_inb k a)).toLoadRect X_arg6,
    Scalar.addi (Scalar.muli (Scf.iv 0#32 1#32 k.val) 4#32) (BitVec.ofNat 32 a.val)⟩

/-- It is the chunk's blocks of what the six memrefs hold. -/
theorem tripBlk_eq (k : Fin k0_t1_loop.trips) (a : Fin 4) :
    tripBlk arg5 arg6 arg7 arg16 arg17 arg18 X_arg5 X_arg6 X_arg7 X_arg16 X_arg17 X_arg18 k a
      = blk (arg16.view.read (Elt F) X_arg16) (arg17.view.read (Elt F) X_arg17) (arg18.view.read (Elt F) X_arg18)
        (arg7.view.read (Elt F) X_arg7) (arg5.view.read (Elt F) X_arg5) (arg6.view.read (Elt F) X_arg6) (chunkOf k a) := by
  unfold tripBlk blk rowsOf bandOf
  rw [View.readAt_unit _ X_arg16 _ (off1_eq k a) (rows_inb _), View.readAt_unit _ X_arg17 _ (off2_eq k a) (band_inb _),
    View.readAt_unit _ X_arg18 _ (off2_eq k a) (band_inb _), View.readAt_full, View.readAt_unit _ X_arg5 _ (off1_eq k a) (rows_inb _),
    View.readAt_unit _ X_arg6 _ (off1_eq k a) (rows_inb _), number_eq]

/-- The chunks' blocks of what the six memrefs hold. -/
abbrev heldBlk : Fin 32 → Blocks F :=
  blk (arg16.view.read (Elt F) X_arg16) (arg17.view.read (Elt F) X_arg17) (arg18.view.read (Elt F) X_arg18)
    (arg7.view.read (Elt F) X_arg7) (arg5.view.read (Elt F) X_arg5) (arg6.view.read (Elt F) X_arg6)

/-- They are what the trip's chunk loads. -/
theorem heldBlk_eq (k : Fin k0_t1_loop.trips) (a : Fin 4) : heldBlk arg5 arg6 arg7 arg16 arg17 arg18 X_arg5 X_arg6 X_arg7 X_arg16 X_arg17 X_arg18 (chunkOf k a)
    = tripBlk arg5 arg6 arg7 arg16 arg17 arg18 X_arg5 X_arg6 X_arg7 X_arg16 X_arg17 X_arg18 k a := (tripBlk_eq ..).symm

/-- The key sums after the trip: the four chunks added in order. -/
theorem read_trip20 (k : Fin k0_t1_loop.trips) (f19 f20 f21 f22) :
    arg20.view.read (Elt F) (arg20.view.writes (Elt F) f20 ((trip_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 k).2.1 f19 f20 f21 f22))
      = let acc := accK (heldBlk arg5 arg6 arg7 arg16 arg17 arg18 X_arg5 X_arg6 X_arg7 X_arg16 X_arg17 X_arg18)
        acc (acc (acc (acc (arg20.view.read (Elt F) f20) (chunkOf k 0)) (chunkOf k 1)) (chunkOf k 2)) (chunkOf k 3) := by
  have e := heldBlk_eq arg5 arg6 arg7 arg16 arg17 arg18 X_arg5 X_arg6 X_arg7 X_arg16 X_arg17 X_arg18 k
  unfold trip_k0_t1
  dsimp only
  refine read_accumulate arg20.view f20 (k0_off2_inb k 3) (off2_eq k 3) (band_inb _) (heldBlk arg5 arg6 arg7 arg16 arg17 arg18 X_arg5 X_arg6 X_arg7 X_arg16 X_arg17 X_arg18 (chunkOf k 3)).addK _ ?_ _ (by rw [e 3, Blocks.addK_3]; rfl)
  refine read_accumulate arg20.view f20 (k0_off2_inb k 2) (off2_eq k 2) (band_inb _) (heldBlk arg5 arg6 arg7 arg16 arg17 arg18 X_arg5 X_arg6 X_arg7 X_arg16 X_arg17 X_arg18 (chunkOf k 2)).addK _ ?_ _ (by rw [e 2, Blocks.addK_2]; rfl)
  refine read_accumulate arg20.view f20 (k0_off2_inb k 1) (off2_eq k 1) (band_inb _) (heldBlk arg5 arg6 arg7 arg16 arg17 arg18 X_arg5 X_arg6 X_arg7 X_arg16 X_arg17 X_arg18 (chunkOf k 1)).addK _ ?_ _ (by rw [e 1, Blocks.addK_1]; rfl)
  refine read_accumulate arg20.view f20 (k0_off2_inb k 0) (off2_eq k 0) (band_inb _) (heldBlk arg5 arg6 arg7 arg16 arg17 arg18 X_arg5 X_arg6 X_arg7 X_arg16 X_arg17 X_arg18 (chunkOf k 0)).addK _ rfl _ (by rw [e 0]; rfl)

/-- The value sums after the trip. -/
theorem read_trip21 (k : Fin k0_t1_loop.trips) (f19 f20 f21 f22) :
    arg21.view.read (Elt F) (arg21.view.writes (Elt F) f21 ((trip_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 k).2.2.1 f19 f20 f21 f22))
      = let acc := accV (heldBlk arg5 arg6 arg7 arg16 arg17 arg18 X_arg5 X_arg6 X_arg7 X_arg16 X_arg17 X_arg18)
        acc (acc (acc (acc (arg21.view.read (Elt F) f21) (chunkOf k 0)) (chunkOf k 1)) (chunkOf k 2)) (chunkOf k 3) := by
  have e := heldBlk_eq arg5 arg6 arg7 arg16 arg17 arg18 X_arg5 X_arg6 X_arg7 X_arg16 X_arg17 X_arg18 k
  unfold trip_k0_t1
  dsimp only
  refine read_accumulate arg21.view f21 (k0_off2_inb k 3) (off2_eq k 3) (band_inb _) (heldBlk arg5 arg6 arg7 arg16 arg17 arg18 X_arg5 X_arg6 X_arg7 X_arg16 X_arg17 X_arg18 (chunkOf k 3)).addV _ ?_ _ (by rw [e 3, Blocks.addV_3]; rfl)
  refine read_accumulate arg21.view f21 (k0_off2_inb k 2) (off2_eq k 2) (band_inb _) (heldBlk arg5 arg6 arg7 arg16 arg17 arg18 X_arg5 X_arg6 X_arg7 X_arg16 X_arg17 X_arg18 (chunkOf k 2)).addV _ ?_ _ (by rw [e 2, Blocks.addV_2]; rfl)
  refine read_accumulate arg21.view f21 (k0_off2_inb k 1) (off2_eq k 1) (band_inb _) (heldBlk arg5 arg6 arg7 arg16 arg17 arg18 X_arg5 X_arg6 X_arg7 X_arg16 X_arg17 X_arg18 (chunkOf k 1)).addV _ ?_ _ (by rw [e 1, Blocks.addV_1]; rfl)
  refine read_accumulate arg21.view f21 (k0_off2_inb k 0) (off2_eq k 0) (band_inb _) (heldBlk arg5 arg6 arg7 arg16 arg17 arg18 X_arg5 X_arg6 X_arg7 X_arg16 X_arg17 X_arg18 (chunkOf k 0)).addV _ rfl _ (by rw [e 0]; rfl)

/-- The queries' gradient after the trip: the four chunks' rows set. -/
theorem read_trip19 (k : Fin k0_t1_loop.trips) (f19 f20 f21 f22) :
    arg19.view.read (Elt F) (arg19.view.writes (Elt F) f19 ((trip_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 k).1 f19 f20 f21 f22))
      = let acc := setQ (heldBlk arg5 arg6 arg7 arg16 arg17 arg18 X_arg5 X_arg6 X_arg7 X_arg16 X_arg17 X_arg18)
        acc (acc (acc (acc (arg19.view.read (Elt F) f19) (chunkOf k 0)) (chunkOf k 1)) (chunkOf k 2)) (chunkOf k 3) := by
  have e := heldBlk_eq arg5 arg6 arg7 arg16 arg17 arg18 X_arg5 X_arg6 X_arg7 X_arg16 X_arg17 X_arg18 k
  unfold trip_k0_t1
  dsimp only
  refine read_set arg19.view f19 (k0_off1_inb k 3) (off1_eq k 3) (heldBlk arg5 arg6 arg7 arg16 arg17 arg18 X_arg5 X_arg6 X_arg7 X_arg16 X_arg17 X_arg18 (chunkOf k 3)).dq _ ?_ _ (by rw [e 3, Blocks.dq_3]; rfl)
  refine read_set arg19.view f19 (k0_off1_inb k 2) (off1_eq k 2) (heldBlk arg5 arg6 arg7 arg16 arg17 arg18 X_arg5 X_arg6 X_arg7 X_arg16 X_arg17 X_arg18 (chunkOf k 2)).dq _ ?_ _ (by rw [e 2, Blocks.dq_2]; rfl)
  refine read_set arg19.view f19 (k0_off1_inb k 1) (off1_eq k 1) (heldBlk arg5 arg6 arg7 arg16 arg17 arg18 X_arg5 X_arg6 X_arg7 X_arg16 X_arg17 X_arg18 (chunkOf k 1)).dq _ ?_ _ (by rw [e 1, Blocks.dq_1]; rfl)
  refine read_set arg19.view f19 (k0_off1_inb k 0) (off1_eq k 0) (heldBlk arg5 arg6 arg7 arg16 arg17 arg18 X_arg5 X_arg6 X_arg7 X_arg16 X_arg17 X_arg18 (chunkOf k 0)).dq _ rfl _ (by rw [e 0]; rfl)

end Cert.Proof.Attn
-- ==== Proof.Attn.Trip2.lean ====
module

public import proofs.«01_k».proof.Proof.Attn.Trip

@[expose] public section

noncomputable section

namespace Cert.Proof.Attn

open Idealize.ShloMosaic Cert.Kernel2Ideal Cert.Kernel2Ideal.Gen Idealize.ShloMosaic.TcCoe VecWindow

variable {F : FTy → Type} [FloatOps F] [Cert.Kernel2Ideal.Facts]

variable (𝒱 : Variants) (c : Dev nD) (bd : Option 𝒱.V) (i : grid0.Coords) (arg2 : Memref sig .tc .vmem S2048x128 .f32) (harg2 : arg2.IsWhole)
   (arg3 : Memref sig .tc .vmem S2048x128 .f32) (harg3 : arg3.IsWhole) (arg4 : Memref sig .tc .vmem S2048x128 .f32) (harg4 : arg4.IsWhole)
   (arg5 : Memref sig .tc .vmem S2048x128 .f32) (harg5 : arg5.IsWhole) (arg6 : Memref sig .tc .vmem S2048x128 .f32) (harg6 : arg6.IsWhole)
   (arg7 : Memref sig .tc .vmem S640x128 .f32) (harg7 : arg7.IsWhole) (arg8 : Memref sig .tc .vmem S1x128 .f32) (harg8 : arg8.IsWhole)
   (arg9 : Memref sig .tc .vmem S1x128 .f32) (harg9 : arg9.IsWhole) (arg10 : Memref sig .tc .vmem S2048x128 .bf16) (harg10 : arg10.IsWhole)
   (arg11 : Memref sig .tc .vmem S2048x128 .bf16) (harg11 : arg11.IsWhole) (arg12 : Memref sig .tc .vmem S2048x128 .bf16) (harg12 : arg12.IsWhole)
   (arg13 : Memref sig .tc .vmem S1x640x128 .f32) (harg13 : arg13.IsWhole) (arg14 : Memref sig .tc .vmem S1x1x128 .f32) (harg14 : arg14.IsWhole)
   (arg15 : Memref sig .tc .vmem S1x1x128 .f32) (harg15 : arg15.IsWhole) (arg16 : Memref sig .tc .vmem S2048x128 .bf16) (harg16 : arg16.IsWhole)
   (arg17 : Memref sig .tc .vmem S2624x128 .bf16) (harg17 : arg17.IsWhole) (arg18 : Memref sig .tc .vmem S2624x128 .bf16) (harg18 : arg18.IsWhole)
   (arg19 : Memref sig .tc .vmem S2048x128 .f32) (harg19 : arg19.IsWhole) (arg20 : Memref sig .tc .vmem S2624x128 .f32) (harg20 : arg20.IsWhole)
   (arg21 : Memref sig .tc .vmem S2624x128 .f32) (harg21 : arg21.IsWhole) (arg22 : Memref sig .tc .vmem S640x128 .f32) (harg22 : arg22.IsWhole)
   (v60 : FVec F S2048x128 .f32) (v61 : FVec F S2048x128 .f32) (v81 : FVec F S1x128 .f32) (X_arg5 : BufTy.Contents (Elt F) arg5.view.ty)
   (X_arg6 : BufTy.Contents (Elt F) arg6.view.ty) (X_arg7 : BufTy.Contents (Elt F) arg7.view.ty) (X_arg16 : BufTy.Contents (Elt F) arg16.view.ty)
   (X_arg17 : BufTy.Contents (Elt F) arg17.view.ty) (X_arg18 : BufTy.Contents (Elt F) arg18.view.ty)

/-- Chunk 1 of a trip loads the bias sums the chunk before left. -/
theorem load22_1 (k : Fin k0_t1_loop.trips) (f22 : BufTy.Contents (Elt F) arg22.view.ty) : trip_k0_t1.sl.v537 arg5 arg6 arg7 arg16 arg17 arg18 arg22 X_arg5 X_arg6 X_arg7 X_arg16 X_arg17 X_arg18 k f22
    = arg22.view.readAt (Elt F) (Rect.unit ![0, 0] S640x128.size inb_S640x128_S640x128_0_0).toLoadRect
      (arg22.view.writes (Elt F) f22 (trip_k0_t1.sl.HW_arg22_1 arg5 arg6 arg7 arg16 arg17 arg18 arg22 X_arg5 X_arg6 X_arg7 X_arg16 X_arg17 X_arg18 k f22)) := by
  unfold trip_k0_t1.sl.v537 trip_k0_t1.sl.HW_arg22_1
  exact readCov_eq_readAt arg22.view f22 inb_S640x128_S640x128_0_0 _ _

/-- Chunk 2 of a trip loads the bias sums the chunk before left. -/
theorem load22_2 (k : Fin k0_t1_loop.trips) (f22 : BufTy.Contents (Elt F) arg22.view.ty) : trip_k0_t1.sl.v557 arg5 arg6 arg7 arg16 arg17 arg18 arg22 X_arg5 X_arg6 X_arg7 X_arg16 X_arg17 X_arg18 k f22
    = arg22.view.readAt (Elt F) (Rect.unit ![0, 0] S640x128.size inb_S640x128_S640x128_0_0).toLoadRect
      (arg22.view.writes (Elt F) f22 (trip_k0_t1.sl.HW_arg22_2 arg5 arg6 arg7 arg16 arg17 arg18 arg22 X_arg5 X_arg6 X_arg7 X_arg16 X_arg17 X_arg18 k f22)) := by
  unfold trip_k0_t1.sl.v557 trip_k0_t1.sl.HW_arg22_2
  exact readCov_eq_readAt arg22.view f22 inb_S640x128_S640x128_0_0 _ _

/-- Chunk 3 of a trip loads the bias sums the chunk before left. -/
theorem load22_3 (k : Fin k0_t1_loop.trips) (f22 : BufTy.Contents (Elt F) arg22.view.ty) : trip_k0_t1.sl.v577 arg5 arg6 arg7 arg16 arg17 arg18 arg22 X_arg5 X_arg6 X_arg7 X_arg16 X_arg17 X_arg18 k f22
    = arg22.view.readAt (Elt F) (Rect.unit ![0, 0] S640x128.size inb_S640x128_S640x128_0_0).toLoadRect
      (arg22.view.writes (Elt F) f22 (trip_k0_t1.sl.HW_arg22_3 arg5 arg6 arg7 arg16 arg17 arg18 arg22 X_arg5 X_arg6 X_arg7 X_arg16 X_arg17 X_arg18 k f22)) := by
  unfold trip_k0_t1.sl.v577 trip_k0_t1.sl.HW_arg22_3
  exact readCov_eq_readAt arg22.view f22 inb_S640x128_S640x128_0_0 _ _

/-- The bias sums after the trip. -/
theorem read_trip22 (k : Fin k0_t1_loop.trips) (f19 f20 f21 f22) :
    arg22.view.read (Elt F) (arg22.view.writes (Elt F) f22 ((trip_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 k).2.2.2.1 f19 f20 f21 f22))
      = let acc := accB (heldBlk arg5 arg6 arg7 arg16 arg17 arg18 X_arg5 X_arg6 X_arg7 X_arg16 X_arg17 X_arg18)
        acc (acc (acc (acc (arg22.view.read (Elt F) f22) (chunkOf k 0)) (chunkOf k 1)) (chunkOf k 2)) (chunkOf k 3) := by
  have e := heldBlk_eq arg5 arg6 arg7 arg16 arg17 arg18 X_arg5 X_arg6 X_arg7 X_arg16 X_arg17 X_arg18 k
  have w0 : ∀ x, k0_pay51 (trip_k0_t1.sl.r_5 arg6 arg18 X_arg6 X_arg18 k) (trip_k0_t1.sl.r_28 arg5 arg6 X_arg5 X_arg6 k) (trip_k0_t1.sl.r_40 arg7 arg16 arg17 X_arg7 X_arg16 X_arg17 k) x
      = (heldBlk arg5 arg6 arg7 arg16 arg17 arg18 X_arg5 X_arg6 X_arg7 X_arg16 X_arg17 X_arg18 (chunkOf k 0)).addB x := fun x => by rw [e 0]; rfl
  have w1 : ∀ x, k0_pay53 (trip_k0_t1.sl.r_11 arg6 arg18 X_arg6 X_arg18 k) (trip_k0_t1.sl.r_31 arg5 arg6 X_arg5 X_arg6 k) (trip_k0_t1.sl.r_41 arg7 arg16 arg17 X_arg7 X_arg16 X_arg17 k) x
      = (heldBlk arg5 arg6 arg7 arg16 arg17 arg18 X_arg5 X_arg6 X_arg7 X_arg16 X_arg17 X_arg18 (chunkOf k 1)).addB x := fun x => by rw [e 1, Blocks.addB_1]; rfl
  have w2 : ∀ x, k0_pay56 (trip_k0_t1.sl.r_47 arg5 arg6 arg7 arg16 arg17 arg18 X_arg5 X_arg6 X_arg7 X_arg16 X_arg17 X_arg18 k) x
      = (heldBlk arg5 arg6 arg7 arg16 arg17 arg18 X_arg5 X_arg6 X_arg7 X_arg16 X_arg17 X_arg18 (chunkOf k 2)).addB x := fun x => by rw [e 2, Blocks.addB_2]; rfl
  have w3 : ∀ x, k0_pay58 (trip_k0_t1.sl.r_49 arg5 arg6 arg7 arg16 arg17 arg18 X_arg5 X_arg6 X_arg7 X_arg16 X_arg17 X_arg18 k) x
      = (heldBlk arg5 arg6 arg7 arg16 arg17 arg18 X_arg5 X_arg6 X_arg7 X_arg16 X_arg17 X_arg18 (chunkOf k 3)).addB x := fun x => by rw [e 3, Blocks.addB_3]; rfl
  unfold trip_k0_t1
  dsimp only
  refine read_accumulate_all arg22.view f22 inb_S640x128_S640x128_0_0 (heldBlk arg5 arg6 arg7 arg16 arg17 arg18 X_arg5 X_arg6 X_arg7 X_arg16 X_arg17 X_arg18 (chunkOf k 3)).addB (trip_k0_t1.sl.HW_arg22_3 arg5 arg6 arg7 arg16 arg17 arg18 arg22 X_arg5 X_arg6 X_arg7 X_arg16 X_arg17 X_arg18 k f22) ?_ _
    ((congrArg (k0_pay58 (trip_k0_t1.sl.r_49 arg5 arg6 arg7 arg16 arg17 arg18 X_arg5 X_arg6 X_arg7 X_arg16 X_arg17 X_arg18 k)) (load22_3 arg5 arg6 arg7 arg16 arg17 arg18 arg22 X_arg5 X_arg6 X_arg7 X_arg16 X_arg17 X_arg18 k f22)).trans (w3 _))
  unfold trip_k0_t1.sl.HW_arg22_3
  refine read_accumulate_all arg22.view f22 inb_S640x128_S640x128_0_0 (heldBlk arg5 arg6 arg7 arg16 arg17 arg18 X_arg5 X_arg6 X_arg7 X_arg16 X_arg17 X_arg18 (chunkOf k 2)).addB (trip_k0_t1.sl.HW_arg22_2 arg5 arg6 arg7 arg16 arg17 arg18 arg22 X_arg5 X_arg6 X_arg7 X_arg16 X_arg17 X_arg18 k f22) ?_ _
    ((congrArg (k0_pay56 (trip_k0_t1.sl.r_47 arg5 arg6 arg7 arg16 arg17 arg18 X_arg5 X_arg6 X_arg7 X_arg16 X_arg17 X_arg18 k)) (load22_2 arg5 arg6 arg7 arg16 arg17 arg18 arg22 X_arg5 X_arg6 X_arg7 X_arg16 X_arg17 X_arg18 k f22)).trans (w2 _))
  unfold trip_k0_t1.sl.HW_arg22_2
  refine read_accumulate_all arg22.view f22 inb_S640x128_S640x128_0_0 (heldBlk arg5 arg6 arg7 arg16 arg17 arg18 X_arg5 X_arg6 X_arg7 X_arg16 X_arg17 X_arg18 (chunkOf k 1)).addB (trip_k0_t1.sl.HW_arg22_1 arg5 arg6 arg7 arg16 arg17 arg18 arg22 X_arg5 X_arg6 X_arg7 X_arg16 X_arg17 X_arg18 k f22) ?_ _
    ((congrArg (k0_pay53 (trip_k0_t1.sl.r_11 arg6 arg18 X_arg6 X_arg18 k) (trip_k0_t1.sl.r_31 arg5 arg6 X_arg5 X_arg6 k) (trip_k0_t1.sl.r_41 arg7 arg16 arg17 X_arg7 X_arg16 X_arg17 k)) (load22_1 arg5 arg6 arg7 arg16 arg17 arg18 arg22 X_arg5 X_arg6 X_arg7 X_arg16 X_arg17 X_arg18 k f22)).trans (w1 _))
  unfold trip_k0_t1.sl.HW_arg22_1
  refine read_accumulate_all arg22.view f22 inb_S640x128_S640x128_0_0 (heldBlk arg5 arg6 arg7 arg16 arg17 arg18 X_arg5 X_arg6 X_arg7 X_arg16 X_arg17 X_arg18 (chunkOf k 0)).addB [] rfl _
    (w0 _)

end Cert.Proof.Attn
-- ==== Proof.Attn.Loop.lean ====
module

public import proofs.«01_k».proof.Proof.Attn.Trip2

@[expose] public section

noncomputable section

namespace Cert.Proof.Attn

open Idealize.ShloMosaic Cert.Kernel2Ideal Cert.Kernel2Ideal.Gen Idealize.ShloMosaic.TcCoe VecWindow

variable {F : FTy → Type} [FloatOps F] [Cert.Kernel2Ideal.Facts]

variable (𝒱 : Variants) (c : Dev nD) (bd : Option 𝒱.V) (i : grid0.Coords) (arg2 : Memref sig .tc .vmem S2048x128 .f32) (harg2 : arg2.IsWhole)
   (arg3 : Memref sig .tc .vmem S2048x128 .f32) (harg3 : arg3.IsWhole) (arg4 : Memref sig .tc .vmem S2048x128 .f32) (harg4 : arg4.IsWhole)
   (arg5 : Memref sig .tc .vmem S2048x128 .f32) (harg5 : arg5.IsWhole) (arg6 : Memref sig .tc .vmem S2048x128 .f32) (harg6 : arg6.IsWhole)
   (arg7 : Memref sig .tc .vmem S640x128 .f32) (harg7 : arg7.IsWhole) (arg8 : Memref sig .tc .vmem S1x128 .f32) (harg8 : arg8.IsWhole)
   (arg9 : Memref sig .tc .vmem S1x128 .f32) (harg9 : arg9.IsWhole) (arg10 : Memref sig .tc .vmem S2048x128 .bf16) (harg10 : arg10.IsWhole)
   (arg11 : Memref sig .tc .vmem S2048x128 .bf16) (harg11 : arg11.IsWhole) (arg12 : Memref sig .tc .vmem S2048x128 .bf16) (harg12 : arg12.IsWhole)
   (arg13 : Memref sig .tc .vmem S1x640x128 .f32) (harg13 : arg13.IsWhole) (arg14 : Memref sig .tc .vmem S1x1x128 .f32) (harg14 : arg14.IsWhole)
   (arg15 : Memref sig .tc .vmem S1x1x128 .f32) (harg15 : arg15.IsWhole) (arg16 : Memref sig .tc .vmem S2048x128 .bf16) (harg16 : arg16.IsWhole)
   (arg17 : Memref sig .tc .vmem S2624x128 .bf16) (harg17 : arg17.IsWhole) (arg18 : Memref sig .tc .vmem S2624x128 .bf16) (harg18 : arg18.IsWhole)
   (arg19 : Memref sig .tc .vmem S2048x128 .f32) (harg19 : arg19.IsWhole) (arg20 : Memref sig .tc .vmem S2624x128 .f32) (harg20 : arg20.IsWhole)
   (arg21 : Memref sig .tc .vmem S2624x128 .f32) (harg21 : arg21.IsWhole) (arg22 : Memref sig .tc .vmem S640x128 .f32) (harg22 : arg22.IsWhole)
   (v60 : FVec F S2048x128 .f32) (v61 : FVec F S2048x128 .f32) (v81 : FVec F S1x128 .f32) (X_arg5 : BufTy.Contents (Elt F) arg5.view.ty)
   (X_arg6 : BufTy.Contents (Elt F) arg6.view.ty) (X_arg7 : BufTy.Contents (Elt F) arg7.view.ty) (X_arg16 : BufTy.Contents (Elt F) arg16.view.ty)
   (X_arg17 : BufTy.Contents (Elt F) arg17.view.ty) (X_arg18 : BufTy.Contents (Elt F) arg18.view.ty)

/-- The loop's memrefs after the trips before `n`: the chunks before `4 n` done, in order, from what the loop found. -/
theorem read_trips (G19 G20 G21 G22) : ∀ n, n ≤ k0_t1_loop.trips →
    arg19.view.read (Elt F) (arg19.view.writes (Elt F) G19 (pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 n).1) = after (setQ (heldBlk arg5 arg6 arg7 arg16 arg17 arg18 X_arg5 X_arg6 X_arg7 X_arg16 X_arg17 X_arg18)) (arg19.view.read (Elt F) G19) (4 * n)
    ∧ arg20.view.read (Elt F) (arg20.view.writes (Elt F) G20 (pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 n).2.1) = after (accK (heldBlk arg5 arg6 arg7 arg16 arg17 arg18 X_arg5 X_arg6 X_arg7 X_arg16 X_arg17 X_arg18)) (arg20.view.read (Elt F) G20) (4 * n)
    ∧ arg21.view.read (Elt F) (arg21.view.writes (Elt F) G21 (pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 n).2.2.1) = after (accV (heldBlk arg5 arg6 arg7 arg16 arg17 arg18 X_arg5 X_arg6 X_arg7 X_arg16 X_arg17 X_arg18)) (arg21.view.read (Elt F) G21) (4 * n)
    ∧ arg22.view.read (Elt F) (arg22.view.writes (Elt F) G22 (pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 n).2.2.2) = after (accB (heldBlk arg5 arg6 arg7 arg16 arg17 arg18 X_arg5 X_arg6 X_arg7 X_arg16 X_arg17 X_arg18)) (arg22.view.read (Elt F) G22) (4 * n) := by
  intro n
  induction n with
  | zero => exact fun _ => ⟨rfl, rfl, rfl, rfl⟩
  | succ n ih =>
    intro hn
    obtain ⟨i19, i20, i21, i22⟩ := ih (Nat.le_of_succ_le hn)
    rw [pb_k0_t1_succ (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 ⟨n, hn⟩]
    dsimp only
    rw [View.writes_append, View.writes_append, View.writes_append, View.writes_append, read_trip19, read_trip20, read_trip21, read_trip22, i19, i20, i21, i22]
    exact ⟨(after_trip (setQ _) _ ⟨n, hn⟩).symm, (after_trip (accK _) _ ⟨n, hn⟩).symm, (after_trip (accV _) _ ⟨n, hn⟩).symm, (after_trip (accB _) _ ⟨n, hn⟩).symm⟩

end Cert.Proof.Attn
-- ==== Proof.Attn.Out.lean ====
module

public import proofs.«01_k».proof.Proof.Attn.Trip

@[expose] public section

noncomputable section

namespace Cert.Proof.Attn

open Idealize.ShloMosaic Cert.Kernel2Ideal Cert.Kernel2Ideal.Gen Idealize.ShloMosaic.TcCoe VecWindow

variable {F : FTy → Type} [FloatOps F] [Cert.Kernel2Ideal.Facts]

/-- Two windows that meet every place hide what they were put over. -/
theorem put_put_cover {α : Type} {s : Shape} (x x' : s.Idx → α) (o₁ s₁ o₂ s₂ : Fin s.rank → ℕ) (w₁ : ((a : Fin s.rank) → Fin (s₁ a)) → α)
    (w₂ : ((a : Fin s.rank) → Fin (s₂ a)) → α)
    (h : ∀ y : s.Idx, (∀ a, o₁ a ≤ (y a).val ∧ (y a).val < o₁ a + s₁ a) ∨ (∀ a, o₂ a ≤ (y a).val ∧ (y a).val < o₂ a + s₂ a)) :
    put (put x o₁ s₁ w₁) o₂ s₂ w₂ = put (put x' o₁ s₁ w₁) o₂ s₂ w₂ := by
  funext y
  unfold put
  by_cases h2 : ∀ a, o₂ a ≤ (y a).val ∧ (y a).val < o₂ a + s₂ a
  · rw [dif_pos h2, dif_pos h2]
  · have h1 := (h y).resolve_right h2
    rw [dif_neg h2, dif_neg h2, dif_pos h1, dif_pos h1]

/-- The first 576 key rows and the 2048 after them are all. -/
theorem padded_cover (y : S2624x128.Idx) :
    (∀ a, (![0, 0] : Fin 2 → ℕ) a ≤ (y a).val ∧ (y a).val < (![0, 0] : Fin 2 → ℕ) a + S576x128.size a)
      ∨ (∀ a, (![576, 0] : Fin 2 → ℕ) a ≤ (y a).val ∧ (y a).val < (![576, 0] : Fin 2 → ℕ) a + S2048x128.size a) := by
  have h0 : (y 0).val < 2624 := (y 0).isLt
  have h1 : (y 1).val < 128 := (y 1).isLt
  by_cases h : (y 0).val < 576
  · refine Or.inl fun a => ?_
    fin_cases a
    · exact ⟨Nat.zero_le _, by show (y 0).val < 0 + 576; omega⟩
    · exact ⟨Nat.zero_le _, by show (y 1).val < 0 + 128; omega⟩
  · refine Or.inr fun a => ?_
    fin_cases a
    · exact ⟨by show 576 ≤ (y 0).val; omega, by show (y 0).val < 576 + 2048; omega⟩
    · exact ⟨Nat.zero_le _, by show (y 1).val < 0 + 128; omega⟩

/-- After the first `n` chunks the rows before `64 n` do not depend on what was there. -/
theorem after_setQ_rows (b : Fin 32 → Blocks F) (x x' : Vec F S2048x128 .f32) (y : S2048x128.Idx) : ∀ n, n ≤ 32 → (y 0).val < 64 * n →
    after (setQ b) x n y = after (setQ b) x' n y := by
  intro n
  induction n with
  | zero => exact fun _ h => absurd h (by omega)
  | succ n ih =>
    intro hn hy
    have h1 : (y 1).val < 128 := (y 1).isLt
    rw [after_succ _ _ n hn, after_succ _ _ n hn]
    unfold setQ put
    by_cases h : (y 0).val < 64 * n
    · have hno : ¬ ∀ a, (![64 * n, 0] : Fin 2 → ℕ) a ≤ (y a).val ∧ (y a).val < (![64 * n, 0] : Fin 2 → ℕ) a + S64x128.size a := fun hh => by
        have : 64 * n ≤ (y 0).val := (hh 0).1
        omega
      rw [dif_neg hno, dif_neg hno]
      exact ih (Nat.le_of_succ_le hn) h
    · have hyes : ∀ a, (![64 * n, 0] : Fin 2 → ℕ) a ≤ (y a).val ∧ (y a).val < (![64 * n, 0] : Fin 2 → ℕ) a + S64x128.size a := fun a => by
        fin_cases a
        · exact ⟨by show 64 * n ≤ (y 0).val; omega, by show (y 0).val < 64 * n + 64; omega⟩
        · exact ⟨Nat.zero_le _, by show (y 1).val < 0 + 128; omega⟩
      rw [dif_pos hyes, dif_pos hyes]

/-- All chunks done, nothing of it is left. -/
theorem after_setQ_all (b : Fin 32 → Blocks F) (x x' : Vec F S2048x128 .f32) : after (setQ b) x 32 = after (setQ b) x' 32 :=
  funext fun y => after_setQ_rows b x x' y 32 le_rfl (y 0).isLt

/-- What one place of the grid reads: two heads' queries, keys and values of one batch, their rows of the output and of its cotangent, the bias
    turned, the two norms' gains. -/
structure Ins (F : FTy → Type) [FloatOps F] where
  q : Vec F S2048x128 .f32
  k : Vec F S2048x128 .f32
  v : Vec F S2048x128 .f32
  o : Vec F S2048x128 .f32
  dout : Vec F S2048x128 .f32
  bias : Vec F S640x128 .f32
  gq : Vec F S1x128 .f32
  gk : Vec F S1x128 .f32

namespace Ins

variable (I : Ins F)

/-- The queries' inverse root mean squares. -/
def rq : FVec F S2048x128 .f32 := k0_pay70 I.q
/-- The keys'. -/
def rk : FVec F S2048x128 .f32 := k0_pay73 (k0_pay71 I.k) k0_pay72
/-- The queries over their root mean squares. -/
def qhat : FVec F S2048x128 .f32 := k0_pay74 I.q I.rq
/-- The keys over theirs. -/
def khat : FVec F S2048x128 .f32 := k0_pay75 I.k (k0_pay71 I.k) k0_pay72
/-- The normed queries. -/
def qn : FVec F S2048x128 .bf16 := k0_pay76 I.q I.rq I.gq
/-- The normed keys behind their empty rows. -/
def kn : Vec F S2624x128 .bf16 :=
  put (put (fun _ => FloatOps.ofBits .bf16 0) ![0, 0] S576x128.size (k0_pay77 (F := F))) ![576, 0] S2048x128.size (k0_pay80 I.khat (k0_pay79 I.gk))
/-- The values behind theirs. -/
def vn : Vec F S2624x128 .bf16 :=
  put (put (fun _ => FloatOps.ofBits .bf16 0) ![0, 0] S576x128.size (k0_pay78 (F := F))) ![576, 0] S2048x128.size (k0_pay81 I.v)
/-- The chunks' blocks. -/
def b : Fin 32 → Blocks F := blk I.qn I.kn I.vn I.bias I.o I.dout
/-- The normed queries' gradient. -/
def dqn : Vec F S2048x128 .f32 := after (setQ I.b) (fun _ => FloatOps.ofBits .f32 0) 32
/-- The normed keys' gradient, the empty rows' in front. -/
def dkn : Vec F S2624x128 .f32 := after (accK I.b) (k0_pay82 (F := F)) 32
/-- The values' gradient, the empty rows' in front. -/
def dvn : Vec F S2624x128 .f32 := after (accV I.b) (k0_pay83 (F := F)) 32
/-- The bias' gradient. -/
def dbn : Vec F S640x128 .f32 := after (accB I.b) (k0_pay84 (F := F)) 32

theorem tail_inb : ∀ a, (![576, 0] : Fin 2 → ℕ) a + S2048x128.size a ≤ S2624x128.size a := inb_S2624x128_S2048x128_576_0

/-- The keys' part of their gradient. -/
def dk0 : Vec F S2048x128 .f32 := window I.dkn ![576, 0] S2048x128.size tail_inb
/-- The values' part of theirs. -/
def dv0 : Vec F S2048x128 .f32 := window I.dvn ![576, 0] S2048x128.size tail_inb

/-- The six results of a place of the grid. -/
def outQ : FVec F S2048x128 .bf16 :=
  k0_pay94 (k0_pay88 I.rq I.qhat (k0_pay86 I.dqn I.gq) (k0_pay87 I.qhat I.dqn I.gq) (iota .tc S128x128 32 [0] iota_S128x128_d0_w32))
def outK : FVec F S2048x128 .bf16 := k0_pay95 I.rk I.khat (k0_pay90 I.dk0 I.gk) (k0_pay91 I.khat I.dk0 I.gk) k0_pay92
def outV : FVec F S2048x128 .bf16 := k0_pay96 I.dv0
def outB : FVec F S1x640x128 .f32 := k0_pay97 I.dbn
def outGq : FVec F S1x1x128 .f32 := k0_pay1 (k0_pay89 I.qhat I.dqn)
def outGk : FVec F S1x1x128 .f32 := k0_pay2 (k0_pay93 I.khat I.dk0)

end Ins

end Cert.Proof.Attn
-- ==== Proof.Attn.Ends.lean ====
module

public import proofs.«01_k».proof.Proof.Attn.Loop
public import proofs.«01_k».proof.Proof.Attn.Out

@[expose] public section

noncomputable section

namespace Cert.Proof.Attn

open Idealize.ShloMosaic Cert.Kernel2Ideal Cert.Kernel2Ideal.Gen Idealize.ShloMosaic.TcCoe VecWindow

variable {F : FTy → Type} [FloatOps F] [Cert.Kernel2Ideal.Facts]

variable (𝒱 : Variants) (c : Dev nD) (bd : Option 𝒱.V) (i : grid0.Coords) (arg2 : Memref sig .tc .vmem S2048x128 .f32) (harg2 : arg2.IsWhole)
   (arg3 : Memref sig .tc .vmem S2048x128 .f32) (harg3 : arg3.IsWhole) (arg4 : Memref sig .tc .vmem S2048x128 .f32) (harg4 : arg4.IsWhole)
   (arg5 : Memref sig .tc .vmem S2048x128 .f32) (harg5 : arg5.IsWhole) (arg6 : Memref sig .tc .vmem S2048x128 .f32) (harg6 : arg6.IsWhole)
   (arg7 : Memref sig .tc .vmem S640x128 .f32) (harg7 : arg7.IsWhole) (arg8 : Memref sig .tc .vmem S1x128 .f32) (harg8 : arg8.IsWhole)
   (arg9 : Memref sig .tc .vmem S1x128 .f32) (harg9 : arg9.IsWhole) (arg10 : Memref sig .tc .vmem S2048x128 .bf16) (harg10 : arg10.IsWhole)
   (arg11 : Memref sig .tc .vmem S2048x128 .bf16) (harg11 : arg11.IsWhole) (arg12 : Memref sig .tc .vmem S2048x128 .bf16) (harg12 : arg12.IsWhole)
   (arg13 : Memref sig .tc .vmem S1x640x128 .f32) (harg13 : arg13.IsWhole) (arg14 : Memref sig .tc .vmem S1x1x128 .f32) (harg14 : arg14.IsWhole)
   (arg15 : Memref sig .tc .vmem S1x1x128 .f32) (harg15 : arg15.IsWhole) (arg16 : Memref sig .tc .vmem S2048x128 .bf16) (harg16 : arg16.IsWhole)
   (arg17 : Memref sig .tc .vmem S2624x128 .bf16) (harg17 : arg17.IsWhole) (arg18 : Memref sig .tc .vmem S2624x128 .bf16) (harg18 : arg18.IsWhole)
   (arg19 : Memref sig .tc .vmem S2048x128 .f32) (harg19 : arg19.IsWhole) (arg20 : Memref sig .tc .vmem S2624x128 .f32) (harg20 : arg20.IsWhole)
   (arg21 : Memref sig .tc .vmem S2624x128 .f32) (harg21 : arg21.IsWhole) (arg22 : Memref sig .tc .vmem S640x128 .f32) (harg22 : arg22.IsWhole)
   (v60 : FVec F S2048x128 .f32) (v61 : FVec F S2048x128 .f32) (v81 : FVec F S1x128 .f32) (X_arg5 : BufTy.Contents (Elt F) arg5.view.ty)
   (X_arg6 : BufTy.Contents (Elt F) arg6.view.ty) (X_arg7 : BufTy.Contents (Elt F) arg7.view.ty) (X_arg16 : BufTy.Contents (Elt F) arg16.view.ty)
   (X_arg17 : BufTy.Contents (Elt F) arg17.view.ty) (X_arg18 : BufTy.Contents (Elt F) arg18.view.ty)

/-- Eight trips. -/
theorem trips_eq : k0_t1_loop.trips = 8 := by decide

variable {I : Ins F} (hq : arg16.view.read (Elt F) X_arg16 = I.qn) (hk : arg17.view.read (Elt F) X_arg17 = I.kn) (hv : arg18.view.read (Elt F) X_arg18 = I.vn)
  (hb : arg7.view.read (Elt F) X_arg7 = I.bias) (ho : arg5.view.read (Elt F) X_arg5 = I.o) (hd : arg6.view.read (Elt F) X_arg6 = I.dout)
  (G19 : BufTy.Contents (Elt F) arg19.view.ty) (G20 : BufTy.Contents (Elt F) arg20.view.ty) (G21 : BufTy.Contents (Elt F) arg21.view.ty)
  (G22 : BufTy.Contents (Elt F) arg22.view.ty)

include hq hk hv hb ho hd

/-- The memrefs the loop reads hold the place's blocks. -/
theorem heldBlk_ins : heldBlk arg5 arg6 arg7 arg16 arg17 arg18 X_arg5 X_arg6 X_arg7 X_arg16 X_arg17 X_arg18 = I.b := by
  show blk _ _ _ _ _ _ = _
  rw [hq, hk, hv, hb, ho, hd]; rfl

/-- After the loop: the normed queries' gradient. -/
theorem loop_dqn (off) (inb : ∀ a, off a + S2048x128.size a ≤ S2048x128.size a) :
    arg19.view.readAt (Elt F) (Rect.unit off S2048x128.size inb).toLoadRect (arg19.view.writes (Elt F) G19 (pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 k0_t1_loop.trips).1) = I.dqn := by
  rw [View.readAt_full, (read_trips 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 G22 _ le_rfl).1, heldBlk_ins arg5 arg6 arg7 arg16 arg17 arg18 X_arg5 X_arg6 X_arg7 X_arg16 X_arg17 X_arg18 hq hk hv hb ho hd, trips_eq]
  exact after_setQ_all I.b _ _

/-- The keys'. -/
theorem loop_dk (L : List (View.Piece (Elt F) S2624x128 _)) (h : arg20.view.read (Elt F) (arg20.view.writes (Elt F) arg20.view.junk L) = k0_pay82) :
    arg20.view.readCov ((pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 (arg20.view.writes (Elt F) arg20.view.junk L) G21 G22 k0_t1_loop.trips).2.1 ++ L) (Rect.unit (s := S2624x128) ![576, 0] S2048x128.size inb_S2624x128_S2048x128_576_0).toLoadRect = I.dk0 := by
  show arg20.view.readAt (Elt F) _ (arg20.view.writes (Elt F) arg20.view.junk _) = _
  rw [View.writes_append, View.readAt_unit _ _ _ rfl Ins.tail_inb, (read_trips 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 (arg20.view.writes (Elt F) arg20.view.junk L) G21 G22 _ le_rfl).2.1, heldBlk_ins arg5 arg6 arg7 arg16 arg17 arg18 X_arg5 X_arg6 X_arg7 X_arg16 X_arg17 X_arg18 hq hk hv hb ho hd, trips_eq, h]
  rfl

/-- The values'. -/
theorem loop_dv (L : List (View.Piece (Elt F) S2624x128 _)) (h : arg21.view.read (Elt F) (arg21.view.writes (Elt F) arg21.view.junk L) = k0_pay83) :
    arg21.view.readCov ((pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 (arg21.view.writes (Elt F) arg21.view.junk L) G22 k0_t1_loop.trips).2.2.1 ++ L) (Rect.unit (s := S2624x128) ![576, 0] S2048x128.size inb_S2624x128_S2048x128_576_0).toLoadRect = I.dv0 := by
  show arg21.view.readAt (Elt F) _ (arg21.view.writes (Elt F) arg21.view.junk _) = _
  rw [View.writes_append, View.readAt_unit _ _ _ rfl Ins.tail_inb, (read_trips 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 (arg21.view.writes (Elt F) arg21.view.junk L) G22 _ le_rfl).2.2.1, heldBlk_ins arg5 arg6 arg7 arg16 arg17 arg18 X_arg5 X_arg6 X_arg7 X_arg16 X_arg17 X_arg18 hq hk hv hb ho hd, trips_eq, h]
  rfl

/-- The bias'. -/
theorem loop_db (L : List (View.Piece (Elt F) S640x128 _)) (h : arg22.view.read (Elt F) (arg22.view.writes (Elt F) arg22.view.junk L) = k0_pay84) (off) (inb : ∀ a, off a + S640x128.size a ≤ S640x128.size a) :
    arg22.view.readCov ((pb_k0_t1 (F := F) 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 (arg22.view.writes (Elt F) arg22.view.junk L) k0_t1_loop.trips).2.2.2 ++ L) (Rect.unit off S640x128.size inb).toLoadRect = I.dbn := by
  show arg22.view.readAt (Elt F) _ (arg22.view.writes (Elt F) arg22.view.junk _) = _
  rw [View.writes_append, View.readAt_full, (read_trips 𝒱 c bd i arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg19 harg19 arg20 harg20 arg21 harg21 arg22 harg22 v60 v61
      v81 X_arg5 X_arg6 X_arg7 X_arg16 X_arg17 X_arg18 G19 G20 G21 (arg22.view.writes (Elt F) arg22.view.junk L) _ le_rfl).2.2.2, heldBlk_ins arg5 arg6 arg7 arg16 arg17 arg18 X_arg5 X_arg6 X_arg7 X_arg16 X_arg17 X_arg18 hq hk hv hb ho hd, trips_eq, h]
  rfl

omit hq hk hv hb ho hd

/-- What the stores before the loop leave for it. -/
theorem held_qn (f) (x g) (hx : x = I.q) (hg : g = I.gq) :
    arg16.view.read (Elt F) (arg16.view.writes (Elt F) f
      [⟨Rect.unit ![0, 0] S2048x128.size inb_S2048x128_S2048x128_0_0, k0_pay76 x (k0_pay70 x) g⟩]) = I.qn := by
  subst hx hg
  rw [View.read_writes_full]; rfl

theorem held_kn (f) (x g) (hx : x = I.k) (hg : g = I.gk) :
    arg17.view.read (Elt F) (arg17.view.writes (Elt F) f
      [⟨Rect.unit ![576, 0] S2048x128.size inb_S2624x128_S2048x128_576_0, k0_pay80 (k0_pay75 x (k0_pay71 x) k0_pay72) (k0_pay79 g)⟩,
        ⟨Rect.unit ![0, 0] S576x128.size inb_S2624x128_S576x128_0_0, k0_pay77⟩]) = I.kn := by
  subst hx hg
  rw [View.read_writes_cons_put _ _ _ _ _ rfl, View.read_writes_cons_put _ _ _ _ _ rfl]
  exact put_put_cover _ _ _ _ _ _ _ _ padded_cover

theorem held_vn (f) (x) (hx : x = I.v) :
    arg18.view.read (Elt F) (arg18.view.writes (Elt F) f
      [⟨Rect.unit ![576, 0] S2048x128.size inb_S2624x128_S2048x128_576_0, k0_pay81 x⟩,
        ⟨Rect.unit ![0, 0] S576x128.size inb_S2624x128_S576x128_0_0, k0_pay78⟩]) = I.vn := by
  subst hx
  rw [View.read_writes_cons_put _ _ _ _ _ rfl, View.read_writes_cons_put _ _ _ _ _ rfl]
  exact put_put_cover _ _ _ _ _ _ _ _ padded_cover

/-- The results, of what the body holds when it stores them. -/
theorem outQ_of (q d g) (hq : q = I.q) (hd : d = I.dqn) (hg : g = I.gq) :
    k0_pay94 (k0_pay88 (k0_pay70 q) (k0_pay74 q (k0_pay70 q)) (k0_pay86 d g) (k0_pay87 (k0_pay74 q (k0_pay70 q)) d g)
      (iota .tc S128x128 32 [0] iota_S128x128_d0_w32)) = I.outQ := by
  subst hq hd hg; rfl

theorem outK_of (x d g) (hx : x = I.k) (hd : d = I.dk0) (hg : g = I.gk) :
    k0_pay95 (k0_pay73 (k0_pay71 x) k0_pay72) (k0_pay75 x (k0_pay71 x) k0_pay72) (k0_pay90 d g)
      (k0_pay91 (k0_pay75 x (k0_pay71 x) k0_pay72) d g) k0_pay92 = I.outK := by
  subst hx hd hg; rfl

theorem outV_of (d) (hd : d = I.dv0) : k0_pay96 d = I.outV := by subst hd; rfl
theorem outB_of (d) (hd : d = I.dbn) : k0_pay97 d = I.outB := by subst hd; rfl
theorem outGq_of (q d) (hq : q = I.q) (hd : d = I.dqn) : k0_pay1 (k0_pay89 (k0_pay74 q (k0_pay70 q)) d) = I.outGq := by subst hq hd; rfl
theorem outGk_of (x d) (hx : x = I.k) (hd : d = I.dk0) : k0_pay2 (k0_pay93 (k0_pay75 x (k0_pay71 x) k0_pay72) d) = I.outGk := by subst hx hd; rfl

end Cert.Proof.Attn
-- ==== Proof.Attn.Body.lean ====
module

public import proofs.«01_k».proof.Proof.Attn.Ends
public import proofs.«01_k».proof.Proof.Attn.Loop
public import proofs.«01_k».proof.Proof.Gen.Kernel2Ideal.Frame

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.Kernel2Ideal.Facts]

set_option maxHeartbeats 1000000 in
/-- The body's triple: on whole staging memrefs holding a place's inputs, whatever the outputs' and the scratch hold, it ends with the six
    results in the outputs' and the inputs as they were. -/
theorem body_run (c : Dev nD) (i : grid0.Coords) (arg2 : Memref sig .tc .vmem S2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S640x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S2048x128 .bf16) (harg10 : arg10.IsWhole) (arg11 : Memref sig .tc .vmem S2048x128 .bf16) (harg11 : arg11.IsWhole) (arg12 : Memref sig .tc .vmem S2048x128 .bf16) (harg12 : arg12.IsWhole) (arg13 : Memref sig .tc .vmem S1x640x128 .f32) (harg13 : arg13.IsWhole) (arg14 : Memref sig .tc .vmem S1x1x128 .f32) (harg14 : arg14.IsWhole) (arg15 : Memref sig .tc .vmem S1x1x128 .f32) (harg15 : arg15.IsWhole) (arg16 : Memref sig .tc .vmem S2048x128 .bf16) (harg16 : arg16.IsWhole) (arg17 : Memref sig .tc .vmem S2624x128 .bf16) (harg17 : arg17.IsWhole) (arg18 : Memref sig .tc .vmem S2624x128 .bf16) (harg18 : arg18.IsWhole) (arg19 : Memref sig .tc .vmem S2048x128 .f32) (harg19 : arg19.IsWhole) (arg20 : Memref sig .tc .vmem S2624x128 .f32) (harg20 : arg20.IsWhole) (arg21 : Memref sig .tc .vmem S2624x128 .f32) (harg21 : arg21.IsWhole) (arg22 : Memref sig .tc .vmem S640x128 .f32) (harg22 : arg22.IsWhole)
    (I : Ins F) :
      ∀ (E : Set ℕ) (K : PUnit → sProp (MT nD τ sig Unit (Elt F) ℕ (UR sig nD τ) ℕ)),
        iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.dout ∗ owns (c : Thread nD τ) arg7 fullShare I.bias ∗ owns (c : Thread nD τ) arg8 fullShare I.gq ∗ owns (c : Thread nD τ) arg9 fullShare I.gk ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg2 fullShare I.q ∗ owns (c : Thread nD τ) arg3 fullShare I.k ∗ owns (c : Thread nD τ) arg4 fullShare I.v ∗ owns (c : Thread nD τ) arg5 fullShare I.o ∗ owns (c : Thread nD τ) arg6 fullShare I.dout ∗ owns (c : Thread nD τ) arg7 fullShare I.bias ∗ owns (c : Thread nD τ) arg8 fullShare I.gq ∗ owns (c : Thread nD τ) arg9 fullShare I.gk ∗ owns (c : Thread nD τ) arg10 fullShare I.outQ ∗ owns (c : Thread nD τ) arg11 fullShare I.outK ∗ owns (c : Thread nD τ) arg12 fullShare I.outV ∗ owns (c : Thread nD τ) arg13 fullShare I.outB ∗ owns (c : Thread nD τ) arg14 fullShare I.outGq ∗ owns (c : Thread nD τ) arg15 fullShare I.outGk ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_attn_bwd_eq_skeleton]; unfold cc0_attn_bwd_skel
    simp only [k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap; · iexact H8
      ipureintro
      refine (View.read_writes_full _ _ _ _ _).trans (outQ_of _ _ _ ?q ?dqn ?gq)
      case q => exact (View.readAt_full _ _ _).trans hf0
      case dqn => exact loop_dqn (hq := held_qn _ _ _ _ ((View.readAt_full _ _ _).trans hf0) ((View.readAt_full _ _ _).trans hf6)) (hk := held_kn _ _ _ _ ((View.readAt_full _ _ _).trans hf1) ((View.readAt_full _ _ _).trans hf7)) (hv := held_vn _ _ _ ((View.readAt_full _ _ _).trans hf2)) (hb := hf5) (ho := hf3) (hd := hf4) ..
      case gq => exact (View.readAt_full _ _ _).trans hf6
    isplitl [H9]
    · iexists _; isplitr; swap; · iexact H9
      ipureintro
      refine (View.read_writes_full _ _ _ _ _).trans (outK_of _ _ _ ?k ?dk ?gk)
      case k => exact (View.readAt_full _ _ _).trans hf1
      case dk => exact loop_dk (hq := held_qn _ _ _ _ ((View.readAt_full _ _ _).trans hf0) ((View.readAt_full _ _ _).trans hf6)) (hk := held_kn _ _ _ _ ((View.readAt_full _ _ _).trans hf1) ((View.readAt_full _ _ _).trans hf7)) (hv := held_vn _ _ _ ((View.readAt_full _ _ _).trans hf2)) (hb := hf5) (ho := hf3) (hd := hf4) (h := View.read_writes_full _ _ _ _ _) ..
      case gk => exact (View.readAt_full _ _ _).trans hf7
    isplitl [H10]
    · iexists _; isplitr; swap; · iexact H10
      ipureintro
      refine (View.read_writes_full _ _ _ _ _).trans (outV_of _ ?dv)
      case dv => exact loop_dv (hq := held_qn _ _ _ _ ((View.readAt_full _ _ _).trans hf0) ((View.readAt_full _ _ _).trans hf6)) (hk := held_kn _ _ _ _ ((View.readAt_full _ _ _).trans hf1) ((View.readAt_full _ _ _).trans hf7)) (hv := held_vn _ _ _ ((View.readAt_full _ _ _).trans hf2)) (hb := hf5) (ho := hf3) (hd := hf4) (h := View.read_writes_full _ _ _ _ _) ..
    isplitl [H11]
    · iexists _; isplitr; swap; · iexact H11
      ipureintro
      refine (View.read_writes_full _ _ _ _ _).trans (outB_of _ ?db)
      case db => exact loop_db (hq := held_qn _ _ _ _ ((View.readAt_full _ _ _).trans hf0) ((View.readAt_full _ _ _).trans hf6)) (hk := held_kn _ _ _ _ ((View.readAt_full _ _ _).trans hf1) ((View.readAt_full _ _ _).trans hf7)) (hv := held_vn _ _ _ ((View.readAt_full _ _ _).trans hf2)) (hb := hf5) (ho := hf3) (hd := hf4) (h := View.read_writes_full _ _ _ _ _) ..
    isplitl [H12]
    · iexists _; isplitr; swap; · iexact H12
      ipureintro
      refine (View.read_writes_full _ _ _ _ _).trans (outGq_of _ _ ?q ?dqn)
      case q => exact (View.readAt_full _ _ _).trans hf0
      case dqn => exact loop_dqn (hq := held_qn _ _ _ _ ((View.readAt_full _ _ _).trans hf0) ((View.readAt_full _ _ _).trans hf6)) (hk := held_kn _ _ _ _ ((View.readAt_full _ _ _).trans hf1) ((View.readAt_full _ _ _).trans hf7)) (hv := held_vn _ _ _ ((View.readAt_full _ _ _).trans hf2)) (hb := hf5) (ho := hf3) (hd := hf4) ..
    isplitl [H13]
    · iexists _; isplitr; swap; · iexact H13
      ipureintro
      refine (View.read_writes_full _ _ _ _ _).trans (outGk_of _ _ ?k ?dk)
      case k => exact (View.readAt_full _ _ _).trans hf1
      case dk => exact loop_dk (hq := held_qn _ _ _ _ ((View.readAt_full _ _ _).trans hf0) ((View.readAt_full _ _ _).trans hf6)) (hk := held_kn _ _ _ _ ((View.readAt_full _ _ _).trans hf1) ((View.readAt_full _ _ _).trans hf7)) (hv := held_vn _ _ _ ((View.readAt_full _ _ _).trans hf2)) (hb := hf5) (ho := hf3) (hd := hf4) (h := View.read_writes_full _ _ _ _ _) ..
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Proof.Attn
-- ==== Proof.Attn.Run.lean ====
module

public import proofs.«01_k».proof.Proof.Attn.Body
public import proofs.«01_k».proof.Proof.Gen.Kernel2Ideal.Frame
public import Idealize.ShloMosaic.Lib.Claim

@[expose] public section

set_option maxRecDepth 16384

noncomputable section

namespace Cert.Proof.Attn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.Kernel2Ideal.Facts]

variable (m : (ℓ : Loc nD τ sig) → Buf (Elt F) ℓ) (ρ : Dev nD → PrngReg)

local notation "𝕄" => MT nD τ sig Unit (Elt F) ℕ (UR sig nD τ) ℕ

/-- The blocks the body is given at point `t`. -/
def insAt (c : Dev nD) (t : Fin cfg0.N) : Ins F where
  q := iblk m c 0 t
  k := iblk m c 1 t
  v := iblk m c 2 t
  o := iblk m c 3 t
  dout := iblk m c 4 t
  bias := iblk m c 5 t
  gq := iblk m c 6 t
  gk := iblk m c 7 t

/-- The launch's data: the arrays as the host lines leave them; an input's staging buffer keeps its block, an output's gets the named result of
    the point's blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (insAt m c t).outQ
    | ⟨9, _⟩ => (insAt m c t).outK
    | ⟨10, _⟩ => (insAt m c t).outV
    | ⟨11, _⟩ => (insAt m c t).outB
    | ⟨12, _⟩ => (insAt m c t).outGq
    | ⟨13, _⟩ => (insAt m c t).outGk
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by unfold dats; rfl
theorem after0_1 (c : Dev nD) (t : Fin cfg0.N) : (dats m 0 c).after 1 t = iblk m c 1 t := by unfold dats; rfl
theorem after0_2 (c : Dev nD) (t : Fin cfg0.N) : (dats m 0 c).after 2 t = iblk m c 2 t := by unfold dats; rfl
theorem after0_3 (c : Dev nD) (t : Fin cfg0.N) : (dats m 0 c).after 3 t = iblk m c 3 t := by unfold dats; rfl
theorem after0_4 (c : Dev nD) (t : Fin cfg0.N) : (dats m 0 c).after 4 t = iblk m c 4 t := by unfold dats; rfl
theorem after0_5 (c : Dev nD) (t : Fin cfg0.N) : (dats m 0 c).after 5 t = iblk m c 5 t := by unfold dats; rfl
theorem after0_6 (c : Dev nD) (t : Fin cfg0.N) : (dats m 0 c).after 6 t = iblk m c 6 t := by unfold dats; rfl
theorem after0_7 (c : Dev nD) (t : Fin cfg0.N) : (dats m 0 c).after 7 t = iblk m c 7 t := by unfold dats; rfl
theorem after0_8 (c : Dev nD) (t : Fin cfg0.N) : (dats m 0 c).after 8 t = (insAt m c t).outQ := by unfold dats; rfl
theorem after0_9 (c : Dev nD) (t : Fin cfg0.N) : (dats m 0 c).after 9 t = (insAt m c t).outK := by unfold dats; rfl
theorem after0_10 (c : Dev nD) (t : Fin cfg0.N) : (dats m 0 c).after 10 t = (insAt m c t).outV := by unfold dats; rfl
theorem after0_11 (c : Dev nD) (t : Fin cfg0.N) : (dats m 0 c).after 11 t = (insAt m c t).outB := by unfold dats; rfl
theorem after0_12 (c : Dev nD) (t : Fin cfg0.N) : (dats m 0 c).after 12 t = (insAt m c t).outGq := by unfold dats; rfl
theorem after0_13 (c : Dev nD) (t : Fin cfg0.N) : (dats m 0 c).after 13 t = (insAt m c t).outGk := by unfold dats; rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The kernel's own buffers between two points, at any contents. -/
theorem scratch_eq (c : Dev nD) : (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d)) ∗ (∃ r, prngReg c r)) := by
  unfold Pipeline.ΦA; rw [scopedRest0_eq]; simp only [owns_whole]; try rfl

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl, show (dats m 0 c).owesAt () t.succ = (dats m 0 c).owesAt () t.castSucc from rfl,
    after0_0, after0_1, after0_2, after0_3, after0_4, after0_5, after0_6, after0_7, after0_8, after0_9, after0_10, after0_11, after0_12, after0_13,
    show (dats m 0 c).Φ t.castSucc = Pipeline.ΦA spec0 c from rfl, scratch_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((body_run c (grid0.coords t) _ _ _ _ _ _ _ _ _ _ _ _ _ _ _ _ _ _ _ _ _ _ _ _ _ _ _ _ _ _ _ _ _ _ _ _ _ _ _ _ _ _ (insAt m c t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, H12, H13, S0, S1, S2, S3, S4, S5, S6⟩
  isplitl [S0 S1 S2 S3 S4 S5 S6 Hg]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 4000000 in
set_option backward.isDefEq.respectTransparency.types false in
/-- The run: every array a window stages ends as the points' results leave it, every other buffer as the host's lines leave it, and no
    semaphore is held. -/
theorem run : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl) (howed := fun _ _ => rfl) (V₀ := V0 m) (opss := [hostOps1])
    (hsub := sfx_sub) (hfresh := sfx_fresh) (hkeep := sfx_keeps) (hmain := hmain m Variants.none) (hA := A_eq m) (hΦ := fun _ _ => rfl)

/-- The arguments end as they began, and no semaphore is held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Proof.Attn
-- ==== Proof.Attn.Host.lean ====
module

public import proofs.«01_k».proof.Proof.Attn.Run
public import proofs.«01_k».proof.Proof.Gen.Reference2Ideal.Read
public import Idealize.ShloMosaic.Lib.StableHlo.Run

@[expose] public section

noncomputable section

namespace Cert.Proof.Attn

open Cert.Kernel2Ideal Cert.Kernel2Ideal.Gen
open Idealize.ShloMosaic Idealize.ShloMosaic.TcCoe Idealize.ShloMosaic.StableHlo
open Cert.Reference2Ideal.Read

attribute [local instance] Cert.Kernel2Ideal.Gen.facts Cert.Reference2Ideal.Gen.facts

variable {F : FTy → Type} [FloatOps F] (U : Valuation τ sig (Elt F))

set_option maxRecDepth 8192
set_option maxHeartbeats 4000000

/-- The host's lines before the call compute the values the reference's forward lines do: the band's values, -/
theorem vb_host : StableHlo.after hostOps0 U (Proc.devRef .tc main_v47) = val_main_v55 (F := F) (U (Proc.devRef .tc main_arg0)) := by
  simp only [hostOps0]; after_results_simp; rfl
/-- the scores before the mask, -/
theorem scores_host : StableHlo.after hostOps0 U (Proc.devRef .tc main_v53)
    = val_main_v61 (F := F) (U (Proc.devRef .tc main_arg0)) (U (Proc.devRef .tc main_arg2)) (U (Proc.devRef .tc main_arg3)) (U (Proc.devRef .tc main_arg4)) := by
  simp only [hostOps0]; after_results_simp; rfl
/-- the mask and the value it writes, -/
theorem mask_host : StableHlo.after hostOps0 U (Proc.devRef .tc main_v61) = val_main_v69 (F := F) := by
  simp only [hostOps0]; after_results_simp; rfl
theorem fill_host : StableHlo.after hostOps0 U (Proc.devRef .tc main_cst_8) = val_main_cst_12 (F := F) := by
  simp only [hostOps0]; after_results_simp; rfl

/-- the masked scores, -/
theorem masked_step : StableHlo.after hostOps0_1 U (Proc.devRef .tc main_v62)
    = select (broadcastInDim S2x32x8x64x576 ![0, 1, 2, 3, 4] bcast_S1x32x1x1x576_S2x32x8x64x576_0_1_2_3_4 (U (Proc.devRef .tc main_v61)))
      (U (Proc.devRef .tc main_v53)) (broadcastInDim S2x32x8x64x576 ![] bcast_S_S2x32x8x64x576 (U (Proc.devRef .tc main_cst_8))) := by
  simp only [hostOps0_1]; after_results_simp; rfl
theorem masked_host : StableHlo.after hostOps0_1 (StableHlo.after hostOps0 U) (Proc.devRef .tc main_v62)
    = val_main_v70_0 (F := F) (U (Proc.devRef .tc main_arg0)) (U (Proc.devRef .tc main_arg2)) (U (Proc.devRef .tc main_arg3)) (U (Proc.devRef .tc main_arg4)) := by
  rw [masked_step, scores_host, mask_host, fill_host]; rfl
theorem vb_step : StableHlo.after hostOps0_1 U (Proc.devRef .tc main_v47) = U (Proc.devRef .tc main_v47) := by
  simp only [hostOps0_1]; after_results_simp
theorem masked_vb_host : StableHlo.after hostOps0_1 (StableHlo.after hostOps0 U) (Proc.devRef .tc main_v47) = val_main_v55 (F := F) (U (Proc.devRef .tc main_arg0)) := by
  rw [vb_step, vb_host]

/-- The softmax of the masked scores and its product with the band's values. -/
def soft (x : (⟨S2x32x8x64x576, .f32⟩ : BufTy).Contents (Elt F)) (vb : (⟨S2x32x576x8x64, .f32⟩ : BufTy).Contents (Elt F)) : (⟨S4096x512, .f32⟩ : BufTy).Contents (Elt F) :=
  let top := maximumf (broadcastInDim S2x32x8x64 ![] bcast_S_S2x32x8x64 (constant S_ .f32 0xFF800000#32))
    (Host.reduce FloatOps.maximumf x (constant S_ .f32 0xFF800000#32) reducesTo_S2x32x8x64x576_S2x32x8x64_d4 h_S_)
  let e := Host.exp (subf x (broadcastInDim S2x32x8x64x576 ![0, 1, 2, 3, 4] bcast_S2x32x8x64x1_S2x32x8x64x576_0_1_2_3_4
    (broadcastInDim S2x32x8x64x1 ![0, 1, 2, 3] bcast_S2x32x8x64_S2x32x8x64x1_0_1_2_3 top)))
  let z := broadcastInDim S2x32x8x64x1 ![0, 1, 2, 3] bcast_S2x32x8x64_S2x32x8x64x1_0_1_2_3
    (Host.reduceAdd e (constant S_ .f32 0x00000000#32) reducesTo_S2x32x8x64x576_S2x32x8x64_d4 h_S_)
  shapeCast _ (transpose S2x32x64x8x64 [0, 1, 4, 2, 3] (Host.dotGeneral dot_S2x32x576x8x64_S2x32x8x64x576_S2x32x8x64x64_2_4_4_3_013_012 none vb
    (Host.divf e (broadcastInDim S2x32x8x64x576 ![0, 1, 2, 3, 4] bcast_S2x32x8x64x1_S2x32x8x64x576_0_1_2_3_4 z)))
    transposes_S2x32x8x64x64_S2x32x64x8x64_0_1_4_2_3) shapeCasts_S2x32x64x8x64_S4096x512

theorem soft_host : StableHlo.after hostOps0_2 U (Proc.devRef .tc main_v76) = soft (U (Proc.devRef .tc main_v62)) (U (Proc.devRef .tc main_v47)) := by
  simp only [hostOps0_2]; after_results_simp; rfl

/-- and the attention's output. -/
theorem out_host : StableHlo.after (List.flatten [hostOps0, hostOps0_1, hostOps0_2]) U (Proc.devRef .tc main_v76)
    = val_main_v101 (F := F) (U (Proc.devRef .tc main_arg0)) (U (Proc.devRef .tc main_arg2)) (U (Proc.devRef .tc main_arg3)) (U (Proc.devRef .tc main_arg4)) := by
  rw [List.flatten_cons, StableHlo.after_append, List.flatten_cons, StableHlo.after_append, List.flatten_cons, List.flatten_nil, List.append_nil,
    soft_host, masked_host, masked_vb_host]
  rfl

/-- The bias as the kernel reads it: 64 empty keys before the window's, two heads' rows side by side, keys down. -/
def biasT (x2 : (⟨S8x64x576, .f32⟩ : BufTy).Contents (Elt F)) : (⟨S2560x128, .f32⟩ : BufTy).Contents (Elt F) :=
  shapeCast _ (transpose S4x640x128 [0, 2, 1]
    (shapeCast S4x128x640 (concatenate S8x64x640 2 [⟨S8x64x64, broadcastInDim S8x64x64 ![] bcast_S_S8x64x64 (constant S_ .f32 0x00000000#32)⟩, ⟨S8x64x576, x2⟩]
      concatenates_S8x64x64_S8x64x576_S8x64x640_d2) shapeCasts_S8x64x640_S4x128x640)
    transposes_S4x128x640_S4x640x128_0_2_1) shapeCasts_S4x640x128_S2560x128

/-- A gain twice over, once per head. -/
def twice (g : (⟨S1x64, .f32⟩ : BufTy).Contents (Elt F)) : (⟨S1x128, .f32⟩ : BufTy).Contents (Elt F) :=
  concatenate S1x128 1 [⟨S1x64, g⟩, ⟨S1x64, g⟩] concatenates_S1x64_S1x64_S1x128_d1

/-- The lines before the last window leave the arguments. -/
theorem args_host : StableHlo.after hostOps0_1 (StableHlo.after hostOps0 U) (Proc.devRef .tc main_arg2) = U (Proc.devRef .tc main_arg2)
    ∧ StableHlo.after hostOps0_1 (StableHlo.after hostOps0 U) (Proc.devRef .tc main_arg3) = U (Proc.devRef .tc main_arg3)
    ∧ StableHlo.after hostOps0_1 (StableHlo.after hostOps0 U) (Proc.devRef .tc main_arg4) = U (Proc.devRef .tc main_arg4) := by
  refine ⟨?_, ?_, ?_⟩ <;> simp only [hostOps0_1, hostOps0] <;> after_results_simp

theorem bias_last : StableHlo.after hostOps0_2 U (Proc.devRef .tc main_v81) = biasT (U (Proc.devRef .tc main_arg2)) := by
  simp only [hostOps0_2]; after_results_simp; rfl
theorem gq_last : StableHlo.after hostOps0_2 U (Proc.devRef .tc main_v82) = twice (U (Proc.devRef .tc main_arg3)) := by
  simp only [hostOps0_2]; after_results_simp; rfl
theorem gk_last : StableHlo.after hostOps0_2 U (Proc.devRef .tc main_v83) = twice (U (Proc.devRef .tc main_arg4)) := by
  simp only [hostOps0_2]; after_results_simp; rfl

theorem bias_host : StableHlo.after (List.flatten [hostOps0, hostOps0_1, hostOps0_2]) U (Proc.devRef .tc main_v81) = biasT (U (Proc.devRef .tc main_arg2)) := by
  rw [List.flatten_cons, StableHlo.after_append, List.flatten_cons, StableHlo.after_append, List.flatten_cons, List.flatten_nil, List.append_nil,
    bias_last, (args_host U).1]
theorem gq_host : StableHlo.after (List.flatten [hostOps0, hostOps0_1, hostOps0_2]) U (Proc.devRef .tc main_v82) = twice (U (Proc.devRef .tc main_arg3)) := by
  rw [List.flatten_cons, StableHlo.after_append, List.flatten_cons, StableHlo.after_append, List.flatten_cons, List.flatten_nil, List.append_nil,
    gq_last, (args_host U).2.1]
theorem gk_host : StableHlo.after (List.flatten [hostOps0, hostOps0_1, hostOps0_2]) U (Proc.devRef .tc main_v83) = twice (U (Proc.devRef .tc main_arg4)) := by
  rw [List.flatten_cons, StableHlo.after_append, List.flatten_cons, StableHlo.after_append, List.flatten_cons, List.flatten_nil, List.append_nil,
    gk_last, (args_host U).2.2]

/-- The host's lines after the call: the two batches' bias sums added and cut to the window's keys, -/
theorem bias_suffix (W : Valuation τ sig (Elt F)) : StableHlo.after hostOps1 W (Proc.devRef .tc main_v95)
    = extractStridedSlice S8x64x576 ![0, 0, 64] (Host.reduceAdd (shapeCast S2x8x64x640 (transpose S2x4x2x64x640 [0, 1, 3, 4, 2]
        (shapeCast S2x4x640x2x64 (W (Proc.devRef .tc main_v84_3)) shapeCasts_S2x2560x128_S2x4x640x2x64) transposes_S2x4x640x2x64_S2x4x2x64x640_0_1_3_4_2)
        shapeCasts_S2x4x2x64x640_S2x8x64x640) (constant S_ .f32 0x00000000#32) reducesTo_S2x8x64x640_S8x64x640_d0 h_S_) slices_S8x64x640_S8x64x576_0_0_64 := by
  simp only [hostOps1]; after_results_simp; rfl
/-- and the gains' sums over batches and heads. -/
def gainSum (x : (⟨S8x1x128, .f32⟩ : BufTy).Contents (Elt F)) : (⟨S1x64, .f32⟩ : BufTy).Contents (Elt F) :=
  broadcastInDim S1x64 ![1] bcast_S64_S1x64_1 (Host.reduceAdd (shapeCast S16x64 x shapeCasts_S8x1x128_S16x64) (constant S_ .f32 0x00000000#32) reducesTo_S16x64_S64_d0 h_S_)
theorem gq_suffix (W : Valuation τ sig (Elt F)) : StableHlo.after hostOps1 W (Proc.devRef .tc main_v90) = gainSum (W (Proc.devRef .tc main_v84_4)) := by
  simp only [hostOps1]; after_results_simp; rfl
theorem gk_suffix (W : Valuation τ sig (Elt F)) : StableHlo.after hostOps1 W (Proc.devRef .tc main_v93) = gainSum (W (Proc.devRef .tc main_v84_5)) := by
  simp only [hostOps1]; after_results_simp; rfl

end Cert.Proof.Attn

end
-- ==== Proof.Attn.Spec.lean ====
module

public import proofs.«01_k».proof.Proof.Lib.Reals
public import Idealize.ShloMosaic.Lib.Pointwise

@[expose] public section

noncomputable section

namespace Cert.Proof.Attn

open Idealize.ShloMosaic Idealize.ShloMosaic.Pointwise Reals

/-- An array of real numbers. -/
def arr {n m : ℕ} (X : ℕ → ℕ → ℝ) : (⟨2, ![n, m]⟩ : Shape).Idx → EReal := fun i => ((X (i 0).val (i 1).val : ℝ) : EReal)

theorem arr_ix2 {n m : ℕ} (X : ℕ → ℕ → ℝ) (a : Fin n) (b : Fin m) : (arr X : (⟨2, ![n, m]⟩ : Shape).Idx → EReal) (ix2 a b) = ((X a.val b.val : ℝ) : EReal) := rfl

theorem eq_arr {n m : ℕ} (x : (⟨2, ![n, m]⟩ : Shape).Idx → EReal) (X : ℕ → ℕ → ℝ) (h : ∀ (a : Fin n) (b : Fin m), x (ix2 a b) = ((X a.val b.val : ℝ) : EReal)) :
    x = arr X := by
  funext i
  rw [eq_ix2 i]
  exact h (i 0) (i 1)

theorem arr_congr {n m : ℕ} (X Y : ℕ → ℕ → ℝ) (h : ∀ a b, a < n → b < m → X a b = Y a b) : (arr X : (⟨2, ![n, m]⟩ : Shape).Idx → EReal) = arr Y := by
  funext i
  exact congrArg _ (h _ _ (i 0).isLt (i 1).isLt)

/-- The norm's small constant. -/
def eps : ℝ := (Ideal.ofBits .f32 897988541#32).toReal

theorem eps_bits : Ideal.ofBits .f32 897988541#32 = ((eps : ℝ) : EReal) ∧ 0 < eps := by
  have h : Ideal.ofBits .f32 897988541#32 = (((8796093 : ℝ) / 2 ^ 43 : ℝ) : EReal) := by
    simp [Ideal.ofBits, Ideal.ieee, -EReal.coe_mul]
    norm_num
  have h' : eps = (8796093 : ℝ) / 2 ^ 43 := by
    unfold eps
    rw [h, EReal.toReal_coe]
  exact ⟨by rw [h', h], by rw [h']; positivity⟩
theorem ofBits_eighth : Ideal.ofBits .f32 0x3E000000#32 = ((1 / 8 : ℝ) : EReal) := by simp [Ideal.ofBits, Ideal.ieee, -EReal.coe_mul]; norm_num
theorem ofBits_64th : Ideal.ofBits .f32 0x3C800000#32 = ((1 / 64 : ℝ) : EReal) := by simp [Ideal.ofBits, Ideal.ieee, -EReal.coe_mul]; norm_num
theorem ofBits_64 : Ideal.ofBits .f32 0x42800000#32 = ((64 : ℝ) : EReal) := by simp [Ideal.ofBits, Ideal.ieee, -EReal.coe_mul]; norm_num

/-- One head of one batch: its 2048 rows of queries, keys, values and of the output's cotangent, its bias, the two norms' gains. -/
structure Head where
  q : ℕ → ℕ → ℝ
  k : ℕ → ℕ → ℝ
  v : ℕ → ℕ → ℝ
  d : ℕ → ℕ → ℝ
  bias : ℕ → ℕ → ℝ
  gq : ℕ → ℝ
  gk : ℕ → ℝ

/-- A row's inverse root mean square. -/
def inv (x : ℕ → ℕ → ℝ) (l : ℕ) : ℝ := (Real.sqrt ((∑ e : Fin 64, x l e * x l e) * (1 / 64) + eps))⁻¹
/-- A row over its root mean square. -/
def hat (x : ℕ → ℕ → ℝ) (l e : ℕ) : ℝ := x l e * inv x l
/-- The norm's gradient at its input, given that at its output. -/
def normB (x dn : ℕ → ℕ → ℝ) (g : ℕ → ℝ) (l e : ℕ) : ℝ :=
  inv x l * (dn l e * g e - hat x l e * ((∑ e' : Fin 64, dn l e' * g e' * hat x l e') * (1 / 64)))
/-- The gain's gradient. -/
def dgain (x dn : ℕ → ℕ → ℝ) (e : ℕ) : ℝ := ∑ l : Fin 2048, dn l e * hat x l e
/-- Rows behind 512 empty ones. -/
def behind (x : ℕ → ℕ → ℝ) (y e : ℕ) : ℝ := if 512 ≤ y then x (y - 512) e else 0

theorem mean_pos (x : ℕ → ℕ → ℝ) (l : ℕ) : 0 < (∑ e : Fin 64, x l e * x l e) * (1 / 64) + eps :=
  add_pos_of_nonneg_of_pos (mul_nonneg (Finset.sum_nonneg fun e _ => mul_self_nonneg _) (by norm_num)) eps_bits.2

namespace Head

variable (H : Head)

def qn (l e : ℕ) : ℝ := hat H.q l e * H.gq e
def kn (l e : ℕ) : ℝ := hat H.k l e * H.gk e
/-- Chunk `c`'s query `i` against key `s` of its window. -/
def sc (c i s : ℕ) : ℝ := (∑ e : Fin 64, H.qn (64 * c + i) e * behind H.kn (64 * c + s) e) * (1 / 8) + H.bias i s
/-- Its weight; none before the sequence's start. -/
def w (c i s : ℕ) : ℝ := if 512 ≤ 64 * c + s then Real.exp (H.sc c i s) else 0
def z (c i : ℕ) : ℝ := ∑ s : Fin 576, H.w c i s
def p (c i s : ℕ) : ℝ := H.w c i s / H.z c i
def dp (c i s : ℕ) : ℝ := ∑ e : Fin 64, H.d (64 * c + i) e * behind H.v (64 * c + s) e
def row (c i : ℕ) : ℝ := ∑ s : Fin 576, H.p c i s * H.dp c i s
def ds (c i s : ℕ) : ℝ := H.p c i s * (H.dp c i s - H.row c i)
/-- The attention's output. -/
def out (l e : ℕ) : ℝ := ∑ s : Fin 576, H.p (l / 64) (l % 64) s * behind H.v (64 * (l / 64) + s) e
/-- The gradients at the normed queries and keys, at the values and at the bias. -/
def dqn (l e : ℕ) : ℝ := 1 / 8 * ∑ s : Fin 576, H.ds (l / 64) (l % 64) s * behind H.kn (64 * (l / 64) + s) e
def dkn (l e : ℕ) : ℝ := ∑ c : Fin 32, if 64 * c.val ≤ 512 + l ∧ 512 + l < 64 * c.val + 576 then
  ∑ i : Fin 64, H.ds c i (512 + l - 64 * c) * (H.qn (64 * c + i) e * (1 / 8)) else 0
def dv (l e : ℕ) : ℝ := ∑ c : Fin 32, if 64 * c.val ≤ 512 + l ∧ 512 + l < 64 * c.val + 576 then
  ∑ i : Fin 64, H.p c i (512 + l - 64 * c) * H.d (64 * c + i) e else 0
def dbias (i s : ℕ) : ℝ := ∑ c : Fin 32, H.ds c i s
def dq (l e : ℕ) : ℝ := normB H.q H.dqn H.gq l e
def dk (l e : ℕ) : ℝ := normB H.k H.dkn H.gk l e

theorem w_nonneg (c i s : ℕ) : 0 ≤ H.w c i s := by
  unfold w
  split
  · exact (Real.exp_pos _).le
  · exact le_refl _

theorem z_pos (c i : ℕ) : 0 < H.z c i := by
  refine Finset.sum_pos' (fun s _ => H.w_nonneg c i s) ⟨⟨512, by norm_num⟩, Finset.mem_univ _, ?_⟩
  unfold w
  rw [if_pos (by dsimp only; omega)]
  exact Real.exp_pos _

/-- Cotangent times output, summed over a row, is the row's weighted cotangents of the probabilities. -/
theorem row_eq (c i : ℕ) (hi : i < 64) : ∑ e : Fin 64, H.d (64 * c + i) e * H.out (64 * c + i) e = H.row c i := by
  have h1 : (64 * c + i) / 64 = c := by omega
  have h2 : (64 * c + i) % 64 = i := by omega
  unfold row out dp
  rw [h1, h2]
  simp only [Finset.mul_sum]
  rw [Finset.sum_comm]
  refine Finset.sum_congr rfl fun s _ => Finset.sum_congr rfl fun e _ => ?_
  ring

end Head

/-- Lanes of one half. -/
theorem half_sum (f : ℕ → ℝ) (h : ℕ) (hh : h < 2) : (∑ x : Fin 128, if x.val / 64 = h then f x.val else 0) = ∑ e : Fin 64, f (64 * h + e.val) := by
  rw [Fin.sum_univ_eq_sum_range (fun x => if x / 64 = h then f x else 0) 128, Fin.sum_univ_eq_sum_range (fun e => f (64 * h + e)) 64,
    show (128 : ℕ) = 64 + 64 by norm_num, Finset.sum_range_add]
  obtain rfl | rfl : h = 0 ∨ h = 1 := by omega
  · rw [Finset.sum_congr rfl fun x hx => if_pos (show x / 64 = 0 by have := Finset.mem_range.1 hx; omega),
      Finset.sum_eq_zero (fun x hx => if_neg (show ¬ (64 + x) / 64 = 0 by omega)), add_zero]
    exact Finset.sum_congr rfl fun x _ => congrArg f (by omega)
  · rw [Finset.sum_eq_zero (fun x hx => if_neg (show ¬ x / 64 = 1 by have := Finset.mem_range.1 hx; omega)), zero_add,
      Finset.sum_congr rfl fun x hx => if_pos (show (64 + x) / 64 = 1 by have := Finset.mem_range.1 hx; omega)]

/-- 640 keys of which the first 64 count for nothing. -/
theorem keys_sum (f : ℕ → ℝ) (h : ∀ s, s < 64 → f s = 0) : ∑ s : Fin 640, f s.val = ∑ s : Fin 576, f (64 + s.val) := by
  rw [Fin.sum_univ_eq_sum_range f 640, Fin.sum_univ_eq_sum_range (fun s => f (64 + s)) 576, show (640 : ℕ) = 64 + 576 by norm_num, Finset.sum_range_add,
    Finset.sum_eq_zero (fun x hx => h x (Finset.mem_range.1 hx)), zero_add]

/-- The largest of numbers some of which are real and none of which is infinite is real. -/
theorem fold_max_real {n : ℕ} (y : Fin n → EReal) (s : Fin n) (r : ℝ) (hs : y s = ((r : ℝ) : EReal)) (ht : ∀ s, y s ≠ ⊤) :
    ∃ M : ℝ, Finset.fold max ⊥ y Finset.univ = ((M : ℝ) : EReal) := by
  have hb : Finset.fold max ⊥ y Finset.univ ≠ ⊥ := fun h => by
    have := (Finset.fold_max_le (b := (⊥ : EReal)) (f := y) (s := Finset.univ) ⊥).1 h.le
    have := this.2 s (Finset.mem_univ _)
    rw [hs, le_bot_iff] at this
    exact EReal.coe_ne_bot r this
  have hl : Finset.fold max ⊥ y Finset.univ ≠ ⊤ := by
    have : Finset.fold max ⊥ y Finset.univ < ⊤ := Finset.fold_max_lt (c := (⊤ : EReal)) |>.2 ⟨bot_lt_top, fun x _ => lt_top_iff_ne_top.2 (ht x)⟩
    exact this.ne
  exact ⟨_, (EReal.coe_toReal hl hb).symm⟩

/-- A masked score less a real, exponentiated. -/
theorem exp_shift (m : Prop) [Decidable m] (x M : ℝ) : Ideal.exp ((if m then ((x : ℝ) : EReal) else ⊥) - ((M : ℝ) : EReal))
    = (((if m then Real.exp x else 0) * Real.exp (-M) : ℝ) : EReal) := by
  by_cases h : m
  · rw [if_pos h, if_pos h, ← EReal.coe_sub, exp_coe, ← Real.exp_add, sub_eq_add_neg]
  · rw [if_neg h, if_neg h, EReal.bot_sub, exp_bot, zero_mul, EReal.coe_zero]

end Cert.Proof.Attn

end
-- ==== Proof.Attn.ChunkValue.lean ====
module

public import proofs.«01_k».proof.Proof.Attn.Out
public import proofs.«01_k».proof.Proof.Attn.Spec
public import Idealize.ShloMosaic.Lib.WordCmp

@[expose] public section

noncomputable section

namespace Cert.Proof.Attn

open Idealize.ShloMosaic Idealize.ShloMosaic.Pointwise Cert.Kernel2Ideal Cert.Kernel2Ideal.Gen Idealize.ShloMosaic.TcCoe VecWindow Reals

variable [Cert.Kernel2Ideal.Facts]

theorem lane_lt : ∀ x : Fin 128, IntOp.cmpi CmpIPredicate.slt (BitVec.ofNat 32 x.val) 64#32 = if x.val < 64 then 1#1 else 0#1 := by decide

/-- A row block stacked twice, each copy with one head's lanes only. -/
theorem stacked (X : ℕ → ℕ → ℝ) (j x : Fin 128) :
    (if j.val < 64 then Scalar.select (IntOp.cmpi CmpIPredicate.slt (BitVec.ofNat 32 x.val) 64#32) ((X j.val x.val : ℝ) : EReal) 0
      else Scalar.select (IntOp.cmpi CmpIPredicate.slt (BitVec.ofNat 32 x.val) 64#32) 0 ((X (j.val - 64) x.val : ℝ) : EReal))
      = (((if x.val / 64 = j.val / 64 then X (j.val % 64) x.val else 0 : ℝ)) : EReal) := by
  rw [lane_lt]
  by_cases hx : x.val < 64 <;> by_cases hj : j.val < 64
  · rw [if_pos hj, if_pos hx, if_pos (by omega), show j.val % 64 = j.val by omega]; rfl
  · rw [if_neg hj, if_pos hx, if_neg (by omega), EReal.coe_zero]; rfl
  · rw [if_pos hj, if_neg hx, if_neg (by omega), EReal.coe_zero]; rfl
  · rw [if_neg hj, if_neg hx, if_pos (by omega), show j.val % 64 = j.val - 64 by omega]; rfl

theorem pay3_eq (X : ℕ → ℕ → ℝ) : k0_pay3 (F := Ideal) (arr X) = arr fun j x => if x / 64 = j / 64 then X (j % 64) x else 0 := by
  refine eq_arr _ _ fun j x => Eq.trans ?_ (stacked X j x)
  pointwise [k0_pay3]
  rfl

theorem pay5_eq (X : ℕ → ℕ → ℝ) : k0_pay5 (F := Ideal) (arr X) = arr fun j x => if x / 64 = j / 64 then X (j % 64) x else 0 := by
  refine eq_arr _ _ fun j x => Eq.trans ?_ (stacked X j x)
  pointwise [k0_pay5]
  rfl

theorem pay6_eq (X : ℕ → ℕ → ℝ) : k0_pay6 (F := Ideal) (arr X) = arr fun j x => if x / 64 = j / 64 then X (j % 64) x else 0 := pay5_eq X

/-- A product with a stacked block, over one half's lanes. -/
theorem half_dot (A B : ℕ → ℝ) (h : ℕ) (hh : h < 2) :
    (∑ x : Fin 128, ((A x.val : ℝ) : EReal) * (((if x.val / 64 = h then B x.val else 0 : ℝ)) : EReal)) = ((∑ e : Fin 64, A (64 * h + e) * B (64 * h + e) : ℝ) : EReal) := by
  simp only [← EReal.coe_mul]
  rw [sum_coe, ← half_sum (fun x => A x * B x) h hh]
  refine congrArg _ (Finset.sum_congr rfl fun x _ => ?_)
  rw [mul_ite, mul_zero]

theorem pay4_eq (Q K B : ℕ → ℕ → ℝ) : k0_pay4 (F := Ideal) (arr Q) (arr K) (arr B)
    = arr fun s j => (∑ e : Fin 64, K s (64 * (j / 64) + e) * Q (j % 64) (64 * (j / 64) + e)) + B s j := by
  refine eq_arr _ _ fun s j => ?_
  pointwise [k0_pay4]
  simp only [pay3_eq, arr_ix2]
  rw [half_dot (fun x => K s x) (fun x => Q (j % 64) x) _ (by omega), ← EReal.coe_add]

theorem pay7_eq (V D : ℕ → ℕ → ℝ) : k0_pay7 (F := Ideal) (arr V) (arr D)
    = arr fun s j => ∑ e : Fin 64, V s (64 * (j / 64) + e) * D (j % 64) (64 * (j / 64) + e) := by
  refine eq_arr _ _ fun s j => ?_
  pointwise [k0_pay7]
  simp only [pay6_eq, arr_ix2]
  rw [half_dot (fun x => V s x) (fun x => D (j % 64) x) _ (by omega)]

theorem pay26_eq (D O : ℕ → ℕ → ℝ) : k0_pay26 (F := Ideal) (k0_pay5 (arr D)) (arr O)
    = arr fun _ j => ∑ e : Fin 64, D (j % 64) (64 * (j / 64) + e) * O (j % 64) (64 * (j / 64) + e) := by
  refine eq_arr _ _ fun a j => ?_
  obtain rfl : a = 0 := Subsingleton.elim _ _
  rw [pay5_eq]
  pointwise [k0_pay26]
  simp only [arr_ix2, dite_eq_ite, stacked, ← EReal.coe_mul, ← EReal.coe_sub, sub_self, EReal.coe_zero, sub_zero, Finset.sum_const_zero, add_zero]
  rw [sum_coe]
  refine congrArg _ ?_
  rw [← half_sum (fun x => D (j % 64) x * O (j % 64) x) (j / 64) (by omega)]
  refine Finset.sum_congr rfl fun x _ => ?_
  by_cases h : x.val / 64 = j.val / 64
  · rw [if_pos h, if_pos h, if_pos h]
  · rw [if_neg h, if_neg h, if_neg h, mul_zero]

/-- The keys a chunk's queries may see. -/
theorem mask_eq (c : ℕ) (hc : c < 32) (s : Fin 640) :
    IntOp.cmpi CmpIPredicate.sge (BitVec.ofNat 32 s.val) (Scalar.maxsi 64#32 (Scalar.muli (Scalar.subi 9#32 (BitVec.ofNat 32 c)) 64#32))
      = if 64 ≤ s.val ∧ 576 ≤ 64 * c + s.val then 1#1 else 0#1 := by
  have hm : ∀ c : Fin 32, Scalar.maxsi 64#32 (Scalar.muli (Scalar.subi 9#32 (BitVec.ofNat 32 c.val)) 64#32) = BitVec.ofNat 32 (max 64 ((9 - c.val) * 64)) := by decide
  rw [hm ⟨c, hc⟩, Idealize.ShloMosaic.WordCmp.cmpi_sge_ofNat (by have := s.isLt; norm_num; omega) (by norm_num; omega)]
  by_cases h : 64 ≤ s.val ∧ 576 ≤ 64 * c + s.val
  · rw [if_pos h, decide_eq_true (by dsimp only; omega)]; rfl
  · rw [if_neg h, decide_eq_false (by dsimp only; omega)]; rfl

/-- A softmax's entry, its column shifted by a given amount. -/
theorem pay38_apply (y : FVec Ideal S640x128 .f32) (m : FVec Ideal S1x128 .f32) (s : Fin 640) (j : Fin 128) : k0_pay38 y m (ix2 s j)
    = Ideal.exp (y (ix2 s j) - m (ix2 0 j)) * Ideal.div 1 (∑ k : Fin 640, Ideal.exp (y (ix2 k j) - m (ix2 0 j))) := by
  pointwise [k0_pay38]

theorem p_eq (c : ℕ) (hc : c < 32) (X : ℕ → ℕ → ℝ) :
    k0_pay38 (F := Ideal) (k0_pay24 (BitVec.ofNat 32 c) (arr X : FVec Ideal S640x128 .f32)) (k0_pay25 (BitVec.ofNat 32 c) (arr X : FVec Ideal S640x128 .f32))
    = arr fun s j => (if 64 ≤ s ∧ 576 ≤ 64 * c + s then Real.exp (X s j) else 0) / ∑ s : Fin 640, if 64 ≤ s.val ∧ 576 ≤ 64 * c + s.val then Real.exp (X s j) else 0 := by
  have h24 : ∀ (s : Fin 640) (j : Fin 128), k0_pay24 (F := Ideal) (BitVec.ofNat 32 c) (arr X : FVec Ideal S640x128 .f32) (ix2 s j)
      = if 64 ≤ s.val ∧ 576 ≤ 64 * c + s.val then ((X s j : ℝ) : EReal) else ⊥ := fun s j => by
    pointwise [k0_pay24]
    rw [mask_eq c hc]
    split
    · rfl
    · exact ofBits_neg_inf
  have h25 : ∀ j : Fin 128, ∃ M : ℝ, k0_pay25 (F := Ideal) (BitVec.ofNat 32 c) (arr X : FVec Ideal S640x128 .f32) (ix2 (0 : Fin 1) j) = ((M : ℝ) : EReal) := fun j => by
    pointwise [k0_pay25]
    rw [ofBits_neg_inf]
    refine fold_max_real _ ⟨576, by norm_num⟩ (X 576 j) ?_ fun s => ?_
    · rw [h24, if_pos (by dsimp only; omega)]
    · rw [h24]
      split
      · exact EReal.coe_ne_top _
      · exact bot_ne_top
  refine eq_arr _ _ fun s j => ?_
  obtain ⟨M, hM⟩ := h25 j
  have hz : 0 < ∑ s : Fin 640, if 64 ≤ s.val ∧ 576 ≤ 64 * c + s.val then Real.exp (X s j) else 0 := by
    refine Finset.sum_pos' (fun s _ => ?_) ⟨⟨576, by norm_num⟩, Finset.mem_univ _, ?_⟩
    · split
      · exact (Real.exp_pos _).le
      · exact le_refl _
    · rw [if_pos (by dsimp only; omega)]
      exact Real.exp_pos _
  rw [pay38_apply, hM]
  simp only [h24, exp_shift, sum_coe]
  rw [← Finset.sum_mul, ← EReal.coe_one, div_coe _ _ (mul_pos hz (Real.exp_pos _)).ne', ← EReal.coe_mul]
  refine congrArg _ ?_
  have := Real.exp_pos (-M)
  field_simp

/-- A chunk's blocks are those of two heads: lanes and queries of the first, then of the second. -/
structure IsChunk (B : Blocks Ideal) (H : ℕ → Head) (c : ℕ) : Prop where
  q : B.q = arr fun i x => (H (x / 64)).qn (64 * c + i) (x % 64) * (1 / 8)
  k : B.kb = arr fun s x => if 576 ≤ 64 * c + s then (H (x / 64)).kn (64 * c + s - 576) (x % 64) else 0
  v : B.vb = arr fun s x => if 576 ≤ 64 * c + s then (H (x / 64)).v (64 * c + s - 576) (x % 64) else 0
  bias : B.bias = arr fun s j => if 64 ≤ s then (H (j / 64)).bias (j % 64) (s - 64) else 0
  o : B.o = arr fun i x => (H (x / 64)).out (64 * c + i) (x % 64)
  dout : B.dout = arr fun i x => (H (x / 64)).d (64 * c + i) (x % 64)
  n : B.n = BitVec.ofNat 32 c

namespace IsChunk

/-- A function of the window's 576 keys on 640, the first 64 empty. -/
def pad (f : ℕ → ℝ) (s : ℕ) : ℝ := if 64 ≤ s then f (s - 64) else 0

theorem pad_sum (f g : ℕ → ℝ) : ∑ s : Fin 640, pad f s.val * g s.val = ∑ s : Fin 576, f s.val * g (64 + s.val) := by
  rw [keys_sum (fun s => pad f s * g s) fun s hs => by rw [pad, if_neg (by omega), zero_mul]]
  refine Finset.sum_congr rfl fun s _ => ?_
  rw [pad, if_pos (by omega), Nat.add_sub_cancel_left]

variable {B : Blocks Ideal} {H : ℕ → Head} {c : ℕ} (h : IsChunk B H c) (hc : c < 32)

include h hc

theorem p : B.p = arr fun s j => pad ((H (j / 64)).p c (j % 64)) s := by
  have hst : B.st = _ := (congrArg₂ (fun f g => k0_pay4 f g B.bias) h.q h.k).trans ((congrArg _ h.bias).trans (pay4_eq _ _ _))
  unfold Blocks.p
  rw [hst, h.n, p_eq c hc]
  refine arr_congr _ _ fun s j hs hj => ?_
  have hw : ∀ s, (if 64 ≤ s ∧ 576 ≤ 64 * c + s then Real.exp ((∑ e : Fin 64, (if 576 ≤ 64 * c + s then (H ((64 * (j / 64) + e) / 64)).kn (64 * c + s - 576) ((64 * (j / 64) + e) % 64) else 0)
      * ((H ((64 * (j / 64) + e) / 64)).qn (64 * c + j % 64) ((64 * (j / 64) + e) % 64) * (1 / 8))) + if 64 ≤ s then (H (j / 64)).bias (j % 64) (s - 64) else 0) else 0)
      = pad ((H (j / 64)).w c (j % 64)) s := by
    intro s
    unfold pad Head.w
    by_cases h1 : 64 ≤ s
    · by_cases h2 : 576 ≤ 64 * c + s
      · rw [if_pos ⟨h1, h2⟩, if_pos h1, if_pos h1, if_pos (show 512 ≤ 64 * c + (s - 64) by omega)]
        unfold Head.sc
        refine congrArg Real.exp (congrArg (· + _) ?_)
        rw [Finset.sum_mul]
        refine Finset.sum_congr rfl fun e _ => ?_
        rw [if_pos h2, behind, if_pos (show 512 ≤ 64 * c + (s - 64) by omega), show 64 * c + s - 576 = 64 * c + (s - 64) - 512 by omega,
          show (64 * (j / 64) + e.val) / 64 = j / 64 by omega, show (64 * (j / 64) + e.val) % 64 = e.val by omega]
        ring
      · rw [if_neg (fun hh => h2 hh.2), if_pos h1, if_neg (show ¬ 512 ≤ 64 * c + (s - 64) by omega)]
    · rw [if_neg (fun hh => h1 hh.1), if_neg h1]
  simp only [hw]
  have hz := pad_sum ((H (j / 64)).w c (j % 64)) fun _ => 1
  simp only [mul_one] at hz
  rw [hz]
  unfold pad Head.p Head.z
  split
  · rfl
  · rw [zero_div]

theorem row : B.row = arr fun _ j => (H (j / 64)).row c (j % 64) := by
  unfold Blocks.row
  rw [h.dout, h.o, pay26_eq]
  refine arr_congr _ _ fun s j hs hj => ?_
  rw [← Head.row_eq _ _ _ (Nat.mod_lt _ (by norm_num))]
  refine Finset.sum_congr rfl fun e _ => ?_
  rw [show (64 * (j / 64) + e.val) / 64 = j / 64 by omega, show (64 * (j / 64) + e.val) % 64 = e.val by omega]

theorem ds : B.ds = arr fun s j => pad ((H (j / 64)).ds c (j % 64)) s := by
  have hdp : B.dp = _ := (congrArg₂ k0_pay7 h.v h.dout).trans (pay7_eq _ _)
  unfold Blocks.ds
  rw [h.p hc, h.row hc, hdp]
  refine eq_arr _ _ fun s j => ?_
  have hpt : ∀ x y z, k0_pay43 (F := Ideal) x y z (ix2 s j) = z (ix2 s j) * (x (ix2 s j) - y (ix2 0 j)) := by
    intro x y z
    pointwise [k0_pay43]
  rw [hpt, arr_ix2, arr_ix2, arr_ix2, ← EReal.coe_sub, ← EReal.coe_mul]
  refine congrArg _ ?_
  unfold pad Head.ds
  split
  case isTrue h1 =>
    refine congrArg (_ * ·) (congrArg (· - _) (Finset.sum_congr rfl fun e _ => ?_))
    rw [show (64 * (j.val / 64) + e.val) / 64 = j.val / 64 by omega, show (64 * (j.val / 64) + e.val) % 64 = e.val by omega, behind, mul_comm]
    by_cases h2 : 576 ≤ 64 * c + s.val
    · rw [if_pos h2, if_pos (show 512 ≤ 64 * c + (s.val - 64) by omega), show 64 * c + s.val - 576 = 64 * c + (s.val - 64) - 512 by omega]
    · rw [if_neg h2, if_neg (show ¬ 512 ≤ 64 * c + (s.val - 64) by omega)]
  case isFalse => rw [zero_mul]

theorem addB (X : ℕ → ℕ → ℝ) : B.addB (arr X) = arr fun s j => X s j + pad ((H (j / 64)).ds c (j % 64)) s := by
  refine eq_arr _ _ fun s j => ?_
  have hpt : ∀ x y z v, k0_pay51 (F := Ideal) x y z v (ix2 s j) = v (ix2 s j) + k0_pay43 x y z (ix2 s j) := by
    intro x y z v
    pointwise [k0_pay51]
  have := congrFun (h.ds hc) (ix2 s j)
  unfold Blocks.ds at this
  unfold Blocks.addB
  rw [hpt, this, arr_ix2, arr_ix2, ← EReal.coe_add]

omit h hc in
/-- A product over both heads' queries with a stacked block. -/
theorem stack_dot (A : ℕ → ℝ) (X : ℕ → ℕ → ℝ) (x : Fin 128) :
    (∑ j : Fin 128, ((A j.val : ℝ) : EReal) * (((if x.val / 64 = j.val / 64 then X (j.val % 64) x.val else 0 : ℝ)) : EReal))
      = ((∑ i : Fin 64, A (64 * (x.val / 64) + i) * X i x.val : ℝ) : EReal) := by
  simp only [@eq_comm ℕ (x.val / 64)]
  rw [half_dot A (fun j => X (j % 64) x.val) _ (by omega)]
  refine congrArg _ (Finset.sum_congr rfl fun i _ => ?_)
  rw [show (64 * (x.val / 64) + i.val) % 64 = i.val by omega]

theorem addK (X : ℕ → ℕ → ℝ) : B.addK (arr X) = arr fun s x => X s x
    + ∑ i : Fin 64, pad ((H (x / 64)).ds c i) s * ((H (x / 64)).qn (64 * c + i) (x % 64) * (1 / 8)) := by
  refine eq_arr _ _ fun s x => ?_
  have hpt : ∀ (y : FVec Ideal S128x128 .bf16) (z : FVec Ideal S640x128 .bf16) v, k0_pay61 (F := Ideal) y z v (ix2 s x) = v (ix2 s x) + ∑ j : Fin 128, z (ix2 s j) * y (ix2 j x) := by
    intro y z v
    pointwise [k0_pay61]
  have hds : k0_pay44 B.dp B.row B.p = _ := h.ds hc
  unfold Blocks.addK
  rw [hpt, hds, h.q, pay3_eq]
  simp only [arr_ix2]
  rw [stack_dot (fun j => pad ((H (j / 64)).ds c (j % 64)) s) (fun i x => (H (x / 64)).qn (64 * c + i) (x % 64) * (1 / 8)), ← EReal.coe_add]
  refine congrArg _ (congrArg _ (Finset.sum_congr rfl fun i _ => ?_))
  rw [show (64 * (x.val / 64) + i.val) / 64 = x.val / 64 by omega, show (64 * (x.val / 64) + i.val) % 64 = i.val by omega]

theorem addV (X : ℕ → ℕ → ℝ) : B.addV (arr X) = arr fun s x => X s x
    + ∑ i : Fin 64, pad ((H (x / 64)).p c i) s * (H (x / 64)).d (64 * c + i) (x % 64) := by
  refine eq_arr _ _ fun s x => ?_
  have hpt : ∀ (y : FVec Ideal S128x128 .bf16) (z : FVec Ideal S640x128 .f32) v, k0_pay66 (F := Ideal) y z v (ix2 s x) = v (ix2 s x) + ∑ j : Fin 128, z (ix2 s j) * y (ix2 j x) := by
    intro y z v
    pointwise [k0_pay66]
  unfold Blocks.addV
  rw [hpt, h.p hc, h.dout, pay6_eq]
  simp only [arr_ix2]
  rw [stack_dot (fun j => pad ((H (j / 64)).p c (j % 64)) s) (fun i x => (H (x / 64)).d (64 * c + i) (x % 64)), ← EReal.coe_add]
  refine congrArg _ (congrArg _ (Finset.sum_congr rfl fun i _ => ?_))
  rw [show (64 * (x.val / 64) + i.val) / 64 = x.val / 64 by omega, show (64 * (x.val / 64) + i.val) % 64 = i.val by omega]

theorem dq : B.dq = arr fun i x => (H (x / 64)).dqn (64 * c + i) (x % 64) := by
  refine eq_arr _ _ fun i x => ?_
  have hpt : ∀ k a b p, k0_pay52 (F := Ideal) k a b p (ix2 i x) = ((1 / 8 : ℝ) : EReal) * ∑ s : Fin 640, k0_pay43 a b p (ix2 s ⟨64 * (x.val / 64) + i.val, by omega⟩) * k (ix2 s x) := by
    intro k a b p
    pointwise [k0_pay52]
    rw [ofBits_eighth, lane_lt]
    by_cases hx : x.val < 64
    · rw [if_pos hx, show (⟨64 * (x.val / 64) + i.val, by omega⟩ : Fin 128) = ⟨i.val, by omega⟩ from Fin.ext (by dsimp only; omega)]
      rfl
    · rw [if_neg hx, show (⟨64 * (x.val / 64) + i.val, by omega⟩ : Fin 128) = ⟨64 + i.val, by omega⟩ from Fin.ext (by dsimp only; omega)]
      rfl
  have hds : k0_pay43 B.dp B.row B.p = _ := h.ds hc
  unfold Blocks.dq
  rw [hpt, hds, h.k]
  simp only [arr_ix2, ← EReal.coe_mul]
  rw [sum_coe, ← EReal.coe_mul]
  rw [show (64 * (x.val / 64) + i.val) / 64 = x.val / 64 by omega, show (64 * (x.val / 64) + i.val) % 64 = i.val by omega,
    pad_sum _ fun s => if 576 ≤ 64 * c + s then (H (x.val / 64)).kn (64 * c + s - 576) (x.val % 64) else 0]
  unfold Head.dqn
  rw [show (64 * c + i.val) / 64 = c by omega, show (64 * c + i.val) % 64 = i.val by omega]
  refine congrArg _ (congrArg _ (Finset.sum_congr rfl fun s _ => congrArg _ ?_))
  unfold behind
  by_cases h2 : 512 ≤ 64 * c + s.val
  · rw [if_pos h2, if_pos (by omega), show 64 * c + (64 + s.val) - 576 = 64 * c + s.val - 512 by omega]
  · rw [if_neg h2, if_neg (by omega)]

end IsChunk

end Cert.Proof.Attn

end
-- ==== Proof.Attn.PlaceValue.lean ====
module

public import proofs.«01_k».proof.Proof.Attn.ChunkValue

@[expose] public section

noncomputable section

namespace Cert.Proof.Attn

open Idealize.ShloMosaic Idealize.ShloMosaic.Pointwise Cert.Kernel2Ideal Cert.Kernel2Ideal.Gen Idealize.ShloMosaic.TcCoe VecWindow Reals

variable [Cert.Kernel2Ideal.Facts]

theorem window_arr {N n w : ℕ} (X : ℕ → ℕ → ℝ) (o : ℕ) (inb : ∀ a, (![o, 0] : Fin 2 → ℕ) a + (![n, w] : Fin 2 → ℕ) a ≤ (⟨2, ![N, w]⟩ : Shape).size a) :
    (window (arr X : (⟨2, ![N, w]⟩ : Shape).Idx → EReal) ![o, 0] ![n, w] inb : (⟨2, ![n, w]⟩ : Shape).Idx → EReal) = arr fun a b => X (o + a) b := by
  funext y
  refine congrArg _ (congrArg₂ X ?_ ?_)
  · show o + 1 * (y 0).val = o + (y 0).val
    omega
  · show 0 + 1 * (y 1).val = (y 1).val
    omega

theorem put_arr {N n w : ℕ} (X Y : ℕ → ℕ → ℝ) (o : ℕ) :
    put (arr X : (⟨2, ![N, w]⟩ : Shape).Idx → EReal) ![o, 0] (![n, w] : Fin 2 → ℕ) (arr Y : (⟨2, ![n, w]⟩ : Shape).Idx → EReal)
      = arr fun a b => if o ≤ a ∧ a < o + n then Y (a - o) b else X a b := by
  funext y
  have h1 : (y 1).val < w := (y 1).isLt
  unfold put
  by_cases h : o ≤ (y 0).val ∧ (y 0).val < o + n
  · have hall : ∀ a, (![o, 0] : Fin 2 → ℕ) a ≤ (y a).val ∧ (y a).val < (![o, 0] : Fin 2 → ℕ) a + (![n, w] : Fin 2 → ℕ) a := fun a => by
      fin_cases a
      · exact h
      · exact ⟨Nat.zero_le _, by show (y 1).val < 0 + w; omega⟩
    rw [dif_pos hall]
    exact Eq.trans rfl (congrArg (fun r : ℝ => (r : EReal)) (if_pos h).symm)
  · rw [dif_neg fun hall => h (hall 0)]
    exact congrArg (fun r : ℝ => (r : EReal)) (if_neg h).symm

/-- Rows set chunk by chunk. -/
theorem setQ_arr (b : Fin 32 → Blocks Ideal) (D X : ℕ → ℕ → ℝ) (hb : ∀ c : Fin 32, (b c).dq = arr fun i x => D (64 * c.val + i) x) :
    ∀ n, n ≤ 32 → after (setQ b) (arr X) n = arr fun l x => if l < 64 * n then D l x else X l x := by
  intro n
  induction n with
  | zero => exact fun _ => arr_congr _ _ fun l x _ _ => (if_neg (by omega)).symm
  | succ n ih =>
    intro hn
    rw [after_succ _ _ n hn, ih (by omega)]
    unfold setQ
    rw [hb]
    refine (put_arr _ _ _).trans (arr_congr _ _ fun l x _ _ => ?_)
    dsimp only
    by_cases h1 : l < 64 * n
    · rw [if_neg (by omega), if_pos h1, if_pos (by omega)]
    · by_cases h2 : l < 64 * (n + 1)
      · rw [if_pos (by omega), if_pos h2, show 64 * n + (l - 64 * n) = l by omega]
      · rw [if_neg (by omega), if_neg h1, if_neg h2]

/-- Bands added chunk by chunk. -/
theorem acc_arr (step : Vec Ideal S2624x128 .f32 → Fin 32 → Vec Ideal S2624x128 .f32) (T : ℕ → ℕ → ℕ → ℝ)
    (hs : ∀ (X : ℕ → ℕ → ℝ) (c : Fin 32), step (arr X) c = put (arr X : Vec Ideal S2624x128 .f32) ![64 * c.val, 0] S640x128.size (arr fun s x => X (64 * c.val + s) x + T c s x : Vec Ideal S640x128 .f32)) :
    ∀ n, n ≤ 32 → after step (arr fun _ _ => 0) n = arr fun y x => ∑ c ∈ Finset.range n, if 64 * c ≤ y ∧ y < 64 * c + 640 then T c (y - 64 * c) x else 0 := by
  intro n
  induction n with
  | zero => exact fun _ => arr_congr _ _ fun l x _ _ => by rw [Finset.range_zero, Finset.sum_empty]
  | succ n ih =>
    intro hn
    rw [after_succ _ _ n hn, ih (by omega), hs]
    refine (put_arr _ _ _).trans (arr_congr _ _ fun y x _ _ => ?_)
    dsimp only
    rw [Finset.sum_range_succ]
    by_cases h : 64 * n ≤ y ∧ y < 64 * n + 640
    · rw [if_pos h, if_pos h, show 64 * n + (y - 64 * n) = y by omega]
    · rw [if_neg h, if_neg h, add_zero]

/-- Arrays added chunk by chunk. -/
theorem accB_arr (b : Fin 32 → Blocks Ideal) (T : ℕ → ℕ → ℕ → ℝ) (hb : ∀ (X : ℕ → ℕ → ℝ) (c : Fin 32), (b c).addB (arr X) = arr fun s x => X s x + T c s x) :
    ∀ n, n ≤ 32 → after (accB b) (arr fun _ _ => 0) n = arr fun s x => ∑ c ∈ Finset.range n, T c s x := by
  intro n
  induction n with
  | zero => exact fun _ => arr_congr _ _ fun l x _ _ => by rw [Finset.range_zero, Finset.sum_empty]
  | succ n ih =>
    intro hn
    rw [after_succ _ _ n hn, ih (by omega)]
    unfold accB
    rw [hb]
    refine arr_congr _ _ fun s x _ _ => ?_
    rw [Finset.sum_range_succ]

theorem half_one (x j : Fin 128) : (FloatOps.sitofp (F := Ideal) FTy.f32 (BitVec.setWidth 32 (IntOp.xori
      (IntOp.xori (IntOp.cmpi CmpIPredicate.slt (BitVec.ofNat 32 x.val) 64#32) (IntOp.cmpi CmpIPredicate.slt (BitVec.ofNat 32 j.val) 64#32)) 1#1)) : EReal)
    = ((if x.val / 64 = j.val / 64 then 1 else 0 : ℝ) : EReal) := by
  have h1 : (FloatOps.sitofp (F := Ideal) FTy.f32 (1#32) : EReal) = ((1 : ℝ) : EReal) := by
    show (((1#32 : BitVec 32).toInt : ℝ) : EReal) = _
    norm_num
  have h0 : (FloatOps.sitofp (F := Ideal) FTy.f32 (0#32) : EReal) = ((0 : ℝ) : EReal) := by
    show (((0#32 : BitVec 32).toInt : ℝ) : EReal) = _
    norm_num
  rw [lane_lt, lane_lt]
  by_cases hx : x.val < 64 <;> by_cases hj : j.val < 64
  · rw [if_pos hx, if_pos hj, if_pos (by omega)]; exact h1
  · rw [if_pos hx, if_neg hj, if_neg (by omega)]; exact h0
  · rw [if_neg hx, if_pos hj, if_neg (by omega)]; exact h0
  · rw [if_neg hx, if_neg hj, if_pos (by omega)]; exact h1

/-- A half's lanes summed by a product with ones. -/
theorem half_mean (A : ℕ → ℝ) (j : Fin 128) : (∑ x : Fin 128, ((A x.val : ℝ) : EReal) * ((if x.val / 64 = j.val / 64 then 1 else 0 : ℝ) : EReal))
    = ((∑ e : Fin 64, A (64 * (j.val / 64) + e) : ℝ) : EReal) := by
  rw [half_dot A (fun _ => 1) _ (by omega)]
  simp only [mul_one]

theorem pay70_eq (X : ℕ → ℕ → ℝ) : k0_pay70 (F := Ideal) (arr X) = arr fun l x => (Real.sqrt ((∑ e : Fin 64, X l (64 * (x / 64) + e) * X l (64 * (x / 64) + e)) * (1 / 64) + eps))⁻¹ := by
  refine eq_arr _ _ fun l x => Eq.trans (b := Ideal.rsqrt (((∑ e : Fin 64, X l (64 * (x / 64) + e) * X l (64 * (x / 64) + e)) * (1 / 64) + eps : ℝ) : EReal)) ?_
    (rsqrt_coe _ (add_pos_of_nonneg_of_pos (mul_nonneg (Finset.sum_nonneg fun e _ => mul_self_nonneg _) (by norm_num)) eps_bits.2))
  rw [EReal.coe_add, EReal.coe_mul, ← half_mean (fun x => X l x * X l x), ← ofBits_64th, ← eps_bits.1]
  pointwise [k0_pay70]
  simp only [arr_ix2, half_one, ← EReal.coe_mul, ← EReal.coe_sub, sub_self, EReal.coe_zero, sub_zero, zero_mul, Finset.sum_const_zero, add_zero]

/-- The norm's gradient, both heads at once. -/
theorem pay88_eq (R X D G : ℕ → ℕ → ℝ) : k0_pay88 (F := Ideal) (arr R) (arr X) (arr D) (arr G) (iota .tc S128x128 32 [0] iota_S128x128_d0_w32)
    = arr fun l x => R l x * (D l x - X l x * ((∑ e : Fin 64, G l (64 * (x / 64) + e)) * (1 / 64))) := by
  refine eq_arr _ _ fun l x => ?_
  simp only [EReal.coe_sub, EReal.coe_mul]
  rw [← half_mean (fun x => G l x), ← ofBits_64th]
  pointwise [k0_pay88]
  simp only [arr_ix2, half_one, ← EReal.coe_mul, ← EReal.coe_sub, sub_self, EReal.coe_zero, sub_zero, zero_mul, Finset.sum_const_zero, add_zero]

/-- What a place of the grid reads is two heads of one batch. -/
structure IsPlace (I : Ins Ideal) (H : ℕ → Head) : Prop where
  q : I.q = arr fun l x => (H (x / 64)).q l (x % 64)
  k : I.k = arr fun l x => (H (x / 64)).k l (x % 64)
  v : I.v = arr fun l x => (H (x / 64)).v l (x % 64)
  o : I.o = arr fun l x => (H (x / 64)).out l (x % 64)
  dout : I.dout = arr fun l x => (H (x / 64)).d l (x % 64)
  bias : I.bias = arr fun s j => if 64 ≤ s then (H (j / 64)).bias (j % 64) (s - 64) else 0
  gq : I.gq = arr fun _ x => (H (x / 64)).gq (x % 64)
  gk : I.gk = arr fun _ x => (H (x / 64)).gk (x % 64)

namespace IsPlace

variable {I : Ins Ideal} {H : ℕ → Head} (h : IsPlace I H)

include h

omit h in
theorem inv_arr (f : Head → ℕ → ℕ → ℝ) : k0_pay70 (F := Ideal) (arr fun l x => f (H (x / 64)) l (x % 64)) = arr fun l x => inv (f (H (x / 64))) l := by
  rw [pay70_eq]
  refine arr_congr _ _ fun l x _ _ => ?_
  unfold inv
  have he : ∀ e : Fin 64, (64 * (x / 64) + e.val) / 64 = x / 64 ∧ (64 * (x / 64) + e.val) % 64 = e.val := fun e => ⟨by omega, by omega⟩
  simp only [he]

theorem rq : I.rq = arr fun l x => inv (H (x / 64)).q l := by
  unfold Ins.rq
  rw [h.q, inv_arr]

theorem rk : I.rk = arr fun l x => inv (H (x / 64)).k l := by
  show k0_pay70 I.k = _
  rw [h.k, inv_arr]

omit h in
theorem mul_arr {n m : ℕ} (X Y : ℕ → ℕ → ℝ) : (mulf (F := Ideal) (φ := .f32) (arr X : (⟨2, ![n, m]⟩ : Shape).Idx → EReal) (arr Y)) = arr fun l x => X l x * Y l x :=
  funext fun _ => (EReal.coe_mul _ _).symm

theorem qhat : I.qhat = arr fun l x => hat (H (x / 64)).q l (x % 64) := by
  unfold Ins.qhat
  rw [h.rq, h.q]
  exact mul_arr _ _

theorem khat : I.khat = arr fun l x => hat (H (x / 64)).k l (x % 64) := by
  show mulf I.k I.rk = _
  rw [h.rk, h.k]
  exact mul_arr _ _

omit h in
/-- A row times a gain. -/
theorem gain_arr (X : ℕ → ℕ → ℝ) (G : ℕ → ℝ) : k0_pay86 (F := Ideal) (arr X) (arr fun _ x => G x) = arr fun l x => X l x * G x := by
  refine eq_arr _ _ fun l x => ?_
  rw [EReal.coe_mul]
  pointwise [k0_pay86]
  rfl

theorem qn : I.qn = arr fun l x => (H (x / 64)).qn l (x % 64) * (1 / 8) := by
  unfold Ins.qn
  rw [h.gq]
  refine eq_arr _ _ fun l x => ?_
  have hpt : ∀ a b g, k0_pay76 (F := Ideal) a b g (ix2 l x) = k0_pay74 a b (ix2 l x) * g (ix2 0 x) * ((1 / 8 : ℝ) : EReal) := by
    intro a b g
    rw [← ofBits_eighth]
    pointwise [k0_pay76, k0_pay74]
  have := congrFun h.qhat (ix2 l x)
  unfold Ins.qhat at this
  rw [hpt, this]
  simp only [arr_ix2, ← EReal.coe_mul]
  rfl

omit h in
theorem padded (X : ℕ → ℕ → ℝ) (z : Vec Ideal S2624x128 .bf16) (e : Vec Ideal S576x128 .bf16) (hz : z = arr fun _ _ => 0) (he : e = arr fun _ _ => 0) :
    put (put z ![0, 0] S576x128.size e) ![576, 0] S2048x128.size (arr X : Vec Ideal S2048x128 .bf16) = arr fun y x => if 576 ≤ y then X (y - 576) x else 0 := by
  rw [hz, he]
  refine Eq.trans (congrArg (fun f : Vec Ideal S2624x128 .bf16 => put f ![576, 0] S2048x128.size (arr X : Vec Ideal S2048x128 .bf16)) (put_arr _ _ _)) ?_
  refine (put_arr _ _ _).trans (arr_congr _ _ fun y x hy _ => ?_)
  by_cases h1 : 576 ≤ y
  · rw [if_pos ⟨h1, by omega⟩, if_pos h1]
  · rw [if_neg (fun hh => h1 hh.1), if_neg h1, ite_self]

omit h in
theorem zeros {n m : ℕ} (z : (⟨2, ![n, m]⟩ : Shape).Idx → EReal) (hz : ∀ i, z i = 0) : z = arr fun _ _ => 0 := funext fun i => (hz i).trans EReal.coe_zero.symm

theorem kn : I.kn = arr fun y x => if 576 ≤ y then (H (x / 64)).kn (y - 576) (x % 64) else 0 := by
  unfold Ins.kn
  have hk : k0_pay80 I.khat (k0_pay79 I.gk) = arr fun l x => (H (x / 64)).kn l (x % 64) := by
    rw [h.gk, h.khat]
    refine eq_arr _ _ fun l x => ?_
    unfold Head.kn
    rw [EReal.coe_mul]
    pointwise [k0_pay80, k0_pay79]
    rfl
  rw [hk]
  refine padded _ _ _ (zeros _ fun i => ?_) (zeros _ fun i => ?_)
  · exact Ideal.ofBits_zero _
  · pointwise [k0_pay77]

theorem vn : I.vn = arr fun y x => if 576 ≤ y then (H (x / 64)).v (y - 576) (x % 64) else 0 := by
  unfold Ins.vn
  have hk : k0_pay81 I.v = arr fun l x => (H (x / 64)).v l (x % 64) := by
    rw [h.v]
    refine eq_arr _ _ fun l x => ?_
    pointwise [k0_pay81]
    rfl
  rw [hk]
  refine padded _ _ _ (zeros _ fun i => ?_) (zeros _ fun i => ?_)
  · exact Ideal.ofBits_zero _
  · pointwise [k0_pay78]

theorem chunk (c : Fin 32) : IsChunk (I.b c) H c.val where
  q := by
    show rowsOf (F := Ideal) (e := .bf16) I.qn c = _
    rw [h.qn]
    exact window_arr _ _ _
  k := by
    show bandOf (F := Ideal) (e := .bf16) I.kn c = _
    rw [h.kn]
    exact window_arr _ _ _
  v := by
    show bandOf (F := Ideal) (e := .bf16) I.vn c = _
    rw [h.vn]
    exact window_arr _ _ _
  bias := h.bias
  o := by
    show rowsOf I.o c = _
    rw [h.o]
    exact window_arr _ _ _
  dout := by
    show rowsOf I.dout c = _
    rw [h.dout]
    exact window_arr _ _ _
  n := rfl

theorem dqn : I.dqn = arr fun l x => (H (x / 64)).dqn l (x % 64) := by
  unfold Ins.dqn
  rw [zeros (fun _ : S2048x128.Idx => (FloatOps.ofBits .f32 0 : Ideal .f32)) fun _ => Ideal.ofBits_zero _,
    setQ_arr _ (fun l x => (H (x / 64)).dqn l (x % 64)) _ (fun c => (h.chunk c).dq c.isLt) 32 le_rfl]
  exact arr_congr _ _ fun l x hl _ => if_pos (by omega)

omit h in
/-- A band sum's rows behind the empty ones. -/
theorem tail_sum (step : Vec Ideal S2624x128 .f32 → Fin 32 → Vec Ideal S2624x128 .f32) (z : Vec Ideal S2624x128 .f32) (A B : Head → ℕ → ℕ → ℕ → ℝ) (hz : ∀ i, z i = 0)
    (hs : ∀ (X : ℕ → ℕ → ℝ) (c : Fin 32), step (arr X) c = put (arr X : Vec Ideal S2624x128 .f32) ![64 * c.val, 0] S640x128.size
      (arr fun s x => X (64 * c.val + s) x + ∑ i : Fin 64, IsChunk.pad (A (H (x / 64)) c i) s * B (H (x / 64)) c i (x % 64) : Vec Ideal S640x128 .f32)) :
    window (after step z 32) ![576, 0] S2048x128.size Ins.tail_inb = arr fun l x => ∑ c : Fin 32, if 64 * c.val ≤ 512 + l ∧ 512 + l < 64 * c.val + 576 then
      ∑ i : Fin 64, A (H (x / 64)) c i (512 + l - 64 * c) * B (H (x / 64)) c i (x % 64) else 0 := by
  rw [zeros z hz, acc_arr step (fun c s x => ∑ i : Fin 64, IsChunk.pad (A (H (x / 64)) c i) s * B (H (x / 64)) c i (x % 64)) hs 32 le_rfl]
  refine (window_arr _ _ _).trans (arr_congr _ _ fun l x _ _ => ?_)
  rw [← Fin.sum_univ_eq_sum_range (fun c => if 64 * c ≤ 576 + l ∧ 576 + l < 64 * c + 640 then ∑ i : Fin 64, IsChunk.pad (A (H (x / 64)) c i) (576 + l - 64 * c) * B (H (x / 64)) c i (x % 64) else 0)]
  refine Finset.sum_congr rfl fun c _ => ?_
  unfold IsChunk.pad
  by_cases h1 : 64 * c.val ≤ 512 + l ∧ 512 + l < 64 * c.val + 576
  · rw [if_pos h1, if_pos (by omega)]
    refine Finset.sum_congr rfl fun i _ => ?_
    rw [if_pos (by omega), show 576 + l - 64 * c.val - 64 = 512 + l - 64 * c.val by omega]
  · rw [if_neg h1]
    by_cases h2 : 64 * c.val ≤ 576 + l ∧ 576 + l < 64 * c.val + 640
    · rw [if_pos h2]
      refine Finset.sum_eq_zero fun i _ => ?_
      rw [if_neg (by omega), zero_mul]
    · rw [if_neg h2]

theorem dk0 : I.dk0 = arr fun l x => (H (x / 64)).dkn l (x % 64) := by
  unfold Ins.dk0 Ins.dkn
  refine tail_sum _ _ (fun H c i => H.ds c i) (fun H c i e => H.qn (64 * c + i) e * (1 / 8)) (fun i => ?_) fun X c => ?_
  · pointwise [k0_pay82]
  · unfold accK
    rw [← (h.chunk c).addK c.isLt]
    exact congrArg (fun w => put (arr X : Vec Ideal S2624x128 .f32) ![64 * c.val, 0] S640x128.size ((I.b c).addK w)) (window_arr _ _ _)

theorem dv0 : I.dv0 = arr fun l x => (H (x / 64)).dv l (x % 64) := by
  unfold Ins.dv0 Ins.dvn
  refine tail_sum _ _ (fun H c i => H.p c i) (fun H c i e => H.d (64 * c + i) e) (fun i => ?_) fun X c => ?_
  · pointwise [k0_pay83]
  · unfold accV
    rw [← (h.chunk c).addV c.isLt]
    exact congrArg (fun w => put (arr X : Vec Ideal S2624x128 .f32) ![64 * c.val, 0] S640x128.size ((I.b c).addV w)) (window_arr _ _ _)

theorem dbn : I.dbn = arr fun s j => IsChunk.pad ((H (j / 64)).dbias (j % 64)) s := by
  unfold Ins.dbn
  rw [zeros (k0_pay84 (F := Ideal)) fun i => by pointwise [k0_pay84],
    accB_arr _ (fun c s j => IsChunk.pad ((H (j / 64)).ds c (j % 64)) s) (fun X c => (h.chunk c).addB c.isLt X) 32 le_rfl]
  refine arr_congr _ _ fun s j _ _ => ?_
  rw [← Fin.sum_univ_eq_sum_range (fun c => IsChunk.pad ((H (j / 64)).ds c (j % 64)) s)]
  unfold IsChunk.pad Head.dbias
  split
  · rfl
  · exact Finset.sum_const_zero

omit h in
/-- The norm's gradient of both heads. -/
theorem norm_arr (x dn : Head → ℕ → ℕ → ℝ) (g : Head → ℕ → ℝ) :
    k0_pay88 (F := Ideal) (arr fun l y => inv (x (H (y / 64))) l) (arr fun l y => hat (x (H (y / 64))) l (y % 64)) (arr fun l y => dn (H (y / 64)) l (y % 64) * g (H (y / 64)) (y % 64))
      (arr fun l y => dn (H (y / 64)) l (y % 64) * g (H (y / 64)) (y % 64) * hat (x (H (y / 64))) l (y % 64)) (iota .tc S128x128 32 [0] iota_S128x128_d0_w32)
      = arr fun l y => normB (x (H (y / 64))) (dn (H (y / 64))) (g (H (y / 64))) l (y % 64) := by
  rw [pay88_eq]
  refine arr_congr _ _ fun l y _ _ => ?_
  unfold normB
  have he : ∀ e : Fin 64, (64 * (y / 64) + e.val) / 64 = y / 64 ∧ (64 * (y / 64) + e.val) % 64 = e.val := fun e => ⟨by omega, by omega⟩
  simp only [he]

theorem outQ : I.outQ = arr fun l x => (H (x / 64)).dq l (x % 64) := by
  have h86 := gain_arr (fun l x => (H (x / 64)).dqn l (x % 64)) (fun x => (H (x / 64)).gq (x % 64))
  show k0_pay88 I.rq I.qhat (k0_pay86 I.dqn I.gq) (mulf (k0_pay86 I.dqn I.gq) I.qhat) _ = _
  rw [h.rq, h.dqn, h.gq, h86, h.qhat, mul_arr]
  exact norm_arr Head.q Head.dqn Head.gq

theorem outK : I.outK = arr fun l x => (H (x / 64)).dk l (x % 64) := by
  have h86 := gain_arr (fun l x => (H (x / 64)).dkn l (x % 64)) (fun x => (H (x / 64)).gk (x % 64))
  show k0_pay88 I.rk I.khat (k0_pay86 I.dk0 I.gk) (mulf (k0_pay86 I.dk0 I.gk) I.khat) (iota .tc S128x128 32 [0] iota_S128x128_d0_w32) = _
  rw [h.rk, h.dk0, h.gk, h86, h.khat, mul_arr]
  exact norm_arr Head.k Head.dkn Head.gk

theorem outV : I.outV = arr fun l x => (H (x / 64)).dv l (x % 64) := h.dv0

theorem outB (s : Fin 640) (j : Fin 128) : I.outB (ix3 0 s j) = ((IsChunk.pad ((H (j.val / 64)).dbias (j.val % 64)) s.val : ℝ) : EReal) := by
  unfold Ins.outB
  rw [h.dbn]
  pointwise [k0_pay97]
  rfl

omit h in
theorem gain_sum (X Y : ℕ → ℕ → ℝ) (x : Fin 128) : k0_pay89 (F := Ideal) (arr X) (arr Y) (ix2 0 x) = ((∑ l : Fin 2048, Y l.val x.val * X l.val x.val : ℝ) : EReal) := by
  rw [← sum_coe]
  simp only [EReal.coe_mul]
  pointwise [k0_pay89]
  rfl

theorem outGq (x : Fin 128) : I.outGq (ix3 0 0 x) = ((dgain (H (x.val / 64)).q (H (x.val / 64)).dqn (x.val % 64) : ℝ) : EReal) := by
  have := gain_sum (fun l x => hat (H (x / 64)).q l (x % 64)) (fun l x => (H (x / 64)).dqn l (x % 64)) x
  unfold Ins.outGq
  rw [h.qhat, h.dqn]
  refine Eq.trans ?_ this
  pointwise [k0_pay1]

theorem outGk (x : Fin 128) : I.outGk (ix3 0 0 x) = ((dgain (H (x.val / 64)).k (H (x.val / 64)).dkn (x.val % 64) : ℝ) : EReal) := by
  have := gain_sum (fun l x => hat (H (x / 64)).k l (x % 64)) (fun l x => (H (x / 64)).dkn l (x % 64)) x
  show k0_pay2 (k0_pay89 I.khat I.dk0) _ = _
  rw [h.khat, h.dk0]
  refine Eq.trans ?_ this
  pointwise [k0_pay2]

end IsPlace

end Cert.Proof.Attn

end
-- ==== Proof.Attn.RefForward.lean ====
module

public import proofs.«01_k».proof.Proof.Gen.Reference2Ideal.Read
public import proofs.«01_k».proof.Proof.Attn.Spec
public import Idealize.ShloMosaic.Lib.WordCmp

@[expose] public section

noncomputable section

namespace Cert.Proof.Attn

open Idealize.ShloMosaic Idealize.ShloMosaic.Pointwise Cert.Reference2Ideal Cert.Reference2Ideal.Gen Cert.Reference2Ideal.Read Idealize.ShloMosaic.TcCoe Reals

/-- A chunk's window of 576 padded keys starts 64 rows below the chunk before it: the position the reshapes lead to. -/
theorem window_index (b : Fin 2) (c : Fin 32) (s : Fin 576) (h : Fin 8) (e : Fin 64) :
    idx_main_v42 (idx_main_v43 (idx_main_v44 (idx_main_v45 (idx_main_v46 (idx_main_v47 (ix5 b c s h e)))))) = (ix4 b ⟨64 * c.val + s.val, by omega⟩ h e : S2x2560x8x64.Idx) := by
  obtain ⟨b, hb⟩ := b
  obtain ⟨c, hc⟩ := c
  obtain ⟨s, hs⟩ := s
  obtain ⟨h, hh⟩ := h
  obtain ⟨e, he⟩ := e
  obtain ⟨u, hu⟩ : ∃ u, u = c * 2624 + s := ⟨_, rfl⟩
  have p0 : ((((b * 32 + c) * 2624 + s) * 8 + h) * 64 + e) / 42991616 = b := by omega
  have p1 : ((((b * 32 + c) * 2624 + s) * 8 + h) * 64 + e) / 512 % 83968 = u := by omega
  have p2 : ((((b * 32 + c) * 2624 + s) * 8 + h) * 64 + e) / 64 % 8 = h := by omega
  have p3 : ((((b * 32 + c) * 2624 + s) * 8 + h) * 64 + e) % 64 = e := by omega
  have hu' : u < 83968 ∧ u / 2560 < 33 ∧ u % 2560 = 64 * c + s := by omega
  have q0 : (((b * 84480 + u) * 8 + h) * 64 + e) / 43253760 = b := by clear p0 p1 p2 p3 hu; omega
  have q2 : (((b * 84480 + u) * 8 + h) * 64 + e) / 512 % 2560 = 64 * c + s := by clear p0 p1 p2 p3 hu; omega
  have q3 : (((b * 84480 + u) * 8 + h) * 64 + e) / 64 % 8 = h := by clear p0 p1 p2 p3 hu; omega
  have q4 : (((b * 84480 + u) * 8 + h) * 64 + e) % 64 = e := by clear p0 p1 p2 p3 hu; omega
  funext a
  match a with
  | ⟨0, _⟩ => refine Fin.ext ?_; simp only [ix5, ix4, p0, p1, p2, p3]; exact q0
  | ⟨1, _⟩ => refine Fin.ext ?_; simp only [ix5, ix4, p0, p1, p2, p3]; exact q2
  | ⟨2, _⟩ => refine Fin.ext ?_; simp only [ix5, ix4, p0, p1, p2, p3]; exact q3
  | ⟨3, _⟩ => refine Fin.ext ?_; simp only [ix5, ix4, p0, p1, p2, p3]; exact q4

section
variable (x0 : FVec Ideal S4096x3584 .f32) (x4 : FVec Ideal S1x64 .f32)

/-- The keys a chunk sees, read off the padded keys. -/
theorem v47_at (b : Fin 2) (c : Fin 32) (s : Fin 576) (h : Fin 8) (e : Fin 64) :
    val_main_v47 (F := Ideal) x0 x4 (ix5 b c s h e) = val_main_v40 (F := Ideal) x0 x4 (ix4 b ⟨64 * c.val + s.val, by omega⟩ h e) := by
  rw [val_main_v47_apply, val_main_v46_apply, val_main_v45_apply, val_main_v44_apply, val_main_v43_apply, val_main_v42_apply]
  exact congrArg _ (window_index b c s h e)

/-- The values a chunk sees, read off the padded values. -/
theorem v55_at (b : Fin 2) (c : Fin 32) (s : Fin 576) (h : Fin 8) (e : Fin 64) :
    val_main_v55 (F := Ideal) x0 (ix5 b c s h e) = val_main_v48 (F := Ideal) x0 (ix4 b ⟨64 * c.val + s.val, by omega⟩ h e) := by
  rw [val_main_v55_apply, val_main_v54_apply, val_main_v53_apply, val_main_v52_apply, val_main_v51_apply, val_main_v50_apply]
  exact congrArg _ (window_index b c s h e)

theorem v40_at (b : Fin 2) (y : Fin 2560) (h : Fin 8) (e : Fin 64) :
    val_main_v40 (F := Ideal) x0 x4 (ix4 b y h e) = if g : y.val < 512 then val_main_v39 (F := Ideal) (ix4 b ⟨y.val, g⟩ h e) else val_main_v37 (F := Ideal) x0 x4 (ix4 b ⟨y.val - 512, by omega⟩ h e) := by
  pointwise [val_main_v40]
theorem v48_at (b : Fin 2) (y : Fin 2560) (h : Fin 8) (e : Fin 64) :
    val_main_v48 (F := Ideal) x0 (ix4 b y h e) = if g : y.val < 512 then val_main_v39 (F := Ideal) (ix4 b ⟨y.val, g⟩ h e) else val_main_v38 (F := Ideal) x0 (ix4 b ⟨y.val - 512, by omega⟩ h e) := by
  pointwise [val_main_v48]

end

theorem mask_at (b : Fin 2) (c : Fin 32) (s : Fin 576) (h : Fin 8) (i : Fin 64) : val_main_v70_1 (F := Ideal) (ix5 b c h i s) = if 512 ≤ 64 * c.val + s.val then 1#1 else 0#1 := by
  rw [← WordCmp.cmpi_sge_mul_add_ofNat (w := 32) 64 c s 512 (by norm_num; omega) (by norm_num)]
  pointwise [val_main_v70_1, val_main_v69, val_main_v68, val_main_v67, val_main_v66, val_main_v65, val_main_v64, val_main_v63, val_main_v62, val_main_c, val_main_c_11]
  exact congrArg (fun x => IntOp.cmpi .sge (IntOp.addi x _) _) (BitVec.mul_comm _ _)

/-- The real numbers both programs are given: the projections, the mixer's cotangent, the bias, the two gains. -/
structure Args where
  X : ℕ → ℕ → ℝ
  D : ℕ → ℕ → ℝ
  B : ℕ → ℕ → ℕ → ℝ
  Gq : ℕ → ℝ
  Gk : ℕ → ℝ

namespace Args

variable (A : Args)

def x0 : FVec Ideal S4096x3584 .f32 := arr A.X
def x1 : FVec Ideal S4096x1024 .f32 := arr A.D
def x2 : FVec Ideal S8x64x576 .f32 := fun i => ((A.B (i 0).val (i 1).val (i 2).val : ℝ) : EReal)
def x3 : FVec Ideal S1x64 .f32 := arr fun _ => A.Gq
def x4 : FVec Ideal S1x64 .f32 := arr fun _ => A.Gk

/-- Batch `b`'s head `h`. -/
def head (b h : ℕ) : Head where
  q l e := A.X (b * 2048 + l) (h * 64 + e)
  k l e := A.X (b * 2048 + l) (512 + (h * 64 + e))
  v l e := A.X (b * 2048 + l) (1024 + (h * 64 + e))
  d l e := A.D (b * 2048 + l) (h * 64 + e)
  bias := A.B h
  gq := A.Gq
  gk := A.Gk

variable (b : Fin 2) (l : Fin 2048) (h : Fin 8) (e : Fin 64) (c : Fin 32) (i : Fin 64) (s : Fin 576)

theorem v3 : val_main_v3 (F := Ideal) A.x0 (ix4 b l h e) = (((A.head b h).q l e : ℝ) : EReal) := by
  pointwise [val_main_v3, val_main_v0]
  rfl
theorem v21 : val_main_v21 (F := Ideal) A.x0 (ix4 b l h e) = (((A.head b h).k l e : ℝ) : EReal) := by
  pointwise [val_main_v21, val_main_v1]
  rfl
theorem v38 : val_main_v38 (F := Ideal) A.x0 (ix4 b l h e) = (((A.head b h).v l e : ℝ) : EReal) := by
  pointwise [val_main_v38, val_main_v2]
  rfl

/-- The mean square and the constant added, -/
theorem v10 : val_main_v10 (F := Ideal) A.x0 (ix4 b l h 0) = (((∑ e : Fin 64, (A.head b h).q l e * (A.head b h).q l e) * (1 / 64) + eps : ℝ) : EReal) := by
  rw [EReal.coe_add, ← eps_bits.1]
  pointwise [val_main_v10, val_main_v9, val_main_v8, val_main_v7, val_main_v6, val_main_v5, val_main_v4, val_main_cst, val_main_cst_0, val_main_cst_1]
  simp only [v3, ← EReal.coe_mul, sum_coe]
  rw [ofBits_64, div_coe _ _ (by norm_num), div_eq_mul_one_div]
theorem v28 : val_main_v28 (F := Ideal) A.x0 (ix4 b l h 0) = (((∑ e : Fin 64, (A.head b h).k l e * (A.head b h).k l e) * (1 / 64) + eps : ℝ) : EReal) := by
  rw [EReal.coe_add, ← eps_bits.1]
  pointwise [val_main_v28, val_main_v27, val_main_v26, val_main_v25, val_main_v24, val_main_v23, val_main_v22, val_main_cst_3, val_main_cst_4, val_main_cst_5]
  simp only [v21, ← EReal.coe_mul, sum_coe]
  rw [ofBits_64, div_coe _ _ (by norm_num), div_eq_mul_one_div]

/-- and its inverse square root. -/
theorem v11 : val_main_v11 (F := Ideal) A.x0 (ix4 b l h 0) = ((inv (A.head b h).q l : ℝ) : EReal) := by
  pointwise [val_main_v11]
  rw [v10, rsqrt_coe _ (mean_pos _ _)]
  rfl
theorem v29 : val_main_v29 (F := Ideal) A.x0 (ix4 b l h 0) = ((inv (A.head b h).k l : ℝ) : EReal) := by
  pointwise [val_main_v29]
  rw [v28, rsqrt_coe _ (mean_pos _ _)]
  rfl

theorem v16 : val_main_v16 (F := Ideal) A.x0 (ix4 b l h e) = ((hat (A.head b h).q l e : ℝ) : EReal) := by
  pointwise [val_main_v16, val_main_v15]
  rw [v11, v3, ← EReal.coe_mul]
  rfl
theorem v34 : val_main_v34 (F := Ideal) A.x0 (ix4 b l h e) = ((hat (A.head b h).k l e : ℝ) : EReal) := by
  pointwise [val_main_v34, val_main_v33]
  rw [v29, v21, ← EReal.coe_mul]
  rfl

theorem v19 : val_main_v19 (F := Ideal) A.x0 A.x3 (ix4 b l h e) = (((A.head b h).qn l e : ℝ) : EReal) := by
  unfold Head.qn
  rw [EReal.coe_mul]
  pointwise [val_main_v19, val_main_v18, val_main_v17]
  rw [v16]
  rfl
theorem v37 : val_main_v37 (F := Ideal) A.x0 A.x4 (ix4 b l h e) = (((A.head b h).kn l e : ℝ) : EReal) := by
  unfold Head.kn
  rw [EReal.coe_mul]
  pointwise [val_main_v37, val_main_v36, val_main_v35]
  rw [v34]
  rfl
theorem v20 : val_main_v20 (F := Ideal) A.x0 A.x3 (ix5 b c i h e) = (((A.head b h).qn (64 * c + i) e : ℝ) : EReal) := by
  pointwise [val_main_v20]
  rw [v19]
  exact congrArg (fun l => (((A.head b h).qn l e : ℝ) : EReal)) (congrArg (· + i.val) (Nat.mul_comm _ _))

theorem v47 : val_main_v47 (F := Ideal) A.x0 A.x4 (ix5 b c s h e) = ((behind (A.head b h).kn (64 * c + s) e : ℝ) : EReal) := by
  rw [v47_at, v40_at]
  unfold behind
  by_cases h1 : 64 * c.val + s.val < 512
  · rw [dif_pos h1, if_neg (by omega), EReal.coe_zero]
    pointwise [val_main_v39, val_main_cst_7]
  · rw [dif_neg h1, if_pos (by omega), v37]
theorem v55 : val_main_v55 (F := Ideal) A.x0 (ix5 b c s h e) = ((behind (A.head b h).v (64 * c + s) e : ℝ) : EReal) := by
  rw [v55_at, v48_at]
  unfold behind
  by_cases h1 : 64 * c.val + s.val < 512
  · rw [dif_pos h1, if_neg (by omega), EReal.coe_zero]
    pointwise [val_main_v39, val_main_cst_7]
  · rw [dif_neg h1, if_pos (by omega), v38]

end Args

end Cert.Proof.Attn

end
-- ==== Proof.Attn.RefSoftmax.lean ====
module

public import proofs.«01_k».proof.Proof.Attn.RefForward

@[expose] public section

noncomputable section

namespace Cert.Proof.Attn

open Idealize.ShloMosaic Idealize.ShloMosaic.Pointwise Cert.Reference2Ideal Cert.Reference2Ideal.Gen Cert.Reference2Ideal.Read Idealize.ShloMosaic.TcCoe Reals

namespace Args

variable (A : Args) (b : Fin 2) (l : Fin 2048) (h : Fin 8) (e : Fin 64) (c : Fin 32) (i : Fin 64) (s : Fin 576)

theorem v61 : val_main_v61 (F := Ideal) A.x0 A.x2 A.x3 A.x4 (ix5 b c h i s) = (((A.head b h).sc c i s : ℝ) : EReal) := by
  unfold Head.sc
  rw [EReal.coe_add, EReal.coe_mul, ← ofBits_eighth, ← sum_coe]
  simp only [EReal.coe_mul]
  pointwise [val_main_v61, val_main_v60, val_main_v59, val_main_v58, val_main_v57, val_main_v56, val_main_cst_10]
  simp only [v20, v47]
  rfl

theorem v70 : val_main_v70_0 (F := Ideal) A.x0 A.x2 A.x3 A.x4 (ix5 b c h i s) = if 512 ≤ 64 * c.val + s.val then (((A.head b h).sc c i s : ℝ) : EReal) else ⊥ := by
  rw [← ofBits_neg_inf]
  pointwise [val_main_v70_0, val_main_call0_v2, val_main_call0_v0, val_main_cst_12]
  rw [mask_at, v61]
  split
  · rfl
  · rfl

/-- The row's maximum is some real, -/
theorem v71 : ∃ M : ℝ, val_main_v71 (F := Ideal) A.x0 A.x2 A.x3 A.x4 (ix4 b c h i) = ((M : ℝ) : EReal) := by
  have h70 : ∀ s : Fin 576, val_main_v70_0 (F := Ideal) A.x0 A.x2 A.x3 A.x4 (ix5 b c h i s) = if 512 ≤ 64 * c.val + s.val then (((A.head b h).sc c i s : ℝ) : EReal) else ⊥ := fun s => A.v70 b h c i s
  have hp : ∃ y : Fin 576 → EReal, (∀ s, y s = val_main_v70_0 (F := Ideal) A.x0 A.x2 A.x3 A.x4 (ix5 b c h i s)) ∧
      val_main_v71 (F := Ideal) A.x0 A.x2 A.x3 A.x4 (ix4 b c h i) = Finset.fold max ⊥ y Finset.univ := by
    refine ⟨_, fun _ => rfl, ?_⟩
    unfold val_main_v71
    generalize val_main_v70_0 (F := Ideal) A.x0 A.x2 A.x3 A.x4 = Y
    pointwise [val_main_cst_13]
    rw [ofBits_neg_inf]
  obtain ⟨y, hy, hm⟩ := hp
  obtain ⟨M, hM⟩ := fold_max_real y ⟨512, by norm_num⟩ _ ((hy _).trans ((h70 _).trans (if_pos (by dsimp only; omega)))) fun s => by
    rw [hy, h70]
    split
    · exact EReal.coe_ne_top _
    · exact bot_ne_top
  exact ⟨M, hm.trans hM⟩

theorem v77 : val_main_v77 (F := Ideal) (ix4 b c h i) = ⊥ := by
  rw [val_main_v77_apply, val_main_cst_15_apply]
  exact ofBits_neg_inf

theorem v78 : ∃ M : ℝ, val_main_v78 (F := Ideal) A.x0 A.x2 A.x3 A.x4 (ix4 b c h i) = ((M : ℝ) : EReal) := by
  obtain ⟨M, hM⟩ := A.v71 b h c i
  exact ⟨M, (val_main_v78_apply _ _ _ _ _).trans ((congrArg₂ max (v77 b h c i) hM).trans (max_bot_left _))⟩

/-- so that the exponentials are the weights up to one factor, -/
theorem v91 : ∃ E : ℝ, 0 < E ∧ ∀ s : Fin 576, val_main_v91 (F := Ideal) A.x0 A.x2 A.x3 A.x4 (ix5 b c h i s) = (((A.head b h).w c i s * E : ℝ) : EReal) := by
  obtain ⟨M, hM⟩ := A.v78 b h c i
  refine ⟨Real.exp (-M), Real.exp_pos _, fun s => ?_⟩
  pointwise [val_main_v91, val_main_v90, val_main_v89, val_main_v88]
  rw [hM, v70, exp_shift]
  rfl

/-- and so are their sums, -/
theorem v92 (E : ℝ) (hE : ∀ s : Fin 576, val_main_v91 (F := Ideal) A.x0 A.x2 A.x3 A.x4 (ix5 b c h i s) = (((A.head b h).w c i s * E : ℝ) : EReal)) :
    val_main_v92 (F := Ideal) A.x0 A.x2 A.x3 A.x4 (ix4 b c h i) = (((A.head b h).z c i * E : ℝ) : EReal) := by
  unfold Head.z
  rw [Finset.sum_mul, ← sum_coe]
  simp only [← hE]
  pointwise [val_main_v92, val_main_cst_21]

/-- which leaves the probabilities. -/
theorem v95 : val_main_v95 (F := Ideal) A.x0 A.x2 A.x3 A.x4 (ix5 b c h i s) = (((A.head b h).p c i s : ℝ) : EReal) := by
  obtain ⟨E, hp, hE⟩ := A.v91 b h c i
  have hz := (A.head b h).z_pos c i
  pointwise [val_main_v95, val_main_v94, val_main_v93]
  rw [hE, A.v92 b h c i E hE, div_coe _ _ (mul_pos hz hp).ne', mul_div_mul_right _ _ hp.ne']
  rfl

theorem v99 : val_main_v99 (F := Ideal) A.x0 A.x2 A.x3 A.x4 (ix5 b c h e i) = (((A.head b h).out (64 * c + i) e : ℝ) : EReal) := by
  unfold Head.out
  rw [← sum_coe]
  simp only [EReal.coe_mul]
  rw [show (64 * c.val + i.val) / 64 = c by omega, show (64 * c.val + i.val) % 64 = i by omega]
  pointwise [val_main_v99]
  simp only [v95, v55]
  exact Finset.sum_congr rfl fun s _ => mul_comm _ _

theorem v101 : val_main_v101 (F := Ideal) A.x0 A.x2 A.x3 A.x4 = arr fun r x => (A.head (r / 2048) (x / 64)).out (r % 2048) (x % 64) := by
  refine eq_arr _ _ fun r x => ?_
  pointwise [val_main_v101, val_main_v100]
  refine (A.v99 ⟨r.val / 2048, by omega⟩ ⟨x.val / 64, by omega⟩ ⟨x.val % 64, by omega⟩ ⟨r.val / 64 % 32, by omega⟩ ⟨r.val % 64, by omega⟩).trans ?_
  exact congrArg (fun l => (((A.head (r.val / 2048) (x.val / 64)).out l (x.val % 64) : ℝ) : EReal)) (by dsimp only; omega)

end Args

end Cert.Proof.Attn

end
-- ==== Proof.Attn.RefScores.lean ====
module

public import proofs.«01_k».proof.Proof.Attn.RefSoftmax

@[expose] public section

noncomputable section

namespace Cert.Proof.Attn

open Idealize.ShloMosaic Idealize.ShloMosaic.Pointwise Cert.Reference2Ideal Cert.Reference2Ideal.Gen Cert.Reference2Ideal.Read Idealize.ShloMosaic.TcCoe Reals

namespace Args

variable (A : Args) (b : Fin 2) (l : Fin 2048) (h : Fin 8) (e : Fin 64) (c : Fin 32) (i : Fin 64) (s : Fin 576)

/-- The cotangent, by chunks and heads. -/
theorem v104 : val_main_v104 (F := Ideal) A.x1 (ix5 b c h e i) = (((A.head b h).d (64 * c + i) e : ℝ) : EReal) := by
  pointwise [val_main_v104, val_main_v103, val_main_v102]
  exact congrArg (fun r => ((A.D r (h.val * 64 + e.val) : ℝ) : EReal)) (by show b.val * 2048 + c.val * 64 + i.val = b.val * 2048 + (64 * c.val + i.val); omega)

/-- The probabilities' cotangents, -/
theorem v105 : val_main_v105 (F := Ideal) A.x0 A.x1 (ix5 b c h i s) = (((A.head b h).dp c i s : ℝ) : EReal) := by
  unfold Head.dp
  rw [← sum_coe]
  simp only [EReal.coe_mul]
  pointwise [val_main_v105]
  simp only [v104, v55]

/-- a chunk's share of the values' gradient, -/
theorem v107 : val_main_v107 (F := Ideal) A.x0 A.x1 A.x2 A.x3 A.x4 (ix5 b c s h e) = ((∑ i : Fin 64, (A.head b h).p c i s * (A.head b h).d (64 * c + i) e : ℝ) : EReal) := by
  rw [← sum_coe]
  simp only [EReal.coe_mul]
  pointwise [val_main_v107, val_main_v106]
  simp only [v104, v95]
  exact Finset.sum_congr rfl fun i _ => mul_comm _ _

theorem row_shift (H : Head) (c i : ℕ) (E : ℝ) (hp : 0 < E) :
    ∑ s : Fin 576, H.dp c i s * (1 / (H.z c i * E * (H.z c i * E))) * (H.w c i s * E) = H.row c i / (H.z c i * E) := by
  have hz := H.z_pos c i
  unfold Head.row Head.p
  rw [Finset.sum_div]
  refine Finset.sum_congr rfl fun s _ => ?_
  generalize H.z c i = z at hz
  generalize H.w c i s = w
  generalize H.dp c i s = d
  field_simp

theorem v98 (E : ℝ) (hp : 0 < E) (hE : ∀ s : Fin 576, val_main_v91 (F := Ideal) A.x0 A.x2 A.x3 A.x4 (ix5 b c h i s) = (((A.head b h).w c i s * E : ℝ) : EReal)) :
    val_main_v98 (F := Ideal) A.x0 A.x2 A.x3 A.x4 (ix5 b c h i 0) = ((1 / ((A.head b h).z c i * E * ((A.head b h).z c i * E)) : ℝ) : EReal) := by
  have hz := (A.head b h).z_pos c i
  pointwise [val_main_v98, val_main_v97, val_main_v96, val_main_v93, val_main_cst_22]
  rw [A.v92 b h c i E hE, ← EReal.coe_mul, ← EReal.coe_one, div_coe _ _ (mul_pos (mul_pos hz hp) (mul_pos hz hp)).ne']

theorem v111_at (x0 : FVec Ideal S4096x3584 .f32) (x1 : FVec Ideal S4096x1024 .f32) (x2 : FVec Ideal S8x64x576 .f32) (x3 x4 : FVec Ideal S1x64 .f32) :
    val_main_v111 (F := Ideal) x0 x1 x2 x3 x4 (ix4 b c h i) = ∑ s : Fin 576, val_main_v105 (F := Ideal) x0 x1 (ix5 b c h i s) * val_main_v98 (F := Ideal) x0 x2 x3 x4 (ix5 b c h i 0) * val_main_v91 (F := Ideal) x0 x2 x3 x4 (ix5 b c h i s) := by
  pointwise [val_main_v111, val_main_v110, val_main_v109, val_main_v108, val_main_cst_23]

/-- the softmax's row term, -/
theorem v111 (E : ℝ) (hp : 0 < E) (hE : ∀ s : Fin 576, val_main_v91 (F := Ideal) A.x0 A.x2 A.x3 A.x4 (ix5 b c h i s) = (((A.head b h).w c i s * E : ℝ) : EReal)) :
    val_main_v111 (F := Ideal) A.x0 A.x1 A.x2 A.x3 A.x4 (ix4 b c h i) = (((A.head b h).row c i / ((A.head b h).z c i * E) : ℝ) : EReal) := by
  rw [← row_shift _ _ _ E hp, ← sum_coe, v111_at]
  refine Finset.sum_congr rfl fun s _ => ?_
  rw [hE, A.v98 b h c i E hp hE, v105, ← EReal.coe_mul, ← EReal.coe_mul]

/-- and the scores' gradients; none where the mask is. -/
theorem v120 : val_main_v120 (F := Ideal) A.x0 A.x1 A.x2 A.x3 A.x4 (ix5 b c h i s) = (((A.head b h).ds c i s : ℝ) : EReal) := by
  obtain ⟨E, hp, hE⟩ := A.v91 b h c i
  have hz := (A.head b h).z_pos c i
  have h116 : val_main_v116 (F := Ideal) A.x0 A.x1 A.x2 A.x3 A.x4 (ix4 b c h i) = ((-((A.head b h).row c i / ((A.head b h).z c i * E)) : ℝ) : EReal) := by
    rw [EReal.coe_neg, ← A.v111 b h c i E hp hE]
    pointwise [val_main_v116, val_main_v113, val_main_v112, val_main_cst_24]
    exact Fin.sum_univ_one _
  have h119 : val_main_v119 (F := Ideal) A.x0 A.x1 A.x2 A.x3 A.x4 (ix5 b c h i s) = (((A.head b h).ds c i s : ℝ) : EReal) := by
    pointwise [val_main_v119, val_main_v118, val_main_v117, val_main_v115, val_main_v114, val_main_v93]
    rw [h116, A.v92 b h c i E hE, v105, hE, div_coe _ _ (mul_pos hz hp).ne', ← EReal.coe_add, ← EReal.coe_mul]
    unfold Head.ds Head.p
    congr 1
    field_simp
    ring
  pointwise [val_main_v120, val_main_call1_v0, val_main_call1_cst]
  rw [mask_at, h119]
  by_cases hm : 512 ≤ 64 * c.val + s.val
  · rw [if_pos hm]
    rfl
  · rw [if_neg hm]
    unfold Head.ds Head.p Head.w
    rw [if_neg hm, zero_div, zero_mul]
    rfl

/-- An eighth of them, -/
theorem v125 : val_main_v125 (F := Ideal) A.x0 A.x1 A.x2 A.x3 A.x4 (ix5 b c h i s) = (((A.head b h).ds c i s * (1 / 8) : ℝ) : EReal) := by
  rw [EReal.coe_mul, ← ofBits_eighth]
  pointwise [val_main_v125, val_main_v124, val_main_cst_27]
  rw [v120]

/-- a chunk's share of the normed keys' gradient, -/
theorem v127 : val_main_v127 (F := Ideal) A.x0 A.x1 A.x2 A.x3 A.x4 (ix5 b c s h e) = ((∑ i : Fin 64, (A.head b h).ds c i s * ((A.head b h).qn (64 * c + i) e * (1 / 8)) : ℝ) : EReal) := by
  have hr : (∑ i : Fin 64, (A.head b h).ds c i s * ((A.head b h).qn (64 * c + i) e * (1 / 8))) = ∑ i : Fin 64, (A.head b h).ds c i s * (1 / 8) * (A.head b h).qn (64 * c + i) e :=
    Finset.sum_congr rfl fun i _ => by ring
  rw [hr, ← sum_coe]
  simp only [EReal.coe_mul _ (Head.qn _ _ _), ← v20]
  simp only [← v125]
  pointwise [val_main_v127, val_main_v126]

/-- and the normed queries' gradient. -/
theorem v171 : val_main_v171 (F := Ideal) A.x0 A.x1 A.x2 A.x3 A.x4 (ix4 b l h e) = (((A.head b h).dqn l e : ℝ) : EReal) := by
  have hr : (A.head b h).dqn l e = ∑ s : Fin 576, (A.head b h).ds (l / 64) (l % 64) s * (1 / 8) * behind (A.head b h).kn (64 * (l / 64) + s) e := by
    unfold Head.dqn
    rw [Finset.mul_sum]
    exact Finset.sum_congr rfl fun i _ => by ring
  rw [hr, ← sum_coe]
  simp only [EReal.coe_mul _ (behind _ _ _)]
  pointwise [val_main_v171, val_main_v129, val_main_v128]
  refine Finset.sum_congr rfl fun s _ => ?_
  rw [v125, v47]

theorem v121_at (x0 : FVec Ideal S4096x3584 .f32) (x1 : FVec Ideal S4096x1024 .f32) (x2 : FVec Ideal S8x64x576 .f32) (x3 x4 : FVec Ideal S1x64 .f32) :
    val_main_v121 (F := Ideal) x0 x1 x2 x3 x4 (ix3 h i s) = ∑ k : Fin 2 × Fin 32, val_main_v120 (F := Ideal) x0 x1 x2 x3 x4 (ix5 k.1 k.2 h i s) := by
  unfold val_main_v121
  generalize val_main_v120 (F := Ideal) x0 x1 x2 x3 x4 = Y
  refine (hostReduceAdd_fiber (K := Fin 2 × Fin 32) reducesTo_S2x32x8x64x576_S8x64x576_d0_1 Y _ (ix3 h i s) (fun k => ix5 k.1 k.2 h i s) (fun j => (j 0, j 1)) ?_ ?_ ?_).trans ?_
  · intro k
    funext a
    match a with
    | ⟨0, _⟩ => rfl
    | ⟨1, _⟩ => rfl
    | ⟨2, _⟩ => rfl
  · intro j hj
    have h2 : j 2 = h := congrFun hj 0
    have h3 : j 3 = i := congrFun hj 1
    have h4 : j 4 = s := congrFun hj 2
    funext a
    match a with
    | ⟨0, _⟩ => rfl
    | ⟨1, _⟩ => rfl
    | ⟨2, _⟩ => exact h2.symm
    | ⟨3, _⟩ => exact h3.symm
    | ⟨4, _⟩ => exact h4.symm
  · intro k
    rfl
  · pointwise [val_main_cst_25]

theorem v123_at (x0 : FVec Ideal S4096x3584 .f32) (x1 : FVec Ideal S4096x1024 .f32) (x2 : FVec Ideal S8x64x576 .f32) (x3 x4 : FVec Ideal S1x64 .f32) :
    val_main_v123 (F := Ideal) x0 x1 x2 x3 x4 (ix3 h i s) = val_main_v121 (F := Ideal) x0 x1 x2 x3 x4 (ix3 h i s) := by
  have h122 : val_main_v122 (F := Ideal) x0 x1 x2 x3 x4 (ix5 0 0 h i s) = val_main_v121 (F := Ideal) x0 x1 x2 x3 x4 (ix3 h i s) := by
    pointwise [val_main_v122]
  rw [← h122]
  unfold val_main_v123
  generalize val_main_v122 (F := Ideal) x0 x1 x2 x3 x4 = Y
  refine (hostReduceAdd_fiber (K := Fin 1) reducesTo_S1x1x8x64x576_S8x64x576_d0_1 Y _ (ix3 h i s) (fun _ => ix5 0 0 h i s) (fun _ => 0) ?_ ?_ ?_).trans ?_
  · intro k
    funext a
    match a with
    | ⟨0, _⟩ => rfl
    | ⟨1, _⟩ => rfl
    | ⟨2, _⟩ => rfl
  · intro j hj
    have h0 : j 0 = (0 : Fin 1) := Subsingleton.elim (α := Fin 1) _ _
    have h1 : j 1 = (0 : Fin 1) := Subsingleton.elim (α := Fin 1) _ _
    have h2 : j 2 = h := congrFun hj 0
    have h3 : j 3 = i := congrFun hj 1
    have h4 : j 4 = s := congrFun hj 2
    funext a
    match a with
    | ⟨0, _⟩ => exact h0.symm
    | ⟨1, _⟩ => exact h1.symm
    | ⟨2, _⟩ => exact h2.symm
    | ⟨3, _⟩ => exact h3.symm
    | ⟨4, _⟩ => exact h4.symm
  · intro k
    exact (Subsingleton.elim (α := Fin 1) _ _)
  · rw [Fin.sum_univ_one]
    pointwise [val_main_cst_26]

/-- The bias' gradient. -/
theorem v123 : val_main_v123 (F := Ideal) A.x0 A.x1 A.x2 A.x3 A.x4 (ix3 h i s) = ((∑ b : Fin 2, (A.head b h).dbias i s : ℝ) : EReal) := by
  rw [v123_at, v121_at]
  simp only [v120]
  rw [sum_coe, Fintype.sum_prod_type]
  rfl

end Args

end Cert.Proof.Attn

end
-- ==== Proof.Attn.RefSpread.lean ====
module

public import proofs.«01_k».proof.Proof.Attn.RefScores

@[expose] public section

noncomputable section

namespace Cert.Proof.Attn

open Idealize.ShloMosaic Idealize.ShloMosaic.Pointwise Cert.Reference2Ideal Cert.Reference2Ideal.Gen Cert.Reference2Ideal.Read Idealize.ShloMosaic.TcCoe Reals

/-- Every chunk's 576 rows put back behind one another: the reference's transpose of its skewed window. -/
def padded (Y : FVec Ideal S2x32x576x8x64 .f32) : FVec Ideal S2x32x2624x8x64 .f32 :=
  pad S2x32x2624x8x64 ![0, 0, 0, 0, 0] ![0, 0, 2048, 0, 0] ![0, 0, 0, 0, 0] Y (val_main_cst_28 (F := Ideal)) pads_S2x32x576x8x64_S2x32x2624x8x64_000_000_020480_000_000 h_S_
def flat (Y : FVec Ideal S2x32x576x8x64 .f32) : FVec Ideal S2x83968x8x64 .f32 := shapeCast _ (padded Y) shapeCasts_S2x32x2624x8x64_S2x83968x8x64
def flatPadded (Y : FVec Ideal S2x32x576x8x64 .f32) : FVec Ideal S2x84480x8x64 .f32 :=
  pad S2x84480x8x64 ![0, 0, 0, 0] ![0, 512, 0, 0] ![0, 0, 0, 0] (flat Y) (val_main_cst_29 (F := Ideal)) pads_S2x83968x8x64_S2x84480x8x64_000_05120_000_000 h_S_
def copies (Y : FVec Ideal S2x32x576x8x64 .f32) : FVec Ideal S2x33x2560x8x64 .f32 := shapeCast _ (flatPadded Y) shapeCasts_S2x84480x8x64_S2x33x2560x8x64
def spread (Y : FVec Ideal S2x32x576x8x64 .f32) : FVec Ideal S2x2048x8x64 .f32 :=
  extractStridedSlice S2x2048x8x64 ![0, 512, 0, 0]
    (Host.reduceAdd (broadcastInDim S2x1x2560x8x64 ![0, 2, 3, 4] bcast_S2x2560x8x64_S2x1x2560x8x64_0_2_3_4
      (Host.reduceAdd (copies Y) (val_main_cst_30 (F := Ideal)) reducesTo_S2x33x2560x8x64_S2x2560x8x64_d1 h_S_))
      (val_main_cst_31 (F := Ideal)) reducesTo_S2x1x2560x8x64_S2x2560x8x64_d1 h_S_) slices_S2x2560x8x64_S2x2048x8x64_0_512_0_0

/-- A copy holds the row of the one chunk whose window starts where the copy does. -/
theorem copies_at (Y : FVec Ideal S2x32x576x8x64 .f32) (b : Fin 2) (r : Fin 33) (y : Fin 2560) (h : Fin 8) (e : Fin 64) :
    copies Y (ix5 b r y h e) = if g : r.val < 32 ∧ 64 * r.val ≤ y.val ∧ y.val < 64 * r.val + 576 then Y (ix5 b ⟨r.val, g.1⟩ ⟨y.val - 64 * r.val, by omega⟩ h e) else 0 := by
  have hpt : copies Y (ix5 b r y h e) = (if h_1 : r.val * 2560 + y.val < 83968 then
      if h_2 : (r.val * 2560 + y.val) / 2624 < 32 ∧ (r.val * 2560 + y.val) % 2624 < 576 then
        Y (ix5 b ⟨(r.val * 2560 + y.val) / 2624, by omega⟩ ⟨(r.val * 2560 + y.val) % 2624, by omega⟩ h e)
      else 0
    else 0) := by
    pointwise [copies, flatPadded, flat, padded, val_main_cst_28, val_main_cst_29]
  rw [hpt]
  by_cases g : r.val < 32 ∧ 64 * r.val ≤ y.val ∧ y.val < 64 * r.val + 576
  · rw [dif_pos g, dif_pos (by omega), dif_pos (by omega)]
    exact congrArg₂ (fun c s => Y (ix5 b c s h e)) (Fin.ext (by dsimp only; omega)) (Fin.ext (by dsimp only; omega))
  · rw [dif_neg g]
    by_cases g1 : r.val * 2560 + y.val < 83968
    · rw [dif_pos g1, dif_neg (by omega)]
    · rw [dif_neg g1]

/-- Row `l` gathers, over the chunks that see it, the row it has there. -/
theorem spread_at (Y : FVec Ideal S2x32x576x8x64 .f32) (b : Fin 2) (l : Fin 2048) (h : Fin 8) (e : Fin 64) :
    spread Y (ix4 b l h e) = ∑ c : Fin 32, if g : 64 * c.val ≤ 512 + l.val ∧ 512 + l.val < 64 * c.val + 576 then Y (ix5 b c ⟨512 + l.val - 64 * c.val, by omega⟩ h e) else 0 := by
  have hpt : spread Y (ix4 b l h e) = ∑ r : Fin 33, copies Y (ix5 b r ⟨512 + l.val, by omega⟩ h e) := by
    unfold spread
    generalize copies Y = Z
    pointwise [val_main_cst_30, val_main_cst_31]
    exact Fin.sum_univ_one _
  rw [hpt, Fin.sum_univ_castSucc, copies_at _ _ (Fin.last 32), dif_neg (fun h => absurd h.1 (by decide)), add_zero]
  refine Finset.sum_congr rfl fun c _ => ?_
  rw [copies_at]
  by_cases g : 64 * c.val ≤ 512 + l.val ∧ 512 + l.val < 64 * c.val + 576
  · rw [dif_pos g, dif_pos ⟨c.isLt, g⟩]
    rfl
  · rw [dif_neg g, dif_neg (fun h => g h.2)]

theorem v138_eq (x0 : FVec Ideal S4096x3584 .f32) (x1 : FVec Ideal S4096x1024 .f32) (x2 : FVec Ideal S8x64x576 .f32) (x3 x4 : FVec Ideal S1x64 .f32) : val_main_v138 (F := Ideal) x0 x1 x2 x3 x4 = spread (val_main_v107 (F := Ideal) x0 x1 x2 x3 x4) := by
  unfold val_main_v138 val_main_v136 val_main_v135 val_main_v134 val_main_v133 val_main_v132 val_main_v131 val_main_v130
  generalize val_main_v107 (F := Ideal) x0 x1 x2 x3 x4 = Y
  rfl
theorem v147_eq (x0 : FVec Ideal S4096x3584 .f32) (x1 : FVec Ideal S4096x1024 .f32) (x2 : FVec Ideal S8x64x576 .f32) (x3 x4 : FVec Ideal S1x64 .f32) : val_main_v147 (F := Ideal) x0 x1 x2 x3 x4 = spread (val_main_v127 (F := Ideal) x0 x1 x2 x3 x4) := by
  unfold val_main_v147 val_main_v145 val_main_v144 val_main_v143 val_main_v142 val_main_v141 val_main_v140 val_main_v139
  generalize val_main_v127 (F := Ideal) x0 x1 x2 x3 x4 = Y
  rfl

namespace Args

variable (A : Args) (b : Fin 2) (l : Fin 2048) (h : Fin 8) (e : Fin 64)

/-- A sum over the chunks that see a row, in the reals. -/
theorem seen (Y : FVec Ideal S2x32x576x8x64 .f32) (y : ℕ → ℕ → ℝ) (hy : ∀ (c : Fin 32) (s : Fin 576), Y (ix5 b c s h e) = ((y c s : ℝ) : EReal)) :
    spread Y (ix4 b l h e) = ((∑ c : Fin 32, if 64 * c.val ≤ 512 + l ∧ 512 + l < 64 * c.val + 576 then y c (512 + l - 64 * c) else 0 : ℝ) : EReal) := by
  rw [spread_at, ← sum_coe]
  refine Finset.sum_congr rfl fun c _ => ?_
  by_cases g : 64 * c.val ≤ 512 + l.val ∧ 512 + l.val < 64 * c.val + 576
  · rw [dif_pos g, if_pos g, hy]
  · rw [dif_neg g, if_neg g, EReal.coe_zero]

/-- The values' gradient, by heads, -/
theorem v138 : val_main_v138 (F := Ideal) A.x0 A.x1 A.x2 A.x3 A.x4 (ix4 b l h e) = (((A.head b h).dv l e : ℝ) : EReal) := by
  rw [v138_eq]
  exact seen b l h e _ (fun c s => ∑ i : Fin 64, (A.head b h).p c i s * (A.head b h).d (64 * c + i) e) fun c s => A.v107 b h e c s

/-- and the normed keys'. -/
theorem v147 : val_main_v147 (F := Ideal) A.x0 A.x1 A.x2 A.x3 A.x4 (ix4 b l h e) = (((A.head b h).dkn l e : ℝ) : EReal) := by
  rw [v147_eq]
  exact seen b l h e _ (fun c s => ∑ i : Fin 64, (A.head b h).ds c i s * ((A.head b h).qn (64 * c + i) e * (1 / 8))) fun c s => A.v127 b h e c s

/-- The values' gradient, as the rows the projections have. -/
theorem v196 : val_main_v196 (F := Ideal) A.x0 A.x1 A.x2 A.x3 A.x4 = arr fun r x => (A.head (r / 2048) (x / 64)).dv (r % 2048) (x % 64) := by
  refine eq_arr _ _ fun r x => ?_
  pointwise [val_main_v196, val_main_v148]
  exact A.v138 ⟨r.val / 2048, by omega⟩ ⟨r.val % 2048, by omega⟩ ⟨x.val / 64, by omega⟩ ⟨x.val % 64, by omega⟩

end Args

end Cert.Proof.Attn

end
-- ==== Proof.Attn.RefNorm.lean ====
module

public import proofs.«01_k».proof.Proof.Attn.RefSpread

@[expose] public section

noncomputable section

namespace Cert.Proof.Attn

open Idealize.ShloMosaic Idealize.ShloMosaic.Pointwise Cert.Reference2Ideal Cert.Reference2Ideal.Gen Cert.Reference2Ideal.Read Idealize.ShloMosaic.TcCoe Reals

/-- A sum over batches, rows and heads. -/
theorem rows_sum (Y : FVec Ideal S2x2048x8x64 .f32) (z : EReal) (e : Fin 64) :
    Ideal.hostReduceAdd reducesTo_S2x2048x8x64_S64_d0_1_2 Y z (ix1 e) = z + ∑ k : Fin 2 × Fin 2048 × Fin 8, Y (ix4 k.1 k.2.1 k.2.2 e) := by
  refine hostReduceAdd_fiber (K := Fin 2 × Fin 2048 × Fin 8) _ Y z (ix1 e) (fun k => ix4 k.1 k.2.1 k.2.2 e) (fun j => (j 0, j 1, j 2)) ?_ ?_ ?_
  · intro k
    funext a
    match a with
    | ⟨0, _⟩ => rfl
  · intro j hj
    have h3 : j 3 = e := congrFun hj 0
    funext a
    match a with
    | ⟨0, _⟩ => rfl
    | ⟨1, _⟩ => rfl
    | ⟨2, _⟩ => rfl
    | ⟨3, _⟩ => exact h3.symm
  · intro k
    rfl

/-- A sum over axes of one entry. -/
theorem one_sum (Y : FVec Ideal S1x1x1x64 .f32) (z : EReal) (e : Fin 64) :
    Ideal.hostReduceAdd reducesTo_S1x1x1x64_S64_d0_1_2 Y z (ix1 e) = z + Y (ix4 0 0 0 e) := by
  refine (hostReduceAdd_fiber (K := Fin 1) _ Y z (ix1 e) (fun _ => ix4 0 0 0 e) (fun _ => 0) ?_ ?_ ?_).trans (congrArg _ (Fin.sum_univ_one _))
  · intro k
    funext a
    match a with
    | ⟨0, _⟩ => rfl
  · intro j hj
    have h0 : j 0 = (0 : Fin 1) := Subsingleton.elim (α := Fin 1) _ _
    have h1 : j 1 = (0 : Fin 1) := Subsingleton.elim (α := Fin 1) _ _
    have h2 : j 2 = (0 : Fin 1) := Subsingleton.elim (α := Fin 1) _ _
    have h3 : j 3 = e := congrFun hj 0
    funext a
    match a with
    | ⟨0, _⟩ => exact h0.symm
    | ⟨1, _⟩ => exact h1.symm
    | ⟨2, _⟩ => exact h2.symm
    | ⟨3, _⟩ => exact h3.symm
  · intro k
    exact Subsingleton.elim (α := Fin 1) _ _

theorem v155_at (x0 : FVec Ideal S4096x3584 .f32) (x1 : FVec Ideal S4096x1024 .f32) (x2 : FVec Ideal S8x64x576 .f32) (x3 x4 : FVec Ideal S1x64 .f32) (e : Fin 64) : val_main_v155 (F := Ideal) x0 x1 x2 x3 x4 (ix2 0 e) = ∑ k : Fin 2 × Fin 2048 × Fin 8, val_main_v34 (F := Ideal) x0 (ix4 k.1 k.2.1 k.2.2 e) * val_main_v147 (F := Ideal) x0 x1 x2 x3 x4 (ix4 k.1 k.2.1 k.2.2 e) := by
  have h150 : val_main_v150 (F := Ideal) x0 x1 x2 x3 x4 (ix1 e) = ∑ k : Fin 2 × Fin 2048 × Fin 8, val_main_v149 (F := Ideal) x0 x1 x2 x3 x4 (ix4 k.1 k.2.1 k.2.2 e) := by
    unfold val_main_v150
    generalize val_main_v149 (F := Ideal) x0 x1 x2 x3 x4 = Y
    refine (rows_sum Y _ e).trans ?_
    pointwise [val_main_cst_36]
  have h151 : val_main_v151 (F := Ideal) x0 x1 x2 x3 x4 (ix4 0 0 0 e) = val_main_v150 (F := Ideal) x0 x1 x2 x3 x4 (ix1 e) := by
    pointwise [val_main_v151]
  have h154 : val_main_v154 (F := Ideal) x0 x1 x2 x3 x4 (ix1 e) = val_main_v150 (F := Ideal) x0 x1 x2 x3 x4 (ix1 e) := by
    rw [← h151]
    unfold val_main_v154
    generalize val_main_v151 (F := Ideal) x0 x1 x2 x3 x4 = Y
    refine (one_sum Y _ e).trans ?_
    pointwise [val_main_cst_37]
  have h155 : val_main_v155 (F := Ideal) x0 x1 x2 x3 x4 (ix2 0 e) = val_main_v154 (F := Ideal) x0 x1 x2 x3 x4 (ix1 e) := by
    pointwise [val_main_v155]
  rw [h155, h154, h150]
  refine Finset.sum_congr rfl fun k _ => ?_
  pointwise [val_main_v149]

theorem v178_at (x0 : FVec Ideal S4096x3584 .f32) (x1 : FVec Ideal S4096x1024 .f32) (x2 : FVec Ideal S8x64x576 .f32) (x3 x4 : FVec Ideal S1x64 .f32) (e : Fin 64) : val_main_v178 (F := Ideal) x0 x1 x2 x3 x4 (ix2 0 e) = ∑ k : Fin 2 × Fin 2048 × Fin 8, val_main_v16 (F := Ideal) x0 (ix4 k.1 k.2.1 k.2.2 e) * val_main_v171 (F := Ideal) x0 x1 x2 x3 x4 (ix4 k.1 k.2.1 k.2.2 e) := by
  have h150 : val_main_v173 (F := Ideal) x0 x1 x2 x3 x4 (ix1 e) = ∑ k : Fin 2 × Fin 2048 × Fin 8, val_main_v172 (F := Ideal) x0 x1 x2 x3 x4 (ix4 k.1 k.2.1 k.2.2 e) := by
    unfold val_main_v173
    generalize val_main_v172 (F := Ideal) x0 x1 x2 x3 x4 = Y
    refine (rows_sum Y _ e).trans ?_
    pointwise [val_main_cst_41]
  have h151 : val_main_v174 (F := Ideal) x0 x1 x2 x3 x4 (ix4 0 0 0 e) = val_main_v173 (F := Ideal) x0 x1 x2 x3 x4 (ix1 e) := by
    pointwise [val_main_v174]
  have h154 : val_main_v177 (F := Ideal) x0 x1 x2 x3 x4 (ix1 e) = val_main_v173 (F := Ideal) x0 x1 x2 x3 x4 (ix1 e) := by
    rw [← h151]
    unfold val_main_v177
    generalize val_main_v174 (F := Ideal) x0 x1 x2 x3 x4 = Y
    refine (one_sum Y _ e).trans ?_
    pointwise [val_main_cst_42]
  have h155 : val_main_v178 (F := Ideal) x0 x1 x2 x3 x4 (ix2 0 e) = val_main_v177 (F := Ideal) x0 x1 x2 x3 x4 (ix1 e) := by
    pointwise [val_main_v178]
  rw [h155, h154, h150]
  refine Finset.sum_congr rfl fun k _ => ?_
  pointwise [val_main_v172]

/-- The norm's gradient as the reference sums it: half of a term, taken twice. -/
theorem normB_twice (x dn : ℕ → ℕ → ℝ) (g : ℕ → ℝ) (l e : ℕ) (m c : ℝ) (hm : m = (∑ e : Fin 64, x l e * x l e) * (1 / 64) + eps)
    (hc : c = (∑ e' : Fin 64, x l e' * (dn l e' * g e')) * (-(1 / 2) * (inv x l / m)) / 64) :
    dn l e * g e * inv x l + x l e * c + c * x l e = normB x dn g l e := by
  have hp : 0 < m := hm ▸ mean_pos x l
  have hi : inv x l = (Real.sqrt m)⁻¹ := by rw [hm]; rfl
  have h2 : inv x l * inv x l * m = 1 := by
    rw [hi, ← mul_inv, Real.mul_self_sqrt hp.le, inv_mul_cancel₀ hp.ne']
  have h3 : inv x l / m = inv x l * inv x l * inv x l := by
    rw [div_eq_iff hp.ne']
    linear_combination -(inv x l) * h2
  have hs : ∑ e' : Fin 64, dn l e' * g e' * hat x l e' = (∑ e' : Fin 64, x l e' * (dn l e' * g e')) * inv x l := by
    rw [Finset.sum_mul]
    exact Finset.sum_congr rfl fun e' _ => by unfold hat; ring
  unfold normB
  rw [hs, hc, h3]
  unfold hat
  ring

theorem v176_at (x0 : FVec Ideal S4096x3584 .f32) (x1 : FVec Ideal S4096x1024 .f32) (x2 : FVec Ideal S8x64x576 .f32) (x3 x4 : FVec Ideal S1x64 .f32) (b : Fin 2) (l : Fin 2048) (h : Fin 8) (e : Fin 64) :
    val_main_v176 (F := Ideal) x0 x1 x2 x3 x4 (ix4 b l h e) = val_main_v171 (F := Ideal) x0 x1 x2 x3 x4 (ix4 b l h e) * x3 (ix2 0 e) := by
  rw [val_main_v176_apply]
  generalize val_main_v171 (F := Ideal) x0 x1 x2 x3 x4 = Y
  pointwise [val_main_v175, val_main_v17]

theorem v180_at (x0 : FVec Ideal S4096x3584 .f32) (x1 : FVec Ideal S4096x1024 .f32) (x2 : FVec Ideal S8x64x576 .f32) (x3 x4 : FVec Ideal S1x64 .f32) (b : Fin 2) (l : Fin 2048) (h : Fin 8) :
    val_main_v180 (F := Ideal) x0 x1 x2 x3 x4 (ix3 b l h) = ∑ e' : Fin 64, val_main_v3 (F := Ideal) x0 (ix4 b l h e') * val_main_v176 (F := Ideal) x0 x1 x2 x3 x4 (ix4 b l h e') := by
  rw [val_main_v180_apply]
  have hi : ∀ k : Fin 64, idx_main_v180 (ix3 b l h) k = ix4 b l h k := fun k => by
    funext a
    match a with
    | ⟨0, _⟩ => rfl
    | ⟨1, _⟩ => rfl
    | ⟨2, _⟩ => rfl
    | ⟨3, _⟩ => rfl
  simp only [val_main_v179_apply, hi]
  generalize val_main_v176 (F := Ideal) x0 x1 x2 x3 x4 = Y
  pointwise [val_main_cst_43]

theorem v186_at (x0 : FVec Ideal S4096x3584 .f32) (x1 : FVec Ideal S4096x1024 .f32) (x2 : FVec Ideal S8x64x576 .f32) (x3 x4 : FVec Ideal S1x64 .f32) (b : Fin 2) (l : Fin 2048) (h : Fin 8) :
    val_main_v186 (F := Ideal) x0 x1 x2 x3 x4 (ix4 b l h 0) = Ideal.div (val_main_v180 (F := Ideal) x0 x1 x2 x3 x4 (ix3 b l h) * (Ideal.ofBits .f32 0xBF000000#32 * Ideal.div (val_main_v11 (F := Ideal) x0 (ix4 b l h 0)) (val_main_v10 (F := Ideal) x0 (ix4 b l h 0)))) (Ideal.ofBits .f32 0x42800000#32) := by
  pointwise [val_main_v186, val_main_v185, val_main_v184, val_main_v181, val_main_v14, val_main_v13, val_main_v12, val_main_cst_2, val_main_cst_44]

theorem v192_at (x0 : FVec Ideal S4096x3584 .f32) (x1 : FVec Ideal S4096x1024 .f32) (x2 : FVec Ideal S8x64x576 .f32) (x3 x4 : FVec Ideal S1x64 .f32) (b : Fin 2) (l : Fin 2048) (h : Fin 8) (e : Fin 64) :
    val_main_v192 (F := Ideal) x0 x1 x2 x3 x4 (ix4 b l h e) = val_main_v176 (F := Ideal) x0 x1 x2 x3 x4 (ix4 b l h e) * val_main_v11 (F := Ideal) x0 (ix4 b l h 0)
      + val_main_v3 (F := Ideal) x0 (ix4 b l h e) * val_main_v186 (F := Ideal) x0 x1 x2 x3 x4 (ix4 b l h 0) + val_main_v186 (F := Ideal) x0 x1 x2 x3 x4 (ix4 b l h 0) * val_main_v3 (F := Ideal) x0 (ix4 b l h e) := by
  have h165 : val_main_v188 (F := Ideal) x0 x1 x2 x3 x4 (ix4 b l h e) = val_main_v186 (F := Ideal) x0 x1 x2 x3 x4 (ix4 b l h 0) := by
    pointwise [val_main_v188, val_main_v187, val_main_cst_45]
    exact Fin.sum_univ_one _
  rw [← h165]
  rw [val_main_v192_apply, val_main_v191_apply, val_main_v190_apply, val_main_v189_apply, val_main_v183_apply]
  generalize val_main_v188 (F := Ideal) x0 x1 x2 x3 x4 = Z
  generalize val_main_v176 (F := Ideal) x0 x1 x2 x3 x4 = Y
  pointwise [val_main_v182]

theorem ofBits_neg_half : Ideal.ofBits .f32 0xBF000000#32 = ((-(1 / 2) : ℝ) : EReal) := by simp [Ideal.ofBits, Ideal.ieee, -EReal.coe_mul]; norm_num

namespace Args

variable (A : Args) (b : Fin 2) (l : Fin 2048) (h : Fin 8) (e : Fin 64)

/-- The gains' gradients: over batches, rows and heads. -/
theorem v155 : val_main_v155 (F := Ideal) A.x0 A.x1 A.x2 A.x3 A.x4 (ix2 0 e) = ((∑ b : Fin 2, ∑ h : Fin 8, dgain (A.head b h).k (A.head b h).dkn e : ℝ) : EReal) := by
  rw [v155_at]
  simp only [v34, v147, ← EReal.coe_mul]
  rw [sum_coe, Fintype.sum_prod_type]
  refine congrArg _ (Finset.sum_congr rfl fun b _ => ?_)
  rw [Fintype.sum_prod_type, Finset.sum_comm]
  exact Finset.sum_congr rfl fun h _ => Finset.sum_congr rfl fun l _ => mul_comm _ _
theorem v178 : val_main_v178 (F := Ideal) A.x0 A.x1 A.x2 A.x3 A.x4 (ix2 0 e) = ((∑ b : Fin 2, ∑ h : Fin 8, dgain (A.head b h).q (A.head b h).dqn e : ℝ) : EReal) := by
  rw [v178_at]
  simp only [v16, v171, ← EReal.coe_mul]
  rw [sum_coe, Fintype.sum_prod_type]
  refine congrArg _ (Finset.sum_congr rfl fun b _ => ?_)
  rw [Fintype.sum_prod_type, Finset.sum_comm]
  exact Finset.sum_congr rfl fun h _ => Finset.sum_congr rfl fun l _ => mul_comm _ _

theorem v153 : val_main_v153 (F := Ideal) A.x0 A.x1 A.x2 A.x3 A.x4 (ix4 b l h e) = (((A.head b h).dkn l e * (A.head b h).gk e : ℝ) : EReal) := by
  rw [EReal.coe_mul, ← v147]
  pointwise [val_main_v153, val_main_v152, val_main_v35]
  rfl
theorem v176 : val_main_v176 (F := Ideal) A.x0 A.x1 A.x2 A.x3 A.x4 (ix4 b l h e) = (((A.head b h).dqn l e * (A.head b h).gq e : ℝ) : EReal) := by
  rw [v176_at, v171]
  exact (EReal.coe_mul _ _).symm

theorem v163 : val_main_v163 (F := Ideal) A.x0 A.x1 A.x2 A.x3 A.x4 (ix4 b l h 0) = (((∑ e' : Fin 64, (A.head b h).k l e' * ((A.head b h).dkn l e' * (A.head b h).gk e')) * (-(1 / 2) * (inv (A.head b h).k l / ((∑ e : Fin 64, (A.head b h).k l e * (A.head b h).k l e) * (1 / 64) + eps))) / 64 : ℝ) : EReal) := by
  have h157 : val_main_v157 (F := Ideal) A.x0 A.x1 A.x2 A.x3 A.x4 (ix3 b l h) = ((∑ e' : Fin 64, (A.head b h).k l e' * ((A.head b h).dkn l e' * (A.head b h).gk e') : ℝ) : EReal) := by
    pointwise [val_main_v157, val_main_v156, val_main_cst_38]
    simp only [v21, v153, ← EReal.coe_mul, sum_coe]
  pointwise [val_main_v163, val_main_v162, val_main_v161, val_main_v158, val_main_v32, val_main_v31, val_main_v30, val_main_cst_6, val_main_cst_39]
  rw [h157, v29, v28, ofBits_neg_half, ofBits_64, div_coe _ _ (mean_pos _ _).ne', ← EReal.coe_mul, ← EReal.coe_mul, div_coe _ _ (by norm_num)]
theorem v186 : val_main_v186 (F := Ideal) A.x0 A.x1 A.x2 A.x3 A.x4 (ix4 b l h 0) = (((∑ e' : Fin 64, (A.head b h).q l e' * ((A.head b h).dqn l e' * (A.head b h).gq e')) * (-(1 / 2) * (inv (A.head b h).q l / ((∑ e : Fin 64, (A.head b h).q l e * (A.head b h).q l e) * (1 / 64) + eps))) / 64 : ℝ) : EReal) := by
  have h157 : val_main_v180 (F := Ideal) A.x0 A.x1 A.x2 A.x3 A.x4 (ix3 b l h) = ((∑ e' : Fin 64, (A.head b h).q l e' * ((A.head b h).dqn l e' * (A.head b h).gq e') : ℝ) : EReal) := by
    rw [v180_at]
    simp only [v3, v176, ← EReal.coe_mul, sum_coe]
  rw [v186_at, h157, v11, v10, ofBits_neg_half, ofBits_64, div_coe _ _ (mean_pos _ _).ne', ← EReal.coe_mul, ← EReal.coe_mul, div_coe _ _ (by norm_num)]

/-- The keys' gradient, through their norm, -/
theorem v169 : val_main_v169 (F := Ideal) A.x0 A.x1 A.x2 A.x3 A.x4 (ix4 b l h e) = (((A.head b h).dk l e : ℝ) : EReal) := by
  have h165 : val_main_v165 (F := Ideal) A.x0 A.x1 A.x2 A.x3 A.x4 (ix4 b l h e) = val_main_v163 (F := Ideal) A.x0 A.x1 A.x2 A.x3 A.x4 (ix4 b l h 0) := by
    pointwise [val_main_v165, val_main_v164, val_main_cst_40]
    exact Fin.sum_univ_one _
  rw [v163] at h165
  unfold Head.dk
  rw [← normB_twice _ _ _ _ _ _ _ rfl rfl]
  pointwise [val_main_v169, val_main_v168, val_main_v167, val_main_v166, val_main_v160, val_main_v159]
  rw [h165, v153, v29, v21]
  norm_cast

/-- and the queries'. -/
theorem v192 : val_main_v192 (F := Ideal) A.x0 A.x1 A.x2 A.x3 A.x4 (ix4 b l h e) = (((A.head b h).dq l e : ℝ) : EReal) := by
  unfold Head.dq
  rw [← normB_twice _ _ _ _ _ _ _ rfl rfl, v192_at, v176, v11, v3, v186]
  norm_cast

theorem v195 : val_main_v195 (F := Ideal) A.x0 A.x1 A.x2 A.x3 A.x4 = arr fun r x => (A.head (r / 2048) (x / 64)).dk (r % 2048) (x % 64) := by
  refine eq_arr _ _ fun r x => ?_
  pointwise [val_main_v195, val_main_v170]
  exact A.v169 ⟨r.val / 2048, by omega⟩ ⟨r.val % 2048, by omega⟩ ⟨x.val / 64, by omega⟩ ⟨x.val % 64, by omega⟩
theorem v194 : val_main_v194 (F := Ideal) A.x0 A.x1 A.x2 A.x3 A.x4 = arr fun r x => (A.head (r / 2048) (x / 64)).dq (r % 2048) (x % 64) := by
  refine eq_arr _ _ fun r x => ?_
  pointwise [val_main_v194, val_main_v193]
  exact A.v192 ⟨r.val / 2048, by omega⟩ ⟨r.val % 2048, by omega⟩ ⟨x.val / 64, by omega⟩ ⟨x.val % 64, by omega⟩

end Args

end Cert.Proof.Attn

end
-- ==== Proof.Attn.Arrays.lean ====
module

public import proofs.«01_k».proof.Proof.Attn.Host
public import proofs.«01_k».proof.Proof.Attn.PlaceValue
public import proofs.«01_k».proof.Proof.Attn.RefNorm
public import Idealize.ShloMosaic.Lib.Pipeline.Value

@[expose] public section

noncomputable section

namespace Cert.Proof.Attn

open Cert.Kernel2Ideal Cert.Kernel2Ideal.Gen
open Idealize.ShloMosaic Idealize.ShloMosaic.TcCoe Idealize.ShloMosaic.Pointwise Reals
open Cert.Reference2Ideal.Read

attribute [local instance] Cert.Kernel2Ideal.Gen.facts Cert.Reference2Ideal.Gen.facts

set_option maxRecDepth 8192

/-- An array of three axes whose entries are real. -/
def arr3 {n p q : ℕ} (X : ℕ → ℕ → ℕ → ℝ) : FVec Ideal ⟨3, ![n, p, q]⟩ .f32 := fun i => ((X (i 0).val (i 1).val (i 2).val : ℝ) : EReal)

/-! ### The host's small arrays -/

/-- The bias as the kernel reads it. -/
theorem biasT_eq (B : ℕ → ℕ → ℕ → ℝ) : biasT (F := Ideal) (fun i => ((B (i 0).val (i 1).val (i 2).val : ℝ) : EReal))
    = arr fun r j => if 64 ≤ r % 640 then B (2 * (r / 640) + j / 64) (j % 64) (r % 640 - 64) else 0 := by
  refine eq_arr _ _ fun r j => ?_
  pointwise [biasT]
  by_cases hr : r.val % 640 < 64
  · rw [dif_pos hr, if_neg (by omega)]; rfl
  · rw [dif_neg hr, if_pos (by omega), Nat.mul_comm (r.val / 640) 2]

/-- A gain twice over. -/
theorem twice_eq (G : ℕ → ℝ) : twice (F := Ideal) (arr fun _ => G) = arr fun _ x => G (x % 64) := by
  refine eq_arr _ _ fun r j => ?_
  pointwise [twice]
  by_cases hj : j.val < 64
  · rw [dif_pos hj, arr_ix2, Nat.mod_eq_of_lt hj]
  · rw [dif_neg hj, arr_ix2]
    exact congrArg (fun k => ((G k : ℝ) : EReal)) (by show j.val - 64 = j.val % 64; omega)

variable (m : (ℓ : Loc nD τ sig) → Buf (Elt Ideal) ℓ) (c : Dev nD)

/-! ### Which block of its array each window stages (decided over the 8 points) -/

theorem at0 : ∀ t : Fin cfg0.N, win0_0.index t (0 : Fin 2) = t.val / 4 ∧ win0_0.index t (1 : Fin 2) = t.val % 4 :=
  (by decide +kernel : ∀ t : Fin grid0.N, _)
theorem at1 : ∀ t : Fin cfg0.N, win0_1.index t (0 : Fin 2) = t.val / 4 ∧ win0_1.index t (1 : Fin 2) = 4 + t.val % 4 :=
  (by decide +kernel : ∀ t : Fin grid0.N, _)
theorem at2 : ∀ t : Fin cfg0.N, win0_2.index t (0 : Fin 2) = t.val / 4 ∧ win0_2.index t (1 : Fin 2) = 8 + t.val % 4 :=
  (by decide +kernel : ∀ t : Fin grid0.N, _)
theorem at3 : ∀ t : Fin cfg0.N, win0_3.index t (0 : Fin 2) = t.val / 4 ∧ win0_3.index t (1 : Fin 2) = t.val % 4 :=
  (by decide +kernel : ∀ t : Fin grid0.N, _)
theorem at4 : ∀ t : Fin cfg0.N, win0_4.index t (0 : Fin 2) = t.val / 4 ∧ win0_4.index t (1 : Fin 2) = t.val % 4 :=
  (by decide +kernel : ∀ t : Fin grid0.N, _)
theorem at5 : ∀ t : Fin cfg0.N, win0_5.index t (0 : Fin 2) = t.val % 4 ∧ win0_5.index t (1 : Fin 2) = 0 :=
  (by decide +kernel : ∀ t : Fin grid0.N, _)
theorem at6 : ∀ t : Fin cfg0.N, win0_6.index t (0 : Fin 2) = 0 ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)
theorem at8 : ∀ t : Fin cfg0.N, win0_8.index t (0 : Fin 2) = t.val / 4 ∧ win0_8.index t (1 : Fin 2) = t.val % 4 :=
  (by decide +kernel : ∀ t : Fin grid0.N, _)
theorem at9 : ∀ t : Fin cfg0.N, win0_9.index t (0 : Fin 2) = t.val / 4 ∧ win0_9.index t (1 : Fin 2) = t.val % 4 :=
  (by decide +kernel : ∀ t : Fin grid0.N, _)
theorem at10 : ∀ t : Fin cfg0.N, win0_10.index t (0 : Fin 2) = t.val / 4 ∧ win0_10.index t (1 : Fin 2) = t.val % 4 :=
  (by decide +kernel : ∀ t : Fin grid0.N, _)
theorem at11 : ∀ t : Fin cfg0.N, win0_11.index t (0 : Fin 3) = t.val / 4 ∧ win0_11.index t (1 : Fin 3) = t.val % 4 ∧ win0_11.index t (2 : Fin 3) = 0 :=
  (by decide +kernel : ∀ t : Fin grid0.N, _)
theorem at12 : ∀ t : Fin cfg0.N, win0_12.index t (0 : Fin 3) = t.val ∧ win0_12.index t (1 : Fin 3) = 0 ∧ win0_12.index t (2 : Fin 3) = 0 :=
  (by decide +kernel : ∀ t : Fin grid0.N, _)
theorem at13 : ∀ t : Fin cfg0.N, win0_13.index t (0 : Fin 3) = t.val ∧ win0_13.index t (1 : Fin 3) = 0 ∧ win0_13.index t (2 : Fin 3) = 0 :=
  (by decide +kernel : ∀ t : Fin grid0.N, _)

/-! ### The blocks, of arrays whose entries are real -/

theorem block0 (X : ℕ → ℕ → ℝ) (hV : V m c main_arg0 = arr X) (t : Fin cfg0.N) :
    iblk m c 0 t = arr fun l x => X ((t.val / 4) * 2048 + l) ((t.val % 4) * 128 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 2048 + 1 * (j 0).val) (win0_0.index t (1 : Fin 2) * 128 + 1 * (j 1).val) : ℝ) : EReal) = ((X _ _ : ℝ) : EReal)
  rw [e0, e1, one_mul, one_mul]
theorem block1 (X : ℕ → ℕ → ℝ) (hV : V m c main_arg0 = arr X) (t : Fin cfg0.N) :
    iblk m c 1 t = arr fun l x => X ((t.val / 4) * 2048 + l) ((4 + t.val % 4) * 128 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 2048 + 1 * (j 0).val) (win0_1.index t (1 : Fin 2) * 128 + 1 * (j 1).val) : ℝ) : EReal) = ((X _ _ : ℝ) : EReal)
  rw [e0, e1, one_mul, one_mul]
theorem block2 (X : ℕ → ℕ → ℝ) (hV : V m c main_arg0 = arr X) (t : Fin cfg0.N) :
    iblk m c 2 t = arr fun l x => X ((t.val / 4) * 2048 + l) ((8 + t.val % 4) * 128 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 2048 + 1 * (j 0).val) (win0_2.index t (1 : Fin 2) * 128 + 1 * (j 1).val) : ℝ) : EReal) = ((X _ _ : ℝ) : EReal)
  rw [e0, e1, one_mul, one_mul]
theorem block3 (X : ℕ → ℕ → ℝ) (hV : V m c main_v76 = arr X) (t : Fin cfg0.N) :
    iblk m c 3 t = arr fun l x => X ((t.val / 4) * 2048 + l) ((t.val % 4) * 128 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 2048 + 1 * (j 0).val) (win0_3.index t (1 : Fin 2) * 128 + 1 * (j 1).val) : ℝ) : EReal) = ((X _ _ : ℝ) : EReal)
  rw [e0, e1, one_mul, one_mul]
theorem block4 (X : ℕ → ℕ → ℝ) (hV : V m c main_arg1 = arr X) (t : Fin cfg0.N) :
    iblk m c 4 t = arr fun l x => X ((t.val / 4) * 2048 + l) ((t.val % 4) * 128 + x) := by
  obtain ⟨e0, e1⟩ := at4 t
  have hV' : V m c (Pipeline.arrRef spec0 4) = arr X := hV
  unfold iblk
  generalize V m c (Pipeline.arrRef spec0 4) = W at hV'
  subst hV'
  funext j
  show ((X (win0_4.index t (0 : Fin 2) * 2048 + 1 * (j 0).val) (win0_4.index t (1 : Fin 2) * 128 + 1 * (j 1).val) : ℝ) : EReal) = ((X _ _ : ℝ) : EReal)
  rw [e0, e1, one_mul, one_mul]
theorem block5 (X : ℕ → ℕ → ℝ) (hV : V m c main_v81 = arr X) (t : Fin cfg0.N) :
    iblk m c 5 t = arr fun l x => X ((t.val % 4) * 640 + l) ((0) * 128 + x) := by
  obtain ⟨e0, e1⟩ := at5 t
  have hV' : V m c (Pipeline.arrRef spec0 5) = arr X := hV
  unfold iblk
  generalize V m c (Pipeline.arrRef spec0 5) = W at hV'
  subst hV'
  funext j
  show ((X (win0_5.index t (0 : Fin 2) * 640 + 1 * (j 0).val) (win0_5.index t (1 : Fin 2) * 128 + 1 * (j 1).val) : ℝ) : EReal) = ((X _ _ : ℝ) : EReal)
  rw [e0, e1, one_mul, one_mul]
theorem block6 (X : ℕ → ℕ → ℝ) (hV : V m c main_v82 = arr X) (t : Fin cfg0.N) :
    iblk m c 6 t = arr fun l x => X ((0) * 1 + l) ((0) * 128 + x) := by
  obtain ⟨e0, e1⟩ := at6 t
  have hV' : V m c (Pipeline.arrRef spec0 6) = arr X := hV
  unfold iblk
  generalize V m c (Pipeline.arrRef spec0 6) = W at hV'
  subst hV'
  funext j
  show ((X (win0_6.index t (0 : Fin 2) * 1 + 1 * (j 0).val) (win0_6.index t (1 : Fin 2) * 128 + 1 * (j 1).val) : ℝ) : EReal) = ((X _ _ : ℝ) : EReal)
  rw [e0, e1, one_mul, one_mul]
theorem block7 (X : ℕ → ℕ → ℝ) (hV : V m c main_v83 = arr X) (t : Fin cfg0.N) :
    iblk m c 7 t = arr fun l x => X ((0) * 1 + l) ((0) * 128 + x) := by
  obtain ⟨e0, e1⟩ := at7 t
  have hV' : V m c (Pipeline.arrRef spec0 7) = arr X := hV
  unfold iblk
  generalize V m c (Pipeline.arrRef spec0 7) = W at hV'
  subst hV'
  funext j
  show ((X (win0_7.index t (0 : Fin 2) * 1 + 1 * (j 0).val) (win0_7.index t (1 : Fin 2) * 128 + 1 * (j 1).val) : ℝ) : EReal) = ((X _ _ : ℝ) : EReal)
  rw [e0, e1, one_mul, one_mul]

/-! ### A place of the grid is two heads of one batch -/

/-- The arguments' arrays are the given reals. -/
structure Given (A : Args) : Prop where
  x0 : m ((c : Thread nD τ).loc main_arg0) = A.x0
  x1 : m ((c : Thread nD τ).loc main_arg1) = A.x1
  x2 : m ((c : Thread nD τ).loc main_arg2) = A.x2
  x3 : m ((c : Thread nD τ).loc main_arg3) = A.x3
  x4 : m ((c : Thread nD τ).loc main_arg4) = A.x4

variable {m c} {A : Args} (h : Given m c A)

include h

theorem V_out : V m c main_v76 = arr fun r x => (A.head (r / 2048) (x / 64)).out (r % 2048) (x % 64) := by
  refine (out_host (fun b => m (c, b))).trans ?_
  show val_main_v101 (F := Ideal) (m ((c : Thread nD τ).loc main_arg0)) (m ((c : Thread nD τ).loc main_arg2)) (m ((c : Thread nD τ).loc main_arg3)) (m ((c : Thread nD τ).loc main_arg4)) = _
  rw [h.x0, h.x2, h.x3, h.x4]
  exact A.v101

theorem V_bias : V m c main_v81 = arr fun r j => if 64 ≤ r % 640 then A.B (2 * (r / 640) + j / 64) (j % 64) (r % 640 - 64) else 0 := by
  refine (bias_host (fun b => m (c, b))).trans ?_
  show biasT (F := Ideal) (m ((c : Thread nD τ).loc main_arg2)) = _
  rw [h.x2]
  exact biasT_eq A.B

theorem V_gq : V m c main_v82 = arr fun _ x => A.Gq (x % 64) := by
  refine (gq_host (fun b => m (c, b))).trans ?_
  show twice (F := Ideal) (m ((c : Thread nD τ).loc main_arg3)) = _
  rw [h.x3]
  exact twice_eq A.Gq

theorem V_gk : V m c main_v83 = arr fun _ x => A.Gk (x % 64) := by
  refine (gk_host (fun b => m (c, b))).trans ?_
  show twice (F := Ideal) (m ((c : Thread nD τ).loc main_arg4)) = _
  rw [h.x4]
  exact twice_eq A.Gk

/-- The heads of the point `t`. -/
def headAt (A : Args) (t : ℕ) (f : ℕ) : Head := A.head (t / 4) (2 * (t % 4) + f)

section
omit h
variable (A) (t f l e : ℕ)
theorem headAt_q : (headAt A t f).q l e = A.X (t / 4 * 2048 + l) ((2 * (t % 4) + f) * 64 + e) := rfl
theorem headAt_k : (headAt A t f).k l e = A.X (t / 4 * 2048 + l) (512 + ((2 * (t % 4) + f) * 64 + e)) := rfl
theorem headAt_v : (headAt A t f).v l e = A.X (t / 4 * 2048 + l) (1024 + ((2 * (t % 4) + f) * 64 + e)) := rfl
theorem headAt_d : (headAt A t f).d l e = A.D (t / 4 * 2048 + l) ((2 * (t % 4) + f) * 64 + e) := rfl
theorem headAt_bias : (headAt A t f).bias = A.B (2 * (t % 4) + f) := rfl
theorem headAt_gq : (headAt A t f).gq = A.Gq := rfl
theorem headAt_gk : (headAt A t f).gk = A.Gk := rfl
theorem headAt_eq : A.head (t / 4) (2 * (t % 4) + f) = headAt A t f := rfl
end

theorem A0 : V m c main_arg0 = arr A.X := (V_main_arg0 m c).trans h.x0
theorem A1 : V m c main_arg1 = arr A.D := (V_main_arg1 m c).trans h.x1

theorem place_q (t : Fin cfg0.N) : iblk m c 0 t = arr fun l x => (headAt A t.val (x / 64)).q l (x % 64) := by
  rw [block0 m c _ (A0 h) t]
  refine arr_congr _ _ fun l x hl hx => ?_
  have e : (t.val % 4) * 128 + x = ((2 * (t.val % 4) + x / 64) * 64 + x % 64) := by omega
  rw [e]
  rfl
theorem place_k (t : Fin cfg0.N) : iblk m c 1 t = arr fun l x => (headAt A t.val (x / 64)).k l (x % 64) := by
  rw [block1 m c _ (A0 h) t]
  refine arr_congr _ _ fun l x hl hx => ?_
  have e : (4 + t.val % 4) * 128 + x = 512 + ((2 * (t.val % 4) + x / 64) * 64 + x % 64) := by omega
  rw [e]
  rfl
theorem place_v (t : Fin cfg0.N) : iblk m c 2 t = arr fun l x => (headAt A t.val (x / 64)).v l (x % 64) := by
  rw [block2 m c _ (A0 h) t]
  refine arr_congr _ _ fun l x hl hx => ?_
  have e : (8 + t.val % 4) * 128 + x = 1024 + ((2 * (t.val % 4) + x / 64) * 64 + x % 64) := by omega
  rw [e]
  rfl
theorem place_o (t : Fin cfg0.N) : iblk m c 3 t = arr fun l x => (headAt A t.val (x / 64)).out l (x % 64) := by
  rw [block3 m c _ (V_out h) t]
  refine arr_congr _ _ fun l x hl hx => ?_
  rw [show (t.val / 4 * 2048 + l) / 2048 = t.val / 4 by omega, show (t.val / 4 * 2048 + l) % 2048 = l by omega,
      show (t.val % 4 * 128 + x) / 64 = 2 * (t.val % 4) + x / 64 by omega, show (t.val % 4 * 128 + x) % 64 = x % 64 by omega]
  rfl
theorem place_d (t : Fin cfg0.N) : iblk m c 4 t = arr fun l x => (headAt A t.val (x / 64)).d l (x % 64) := by
  rw [block4 m c _ (A1 h) t]
  refine arr_congr _ _ fun l x hl hx => ?_
  have e : (t.val % 4) * 128 + x = (2 * (t.val % 4) + x / 64) * 64 + x % 64 := by omega
  rw [e]
  rfl
theorem place_bias (t : Fin cfg0.N) : iblk m c 5 t = arr fun l x => if 64 ≤ l then (headAt A t.val (x / 64)).bias (x % 64) (l - 64) else 0 := by
  rw [block5 m c _ (V_bias h) t]
  refine arr_congr _ _ fun l x hl hx => ?_
  rw [show (t.val % 4 * 640 + l) % 640 = l by omega, show (t.val % 4 * 640 + l) / 640 = t.val % 4 by omega, Nat.zero_mul, Nat.zero_add]
  rfl
theorem place_gq (t : Fin cfg0.N) : iblk m c 6 t = arr fun l x => (headAt A t.val (x / 64)).gq (x % 64) := by
  rw [block6 m c _ (V_gq h) t]
  refine arr_congr _ _ fun l x hl hx => ?_
  rw [Nat.zero_mul, Nat.zero_add]
  rfl
theorem place_gk (t : Fin cfg0.N) : iblk m c 7 t = arr fun l x => (headAt A t.val (x / 64)).gk (x % 64) := by
  rw [block7 m c _ (V_gk h) t]
  refine arr_congr _ _ fun l x hl hx => ?_
  rw [Nat.zero_mul, Nat.zero_add]
  rfl

omit h in
theorem insAt_q (t : Fin cfg0.N) : (insAt m c t).q = iblk m c 0 t := by
  unfold insAt; rfl
omit h in
theorem insAt_k (t : Fin cfg0.N) : (insAt m c t).k = iblk m c 1 t := by
  unfold insAt; rfl
omit h in
theorem insAt_v (t : Fin cfg0.N) : (insAt m c t).v = iblk m c 2 t := by
  unfold insAt; rfl
omit h in
theorem insAt_o (t : Fin cfg0.N) : (insAt m c t).o = iblk m c 3 t := by
  unfold insAt; rfl
omit h in
theorem insAt_d (t : Fin cfg0.N) : (insAt m c t).dout = iblk m c 4 t := by
  unfold insAt; rfl
omit h in
theorem insAt_bias (t : Fin cfg0.N) : (insAt m c t).bias = iblk m c 5 t := by
  unfold insAt; rfl
omit h in
theorem insAt_gq (t : Fin cfg0.N) : (insAt m c t).gq = iblk m c 6 t := by
  unfold insAt; rfl
omit h in
theorem insAt_gk (t : Fin cfg0.N) : (insAt m c t).gk = iblk m c 7 t := by
  unfold insAt; rfl

theorem place (t : Fin cfg0.N) : IsPlace (insAt m c t) (headAt A t.val) := by
  have e0 := place_q h t
  have e1 := place_k h t
  have e2 := place_v h t
  have e3 := place_o h t
  have e4 := place_d h t
  have e5 := place_bias h t
  have e6 := place_gq h t
  have e7 := place_gk h t
  rw [← insAt_q] at e0
  rw [← insAt_k] at e1
  rw [← insAt_v] at e2
  rw [← insAt_o] at e3
  rw [← insAt_d] at e4
  rw [← insAt_bias] at e5
  rw [← insAt_gq] at e6
  rw [← insAt_gk] at e7
  generalize insAt m c t = I at *
  exact ⟨e0, e1, e2, e3, e4, e5, e6, e7⟩

/-! ### The arrays the call returns -/

theorem array8 : (dats m 0 c).arrAt 8 cfg0.N = arr fun r x => (A.head (r / 2048) (x / 64)).dq (r % 2048) (x % 64) := by
  refine Pipeline.Dat.arrAt_eq_of_cover _ 8 _ (fun t _ => ?_) fun i => ?_
  · obtain ⟨e0, e1⟩ := at8 t
    show (cfg0.win 8).cut (grid0.coords t) ((dats m 0 c).after 8 t) = _
    rw [after0_8, (place h t).outQ]
    funext j
    have h0 : (j 0).val < 2048 := (j 0).isLt
    have h1 : (j 1).val < 128 := (j 1).isLt
    show (((A.head (t.val / 4) (2 * (t.val % 4) + (j 1).val / 64)).dq (j 0).val ((j 1).val % 64) : ℝ) : EReal)
      = (((A.head ((win0_8.index t (0 : Fin 2) * 2048 + 1 * (j 0).val) / 2048) ((win0_8.index t (1 : Fin 2) * 128 + 1 * (j 1).val) / 64)).dq
        ((win0_8.index t (0 : Fin 2) * 2048 + 1 * (j 0).val) % 2048) ((win0_8.index t (1 : Fin 2) * 128 + 1 * (j 1).val) % 64) : ℝ) : EReal)
    rw [e0, e1, one_mul, one_mul, show (t.val / 4 * 2048 + (j 0).val) / 2048 = t.val / 4 by omega, show (t.val / 4 * 2048 + (j 0).val) % 2048 = (j 0).val by omega,
      show (t.val % 4 * 128 + (j 1).val) / 64 = 2 * (t.val % 4) + (j 1).val / 64 by omega, show (t.val % 4 * 128 + (j 1).val) % 64 = (j 1).val % 64 by omega]
  · have h0 : (i 0).val < 4096 := (i 0).isLt
    have h1 : (i 1).val < 512 := (i 1).isLt
    let t : Fin cfg0.N := ⟨(i 0).val / 2048 * 4 + (i 1).val / 128, show _ < 8 by omega⟩
    obtain ⟨e0, e1⟩ := at8 t
    have ht : t.val = (i 0).val / 2048 * 4 + (i 1).val / 128 := rfl
    refine ⟨t, flush0_8 t, ?_⟩
    have hm := ((cfg0.win 8).blk t).view.emb_mem_set (ix2 ⟨(i 0).val % 2048, by omega⟩ ⟨(i 1).val % 128, by omega⟩)
    refine Eq.subst (motive := fun k => k ∈ ((cfg0.win 8).blk t).view.set) ?_ hm
    funext a; apply Fin.ext
    match a with
    | ⟨0, _⟩ => show win0_8.index t (0 : Fin 2) * 2048 + 1 * ((i 0).val % 2048) = (i 0).val; omega
    | ⟨1, _⟩ => show win0_8.index t (1 : Fin 2) * 128 + 1 * ((i 1).val % 128) = (i 1).val; omega

theorem array9 : (dats m 0 c).arrAt 9 cfg0.N = arr fun r x => (A.head (r / 2048) (x / 64)).dk (r % 2048) (x % 64) := by
  refine Pipeline.Dat.arrAt_eq_of_cover _ 9 _ (fun t _ => ?_) fun i => ?_
  · obtain ⟨e0, e1⟩ := at9 t
    show (cfg0.win 9).cut (grid0.coords t) ((dats m 0 c).after 9 t) = _
    rw [after0_9, (place h t).outK]
    funext j
    have h0 : (j 0).val < 2048 := (j 0).isLt
    have h1 : (j 1).val < 128 := (j 1).isLt
    show (((A.head (t.val / 4) (2 * (t.val % 4) + (j 1).val / 64)).dk (j 0).val ((j 1).val % 64) : ℝ) : EReal)
      = (((A.head ((win0_9.index t (0 : Fin 2) * 2048 + 1 * (j 0).val) / 2048) ((win0_9.index t (1 : Fin 2) * 128 + 1 * (j 1).val) / 64)).dk
        ((win0_9.index t (0 : Fin 2) * 2048 + 1 * (j 0).val) % 2048) ((win0_9.index t (1 : Fin 2) * 128 + 1 * (j 1).val) % 64) : ℝ) : EReal)
    rw [e0, e1, one_mul, one_mul, show (t.val / 4 * 2048 + (j 0).val) / 2048 = t.val / 4 by omega, show (t.val / 4 * 2048 + (j 0).val) % 2048 = (j 0).val by omega,
      show (t.val % 4 * 128 + (j 1).val) / 64 = 2 * (t.val % 4) + (j 1).val / 64 by omega, show (t.val % 4 * 128 + (j 1).val) % 64 = (j 1).val % 64 by omega]
  · have h0 : (i 0).val < 4096 := (i 0).isLt
    have h1 : (i 1).val < 512 := (i 1).isLt
    let t : Fin cfg0.N := ⟨(i 0).val / 2048 * 4 + (i 1).val / 128, show _ < 8 by omega⟩
    obtain ⟨e0, e1⟩ := at9 t
    have ht : t.val = (i 0).val / 2048 * 4 + (i 1).val / 128 := rfl
    refine ⟨t, flush0_9 t, ?_⟩
    have hm := ((cfg0.win 9).blk t).view.emb_mem_set (ix2 ⟨(i 0).val % 2048, by omega⟩ ⟨(i 1).val % 128, by omega⟩)
    refine Eq.subst (motive := fun k => k ∈ ((cfg0.win 9).blk t).view.set) ?_ hm
    funext a; apply Fin.ext
    match a with
    | ⟨0, _⟩ => show win0_9.index t (0 : Fin 2) * 2048 + 1 * ((i 0).val % 2048) = (i 0).val; omega
    | ⟨1, _⟩ => show win0_9.index t (1 : Fin 2) * 128 + 1 * ((i 1).val % 128) = (i 1).val; omega

theorem array10 : (dats m 0 c).arrAt 10 cfg0.N = arr fun r x => (A.head (r / 2048) (x / 64)).dv (r % 2048) (x % 64) := by
  refine Pipeline.Dat.arrAt_eq_of_cover _ 10 _ (fun t _ => ?_) fun i => ?_
  · obtain ⟨e0, e1⟩ := at10 t
    show (cfg0.win 10).cut (grid0.coords t) ((dats m 0 c).after 10 t) = _
    rw [after0_10, (place h t).outV]
    funext j
    have h0 : (j 0).val < 2048 := (j 0).isLt
    have h1 : (j 1).val < 128 := (j 1).isLt
    show (((A.head (t.val / 4) (2 * (t.val % 4) + (j 1).val / 64)).dv (j 0).val ((j 1).val % 64) : ℝ) : EReal)
      = (((A.head ((win0_10.index t (0 : Fin 2) * 2048 + 1 * (j 0).val) / 2048) ((win0_10.index t (1 : Fin 2) * 128 + 1 * (j 1).val) / 64)).dv
        ((win0_10.index t (0 : Fin 2) * 2048 + 1 * (j 0).val) % 2048) ((win0_10.index t (1 : Fin 2) * 128 + 1 * (j 1).val) % 64) : ℝ) : EReal)
    rw [e0, e1, one_mul, one_mul, show (t.val / 4 * 2048 + (j 0).val) / 2048 = t.val / 4 by omega, show (t.val / 4 * 2048 + (j 0).val) % 2048 = (j 0).val by omega,
      show (t.val % 4 * 128 + (j 1).val) / 64 = 2 * (t.val % 4) + (j 1).val / 64 by omega, show (t.val % 4 * 128 + (j 1).val) % 64 = (j 1).val % 64 by omega]
  · have h0 : (i 0).val < 4096 := (i 0).isLt
    have h1 : (i 1).val < 512 := (i 1).isLt
    let t : Fin cfg0.N := ⟨(i 0).val / 2048 * 4 + (i 1).val / 128, show _ < 8 by omega⟩
    obtain ⟨e0, e1⟩ := at10 t
    have ht : t.val = (i 0).val / 2048 * 4 + (i 1).val / 128 := rfl
    refine ⟨t, flush0_10 t, ?_⟩
    have hm := ((cfg0.win 10).blk t).view.emb_mem_set (ix2 ⟨(i 0).val % 2048, by omega⟩ ⟨(i 1).val % 128, by omega⟩)
    refine Eq.subst (motive := fun k => k ∈ ((cfg0.win 10).blk t).view.set) ?_ hm
    funext a; apply Fin.ext
    match a with
    | ⟨0, _⟩ => show win0_10.index t (0 : Fin 2) * 2048 + 1 * ((i 0).val % 2048) = (i 0).val; omega
    | ⟨1, _⟩ => show win0_10.index t (1 : Fin 2) * 128 + 1 * ((i 1).val % 128) = (i 1).val; omega

theorem array11 : (dats m 0 c).arrAt 11 cfg0.N = arr3 fun b r j => IsChunk.pad ((A.head b (2 * (r / 640) + j / 64)).dbias (j % 64)) (r % 640) := by
  refine Pipeline.Dat.arrAt_eq_of_cover _ 11 _ (fun t _ => ?_) fun i => ?_
  · obtain ⟨e0, e1, e2⟩ := at11 t
    show (cfg0.win 11).cut (grid0.coords t) ((dats m 0 c).after 11 t) = _
    rw [after0_11]
    funext j
    have h0 : (j 0).val < 1 := (j 0).isLt
    have h1 : (j 1).val < 640 := (j 1).isLt
    have h2 : (j 2).val < 128 := (j 2).isLt
    refine ((congrArg _ (show j = ix3 0 (j 1) (j 2) from by rw [eq_ix3 j]; congr 1; exact Fin.ext (by show (j 0).val = 0; omega))).trans ((place h t).outB (j 1) (j 2))).trans ?_
    show ((IsChunk.pad ((A.head (t.val / 4) (2 * (t.val % 4) + (j 2).val / 64)).dbias ((j 2).val % 64)) (j 1).val : ℝ) : EReal)
      = ((IsChunk.pad ((A.head (win0_11.index t (0 : Fin 3) * 1 + 1 * (j 0).val) (2 * ((win0_11.index t (1 : Fin 3) * 640 + 1 * (j 1).val) / 640)
        + (win0_11.index t (2 : Fin 3) * 128 + 1 * (j 2).val) / 64)).dbias ((win0_11.index t (2 : Fin 3) * 128 + 1 * (j 2).val) % 64))
        ((win0_11.index t (1 : Fin 3) * 640 + 1 * (j 1).val) % 640) : ℝ) : EReal)
    rw [e0, e1, e2, show t.val / 4 * 1 + 1 * (j 0).val = t.val / 4 by omega, show (t.val % 4 * 640 + 1 * (j 1).val) / 640 = t.val % 4 by omega,
      show (t.val % 4 * 640 + 1 * (j 1).val) % 640 = (j 1).val by omega, show 0 * 128 + 1 * (j 2).val = (j 2).val by omega]
  · have h0 : (i 0).val < 2 := (i 0).isLt
    have h1 : (i 1).val < 2560 := (i 1).isLt
    have h2 : (i 2).val < 128 := (i 2).isLt
    let t : Fin cfg0.N := ⟨(i 0).val * 4 + (i 1).val / 640, show _ < 8 by omega⟩
    obtain ⟨e0, e1, e2⟩ := at11 t
    have ht : t.val = (i 0).val * 4 + (i 1).val / 640 := rfl
    refine ⟨t, flush0_11 t, ?_⟩
    have hm := ((cfg0.win 11).blk t).view.emb_mem_set (ix3 0 ⟨(i 1).val % 640, by omega⟩ ⟨(i 2).val, h2⟩)
    refine Eq.subst (motive := fun k => k ∈ ((cfg0.win 11).blk t).view.set) ?_ hm
    funext a; apply Fin.ext
    match a with
    | ⟨0, _⟩ => show win0_11.index t (0 : Fin 3) * 1 + 1 * 0 = (i 0).val; omega
    | ⟨1, _⟩ => show win0_11.index t (1 : Fin 3) * 640 + 1 * ((i 1).val % 640) = (i 1).val; omega
    | ⟨2, _⟩ => show win0_11.index t (2 : Fin 3) * 128 + 1 * (i 2).val = (i 2).val; omega

theorem array12 : (dats m 0 c).arrAt 12 cfg0.N = arr3 fun t _ x => dgain (headAt A t (x / 64)).q (headAt A t (x / 64)).dqn (x % 64) := by
  refine Pipeline.Dat.arrAt_eq_of_cover _ 12 _ (fun t _ => ?_) fun i => ?_
  · obtain ⟨e0, e1, e2⟩ := at12 t
    show (cfg0.win 12).cut (grid0.coords t) ((dats m 0 c).after 12 t) = _
    rw [after0_12]
    funext j
    have h0 : (j 0).val < 1 := (j 0).isLt
    have h1 : (j 1).val < 1 := (j 1).isLt
    have h2 : (j 2).val < 128 := (j 2).isLt
    refine ((congrArg _ (show j = ix3 0 0 (j 2) from by rw [eq_ix3 j]; congr 1 <;> exact Fin.ext (by first | (show (j 0).val = 0; omega) | (show (j 1).val = 0; omega)))).trans ((place h t).outGq (j 2))).trans ?_
    show ((dgain (headAt A t.val ((j 2).val / 64)).q (headAt A t.val ((j 2).val / 64)).dqn ((j 2).val % 64) : ℝ) : EReal)
      = ((dgain (headAt A (win0_12.index t (0 : Fin 3) * 1 + 1 * (j 0).val) ((win0_12.index t (2 : Fin 3) * 128 + 1 * (j 2).val) / 64)).q
        (headAt A (win0_12.index t (0 : Fin 3) * 1 + 1 * (j 0).val) ((win0_12.index t (2 : Fin 3) * 128 + 1 * (j 2).val) / 64)).dqn
        ((win0_12.index t (2 : Fin 3) * 128 + 1 * (j 2).val) % 64) : ℝ) : EReal)
    rw [e0, e2, show t.val * 1 + 1 * (j 0).val = t.val by omega, show 0 * 128 + 1 * (j 2).val = (j 2).val by omega]
  · have h0 : (i 0).val < 8 := (i 0).isLt
    have h1 : (i 1).val < 1 := (i 1).isLt
    have h2 : (i 2).val < 128 := (i 2).isLt
    let t : Fin cfg0.N := ⟨(i 0).val, h0⟩
    obtain ⟨e0, e1, e2⟩ := at12 t
    have ht : t.val = (i 0).val := rfl
    refine ⟨t, flush0_12 t, ?_⟩
    have hm := ((cfg0.win 12).blk t).view.emb_mem_set (ix3 0 0 ⟨(i 2).val, h2⟩)
    refine Eq.subst (motive := fun k => k ∈ ((cfg0.win 12).blk t).view.set) ?_ hm
    funext a; apply Fin.ext
    match a with
    | ⟨0, _⟩ => show win0_12.index t (0 : Fin 3) * 1 + 1 * 0 = (i 0).val; omega
    | ⟨1, _⟩ => show win0_12.index t (1 : Fin 3) * 1 + 1 * 0 = (i 1).val; omega
    | ⟨2, _⟩ => show win0_12.index t (2 : Fin 3) * 128 + 1 * (i 2).val = (i 2).val; omega

theorem array13 : (dats m 0 c).arrAt 13 cfg0.N = arr3 fun t _ x => dgain (headAt A t (x / 64)).k (headAt A t (x / 64)).dkn (x % 64) := by
  refine Pipeline.Dat.arrAt_eq_of_cover _ 13 _ (fun t _ => ?_) fun i => ?_
  · obtain ⟨e0, e1, e2⟩ := at13 t
    show (cfg0.win 13).cut (grid0.coords t) ((dats m 0 c).after 13 t) = _
    rw [after0_13]
    funext j
    have h0 : (j 0).val < 1 := (j 0).isLt
    have h1 : (j 1).val < 1 := (j 1).isLt
    have h2 : (j 2).val < 128 := (j 2).isLt
    refine ((congrArg _ (show j = ix3 0 0 (j 2) from by rw [eq_ix3 j]; congr 1 <;> exact Fin.ext (by first | (show (j 0).val = 0; omega) | (show (j 1).val = 0; omega)))).trans ((place h t).outGk (j 2))).trans ?_
    show ((dgain (headAt A t.val ((j 2).val / 64)).k (headAt A t.val ((j 2).val / 64)).dkn ((j 2).val % 64) : ℝ) : EReal)
      = ((dgain (headAt A (win0_13.index t (0 : Fin 3) * 1 + 1 * (j 0).val) ((win0_13.index t (2 : Fin 3) * 128 + 1 * (j 2).val) / 64)).k
        (headAt A (win0_13.index t (0 : Fin 3) * 1 + 1 * (j 0).val) ((win0_13.index t (2 : Fin 3) * 128 + 1 * (j 2).val) / 64)).dkn
        ((win0_13.index t (2 : Fin 3) * 128 + 1 * (j 2).val) % 64) : ℝ) : EReal)
    rw [e0, e2, show t.val * 1 + 1 * (j 0).val = t.val by omega, show 0 * 128 + 1 * (j 2).val = (j 2).val by omega]
  · have h0 : (i 0).val < 8 := (i 0).isLt
    have h1 : (i 1).val < 1 := (i 1).isLt
    have h2 : (i 2).val < 128 := (i 2).isLt
    let t : Fin cfg0.N := ⟨(i 0).val, h0⟩
    obtain ⟨e0, e1, e2⟩ := at13 t
    have ht : t.val = (i 0).val := rfl
    refine ⟨t, flush0_13 t, ?_⟩
    have hm := ((cfg0.win 13).blk t).view.emb_mem_set (ix3 0 0 ⟨(i 2).val, h2⟩)
    refine Eq.subst (motive := fun k => k ∈ ((cfg0.win 13).blk t).view.set) ?_ hm
    funext a; apply Fin.ext
    match a with
    | ⟨0, _⟩ => show win0_13.index t (0 : Fin 3) * 1 + 1 * 0 = (i 0).val; omega
    | ⟨1, _⟩ => show win0_13.index t (1 : Fin 3) * 1 + 1 * 0 = (i 1).val; omega
    | ⟨2, _⟩ => show win0_13.index t (2 : Fin 3) * 128 + 1 * (i 2).val = (i 2).val; omega

end Cert.Proof.Attn

end
-- ==== Proof.Attn.Suffix.lean ====
module

public import proofs.«01_k».proof.Proof.Attn.Host
public import proofs.«01_k».proof.Proof.Attn.Spec

@[expose] public section

noncomputable section

namespace Cert.Proof.Attn

open Cert.Kernel2Ideal Cert.Kernel2Ideal.Gen
open Idealize.ShloMosaic Idealize.ShloMosaic.TcCoe Idealize.ShloMosaic.Pointwise Reals

attribute [local instance] Cert.Kernel2Ideal.Gen.facts

/-- The two batches' bias sums added and cut to the window's keys, at an entry. -/
theorem bias_cut (x : FVec Ideal S2x2560x128 .f32) (h : Fin 8) (i : Fin 64) (s : Fin 576) :
    extractStridedSlice S8x64x576 ![0, 0, 64] (Host.reduceAdd (shapeCast S2x8x64x640 (transpose S2x4x2x64x640 [0, 1, 3, 4, 2]
        (shapeCast S2x4x640x2x64 x shapeCasts_S2x2560x128_S2x4x640x2x64) transposes_S2x4x640x2x64_S2x4x2x64x640_0_1_3_4_2)
        shapeCasts_S2x4x2x64x640_S2x8x64x640) (constant S_ .f32 0x00000000#32) reducesTo_S2x8x64x640_S8x64x640_d0 h_S_) slices_S8x64x640_S8x64x576_0_0_64 (ix3 h i s)
      = ∑ b : Fin 2, x (ix3 b ⟨(h.val / 2) * 640 + (64 + s.val), by omega⟩ ⟨h.val % 2 * 64 + i.val, by omega⟩) := by
  pointwise []

/-- A gain's sum over the points and the two heads of each. -/
theorem gainSum_at (x : FVec Ideal S8x1x128 .f32) (e : Fin 64) :
    gainSum (F := Ideal) x (ix2 0 e) = ∑ k : Fin 16, x (ix3 ⟨k.val / 2, by omega⟩ 0 ⟨k.val % 2 * 64 + e.val, by omega⟩) := by
  pointwise [gainSum]

/-- A sum over points and heads of a point is a sum over batches and heads. -/
theorem sum_places (f : ℕ → ℕ → ℝ) : ∑ k : Fin 16, f (k.val / 2 / 4) (2 * (k.val / 2 % 4) + k.val % 2) = ∑ b : Fin 2, ∑ h : Fin 8, f b.val h.val := by
  rw [← Fintype.sum_prod_type']
  refine (Fintype.sum_equiv (finProdFinEquiv : Fin 2 × Fin 8 ≃ Fin 16) _ _ fun p => ?_).symm
  obtain ⟨b, h⟩ := p
  have e : (finProdFinEquiv (b, h) : Fin 16).val = h.val + 8 * b.val := rfl
  have e0 : (h.val + 8 * b.val) / 2 / 4 = b.val := by omega
  have e1 : 2 * ((h.val + 8 * b.val) / 2 % 4) + (h.val + 8 * b.val) % 2 = h.val := by omega
  rw [e, e0, e1]

end Cert.Proof.Attn

end
-- ==== Proof.Attn.Claims.lean ====
module

public import proofs.«01_k».proof.Defs
public import proofs.«01_k».proof.Proof.Attn.Run
public import proofs.«01_k».proof.Proof.Gen.Kernel2
public import proofs.«01_k».proof.Proof.Gen.Reference2Ideal.Run
public import Idealize.ShloMosaic.Adequacy
public import Idealize.ShloMosaic.Init
public import Idealize.ShloMosaic.Lib.Quiescent

@[expose] public section

noncomputable section

namespace Cert.Proof.Attn

open Idealize.ShloMosaic Idealize.ShloMosaic.Tactic Idealize.SL.Sem

attribute [local instance] Cert.Kernel2.Gen.facts Cert.Kernel2Ideal.Gen.facts Cert.Reference2Ideal.Gen.facts

/-- The program as compiled is the idealized program's operations, in the same order, on machine words. -/
theorem same_program (m : (ℓ : Loc Cert.Kernel2Ideal.nD Cert.Kernel2Ideal.τ Cert.Kernel2Ideal.sig) → Buf (Elt Bits) ℓ) (ρ : Dev Cert.Kernel2Ideal.nD → PrngReg)
    (Q : PUnit × MemSt Cert.Kernel2Ideal.nD Cert.Kernel2Ideal.τ Cert.Kernel2Ideal.sig (Elt Bits) → Prop) :
    (θ_run (Cert.Kernel2.defs (F := Bits)) (onTc (τ := Cert.Kernel2.τ) (Cert.Kernel2.main (F := Bits))) ⟨m, fun _ => 0, ρ⟩ Q : Prop)
      = θ_run (Cert.Kernel2Ideal.defs (F := Bits)) (onTc (τ := Cert.Kernel2Ideal.τ) (Cert.Kernel2Ideal.main (F := Bits))) ⟨m, fun _ => 0, ρ⟩ Q := by
  sl_kernel_rfl

/-- The compiled program's frame is the idealized program's. -/
theorem quiescent_kernel2 : Cert.quiescent_Kernel2 := fun m ρ _ => (same_program m ρ _).mpr (frame (F := Bits) m ρ)

/-- The idealized kernel runs and ends quiescent. -/
theorem quiescent_kernel2_ideal : Cert.quiescent_Kernel2Ideal := fun m ρ _ => frame (F := Ideal) m ρ

/-- The idealized reference runs and ends quiescent. -/
theorem quiescent_reference2 : Cert.quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

end Cert.Proof.Attn

end
-- ==== Proof.Attn.Algebraic.lean ====
module

public import proofs.«01_k».proof.Proof.Attn.Arrays
public import proofs.«01_k».proof.Proof.Attn.Suffix
public import proofs.«01_k».proof.Proof.Attn.Claims

@[expose] public section

noncomputable section

namespace Cert.Proof.Attn

open Cert.Kernel2Ideal Cert.Kernel2Ideal.Gen
open Idealize.ShloMosaic Idealize.ShloMosaic.TcCoe Idealize.ShloMosaic.Pointwise Reals
open Idealize.SL.Sem
open Cert.Reference2Ideal.Read

attribute [local instance] Cert.Kernel2Ideal.Gen.facts Cert.Reference2Ideal.Gen.facts

set_option maxRecDepth 8192

section
variable {m : (ℓ : Loc nD τ sig) → Buf (Elt Ideal) ℓ} {c : Dev nD}

/-- An array the call returns, read by the lines after it. -/
theorem tail_array (w : Fin cfg0.W) : Pipeline.withArrays (cfgs 0).spec c (V0 m c) (fun w => (dats m 0 c).arrAt w (cfgs 0).N) (Proc.devRef .tc (Pipeline.arrRef spec0 w))
    = (dats m 0 c).arrAt w cfg0.N :=
  Pipeline.withArrays_arr_shared spec0 c (V0 m c) _ ((dats m 0 c).arrAt_sharedIn sharedIn0 (V0 m c) (A_eq m c) cfg0.N) w

variable {A : Args} (h : Given m c A)

include h

/-- The bias's gradient as the host's last lines leave it. -/
theorem tail_bias : Pipeline.afterTail₀ cfgs (dats m) 0 (V0 m) [hostOps1] c main_v95
    = arr3 fun a i s => ∑ b : Fin 2, (A.head b a).dbias i s := by
  unfold Pipeline.afterTail₀
  rw [List.flatten_cons, List.flatten_nil, List.append_nil, bias_suffix]
  have e : Pipeline.withArrays (cfgs 0).spec c (V0 m c) (fun w => (dats m 0 c).arrAt w (cfgs 0).N) (Proc.devRef .tc main_v84_3) = _ := (tail_array 11).trans (array11 h)
  rw [e]
  funext k
  rw [eq_ix3 k]
  refine (bias_cut _ (k 0) (k 1) (k 2)).trans ?_
  show ∑ b : Fin 2, ((IsChunk.pad ((A.head b.val (2 * (((k 0).val / 2 * 640 + (64 + (k 2).val)) / 640) + ((k 0).val % 2 * 64 + (k 1).val) / 64)).dbias
    (((k 0).val % 2 * 64 + (k 1).val) % 64)) (((k 0).val / 2 * 640 + (64 + (k 2).val)) % 640) : ℝ) : EReal) = ((∑ b : Fin 2, (A.head b.val (k 0).val).dbias (k 1).val (k 2).val : ℝ) : EReal)
  have h0 : (k 0).val < 8 := (k 0).isLt
  have h1 : (k 1).val < 64 := (k 1).isLt
  have h2 : (k 2).val < 576 := (k 2).isLt
  rw [sum_coe, show 2 * (((k 0).val / 2 * 640 + (64 + (k 2).val)) / 640) + ((k 0).val % 2 * 64 + (k 1).val) / 64 = (k 0).val by omega,
    show ((k 0).val % 2 * 64 + (k 1).val) % 64 = (k 1).val by omega, show ((k 0).val / 2 * 640 + (64 + (k 2).val)) % 640 = 64 + (k 2).val by omega]
  unfold IsChunk.pad
  refine congrArg _ (Finset.sum_congr rfl fun b _ => ?_)
  rw [if_pos (Nat.le_add_right 64 (k 2).val), Nat.add_sub_cancel_left]

/-- The query gain's gradient, -/
theorem tail_gq : Pipeline.afterTail₀ cfgs (dats m) 0 (V0 m) [hostOps1] c main_v90
    = arr fun _ e => ∑ b : Fin 2, ∑ a : Fin 8, dgain (A.head b a).q (A.head b a).dqn e := by
  unfold Pipeline.afterTail₀
  rw [List.flatten_cons, List.flatten_nil, List.append_nil, gq_suffix]
  have e : Pipeline.withArrays (cfgs 0).spec c (V0 m c) (fun w => (dats m 0 c).arrAt w (cfgs 0).N) (Proc.devRef .tc main_v84_4) = _ := (tail_array 12).trans (array12 h)
  rw [e]
  refine eq_arr _ _ fun z e => ?_
  obtain rfl : z = 0 := Subsingleton.elim _ _
  rw [gainSum_at, ← sum_places fun b a => dgain (A.head b a).q (A.head b a).dqn e.val, ← sum_coe]
  refine Finset.sum_congr rfl fun k _ => ?_
  show ((dgain (headAt A (k.val / 2) ((k.val % 2 * 64 + e.val) / 64)).q (headAt A (k.val / 2) ((k.val % 2 * 64 + e.val) / 64)).dqn ((k.val % 2 * 64 + e.val) % 64) : ℝ) : EReal)
    = ((dgain (headAt A (k.val / 2) (k.val % 2)).q (headAt A (k.val / 2) (k.val % 2)).dqn e.val : ℝ) : EReal)
  rw [show (k.val % 2 * 64 + e.val) / 64 = k.val % 2 by omega, show (k.val % 2 * 64 + e.val) % 64 = e.val by omega]

/-- and the key gain's. -/
theorem tail_gk : Pipeline.afterTail₀ cfgs (dats m) 0 (V0 m) [hostOps1] c main_v93
    = arr fun _ e => ∑ b : Fin 2, ∑ a : Fin 8, dgain (A.head b a).k (A.head b a).dkn e := by
  unfold Pipeline.afterTail₀
  rw [List.flatten_cons, List.flatten_nil, List.append_nil, gk_suffix]
  have e : Pipeline.withArrays (cfgs 0).spec c (V0 m c) (fun w => (dats m 0 c).arrAt w (cfgs 0).N) (Proc.devRef .tc main_v84_5) = _ := (tail_array 13).trans (array13 h)
  rw [e]
  refine eq_arr _ _ fun z e => ?_
  obtain rfl : z = 0 := Subsingleton.elim _ _
  rw [gainSum_at, ← sum_places fun b a => dgain (A.head b a).k (A.head b a).dkn e.val, ← sum_coe]
  refine Finset.sum_congr rfl fun k _ => ?_
  show ((dgain (headAt A (k.val / 2) ((k.val % 2 * 64 + e.val) / 64)).k (headAt A (k.val / 2) ((k.val % 2 * 64 + e.val) / 64)).dkn ((k.val % 2 * 64 + e.val) % 64) : ℝ) : EReal)
    = ((dgain (headAt A (k.val / 2) (k.val % 2)).k (headAt A (k.val / 2) (k.val % 2)).dkn e.val : ℝ) : EReal)
  rw [show (k.val % 2 * 64 + e.val) / 64 = k.val % 2 by omega, show (k.val % 2 * 64 + e.val) % 64 = e.val by omega]

end

/-- The six gradients on the reals the two programs are given. -/
structure Grads where
  dq : FVec Ideal S4096x512 .bf16
  dk : FVec Ideal S4096x512 .bf16
  dv : FVec Ideal S4096x512 .bf16
  dbias : FVec Ideal S8x64x576 .f32
  dgq : FVec Ideal S1x64 .f32
  dgk : FVec Ideal S1x64 .f32

def Args.grads (A : Args) : Grads where
  dq := arr fun r x => (A.head (r / 2048) (x / 64)).dq (r % 2048) (x % 64)
  dk := arr fun r x => (A.head (r / 2048) (x / 64)).dk (r % 2048) (x % 64)
  dv := arr fun r x => (A.head (r / 2048) (x / 64)).dv (r % 2048) (x % 64)
  dbias := arr3 fun a i s => ∑ b : Fin 2, (A.head b a).dbias i s
  dgq := arr fun _ e => ∑ b : Fin 2, ∑ a : Fin 8, dgain (A.head b a).q (A.head b a).dqn e
  dgk := arr fun _ e => ∑ b : Fin 2, ∑ a : Fin 8, dgain (A.head b a).k (A.head b a).dkn e

/-- The kernel's run leaves them, and its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c.tc : Thread nD τ).loc main_v84_0) = (A c).grads.dq
      ∧ r.2.mem ((c.tc : Thread nD τ).loc main_v84_1) = (A c).grads.dk
      ∧ r.2.mem ((c.tc : Thread nD τ).loc main_v84_2) = (A c).grads.dv
      ∧ r.2.mem ((c.tc : Thread nD τ).loc main_v95) = (A c).grads.dbias
      ∧ r.2.mem ((c.tc : Thread nD τ).loc main_v90) = (A c).grads.dgq
      ∧ r.2.mem ((c.tc : Thread nD τ).loc main_v93) = (A c).grads.dgk
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r hr c => ?_) (θ_run_and (frame m ρ) (run m ρ))
  obtain ⟨hf, hp, -⟩ := hr
  exact ⟨((hp c).1 8).trans (array8 (h c)), ((hp c).1 9).trans (array9 (h c)), ((hp c).1 10).trans (array10 (h c)),
    ((hp c).2 main_v95 (Pipeline.mem_restRefs_of main_v95 (by decide) (by decide))).trans (tail_bias (h c)),
    ((hp c).2 main_v90 (Pipeline.mem_restRefs_of main_v90 (by decide) (by decide))).trans (tail_gq (h c)),
    ((hp c).2 main_v93 (Pipeline.mem_restRefs_of main_v93 (by decide) (by decide))).trans (tail_gk (h c)), hf.1 c⟩

/-- The reference's values are the same gradients. -/
theorem reference_values (A : Args) :
    val_main_v194 (F := Ideal) A.x0 A.x1 A.x2 A.x3 A.x4 = A.grads.dq ∧ val_main_v195 (F := Ideal) A.x0 A.x1 A.x2 A.x3 A.x4 = A.grads.dk
      ∧ val_main_v196 (F := Ideal) A.x0 A.x1 A.x2 A.x3 A.x4 = A.grads.dv ∧ val_main_v123 (F := Ideal) A.x0 A.x1 A.x2 A.x3 A.x4 = A.grads.dbias
      ∧ val_main_v178 (F := Ideal) A.x0 A.x1 A.x2 A.x3 A.x4 = A.grads.dgq ∧ val_main_v155 (F := Ideal) A.x0 A.x1 A.x2 A.x3 A.x4 = A.grads.dgk := by
  refine ⟨A.v194, A.v195, A.v196, ?_, ?_, ?_⟩
  · funext k
    rw [eq_ix3 k]
    exact A.v123 (k 0) (k 1) (k 2)
  · refine eq_arr (val_main_v178 (F := Ideal) A.x0 A.x1 A.x2 A.x3 A.x4) (fun _ e => ∑ b : Fin 2, ∑ a : Fin 8, dgain (A.head b a).q (A.head b a).dqn e) fun z e => ?_
    obtain rfl : z = 0 := Subsingleton.elim _ _
    exact A.v178 e
  · refine eq_arr (val_main_v155 (F := Ideal) A.x0 A.x1 A.x2 A.x3 A.x4) (fun _ e => ∑ b : Fin 2, ∑ a : Fin 8, dgain (A.head b a).k (A.head b a).dkn e) fun z e => ?_
    obtain rfl : z = 0 := Subsingleton.elim _ _
    exact A.v155 e

/-- The shape facts the precondition states. -/
theorem pre_facts : Cert.Pre_finite2.Facts := ⟨by decide, by decide, by decide, by decide, by decide, by decide, by decide, by decide, by decide⟩

/-- An array with no axes has one index. -/
instance : Subsingleton Cert.Pre_finite2.S_.Idx := ⟨fun a b => funext fun i => i.elim0⟩

/-- An array of reals is given by a function of its indices' numbers. -/
theorem eq_arr_of_real {p q : ℕ} (r : (⟨2, ![p, q]⟩ : Shape).Idx → ℝ) : ∃ X : ℕ → ℕ → ℝ, (fun i => ((r i : ℝ) : EReal)) = arr X :=
  ⟨fun i j => if h : i < p ∧ j < q then r (ix2 ⟨i, h.1⟩ ⟨j, h.2⟩) else 0, eq_arr _ _ fun a b => by rw [dif_pos ⟨a.isLt, b.isLt⟩]⟩

theorem eq_arr3_of_real {n p q : ℕ} (r : (⟨3, ![n, p, q]⟩ : Shape).Idx → ℝ) : ∃ X : ℕ → ℕ → ℕ → ℝ, (fun i => ((r i : ℝ) : EReal)) = arr3 X := by
  refine ⟨fun a i j => if h : a < n ∧ i < p ∧ j < q then r (ix3 ⟨a, h.1⟩ ⟨i, h.2.1⟩ ⟨j, h.2.2⟩) else 0, funext fun k => ?_⟩
  rw [eq_ix3 k]
  refine congrArg (fun x : ℝ => (x : EReal)) ?_
  show r (ix3 (k 0) (k 1) (k 2)) = dite ((k 0).val < n ∧ (k 1).val < p ∧ (k 2).val < q) (fun h => r (ix3 ⟨(k 0).val, h.1⟩ ⟨(k 1).val, h.2.1⟩ ⟨(k 2).val, h.2.2⟩)) fun _ => 0
  rw [dif_pos ⟨(k 0).isLt, (k 1).isLt, (k 2).isLt⟩]
  rfl

/-- The precondition says that all five arguments are real everywhere. -/
theorem args_of_pre [Cert.Pre_finite2.Facts] (x0 : FVec Ideal S4096x3584 .f32) (x1 : FVec Ideal S4096x1024 .f32) (x2 : FVec Ideal S8x64x576 .f32) (x3 x4 : FVec Ideal S1x64 .f32)
    (hp : Cert.Pre_finite2.fn (F := Ideal) x0 x1 x2 x3 x4 = fun _ => 1#1) :
    ∃ A : Args, x0 = A.x0 ∧ x1 = A.x1 ∧ x2 = A.x2 ∧ x3 = A.x3 ∧ x4 = A.x4 := by
  unfold Cert.Pre_finite2.fn Cert.Pre_finite2.fn_part1 at hp
  obtain ⟨hp, h4⟩ := and_eq_one _ _ hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨r4, rfl⟩ := reals_of_reduce _ _ _ (fun i => ofBits_inf) _ _ (fun i => i.elim0) (congrFun h4 _)
  obtain ⟨X0, e0⟩ := eq_arr_of_real r0
  obtain ⟨X1, e1⟩ := eq_arr_of_real r1
  obtain ⟨X2, e2⟩ := eq_arr3_of_real r2
  obtain ⟨X3, e3⟩ := eq_arr_of_real r3
  obtain ⟨X4, e4⟩ := eq_arr_of_real r4
  refine ⟨⟨X0, X1, X2, X3 0, X4 0⟩, e0, e1, ?_, ?_, ?_⟩
  · exact e2
  · refine e3.trans (eq_arr _ (fun _ => X3 0) fun z e => ?_)
    obtain rfl : z = 0 := Subsingleton.elim _ _
    rfl
  · refine e4.trans (eq_arr _ (fun _ => X4 0) fun z e => ?_)
    obtain rfl : z = 0 := Subsingleton.elim _ _
    rfl

/-- The idealized kernel and the reference leave the same six gradients of the attention. -/
theorem algebraic [Cert.Pre_finite2.Facts] : Cert.algebraic_Kernel2Ideal_Reference2Ideal_pre_finite2 := by
  intro m ρ m' ρ' hpre hagree
  choose A hA using fun c => args_of_pre _ _ _ _ _ (hpre c)
  refine ⟨fun c => (A c).grads.dq, fun c => (A c).grads.dk, fun c => (A c).grads.dv, fun c => (A c).grads.dbias, fun c => (A c).grads.dgq, fun c => (A c).grads.dgk,
    kernel_run m ρ A fun c => ⟨(hA c).1, (hA c).2.1, (hA c).2.2.1, (hA c).2.2.2.1, (hA c).2.2.2.2⟩, ?_⟩
  refine (θ_run Cert.Reference2Ideal.defs _ _).mono (fun _ h c => ?_) (Cert.Reference2Ideal.Value.run (F := Ideal) m' ρ')
  obtain ⟨h0, h1, h2, h3, h4, h5, hargs⟩ := h c
  obtain ⟨g0, g1, g2, g3, g4⟩ := hagree c
  obtain ⟨a0, a1, a2, a3, a4⟩ := hA c
  obtain ⟨v0, v1, v2, v3, v4, v5⟩ := reference_values (A c)
  have b0 := g0.trans a0
  have b1 := g1.trans a1
  have b2 := g2.trans a2
  have b3 := g3.trans a3
  have b4 := g4.trans a4
  refine ⟨(h0.trans (val_main_v194_eq _)).trans ?_, (h1.trans (val_main_v195_eq _)).trans ?_, (h2.trans (val_main_v196_eq _)).trans ?_,
    (h3.trans (val_main_v123_eq _)).trans ?_, (h4.trans (val_main_v178_eq _)).trans ?_, (h5.trans (val_main_v155_eq _)).trans ?_, hargs⟩
  · refine Eq.trans ?_ v0; rw [← b0, ← b1, ← b2, ← b3, ← b4]
  · refine Eq.trans ?_ v1; rw [← b0, ← b1, ← b2, ← b3, ← b4]
  · refine Eq.trans ?_ v2; rw [← b0, ← b1, ← b2, ← b3, ← b4]
  · refine Eq.trans ?_ v3; rw [← b0, ← b1, ← b2, ← b3, ← b4]
  · refine Eq.trans ?_ v4; rw [← b0, ← b1, ← b2, ← b3, ← b4]
  · refine Eq.trans ?_ v5; rw [← b0, ← b1, ← b2, ← b3, ← b4]

end Cert.Proof.Attn

end
-- ==== Proof.Lib.Gate.lean ====
module

public import proofs.«01_k».proof.Proof.Attn.Spec
public import Mathlib.Analysis.SpecialFunctions.Trigonometric.DerivHyp

@[expose] public section

noncomputable section

namespace Cert.Proof.Gate

open Idealize.ShloMosaic Reals

/-- The word one half. -/
theorem half_bits : Ideal.ofBits .f32 1056964608#32 = ((1 / 2 : ℝ) : EReal) := by simp [Ideal.ofBits, Ideal.ieee, -EReal.coe_mul]; norm_num

/-- The hyperbolic tangent of a real. -/
theorem tanh_coe (x : ℝ) : Ideal.tanh (x : EReal) = ((Real.tanh x : ℝ) : EReal) := rfl

/-- The sigmoid. -/
def sg (x : ℝ) : ℝ := 1 / (1 + Real.exp (-x))

/-- The sigmoid as the host computes it. -/
theorem sg_div (x : ℝ) : Ideal.div 1 (1 + Ideal.exp (-(x : EReal))) = ((sg x : ℝ) : EReal) := by
  rw [← EReal.coe_neg, exp_coe, ← EReal.coe_one, ← EReal.coe_add, div_coe _ _ (by positivity)]
  rfl

/-- The sigmoid through the hyperbolic tangent. -/
theorem sg_tanh (x : ℝ) : 1 / 2 * Real.tanh (1 / 2 * x) + 1 / 2 = sg x := by
  have e : Real.exp (-x) = Real.exp (-(1 / 2 * x)) * Real.exp (-(1 / 2 * x)) := by rw [← Real.exp_add]; congr 1; ring
  have p := Real.exp_pos (-(1 / 2 * x))
  have q := Real.exp_pos (1 / 2 * x)
  have o : Real.exp (1 / 2 * x) * Real.exp (-(1 / 2 * x)) = 1 := by rw [← Real.exp_add, add_neg_cancel, Real.exp_zero]
  unfold sg
  rw [Real.tanh_eq_sinh_div_cosh, Real.sinh_eq, Real.cosh_eq, e]
  generalize Real.exp (1 / 2 * x) = a at *
  generalize Real.exp (-(1 / 2 * x)) = b at *
  have h : a = 1 / b := by field_simp; exact o
  subst h
  field_simp
  ring

/-- The gradient of `x · sg x`. -/
def dsilu (x : ℝ) : ℝ := sg x * (1 + x * (1 - sg x))

/-- A sum over tiles is the sum over all rows. -/
theorem tile_range (f : ℕ → ℝ) (k : ℕ) : ∀ n, ∑ q ∈ Finset.range n, ∑ x ∈ Finset.range k, f (q * k + x) = ∑ y ∈ Finset.range (n * k), f y
  | 0 => by simp
  | n + 1 => by rw [Finset.sum_range_succ, tile_range f k n, Nat.succ_mul, Finset.sum_range_add]

theorem tiles (f : ℕ → ℝ) (n k p : ℕ) (h : n * k = p) : ∑ q ∈ Finset.range n, ∑ x : Fin k, f (q * k + x.val) = ∑ y : Fin p, f y.val := by
  subst h
  rw [← Finset.sum_range (fun y => f y), ← tile_range f k n]
  exact Finset.sum_congr rfl fun q _ => (Finset.sum_range fun x => f (q * k + x)).symm

end Cert.Proof.Gate

end
-- ==== Proof.Ffn.Value.lean ====
module

public import proofs.«01_k».proof.Proof.Lib.Gate
public import proofs.«01_k».proof.Proof.Gen.Reference3Ideal.Read
public import proofs.«01_k».proof.Proof.Gen.Kernel3Ideal.Skeleton
public import Idealize.ShloMosaic.Lib.Pointwise

@[expose] public section

noncomputable section

namespace Cert.Proof.Ffn

open Idealize.ShloMosaic Idealize.ShloMosaic.Pointwise Reals Attn Gate

/-- The arguments of the gated half step's gradient: the normed rows, the three weights, the cotangent. -/
structure Args where
  H : ℕ → ℕ → ℝ
  Wg : ℕ → ℕ → ℝ
  Wu : ℕ → ℕ → ℝ
  Wd : ℕ → ℕ → ℝ
  D : ℕ → ℕ → ℝ

namespace Args

variable (A : Args)

/-- The gate before its sigmoid, the up product, the cotangent of the gated product, -/
def g (r f : ℕ) : ℝ := ∑ k : Fin 1024, A.H r k * A.Wg k f
def u (r f : ℕ) : ℝ := ∑ k : Fin 1024, A.H r k * A.Wu k f
def da (r f : ℕ) : ℝ := 1 / 2 * ∑ k : Fin 1024, A.D r k * A.Wd f k
/-- and the three gradients. -/
def dg (r f : ℕ) : ℝ := A.da r f * A.u r f * dsilu (A.g r f)
def du (r f : ℕ) : ℝ := A.da r f * (A.g r f * sg (A.g r f))
def act (r f : ℕ) : ℝ := A.g r f * sg (A.g r f) * A.u r f
def dwd (f x : ℕ) : ℝ := 1 / 2 * ∑ r : Fin 4096, A.act r f * A.D r x

end Args

section kernel

open Cert.Kernel3Ideal Cert.Kernel3Ideal.Gen

/-- What one grid point writes for the gate's gradient, of tiles whose entries are real, -/
theorem tile_dg (D W G U : ℕ → ℕ → ℝ) : k0_pay9 (F := Ideal) (arr D) (arr W) (arr G) (arr U)
    = arr fun r f => (1 / 2 * ∑ k : Fin 1024, D r k * W f k) * U r f * dsilu (G r f) := by
  refine eq_arr _ _ fun a b => ?_
  pointwise [k0_pay9, k0_pay4, k0_pay3, k0_pay5, k0_pay6, k0_pay7]
  simp only [arr_ix2, half_bits, tanh_coe, sum_coe, ← EReal.coe_mul, ← EReal.coe_one, ← EReal.coe_sub, ← EReal.coe_add, sg_tanh]
  rfl
/-- for the up product's gradient, -/
theorem tile_du (D W G : ℕ → ℕ → ℝ) : k0_pay10 (F := Ideal) (arr D) (arr W) (arr G)
    = arr fun r f => (1 / 2 * ∑ k : Fin 1024, D r k * W f k) * (G r f * sg (G r f)) := by
  refine eq_arr _ _ fun a b => ?_
  pointwise [k0_pay10, k0_pay4, k0_pay3, k0_pay5, k0_pay7, k0_pay8]
  simp only [arr_ix2, half_bits, tanh_coe, ← EReal.coe_mul, ← EReal.coe_add, sg_tanh, sum_coe]
/-- and adds to the down weight's gradient. -/
theorem tile_dwd (D G U : ℕ → ℕ → ℝ) : k0_pay1 (F := Ideal) (k0_pay3 (arr D)) (k0_pay11 (arr G) (arr U)) (constant S1408x1024 .f32 0x00000000#32)
    = arr fun f x => 1 / 2 * ∑ r : Fin 512, (G r f * sg (G r f) * U r f) * D r x := by
  refine eq_arr _ _ fun a b => ?_
  pointwise [k0_pay1, k0_pay3, k0_pay5, k0_pay6, k0_pay7, k0_pay8, k0_pay11]
  simp only [arr_ix2, half_bits, tanh_coe, ← EReal.coe_mul, ← EReal.coe_add, sg_tanh, sum_coe]
theorem tile_add (D G U S : ℕ → ℕ → ℝ) : k0_pay2 (F := Ideal) (k0_pay3 (arr D)) (k0_pay11 (arr G) (arr U)) (constant S1408x1024 .f32 0x00000000#32) (arr S)
    = arr fun f x => S f x + 1 / 2 * ∑ r : Fin 512, (G r f * sg (G r f) * U r f) * D r x := by
  refine eq_arr _ _ fun a b => ?_
  pointwise [k0_pay2]
  rw [tile_dwd]
  simp only [arr_ix2, ← EReal.coe_add]

end kernel

section reference

open Cert.Reference3Ideal Cert.Reference3Ideal.Gen Cert.Reference3Ideal.Read

variable (A : Args)

/-- The reference's gate gradient, -/
theorem ref_dg : val_main_v15 (F := Ideal) (arr A.H) (arr A.Wg) (arr A.Wu) (arr A.Wd) (arr A.D) = arr A.dg := by
  refine eq_arr _ _ fun a b => ?_
  pointwise [val_main_v15, val_main_v14, val_main_v13, val_main_v11, val_main_v8, val_main_v7, val_main_v1, val_main_v0, val_main_v2_0,
    val_main_v2_1, val_main_v2_2, val_main_call1_v1, val_main_call1_v2, val_main_call1_v0, val_main_call0_v0, val_main_call0_v1, val_main_call0_v2,
    val_main_call0_v3, val_main_call0_v4, val_main_call0_v6, val_main_call0_v7, val_main_cst_0, val_main_call0_cst, val_main_call0_cst_0, val_main_call0_cst_1]
  simp only [arr_ix2, half_bits, ← EReal.coe_mul, sum_coe, sg_div]
  simp only [← EReal.coe_one, ← EReal.coe_sub, ← EReal.coe_mul, ← EReal.coe_add]
  refine congrArg (fun x : ℝ => (x : EReal)) ?_
  have e : ∑ k : Fin 1024, 1 / 2 * A.D a k * A.Wd b k = A.da a b := by
    unfold Args.da; rw [Finset.mul_sum]; exact Finset.sum_congr rfl fun k _ => mul_assoc _ _ _
  rw [e]
  show A.da a b * A.u a b * sg (A.g a b) + A.g a b * (A.da a b * A.u a b) * (sg (A.g a b) * (1 - sg (A.g a b))) = A.da a b * A.u a b * (sg (A.g a b) * (1 + A.g a b * (1 - sg (A.g a b))))
  ring
/-- the up product's, -/
theorem ref_du : val_main_v16 (F := Ideal) (arr A.H) (arr A.Wg) (arr A.Wd) (arr A.D) = arr A.du := by
  refine eq_arr _ _ fun a b => ?_
  pointwise [val_main_v16, val_main_v12, val_main_v11, val_main_v8, val_main_v7, val_main_v0, val_main_v2_0,
    val_main_v2_2, val_main_call0_v0, val_main_call0_v1, val_main_call0_v2,
    val_main_call0_v3, val_main_call0_v4, val_main_cst_0, val_main_call0_cst, val_main_call0_cst_0]
  simp only [arr_ix2, half_bits, ← EReal.coe_mul, sum_coe, sg_div]
  refine congrArg (fun x : ℝ => (x : EReal)) ?_
  have e : ∑ k : Fin 1024, 1 / 2 * A.D a k * A.Wd b k = A.da a b := by
    unfold Args.da; rw [Finset.mul_sum]; exact Finset.sum_congr rfl fun k _ => mul_assoc _ _ _
  rw [e]
  show A.g a b * sg (A.g a b) * A.da a b = A.da a b * (A.g a b * sg (A.g a b))
  ring
/-- the down weight's. -/
theorem ref_dwd : val_main_v10 (F := Ideal) (arr A.H) (arr A.Wg) (arr A.Wu) (arr A.D) = arr A.dwd := by
  refine eq_arr _ _ fun a b => ?_
  pointwise [val_main_v10, val_main_v9, val_main_v8, val_main_v7, val_main_v3, val_main_v1, val_main_v0, val_main_v2_0,
    val_main_v2_2, val_main_call0_v0, val_main_call0_v1, val_main_call0_v2,
    val_main_call0_v3, val_main_call0_v4, val_main_cst_0, val_main_call0_cst, val_main_call0_cst_0]
  simp only [arr_ix2, half_bits, ← EReal.coe_mul, sum_coe, sg_div]
  refine congrArg (fun x : ℝ => (x : EReal)) ?_
  unfold Args.dwd
  rw [Finset.mul_sum]
  refine Finset.sum_congr rfl fun r _ => ?_
  show 1 / 2 * A.D r b * (A.g r a * sg (A.g r a) * A.u r a) = 1 / 2 * (A.g r a * sg (A.g r a) * A.u r a * A.D r b)
  ring

end reference

end Cert.Proof.Ffn

end
-- ==== Proof.Ffn.Arrays.lean ====
module

public import proofs.«01_k».proof.Proof.Ffn.Value
public import proofs.«01_k».proof.Proof.Gen.Kernel3Ideal.Value
public import Idealize.ShloMosaic.Lib.Pipeline.ValueKit
public import Idealize.ShloMosaic.Lib.StableHlo.Run

@[expose] public section

noncomputable section

namespace Cert.Proof.Ffn

open Cert.Kernel3Ideal Cert.Kernel3Ideal.Gen
open Idealize.ShloMosaic Idealize.ShloMosaic.TcCoe Idealize.ShloMosaic.Pointwise Reals Attn Gate

attribute [local instance] Cert.Kernel3Ideal.Gen.facts

set_option maxRecDepth 8192

/-! ### The host's lines before the call -/

section host

variable (U : Valuation τ sig (Elt Ideal))

/-- The host's product of the normed rows and a weight, as the forward call saves it. -/
def saved (x : (⟨S4096x1024, .f32⟩ : BufTy).Contents (Elt Ideal)) (w : (⟨S1024x2816, .f32⟩ : BufTy).Contents (Elt Ideal)) :
    (⟨S4096x2816, .bf16⟩ : BufTy).Contents (Elt Ideal) :=
  truncf (F := Ideal) .bf16 (Host.dotGeneral (F := Ideal) dot_S4096x1024_S1024x2816_S4096x2816_1_0_0_1_n_n none (truncf (F := Ideal) .bf16 x bitsLt_bf16_f32)
    (truncf (F := Ideal) .bf16 w bitsLt_bf16_f32)) bitsLt_bf16_f32

theorem host_g : StableHlo.after (List.flatten [hostOps0]) U (Proc.devRef .tc main_v3) = saved (U (Proc.devRef .tc main_arg0)) (U (Proc.devRef .tc main_arg1)) := by
  simp only [List.flatten_cons, List.flatten_nil, List.append_nil, hostOps0]; after_results_simp; rfl
theorem host_u : StableHlo.after (List.flatten [hostOps0]) U (Proc.devRef .tc main_v7) = saved (U (Proc.devRef .tc main_arg0)) (U (Proc.devRef .tc main_arg2)) := by
  simp only [List.flatten_cons, List.flatten_nil, List.append_nil, hostOps0]; after_results_simp; rfl
theorem host_d : StableHlo.after (List.flatten [hostOps0]) U (Proc.devRef .tc main_v8) = U (Proc.devRef .tc main_arg4) := by
  simp only [List.flatten_cons, List.flatten_nil, List.append_nil, hostOps0]; after_results_simp; rfl
theorem host_wd : StableHlo.after (List.flatten [hostOps0]) U (Proc.devRef .tc main_v9) = U (Proc.devRef .tc main_arg3) := by
  simp only [List.flatten_cons, List.flatten_nil, List.append_nil, hostOps0]; after_results_simp; rfl

/-- That product of real arrays. -/
theorem saved_eq (X Y : ℕ → ℕ → ℝ) : saved (arr X) (arr Y) = arr fun r f => ∑ k : Fin 1024, X r k * Y k f := by
  refine eq_arr _ _ fun a b => ?_
  pointwise [saved]
  simp only [arr_ix2, ← EReal.coe_mul, sum_coe]

end host

/-! ### Each window's place on the grid, and its block -/

theorem at0 : ∀ t : Fin cfg0.N, win0_0.index t (0 : Fin 2) = t.val % 8 ∧ win0_0.index t (1 : Fin 2) = 0 :=
  (by decide +kernel : ∀ t : Fin grid0.N, _)
theorem at1 : ∀ t : Fin cfg0.N, win0_1.index t (0 : Fin 2) = t.val / 8 ∧ win0_1.index t (1 : Fin 2) = 0 :=
  (by decide +kernel : ∀ t : Fin grid0.N, _)
theorem at2 : ∀ t : Fin cfg0.N, win0_2.index t (0 : Fin 2) = t.val % 8 ∧ win0_2.index t (1 : Fin 2) = t.val / 8 :=
  (by decide +kernel : ∀ t : Fin grid0.N, _)
theorem at3 : ∀ t : Fin cfg0.N, win0_3.index t (0 : Fin 2) = t.val % 8 ∧ win0_3.index t (1 : Fin 2) = t.val / 8 :=
  (by decide +kernel : ∀ t : Fin grid0.N, _)
theorem at4 : ∀ t : Fin cfg0.N, win0_4.index t (0 : Fin 2) = t.val % 8 ∧ win0_4.index t (1 : Fin 2) = t.val / 8 :=
  (by decide +kernel : ∀ t : Fin grid0.N, _)
theorem at5 : ∀ t : Fin cfg0.N, win0_5.index t (0 : Fin 2) = t.val % 8 ∧ win0_5.index t (1 : Fin 2) = t.val / 8 :=
  (by decide +kernel : ∀ t : Fin grid0.N, _)
theorem at6 : ∀ t : Fin cfg0.N, win0_6.index t (0 : Fin 2) = t.val / 8 ∧ win0_6.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_v8 = arr X) (t : Fin cfg0.N) :
    iblk m c 0 t = arr fun r x => X ((t.val % 8) * 512 + r) ((0) * 1024 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 1024 + 1 * (j 1).val) : ℝ) : EReal) = ((X _ _ : ℝ) : EReal)
  rw [e0, e1, one_mul, one_mul]
theorem block1 (X : ℕ → ℕ → ℝ) (hV : V m c main_v9 = arr X) (t : Fin cfg0.N) :
    iblk m c 1 t = arr fun r x => X ((t.val / 8) * 1408 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 1408 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_v3 = arr X) (t : Fin cfg0.N) :
    iblk m c 2 t = arr fun r x => X ((t.val % 8) * 512 + r) ((t.val / 8) * 1408 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 512 + 1 * (j 0).val) (win0_2.index t (1 : Fin 2) * 1408 + 1 * (j 1).val) : ℝ) : EReal) = ((X _ _ : ℝ) : EReal)
  rw [e0, e1, one_mul, one_mul]
theorem block3 (X : ℕ → ℕ → ℝ) (hV : V m c main_v7 = arr X) (t : Fin cfg0.N) :
    iblk m c 3 t = arr fun r x => X ((t.val % 8) * 512 + r) ((t.val / 8) * 1408 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 512 + 1 * (j 0).val) (win0_3.index t (1 : Fin 2) * 1408 + 1 * (j 1).val) : ℝ) : EReal) = ((X _ _ : ℝ) : EReal)
  rw [e0, e1, one_mul, one_mul]

/-! ### What a grid point leaves in the outputs' buffers -/

/-- A column's first point stores, -/
theorem first (t : Fin cfg0.N) (h0 : t.val % 8 = 0) (h1 : ¬1 ≤ t.val % 8) : outsAt0 m c t.val t.isLt
    = (k0_pay9 (iblk m c 0 t) (iblk m c 1 t) (iblk m c 2 t) (iblk m c 3 t), k0_pay10 (iblk m c 0 t) (iblk m c 1 t) (iblk m c 2 t),
      k0_pay1 (k0_pay3 (iblk m c 0 t)) (k0_pay11 (iblk m c 2 t) (iblk m c 3 t)) (constant S1408x1024 .f32 0x00000000#32)) := by
  rw [outsAt0_A m c t h0 h1]
  frame_out
/-- each later one adds. -/
theorem later (t : Fin cfg0.N) (h0 : ¬t.val % 8 = 0) (h1 : 1 ≤ t.val % 8) : outsAt0 m c t.val t.isLt
    = (k0_pay9 (iblk m c 0 t) (iblk m c 1 t) (iblk m c 2 t) (iblk m c 3 t), k0_pay10 (iblk m c 0 t) (iblk m c 1 t) (iblk m c 2 t),
      k0_pay2 (k0_pay3 (iblk m c 0 t)) (k0_pay11 (iblk m c 2 t) (iblk m c 3 t)) (constant S1408x1024 .f32 0x00000000#32)
        (outsAt0 m c (t.val - 1) (Nat.lt_of_le_of_lt (Nat.sub_le _ _) t.isLt)).2.2) := by
  rw [outsAt0_B m c t h0 h1]
  frame_out

/-- The arguments' arrays are the given reals. -/
structure Given (A : Args) : Prop where
  x0 : m ((c : Thread nD τ).loc main_arg0) = arr A.H
  x1 : m ((c : Thread nD τ).loc main_arg1) = arr A.Wg
  x2 : m ((c : Thread nD τ).loc main_arg2) = arr A.Wu
  x3 : m ((c : Thread nD τ).loc main_arg3) = arr A.Wd
  x4 : m ((c : Thread nD τ).loc main_arg4) = arr A.D

variable {m c} {A : Args} (h : Given m c A)

include h

theorem V_g : V m c main_v3 = arr A.g := by
  refine (host_g (fun b => m (c, b))).trans ?_
  show saved (m ((c : Thread nD τ).loc main_arg0)) (m ((c : Thread nD τ).loc main_arg1)) = _
  rw [h.x0, h.x1, saved_eq]
  rfl
theorem V_u : V m c main_v7 = arr A.u := by
  refine (host_u (fun b => m (c, b))).trans ?_
  show saved (m ((c : Thread nD τ).loc main_arg0)) (m ((c : Thread nD τ).loc main_arg2)) = _
  rw [h.x0, h.x2, saved_eq]
  rfl
theorem V_d : V m c main_v8 = arr A.D := (host_d (fun b => m (c, b))).trans h.x4
theorem V_wd : V m c main_v9 = arr A.Wd := (host_wd (fun b => m (c, b))).trans h.x3

/-- The part of the down weight's gradient that the first points of a column have added. -/
def part (A : Args) (n j f x : ℕ) : ℝ := ∑ q ∈ Finset.range n, 1 / 2 * ∑ r : Fin 512, A.act (q * 512 + r) (j * 1408 + f) * A.D (q * 512 + r) x

theorem outs : ∀ (n : ℕ) (hn : n < cfg0.N), outsAt0 m c n hn
    = (arr fun r f => A.dg (n % 8 * 512 + r) (n / 8 * 1408 + f), arr fun r f => A.du (n % 8 * 512 + r) (n / 8 * 1408 + f),
      arr fun f x => part A (n % 8 + 1) (n / 8) f x) := by
  intro n
  induction n using Nat.strong_induction_on with
  | _ n ih =>
    intro hn
    have b0 := block0 m c _ (V_d h) ⟨n, hn⟩
    have b1 := block1 m c _ (V_wd h) ⟨n, hn⟩
    have b2 := block2 m c _ (V_g h) ⟨n, hn⟩
    have b3 := block3 m c _ (V_u h) ⟨n, hn⟩
    by_cases h0 : n % 8 = 0
    · rw [first m c ⟨n, hn⟩ h0 (by dsimp only; omega), b0, b1, b2, b3, tile_dg, tile_du, tile_dwd]
      refine congrArg₂ Prod.mk (arr_congr _ _ fun r f _ _ => ?_) (congrArg₂ Prod.mk (arr_congr _ _ fun r f _ _ => ?_) (arr_congr _ _ fun f x _ _ => ?_))
      · simp only [Nat.zero_mul, Nat.zero_add]; rfl
      · simp only [Nat.zero_mul, Nat.zero_add]; rfl
      · simp only [Nat.zero_mul, Nat.zero_add]
        unfold part
        rw [h0, Finset.sum_range_one]
        rfl
    · rw [later m c ⟨n, hn⟩ h0 (by dsimp only; omega), b0, b1, b2, b3]
      simp only [ih (n - 1) (by omega) (by omega)]
      rw [tile_dg, tile_du, tile_add]
      refine congrArg₂ Prod.mk (arr_congr _ _ fun r f _ _ => ?_) (congrArg₂ Prod.mk (arr_congr _ _ fun r f _ _ => ?_) (arr_congr _ _ fun f x _ _ => ?_))
      · simp only [Nat.zero_mul, Nat.zero_add]; rfl
      · simp only [Nat.zero_mul, Nat.zero_add]; rfl
      · simp only [Nat.zero_mul, Nat.zero_add]
        rw [show (n - 1) % 8 + 1 = n % 8 by omega, show (n - 1) / 8 = n / 8 by omega]
        exact (Finset.sum_range_succ (fun q => 1 / 2 * ∑ r : Fin 512, A.act (q * 512 + r) (n / 8 * 1408 + f) * A.D (q * 512 + r) x) (n % 8)).symm

/-! ### The arrays the call returns -/

theorem array4 : (dats m 0 c).arrAt 4 cfg0.N = arr A.dg := by
  refine Pipeline.Dat.arrAt_eq_of_cover _ 4 _ (fun t _ => ?_) fun i => ?_
  · obtain ⟨e0, e1⟩ := at4 t
    show (cfg0.win 4).cut (grid0.coords t) ((dats m 0 c).after 4 t) = _
    rw [after0_4, outs h]
    funext j
    show ((A.dg (t.val % 8 * 512 + (j 0).val) (t.val / 8 * 1408 + (j 1).val) : ℝ) : EReal)
      = ((A.dg (win0_4.index t (0 : Fin 2) * 512 + 1 * (j 0).val) (win0_4.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 1).val / 1408 * 8 + (i 0).val / 512, show _ < 16 by omega⟩
    obtain ⟨e0, e1⟩ := at4 t
    have ht : t.val = (i 1).val / 1408 * 8 + (i 0).val / 512 := rfl
    refine ⟨t, flush0_4 t, ?_⟩
    have hm := ((cfg0.win 4).blk t).view.emb_mem_set (ix2 ⟨(i 0).val % 512, by omega⟩ ⟨(i 1).val % 1408, by omega⟩)
    refine Eq.subst (motive := fun k => k ∈ ((cfg0.win 4).blk t).view.set) ?_ hm
    funext a; apply Fin.ext
    match a with
    | ⟨0, _⟩ => show win0_4.index t (0 : Fin 2) * 512 + 1 * ((i 0).val % 512) = (i 0).val; omega
    | ⟨1, _⟩ => show win0_4.index t (1 : Fin 2) * 1408 + 1 * ((i 1).val % 1408) = (i 1).val; omega

theorem array5 : (dats m 0 c).arrAt 5 cfg0.N = arr A.du := by
  refine Pipeline.Dat.arrAt_eq_of_cover _ 5 _ (fun t _ => ?_) fun i => ?_
  · obtain ⟨e0, e1⟩ := at5 t
    show (cfg0.win 5).cut (grid0.coords t) ((dats m 0 c).after 5 t) = _
    rw [after0_5, outs h]
    funext j
    show ((A.du (t.val % 8 * 512 + (j 0).val) (t.val / 8 * 1408 + (j 1).val) : ℝ) : EReal)
      = ((A.du (win0_5.index t (0 : Fin 2) * 512 + 1 * (j 0).val) (win0_5.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 1).val / 1408 * 8 + (i 0).val / 512, show _ < 16 by omega⟩
    obtain ⟨e0, e1⟩ := at5 t
    have ht : t.val = (i 1).val / 1408 * 8 + (i 0).val / 512 := rfl
    refine ⟨t, flush0_5 t, ?_⟩
    have hm := ((cfg0.win 5).blk t).view.emb_mem_set (ix2 ⟨(i 0).val % 512, by omega⟩ ⟨(i 1).val % 1408, by omega⟩)
    refine Eq.subst (motive := fun k => k ∈ ((cfg0.win 5).blk t).view.set) ?_ hm
    funext a; apply Fin.ext
    match a with
    | ⟨0, _⟩ => show win0_5.index t (0 : Fin 2) * 512 + 1 * ((i 0).val % 512) = (i 0).val; omega
    | ⟨1, _⟩ => show win0_5.index t (1 : Fin 2) * 1408 + 1 * ((i 1).val % 1408) = (i 1).val; omega

theorem array6 : (dats m 0 c).arrAt 6 cfg0.N = arr A.dwd := by
  refine Pipeline.Dat.arrAt_eq_of_cover _ 6 _ (fun t ht => ?_) fun i => ?_
  · obtain ⟨e0, e1⟩ := at6 t
    have h7 : t.val % 8 = 7 := (flush0_6 t).mp ht
    show (cfg0.win 6).cut (grid0.coords t) ((dats m 0 c).after 6 t) = _
    rw [after0_6, outs h]
    funext j
    show ((part A (t.val % 8 + 1) (t.val / 8) (j 0).val (j 1).val : ℝ) : EReal)
      = ((A.dwd (win0_6.index t (0 : Fin 2) * 1408 + 1 * (j 0).val) (win0_6.index t (1 : Fin 2) * 1024 + 1 * (j 1).val) : ℝ) : EReal)
    rw [e0, e1, one_mul, one_mul, h7, Nat.zero_mul, Nat.zero_add]
    unfold part Args.dwd
    rw [← Finset.mul_sum, tiles (fun r => A.act r (t.val / 8 * 1408 + (j 0).val) * A.D r (j 1).val) 8 512 4096 rfl]
  · have h0 : (i 0).val < 2816 := (i 0).isLt
    have h1 : (i 1).val < 1024 := (i 1).isLt
    let t : Fin cfg0.N := ⟨(i 0).val / 1408 * 8 + 7, show _ < 16 by omega⟩
    obtain ⟨e0, e1⟩ := at6 t
    have ht : t.val = (i 0).val / 1408 * 8 + 7 := rfl
    refine ⟨t, (flush0_6 t).mpr (by omega), ?_⟩
    have hm := ((cfg0.win 6).blk t).view.emb_mem_set (ix2 ⟨(i 0).val % 1408, by omega⟩ ⟨(i 1).val, h1⟩)
    refine Eq.subst (motive := fun k => k ∈ ((cfg0.win 6).blk t).view.set) ?_ hm
    funext a; apply Fin.ext
    match a with
    | ⟨0, _⟩ => show win0_6.index t (0 : Fin 2) * 1408 + 1 * ((i 0).val % 1408) = (i 0).val; omega
    | ⟨1, _⟩ => show win0_6.index t (1 : Fin 2) * 1024 + 1 * (i 1).val = (i 1).val; omega

end Cert.Proof.Ffn

end
-- ==== Proof.Ffn.Claims.lean ====
module

public import proofs.«01_k».proof.Proof.Ffn.Arrays
public import proofs.«01_k».proof.Proof.Attn.Algebraic
public import proofs.«01_k».proof.Proof.Gen.Reference3Ideal.Run

@[expose] public section

noncomputable section

namespace Cert.Proof.Ffn

open Cert.Kernel3Ideal Cert.Kernel3Ideal.Gen
open Idealize.ShloMosaic Idealize.ShloMosaic.TcCoe Idealize.ShloMosaic.Pointwise Reals Attn
open Idealize.SL.Sem
open Cert.Reference3Ideal.Read

attribute [local instance] Cert.Kernel3Ideal.Gen.facts Cert.Reference3Ideal.Gen.facts

/-- The shape facts the precondition states. -/
theorem pre_facts : Cert.Pre_finite3.Facts := ⟨by decide, by decide, by decide, by decide, by decide, by decide, by decide⟩

instance : Subsingleton Cert.Pre_finite3.S_.Idx := ⟨fun a b => funext fun i => i.elim0⟩

/-- Finite arguments are arrays of reals. -/
theorem args_of_pre [Cert.Pre_finite3.Facts] (x0 : FVec Ideal S4096x1024 .f32) (x1 x2 : FVec Ideal S1024x2816 .f32) (x3 : FVec Ideal S2816x1024 .f32) (x4 : FVec Ideal S4096x1024 .f32)
    (hp : Cert.Pre_finite3.fn (F := Ideal) x0 x1 x2 x3 x4 = fun _ => 1#1) :
    ∃ A : Args, x0 = arr A.H ∧ x1 = arr A.Wg ∧ x2 = arr A.Wu ∧ x3 = arr A.Wd ∧ x4 = arr A.D := by
  unfold Cert.Pre_finite3.fn Cert.Pre_finite3.fn_part1 at hp
  obtain ⟨hp, h4⟩ := and_eq_one _ _ hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨r4, rfl⟩ := reals_of_reduce _ _ _ (fun i => ofBits_inf) _ _ (fun i => i.elim0) (congrFun h4 _)
  obtain ⟨X0, e0⟩ := eq_arr_of_real r0
  obtain ⟨X1, e1⟩ := eq_arr_of_real r1
  obtain ⟨X2, e2⟩ := eq_arr_of_real r2
  obtain ⟨X3, e3⟩ := eq_arr_of_real r3
  obtain ⟨X4, e4⟩ := eq_arr_of_real r4
  exact ⟨⟨X0, X1, X2, X3, X4⟩, e0, e1, e2, e3, e4⟩

/-- The idealized kernel leaves the three gradients and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v10_0) = arr (A c).dg
      ∧ r.2.mem ((c : Thread nD τ).loc main_v10_1) = arr (A c).du
      ∧ r.2.mem ((c : Thread nD τ).loc main_v10_2) = arr (A c).dwd
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun _ k c => ⟨(k c).1.trans (array4 (h c)), (k c).2.1.trans (array5 (h c)), (k c).2.2.1.trans (array6 (h c)), (k c).2.2.2⟩)
    (Cert.Kernel3Ideal.Value.run_blocks (F := Ideal) m ρ)

/-- The idealized kernel and the reference leave the same three gradients of the feed-forward's middle. -/
theorem algebraic [Cert.Pre_finite3.Facts] : Cert.algebraic_Kernel3Ideal_Reference3Ideal_pre_finite3 := by
  intro m ρ m' ρ' hpre hagree
  choose A hA using fun c => args_of_pre _ _ _ _ _ (hpre c)
  refine ⟨fun c => arr (A c).dg, fun c => arr (A c).du, fun c => arr (A c).dwd,
    kernel_run m ρ A fun c => ⟨(hA c).1, (hA c).2.1, (hA c).2.2.1, (hA c).2.2.2.1, (hA c).2.2.2.2⟩, ?_⟩
  refine (θ_run Cert.Reference3Ideal.defs _ _).mono (fun _ h c => ?_) (Cert.Reference3Ideal.Value.run (F := Ideal) m' ρ')
  obtain ⟨h0, h1, h2, hargs⟩ := h c
  obtain ⟨g0, g1, g2, g3, g4⟩ := hagree c
  obtain ⟨a0, a1, a2, a3, a4⟩ := hA c
  have b0 := g0.trans a0
  have b1 := g1.trans a1
  have b2 := g2.trans a2
  have b3 := g3.trans a3
  have b4 := g4.trans a4
  refine ⟨(h0.trans (val_main_v15_eq _ _ _ _ _)).trans ?_, (h1.trans (val_main_v16_eq _ _ _ _)).trans ?_, (h2.trans (val_main_v10_eq _ _ _ _)).trans ?_, hargs⟩
  · refine Eq.trans ?_ (ref_dg (A c)); rw [← b0, ← b1, ← b2, ← b3, ← b4]
  · refine Eq.trans ?_ (ref_du (A c)); rw [← b0, ← b1, ← b3, ← b4]
  · refine Eq.trans ?_ (ref_dwd (A c)); rw [← b0, ← b1, ← b2, ← b4]

/-- The idealized reference runs and ends quiescent. -/
theorem quiescent_reference : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

end Cert.Proof.Ffn

end
-- ==== Proof.Norm.Value.lean ====
module

public import proofs.«01_k».proof.Proof.Lib.Gate
public import proofs.«01_k».proof.Proof.Gen.Reference4Ideal.Read
public import proofs.«01_k».proof.Proof.Gen.Kernel4Ideal.Skeleton
public import Idealize.ShloMosaic.Lib.Pointwise

@[expose] public section

noncomputable section

namespace Cert.Proof.Norm

open Idealize.ShloMosaic Idealize.ShloMosaic.Pointwise Reals Attn Gate

theorem width_bits : Ideal.ofBits .f32 1149239296#32 = ((1024 : ℝ) : EReal) := by simp [Ideal.ofBits, Ideal.ieee, -EReal.coe_mul]; norm_num
theorem neg_half_bits : Ideal.ofBits .f32 3204448256#32 = ((-(1 / 2) : ℝ) : EReal) := by simp [Ideal.ofBits, Ideal.ieee, -EReal.coe_mul]; norm_num

/-- The arguments of the norm's gradient: the cotangent of the product behind the norm and its weight, a cotangent of the
    normed rows, the rows, the gain, the cotangent of the rows. -/
structure Args where
  U : ℕ → ℕ → ℝ
  W : ℕ → ℕ → ℝ
  E : ℕ → ℕ → ℝ
  X : ℕ → ℕ → ℝ
  G : ℕ → ℝ
  Z : ℕ → ℕ → ℝ

/-- A row's mean square, and the reciprocal of its root. -/
def ms (X : ℕ → ℕ → ℝ) (r : ℕ) : ℝ := (∑ k : Fin 1024, X r k * X r k) / 1024 + eps
def rs (X : ℕ → ℕ → ℝ) (r : ℕ) : ℝ := (Real.sqrt (ms X r))⁻¹

theorem ms_pos (X : ℕ → ℕ → ℝ) (r : ℕ) : 0 < ms X r :=
  add_pos_of_nonneg_of_pos (div_nonneg (Finset.sum_nonneg fun e _ => mul_self_nonneg _) (by norm_num)) eps_bits.2

theorem rs_sq (X : ℕ → ℕ → ℝ) (r : ℕ) : rs X r / ms X r = rs X r * (rs X r * rs X r) := by
  unfold rs
  rw [← mul_inv, Real.mul_self_sqrt (ms_pos X r).le, div_eq_mul_inv]

/-- The gradient of the norm's rows, of the cotangent `e` of the normed rows. -/
def grad (e X Z : ℕ → ℕ → ℝ) (G : ℕ → ℝ) (r x : ℕ) : ℝ :=
  Z r x + rs X r * (e r x * G x - X r x * rs X r * ((∑ k : Fin 1024, e r k * G k * (X r k * rs X r)) / 1024))

namespace Args

variable (A : Args)

/-- The cotangent of the normed rows, the gradient of the rows, the gradient of the gain. -/
def e (r x : ℕ) : ℝ := A.E r x + ∑ k : Fin 2816, A.U r k * A.W x k
def dx (r x : ℕ) : ℝ := grad A.e A.X A.Z A.G r x
def dgain (x : ℕ) : ℝ := ∑ r : Fin 4096, A.e r x * (A.X r x * rs A.X r)

end Args

section kernel

open Cert.Kernel4Ideal Cert.Kernel4Ideal.Gen

theorem tile_e (U W E : ℕ → ℕ → ℝ) : k0_pay3 (F := Ideal) (arr U) (arr W) (arr E) = arr fun r x => E r x + ∑ k : Fin 2816, U r k * W k x := by
  refine eq_arr _ _ fun a b => ?_
  pointwise [k0_pay3]
  simp only [arr_ix2, ← EReal.coe_mul, sum_coe, ← EReal.coe_add]
  rw [add_comm]
theorem tile_rs (X : ℕ → ℕ → ℝ) : k0_pay4 (F := Ideal) (arr X) = arr fun r _ => rs X r := by
  refine eq_arr _ _ fun a b => ?_
  pointwise [k0_pay4]
  simp only [arr_ix2, width_bits, eps_bits.1, ← EReal.coe_mul, sum_coe]
  rw [div_coe _ _ (by norm_num), ← EReal.coe_add]
  exact rsqrt_coe _ (ms_pos X a)
theorem tile_n (X : ℕ → ℕ → ℝ) : k0_pay5 (F := Ideal) (arr X) = arr fun r x => X r x * rs X r := by
  refine eq_arr _ _ fun a b => ?_
  pointwise [k0_pay5]
  rw [tile_rs]
  simp only [arr_ix2, ← EReal.coe_mul]
/-- What one grid point writes for the rows' gradient, of tiles whose entries are real, -/
theorem tile_dx (U W E X Z : ℕ → ℕ → ℝ) (G : ℕ → ℝ) : k0_pay6 (F := Ideal) (arr U) (arr W) (arr E) (arr X) (arr fun _ => G) (arr Z)
    = arr (grad (fun r x => E r x + ∑ k : Fin 2816, U r k * W k x) X Z G) := by
  refine eq_arr _ _ fun a b => ?_
  pointwise [k0_pay6]
  rw [tile_rs, tile_n, tile_e]
  simp only [arr_ix2, width_bits, ← EReal.coe_mul, sum_coe]
  rw [div_coe _ _ (by norm_num)]
  simp only [← EReal.coe_mul, ← EReal.coe_sub, ← EReal.coe_add]
  rfl
/-- and adds to the gain's gradient. -/
theorem tile_dgain (e n : ℕ → ℕ → ℝ) : k0_pay1 (F := Ideal) (arr e) (arr n) = arr fun _ x => ∑ r : Fin 512, e r x * n r x := by
  refine eq_arr _ _ fun a b => ?_
  pointwise [k0_pay1]
  simp only [arr_ix2, ← EReal.coe_mul, sum_coe]
theorem tile_add (e n S : ℕ → ℕ → ℝ) : k0_pay2 (F := Ideal) (arr e) (arr n) (arr S) = arr fun _ x => S 0 x + ∑ r : Fin 512, e r x * n r x := by
  refine eq_arr _ _ fun a b => ?_
  pointwise [k0_pay2]
  rw [tile_dgain]
  simp only [arr_ix2, ← EReal.coe_add]
  obtain rfl : a = 0 := Subsingleton.elim _ _
  rfl

end kernel

section reference

open Cert.Reference4Ideal Cert.Reference4Ideal.Gen Cert.Reference4Ideal.Read

theorem ref_ms (X : ℕ → ℕ → ℝ) : val_main_v7 (F := Ideal) (arr X) = arr fun r _ => ms X r := by
  refine eq_arr _ _ fun a b => ?_
  pointwise [val_main_v7, val_main_v6, val_main_v5, val_main_v4, val_main_v3, val_main_v2, val_main_v1, val_main_cst, val_main_cst_0, val_main_cst_1]
  simp only [arr_ix2, width_bits, eps_bits.1, ← EReal.coe_mul, sum_coe]
  rw [div_coe _ _ (by norm_num), ← EReal.coe_add]
  rfl
theorem ref_rs (X : ℕ → ℕ → ℝ) : val_main_v8 (F := Ideal) (arr X) = arr fun r _ => rs X r := by
  refine eq_arr _ _ fun a b => ?_
  pointwise [val_main_v8]
  rw [ref_ms]
  exact rsqrt_coe _ (ms_pos X a)
theorem ref_slope (X : ℕ → ℕ → ℝ) : val_main_v11 (F := Ideal) (arr X) = arr fun r _ => -(1 / 2) * (rs X r / ms X r) := by
  refine eq_arr _ _ fun a b => ?_
  pointwise [val_main_v11, val_main_v10, val_main_v9, val_main_cst_2]
  rw [ref_rs, ref_ms]
  simp only [arr_ix2, neg_half_bits]
  rw [div_coe _ _ (ms_pos X a).ne', ← EReal.coe_mul]

variable (A : Args)

theorem ref_e : val_main_v19 (F := Ideal) (arr A.U) (arr A.W) (arr A.E) = arr A.e := by
  refine eq_arr _ _ fun a b => ?_
  pointwise [val_main_v19, val_main_v18]
  simp only [arr_ix2, ← EReal.coe_mul, sum_coe, ← EReal.coe_add]
  rfl
/-- The reference's gradient of the gain, -/
theorem ref_dgain : val_main_v41 (F := Ideal) (arr A.U) (arr A.W) (arr A.E) (arr A.X) = arr fun _ => A.dgain := by
  refine eq_arr _ _ fun a b => ?_
  pointwise [val_main_v41, val_main_v25, val_main_v22, val_main_v21, val_main_v20, val_main_v13, val_main_v12, val_main_cst_3, val_main_cst_4]
  rw [ref_rs, ref_e]
  simp only [arr_ix2, ← EReal.coe_mul, sum_coe]
  refine congrArg (fun x : ℝ => (x : EReal)) ?_
  refine (Fin.sum_univ_one _).trans ?_
  unfold Args.dgain
  refine Finset.sum_congr rfl fun r _ => ?_
  ring
/-- and of the rows. -/
theorem ref_dx : val_main_v40 (F := Ideal) (arr A.U) (arr A.W) (arr A.E) (arr A.X) (arr fun _ => A.G) (arr A.Z) = arr A.dx := by
  refine eq_arr _ _ fun a b => ?_
  pointwise [val_main_v40, val_main_v39, val_main_v38, val_main_v37, val_main_v36, val_main_v35, val_main_v34, val_main_v33, val_main_v32, val_main_v31,
    val_main_v30, val_main_v29, val_main_v28, val_main_v27, val_main_v26, val_main_v24, val_main_v23, val_main_v14, val_main_v0, val_main_cst_5, val_main_cst_6, val_main_cst_7]
  rw [ref_rs, ref_e, ref_slope]
  simp only [arr_ix2, width_bits, ← EReal.coe_mul, sum_coe]
  rw [div_coe _ _ (by norm_num)]
  simp only [← EReal.coe_mul, ← EReal.coe_add]
  refine congrArg (fun x : ℝ => (x : EReal)) ?_
  show _ = grad _ _ _ _ _ _
  unfold grad
  rw [rs_sq, show ∑ k : Fin 1024, A.e a k * A.G k * (A.X a k * rs A.X a) = (∑ k : Fin 1024, A.X a k * (A.e a k * A.G k)) * rs A.X a by
    rw [Finset.sum_mul]; exact Finset.sum_congr rfl fun k _ => by ring]
  ring

end reference

end Cert.Proof.Norm

end
-- ==== Proof.Norm.Arrays.lean ====
module

public import proofs.«01_k».proof.Proof.Norm.Value
public import proofs.«01_k».proof.Proof.Gen.Kernel4Ideal.Value
public import Idealize.ShloMosaic.Lib.Pipeline.ValueKit
public import Idealize.ShloMosaic.Lib.StableHlo.Run

@[expose] public section

noncomputable section

namespace Cert.Proof.Norm

open Cert.Kernel4Ideal Cert.Kernel4Ideal.Gen
open Idealize.ShloMosaic Idealize.ShloMosaic.TcCoe Idealize.ShloMosaic.Pointwise Reals Attn Gate

attribute [local instance] Cert.Kernel4Ideal.Gen.facts

set_option maxRecDepth 8192

/-! ### The host's lines before the call -/

section host

variable (U : Valuation τ sig (Elt Ideal))

/-- The weight the other way round. -/
def turned (w : (⟨S1024x2816, .f32⟩ : BufTy).Contents (Elt Ideal)) : (⟨S2816x1024, .bf16⟩ : BufTy).Contents (Elt Ideal) :=
  truncf (F := Ideal) .bf16 (transpose S2816x1024 [1, 0] w transposes_S1024x2816_S2816x1024_1_0) bitsLt_bf16_f32

theorem host_w : StableHlo.after (List.flatten [hostOps0]) U (Proc.devRef .tc main_v1) = turned (U (Proc.devRef .tc main_arg1)) := by
  simp only [List.flatten_cons, List.flatten_nil, List.append_nil, hostOps0]; after_results_simp; rfl
theorem host_u : StableHlo.after (List.flatten [hostOps0]) U (Proc.devRef .tc main_v2) = U (Proc.devRef .tc main_arg0) := by
  simp only [List.flatten_cons, List.flatten_nil, List.append_nil, hostOps0]; after_results_simp; rfl
theorem host_2 : StableHlo.after (List.flatten [hostOps0]) U (Proc.devRef .tc main_arg2) = U (Proc.devRef .tc main_arg2) := by
  simp only [List.flatten_cons, List.flatten_nil, List.append_nil, hostOps0]; after_results_simp
theorem host_3 : StableHlo.after (List.flatten [hostOps0]) U (Proc.devRef .tc main_arg3) = U (Proc.devRef .tc main_arg3) := by
  simp only [List.flatten_cons, List.flatten_nil, List.append_nil, hostOps0]; after_results_simp
theorem host_4 : StableHlo.after (List.flatten [hostOps0]) U (Proc.devRef .tc main_arg4) = U (Proc.devRef .tc main_arg4) := by
  simp only [List.flatten_cons, List.flatten_nil, List.append_nil, hostOps0]; after_results_simp
theorem host_5 : StableHlo.after (List.flatten [hostOps0]) U (Proc.devRef .tc main_arg5) = U (Proc.devRef .tc main_arg5) := by
  simp only [List.flatten_cons, List.flatten_nil, List.append_nil, hostOps0]; after_results_simp

theorem turned_eq (X : ℕ → ℕ → ℝ) : turned (arr X) = arr fun k x => X x k := by
  refine eq_arr _ _ fun a b => ?_
  pointwise [turned]
  simp only [arr_ix2]

end host

/-! ### Each window's place on the grid, and its block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = t.val ∧ win0_3.index t (1 : Fin 2) = 0 :=
  (by decide +kernel : ∀ t : Fin grid0.N, _)
theorem at4 : ∀ t : Fin cfg0.N, win0_4.index t (0 : Fin 2) = 0 ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = t.val ∧ win0_7.index t (1 : Fin 2) = 0 :=
  (by decide +kernel : ∀ t : Fin grid0.N, _)
theorem at8 : ∀ t : Fin cfg0.N, win0_8.index t (0 : Fin 2) = 0 ∧ win0_8.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_v2 = arr X) (t : Fin cfg0.N) :
    iblk m c 0 t = arr fun r x => X ((t.val) * 512 + r) ((0) * 2816 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 2816 + 1 * (j 1).val) : ℝ) : EReal) = ((X _ _ : ℝ) : EReal)
  rw [e0, e1, one_mul, one_mul]
theorem block1 (X : ℕ → ℕ → ℝ) (hV : V m c main_v1 = arr X) (t : Fin cfg0.N) :
    iblk m c 1 t = arr fun r x => X ((0) * 2816 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 2816 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_arg2 = arr X) (t : Fin cfg0.N) :
    iblk m c 2 t = arr fun r x => X ((t.val) * 512 + r) ((0) * 1024 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 512 + 1 * (j 0).val) (win0_2.index t (1 : Fin 2) * 1024 + 1 * (j 1).val) : ℝ) : EReal) = ((X _ _ : ℝ) : EReal)
  rw [e0, e1, one_mul, one_mul]
theorem block3 (X : ℕ → ℕ → ℝ) (hV : V m c main_arg3 = arr X) (t : Fin cfg0.N) :
    iblk m c 3 t = arr fun r x => X ((t.val) * 512 + r) ((0) * 1024 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 512 + 1 * (j 0).val) (win0_3.index t (1 : Fin 2) * 1024 + 1 * (j 1).val) : ℝ) : EReal) = ((X _ _ : ℝ) : EReal)
  rw [e0, e1, one_mul, one_mul]
theorem block4 (X : ℕ → ℕ → ℝ) (hV : V m c main_arg4 = arr X) (t : Fin cfg0.N) :
    iblk m c 4 t = arr fun r x => X ((0) * 1 + r) ((0) * 1024 + x) := by
  obtain ⟨e0, e1⟩ := at4 t
  have hV' : V m c (Pipeline.arrRef spec0 4) = arr X := hV
  unfold iblk
  generalize V m c (Pipeline.arrRef spec0 4) = W at hV'
  subst hV'
  funext j
  show ((X (win0_4.index t (0 : Fin 2) * 1 + 1 * (j 0).val) (win0_4.index t (1 : Fin 2) * 1024 + 1 * (j 1).val) : ℝ) : EReal) = ((X _ _ : ℝ) : EReal)
  rw [e0, e1, one_mul, one_mul]
theorem block5 (X : ℕ → ℕ → ℝ) (hV : V m c main_arg5 = arr X) (t : Fin cfg0.N) :
    iblk m c 5 t = arr fun r x => X ((t.val) * 512 + r) ((0) * 1024 + x) := by
  obtain ⟨e0, e1⟩ := at5 t
  have hV' : V m c (Pipeline.arrRef spec0 5) = arr X := hV
  unfold iblk
  generalize V m c (Pipeline.arrRef spec0 5) = W at hV'
  subst hV'
  funext j
  show ((X (win0_5.index t (0 : Fin 2) * 512 + 1 * (j 0).val) (win0_5.index t (1 : Fin 2) * 1024 + 1 * (j 1).val) : ℝ) : EReal) = ((X _ _ : ℝ) : EReal)
  rw [e0, e1, one_mul, one_mul]

/-! ### What a grid point leaves in the outputs' buffers -/

/-- The first point stores, -/
theorem first (t : Fin cfg0.N) (h0 : t.val % 8 = 0) (h1 : ¬1 ≤ t.val) : outsAt0 m c t.val t.isLt
    = (k0_pay6 (iblk m c 0 t) (iblk m c 1 t) (iblk m c 2 t) (iblk m c 3 t) (iblk m c 4 t) (iblk m c 5 t),
      k0_pay6 (F := Ideal) (iblk m c 0 t) (iblk m c 1 t) (iblk m c 2 t) (iblk m c 3 t) (iblk m c 4 t) (iblk m c 5 t),
      k0_pay1 (k0_pay3 (iblk m c 0 t) (iblk m c 1 t) (iblk m c 2 t)) (k0_pay5 (iblk m c 3 t))) := by
  rw [outsAt0_A m c t h0 h1]
  frame_out
  rfl
/-- each later one adds. -/
theorem later (t : Fin cfg0.N) (h0 : ¬t.val % 8 = 0) (h1 : 1 ≤ t.val) : outsAt0 m c t.val t.isLt
    = (k0_pay6 (iblk m c 0 t) (iblk m c 1 t) (iblk m c 2 t) (iblk m c 3 t) (iblk m c 4 t) (iblk m c 5 t),
      k0_pay6 (F := Ideal) (iblk m c 0 t) (iblk m c 1 t) (iblk m c 2 t) (iblk m c 3 t) (iblk m c 4 t) (iblk m c 5 t),
      k0_pay2 (k0_pay3 (iblk m c 0 t) (iblk m c 1 t) (iblk m c 2 t)) (k0_pay5 (iblk m c 3 t))
        (outsAt0 m c (t.val - 1) (Nat.lt_of_le_of_lt (Nat.sub_le _ _) t.isLt)).2.2) := by
  rw [outsAt0_B m c t h0 h1]
  frame_out
  rfl

/-- The arguments' arrays are the given reals. -/
structure Given (A : Args) : Prop where
  x0 : m ((c : Thread nD τ).loc main_arg0) = arr A.U
  x1 : m ((c : Thread nD τ).loc main_arg1) = arr A.W
  x2 : m ((c : Thread nD τ).loc main_arg2) = arr A.E
  x3 : m ((c : Thread nD τ).loc main_arg3) = arr A.X
  x4 : m ((c : Thread nD τ).loc main_arg4) = arr fun _ => A.G
  x5 : m ((c : Thread nD τ).loc main_arg5) = arr A.Z

variable {m c} {A : Args} (h : Given m c A)

include h

theorem V_w : V m c main_v1 = arr fun k x => A.W x k := by
  refine (host_w (fun b => m (c, b))).trans ?_
  show turned (m ((c : Thread nD τ).loc main_arg1)) = _
  rw [h.x1, turned_eq]
theorem V_u : V m c main_v2 = arr A.U := (host_u (fun b => m (c, b))).trans h.x0
theorem V_2 : V m c main_arg2 = arr A.E := (host_2 (fun b => m (c, b))).trans h.x2
theorem V_3 : V m c main_arg3 = arr A.X := (host_3 (fun b => m (c, b))).trans h.x3
theorem V_4 : V m c main_arg4 = arr fun _ => A.G := (host_4 (fun b => m (c, b))).trans h.x4
theorem V_5 : V m c main_arg5 = arr A.Z := (host_5 (fun b => m (c, b))).trans h.x5

/-- The part of the gain's gradient that the first points have added. -/
def part (A : Args) (n x : ℕ) : ℝ := ∑ q ∈ Finset.range n, ∑ r : Fin 512, A.e (q * 512 + r) x * (A.X (q * 512 + r) x * rs A.X (q * 512 + r))

/-- The two tiles a point writes. -/
theorem tile (n : ℕ) (hn : n < cfg0.N) :
    k0_pay6 (F := Ideal) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩)
      = arr (fun r x => A.dx (n * 512 + r) x)
    ∧ k0_pay3 (F := Ideal) (iblk m c 0 ⟨n, hn⟩) (iblk m c 1 ⟨n, hn⟩) (iblk m c 2 ⟨n, hn⟩) = arr (fun r x => A.e (n * 512 + r) x)
    ∧ k0_pay5 (F := Ideal) (iblk m c 3 ⟨n, hn⟩) = arr (fun r x => A.X (n * 512 + r) x * rs A.X (n * 512 + r)) := by
  rw [block0 m c _ (V_u h), block1 m c _ (V_w h), block2 m c _ (V_2 h), block3 m c _ (V_3 h), block4 m c _ (V_4 h), block5 m c _ (V_5 h)]
  simp only [Nat.zero_mul, Nat.zero_add]
  refine ⟨?_, ?_, ?_⟩
  · rw [tile_dx]; rfl
  · rw [tile_e]; rfl
  · rw [tile_n]; rfl

theorem outs : ∀ (n : ℕ) (hn : n < cfg0.N), outsAt0 m c n hn
    = (arr fun r x => A.dx (n * 512 + r) x, (arr fun r x => A.dx (n * 512 + r) x : FVec Ideal S512x1024 .f32), arr fun _ x => part A (n + 1) x) := by
  intro n
  induction n using Nat.strong_induction_on with
  | _ n ih =>
    intro hn
    have hN : n < 8 := hn
    obtain ⟨t6, t3, t5⟩ := tile h n hn
    by_cases h0 : n % 8 = 0
    · rw [first m c ⟨n, hn⟩ h0 (by dsimp only; omega), t6, t3, t5, tile_dgain]
      refine congrArg (fun z => (_, _, z)) (arr_congr _ _ fun z x _ _ => ?_)
      obtain rfl : n = 0 := by omega
      unfold part
      rw [Finset.sum_range_one]
    · rw [later m c ⟨n, hn⟩ h0 (by dsimp only; omega), t6, t3, t5]
      simp only [ih (n - 1) (by omega) (by omega)]
      rw [tile_add]
      refine congrArg (fun z => (_, _, z)) (arr_congr _ _ fun z x _ _ => ?_)
      rw [show n - 1 + 1 = n by omega]
      exact (Finset.sum_range_succ (fun q => ∑ r : Fin 512, A.e (q * 512 + r) x * (A.X (q * 512 + r) x * rs A.X (q * 512 + r))) n).symm

/-! ### The arrays the call returns -/

theorem array6 : (dats m 0 c).arrAt 6 cfg0.N = arr A.dx := by
  refine Pipeline.Dat.arrAt_eq_of_cover _ 6 _ (fun t _ => ?_) fun i => ?_
  · obtain ⟨e0, e1⟩ := at6 t
    show (cfg0.win 6).cut (grid0.coords t) ((dats m 0 c).after 6 t) = _
    rw [after0_6, outs h]
    funext j
    show ((A.dx (t.val * 512 + (j 0).val) (j 1).val : ℝ) : EReal)
      = ((A.dx (win0_6.index t (0 : Fin 2) * 512 + 1 * (j 0).val) (win0_6.index t (1 : Fin 2) * 1024 + 1 * (j 1).val) : ℝ) : EReal)
    rw [e0, e1, one_mul, one_mul, Nat.zero_mul, Nat.zero_add]
  · have h0 : (i 0).val < 4096 := (i 0).isLt
    have h1 : (i 1).val < 1024 := (i 1).isLt
    let t : Fin cfg0.N := ⟨(i 0).val / 512, show _ < 8 by omega⟩
    obtain ⟨e0, e1⟩ := at6 t
    have ht : t.val = (i 0).val / 512 := rfl
    refine ⟨t, flush0_6 t, ?_⟩
    have hm := ((cfg0.win 6).blk t).view.emb_mem_set (ix2 ⟨(i 0).val % 512, by omega⟩ ⟨(i 1).val, h1⟩)
    refine Eq.subst (motive := fun k => k ∈ ((cfg0.win 6).blk t).view.set) ?_ hm
    funext a; apply Fin.ext
    match a with
    | ⟨0, _⟩ => show win0_6.index t (0 : Fin 2) * 512 + 1 * ((i 0).val % 512) = (i 0).val; omega
    | ⟨1, _⟩ => show win0_6.index t (1 : Fin 2) * 1024 + 1 * (i 1).val = (i 1).val; omega

theorem array7 : (dats m 0 c).arrAt 7 cfg0.N = arr A.dx := by
  refine Pipeline.Dat.arrAt_eq_of_cover _ 7 _ (fun t _ => ?_) fun i => ?_
  · obtain ⟨e0, e1⟩ := at7 t
    show (cfg0.win 7).cut (grid0.coords t) ((dats m 0 c).after 7 t) = _
    rw [after0_7, outs h]
    funext j
    show ((A.dx (t.val * 512 + (j 0).val) (j 1).val : ℝ) : EReal)
      = ((A.dx (win0_7.index t (0 : Fin 2) * 512 + 1 * (j 0).val) (win0_7.index t (1 : Fin 2) * 1024 + 1 * (j 1).val) : ℝ) : EReal)
    rw [e0, e1, one_mul, one_mul, Nat.zero_mul, Nat.zero_add]
  · have h0 : (i 0).val < 4096 := (i 0).isLt
    have h1 : (i 1).val < 1024 := (i 1).isLt
    let t : Fin cfg0.N := ⟨(i 0).val / 512, show _ < 8 by omega⟩
    obtain ⟨e0, e1⟩ := at7 t
    have ht : t.val = (i 0).val / 512 := rfl
    refine ⟨t, flush0_7 t, ?_⟩
    have hm := ((cfg0.win 7).blk t).view.emb_mem_set (ix2 ⟨(i 0).val % 512, by omega⟩ ⟨(i 1).val, h1⟩)
    refine Eq.subst (motive := fun k => k ∈ ((cfg0.win 7).blk t).view.set) ?_ hm
    funext a; apply Fin.ext
    match a with
    | ⟨0, _⟩ => show win0_7.index t (0 : Fin 2) * 512 + 1 * ((i 0).val % 512) = (i 0).val; omega
    | ⟨1, _⟩ => show win0_7.index t (1 : Fin 2) * 1024 + 1 * (i 1).val = (i 1).val; omega

theorem array8 : (dats m 0 c).arrAt 8 cfg0.N = arr fun _ => A.dgain := by
  refine Pipeline.Dat.arrAt_eq_of_cover _ 8 _ (fun t ht => ?_) fun i => ?_
  · obtain ⟨e0, e1⟩ := at8 t
    have h7 : t.val % 8 = 7 := (flush0_8 t).mp ht
    have hN : t.val < 8 := t.isLt
    show (cfg0.win 8).cut (grid0.coords t) ((dats m 0 c).after 8 t) = _
    rw [after0_8, outs h]
    funext j
    show ((part A (t.val + 1) (j 1).val : ℝ) : EReal) = ((A.dgain (win0_8.index t (1 : Fin 2) * 1024 + 1 * (j 1).val) : ℝ) : EReal)
    rw [e1, one_mul, Nat.zero_mul, Nat.zero_add, show t.val + 1 = 8 by omega]
    unfold part Args.dgain
    rw [tiles (fun r => A.e r (j 1).val * (A.X r (j 1).val * rs A.X r)) 8 512 4096 rfl]
  · have h0 : (i 0).val < 1 := (i 0).isLt
    have h1 : (i 1).val < 1024 := (i 1).isLt
    let t : Fin cfg0.N := ⟨7, show _ < 8 by omega⟩
    obtain ⟨e0, e1⟩ := at8 t
    refine ⟨t, (flush0_8 t).mpr rfl, ?_⟩
    have hm := ((cfg0.win 8).blk t).view.emb_mem_set (ix2 ⟨(i 0).val, h0⟩ ⟨(i 1).val, h1⟩)
    refine Eq.subst (motive := fun k => k ∈ ((cfg0.win 8).blk t).view.set) ?_ hm
    funext a; apply Fin.ext
    match a with
    | ⟨0, _⟩ => show win0_8.index t (0 : Fin 2) * 1 + 1 * (i 0).val = (i 0).val; omega
    | ⟨1, _⟩ => show win0_8.index t (1 : Fin 2) * 1024 + 1 * (i 1).val = (i 1).val; omega

end Cert.Proof.Norm

end
-- ==== Proof.Norm.Claims.lean ====
module

public import proofs.«01_k».proof.Proof.Norm.Arrays
public import proofs.«01_k».proof.Proof.Attn.Algebraic
public import proofs.«01_k».proof.Proof.Gen.Reference4Ideal.Run

@[expose] public section

noncomputable section

namespace Cert.Proof.Norm

open Cert.Kernel4Ideal Cert.Kernel4Ideal.Gen
open Idealize.ShloMosaic Idealize.ShloMosaic.TcCoe Idealize.ShloMosaic.Pointwise Reals Attn
open Idealize.SL.Sem
open Cert.Reference4Ideal.Read

attribute [local instance] Cert.Kernel4Ideal.Gen.facts Cert.Reference4Ideal.Gen.facts

/-- The shape facts the precondition states. -/
theorem pre_facts : Cert.Pre_finite4.Facts := ⟨by decide, by decide, by decide, by decide, by decide, by decide, by decide, by decide, by decide⟩

instance : Subsingleton Cert.Pre_finite4.S_.Idx := ⟨fun a b => funext fun i => i.elim0⟩

/-- Finite arguments are arrays of reals. -/
theorem args_of_pre [Cert.Pre_finite4.Facts] (x0 : FVec Ideal S4096x2816 .f32) (x1 : FVec Ideal S1024x2816 .f32) (x2 x3 : FVec Ideal S4096x1024 .f32) (x4 : FVec Ideal S1x1024 .f32) (x5 : FVec Ideal S4096x1024 .f32)
    (hp : Cert.Pre_finite4.fn (F := Ideal) x0 x1 x2 x3 x4 x5 = fun _ => 1#1) :
    ∃ A : Args, x0 = arr A.U ∧ x1 = arr A.W ∧ x2 = arr A.E ∧ x3 = arr A.X ∧ x4 = (arr fun _ => A.G) ∧ x5 = arr A.Z := by
  unfold Cert.Pre_finite4.fn Cert.Pre_finite4.fn_part1 at hp
  obtain ⟨hp, h5⟩ := and_eq_one _ _ hp
  obtain ⟨hp, h4⟩ := and_eq_one _ _ hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨r4, rfl⟩ := reals_of_reduce _ _ _ (fun i => ofBits_inf) _ _ (fun i => i.elim0) (congrFun h4 _)
  obtain ⟨r5, rfl⟩ := reals_of_reduce _ _ _ (fun i => ofBits_inf) _ _ (fun i => i.elim0) (congrFun h5 _)
  obtain ⟨X0, e0⟩ := eq_arr_of_real r0
  obtain ⟨X1, e1⟩ := eq_arr_of_real r1
  obtain ⟨X2, e2⟩ := eq_arr_of_real r2
  obtain ⟨X3, e3⟩ := eq_arr_of_real r3
  obtain ⟨X4, e4⟩ := eq_arr_of_real r4
  obtain ⟨X5, e5⟩ := eq_arr_of_real r5
  refine ⟨⟨X0, X1, X2, X3, X4 0, X5⟩, e0, e1, e2, e3, e4.trans (eq_arr _ (fun _ => X4 0) fun z e => ?_), e5⟩
  obtain rfl : z = 0 := Subsingleton.elim _ _
  rfl

/-- The idealized kernel leaves the gradients and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v3_0) = arr (A c).dx
      ∧ r.2.mem ((c : Thread nD τ).loc main_v3_1) = arr (A c).dx
      ∧ r.2.mem ((c : Thread nD τ).loc main_v3_2) = (arr fun _ => (A c).dgain)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun _ k c => ⟨(k c).1.trans (array6 (h c)), (k c).2.1.trans (array7 (h c)), (k c).2.2.1.trans (array8 (h c)), (k c).2.2.2⟩)
    (Cert.Kernel4Ideal.Value.run_blocks (F := Ideal) m ρ)

/-- The idealized kernel and the reference leave the same gradients of the norm's rows, twice, and of its gain. -/
theorem algebraic [Cert.Pre_finite4.Facts] : Cert.algebraic_Kernel4Ideal_Reference4Ideal_pre_finite4 := by
  intro m ρ m' ρ' hpre hagree
  choose A hA using fun c => args_of_pre _ _ _ _ _ _ (hpre c)
  refine ⟨fun c => arr (A c).dx, fun c => arr (A c).dx, fun c => arr fun _ => (A c).dgain,
    kernel_run m ρ A fun c => ⟨(hA c).1, (hA c).2.1, (hA c).2.2.1, (hA c).2.2.2.1, (hA c).2.2.2.2.1, (hA c).2.2.2.2.2⟩, ?_⟩
  refine (θ_run Cert.Reference4Ideal.defs _ _).mono (fun _ h c => ?_) (Cert.Reference4Ideal.Value.run (F := Ideal) m' ρ')
  obtain ⟨h0, h1, h2, hargs⟩ := h c
  obtain ⟨g0, g1, g2, g3, g4, g5⟩ := hagree c
  obtain ⟨a0, a1, a2, a3, a4, a5⟩ := hA c
  have b0 := g0.trans a0
  have b1 := g1.trans a1
  have b2 := g2.trans a2
  have b3 := g3.trans a3
  have b4 := g4.trans a4
  have b5 := g5.trans a5
  refine ⟨(h0.trans (val_main_v40_eq _ _)).trans ?_, (h1.trans (val_main_v42_eq _ _)).trans ?_, (h2.trans (val_main_v41_eq _ _ _ _)).trans ?_, hargs⟩
  · refine Eq.trans ?_ (ref_dx (A c)); rw [← b0, ← b1, ← b2, ← b3, ← b4, ← b5]
  · refine Eq.trans ?_ (ref_dx (A c)); rw [← b0, ← b1, ← b2, ← b3, ← b4, ← b5]; rfl
  · refine Eq.trans ?_ (ref_dgain (A c)); rw [← b0, ← b1, ← b2, ← b3]

/-- The idealized reference runs and ends quiescent. -/
theorem quiescent_reference : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

end Cert.Proof.Norm

end
-- ==== Proof.Loss.Value.lean ====
module

public import proofs.«01_k».proof.Proof.Lib.Gate
public import proofs.«01_k».proof.Proof.Gen.Reference5Ideal.Read
public import proofs.«01_k».proof.Proof.Gen.Kernel5Ideal.Skeleton
public import Idealize.ShloMosaic.Lib.Pointwise

@[expose] public section

noncomputable section

set_option maxRecDepth 8192

namespace Cert.Proof.Loss

open Idealize.ShloMosaic Idealize.ShloMosaic.Pointwise Reals Attn Gate

theorem width_bits : Ideal.ofBits .f32 1149239296#32 = ((1024 : ℝ) : EReal) := by simp [Ideal.ofBits, Ideal.ieee, -EReal.coe_mul]; norm_num
theorem inv_width_bits : Ideal.ofBits .f32 981467136#32 = ((1 / 1024 : ℝ) : EReal) := by simp [Ideal.ofBits, Ideal.ieee, -EReal.coe_mul]; norm_num
theorem two_bits : Ideal.ofBits .f32 1073741824#32 = ((2 : ℝ) : EReal) := by simp [Ideal.ofBits, Ideal.ieee, -EReal.coe_mul]; norm_num

/-- A product of rows, and the gated product of two. -/
def prod (H W : ℕ → ℕ → ℝ) (r f : ℕ) : ℝ := ∑ k : Fin 1024, H r k * W f k
def gated (H Wg Wu : ℕ → ℕ → ℝ) (r f : ℕ) : ℝ := prod H Wg r f * sg (prod H Wg r f) * prod H Wu r f

/-- The arguments of the last half step and its loss: the normed rows, the rows, the three weights, the target. The first
    two weights are kept the other way round. -/
structure Args where
  H : ℕ → ℕ → ℝ
  X : ℕ → ℕ → ℝ
  Wg : ℕ → ℕ → ℝ
  Wu : ℕ → ℕ → ℝ
  Wd : ℕ → ℕ → ℝ
  T : ℕ → ℕ → ℝ

namespace Args

variable (A : Args)

/-- The error of the rows that leave the half step, the loss's gradient, the squared errors summed over the rows. -/
def er (r x : ℕ) : ℝ := A.X r x + 1 / 2 * (∑ f : Fin 2816, gated A.H A.Wg A.Wu r f * A.Wd f x) - A.T r x
def dy (r x : ℕ) : ℝ := A.er r x * (1 / 1024)
def sq (x : ℕ) : ℝ := ∑ r : Fin 4096, A.er r x * A.er r x

end Args

section kernel

open Cert.Kernel5Ideal Cert.Kernel5Ideal.Gen

theorem tile_g (H W : ℕ → ℕ → ℝ) : k0_pay7 (F := Ideal) (arr H) (arr W) = arr (prod H W) := by
  refine eq_arr _ _ fun a b => ?_
  pointwise [k0_pay7, k0_pay6]
  simp only [arr_ix2, ← EReal.coe_mul, sum_coe]
  rfl
theorem tile_u (H W : ℕ → ℕ → ℝ) : k0_pay8 (F := Ideal) (arr H) (arr W) = arr (prod H W) := tile_g H W
/-- What a grid point adds to the down product. -/
theorem tile_down (H Wg Wu Wd : ℕ → ℕ → ℝ) : k0_pay11 (F := Ideal) (arr H) (arr Wg) (arr Wu) (arr Wd)
    = arr fun r x => ∑ f : Fin 1408, gated H Wg Wu r f * Wd f x := by
  refine eq_arr _ _ fun a b => ?_
  pointwise [k0_pay11, k0_pay6, k0_pay7, k0_pay8]
  simp only [arr_ix2, half_bits, tanh_coe, ← EReal.coe_mul, ← EReal.coe_add, sg_tanh, sum_coe]
  simp only [gated, prod]
theorem tile_start (H Wg Wu Wd : ℕ → ℕ → ℝ) : k0_pay12 (F := Ideal) (arr H) (arr Wg) (arr Wu) (arr Wd)
    = arr fun r x => ∑ f : Fin 1408, gated H Wg Wu r f * Wd f x := by
  unfold k0_pay12
  rw [tile_down]
  refine eq_arr _ _ fun a b => ?_
  pointwise []
  rw [arr_ix2]
theorem tile_add (H Wg Wu Wd S : ℕ → ℕ → ℝ) : k0_pay13 (F := Ideal) (arr H) (arr Wg) (arr Wu) (arr Wd) (arr S)
    = arr fun r x => S r x + ∑ f : Fin 1408, gated H Wg Wu r f * Wd f x := by
  unfold k0_pay13
  rw [tile_down]
  refine eq_arr _ _ fun a b => ?_
  pointwise []
  rw [arr_ix2, arr_ix2, ← EReal.coe_add]
/-- The error of a tile's rows, -/
theorem tile_er (X S T : ℕ → ℕ → ℝ) : k0_pay1 (F := Ideal) (arr X) (arr S) (arr T) = arr fun r x => X r x + 1 / 2 * S r x - T r x := by
  refine eq_arr _ _ fun a b => ?_
  pointwise [k0_pay1]
  simp only [arr_ix2, half_bits, ← EReal.coe_mul, ← EReal.coe_add, ← EReal.coe_sub]
/-- the loss's gradient there, -/
theorem tile_dy (X S T : ℕ → ℕ → ℝ) : k0_pay2 (F := Ideal) (arr X) (arr S) (arr T) = arr fun r x => (X r x + 1 / 2 * S r x - T r x) * (1 / 1024) := by
  refine eq_arr _ _ fun a b => ?_
  pointwise [k0_pay2]
  rw [tile_er]
  simp only [arr_ix2, inv_width_bits, ← EReal.coe_mul]
/-- and its squared errors' sum. -/
theorem tile_sq (X S T : ℕ → ℕ → ℝ) : k0_pay4 (F := Ideal) (arr X) (arr S) (arr T)
    = arr fun _ x => ∑ r : Fin 512, (X r x + 1 / 2 * S r x - T r x) * (X r x + 1 / 2 * S r x - T r x) := by
  refine eq_arr _ _ fun a b => ?_
  pointwise [k0_pay4]
  rw [tile_er]
  simp only [arr_ix2, ← EReal.coe_mul, sum_coe]
theorem tile_sq_add (X S T P : ℕ → ℕ → ℝ) : k0_pay5 (F := Ideal) (arr X) (arr S) (arr T) (arr P)
    = arr fun _ x => P 0 x + ∑ r : Fin 512, (X r x + 1 / 2 * S r x - T r x) * (X r x + 1 / 2 * S r x - T r x) := by
  refine eq_arr _ _ fun a b => ?_
  pointwise [k0_pay5]
  rw [tile_sq]
  simp only [arr_ix2, ← EReal.coe_add]
  obtain rfl : a = 0 := Subsingleton.elim _ _
  rfl

end kernel

section reference

open Cert.Reference5Ideal Cert.Reference5Ideal.Gen Cert.Reference5Ideal.Read

variable (A : Args)

/-- The reference's gate and up products, -/
theorem ref_g (H W : ℕ → ℕ → ℝ) : val_main_v0 (F := Ideal) (arr H) (arr fun k f => W f k) = arr (prod H W) := by
  refine eq_arr _ _ fun a b => ?_
  pointwise [val_main_v0]
  simp only [arr_ix2, ← EReal.coe_mul, sum_coe]
  rfl
theorem ref_u (H W : ℕ → ℕ → ℝ) : val_main_v1 (F := Ideal) (arr H) (arr fun k f => W f k) = arr (prod H W) := ref_g H W
theorem ref_er : val_main_v8 (F := Ideal) (arr A.H) (arr A.X) (arr fun k f => A.Wg f k) (arr fun k f => A.Wu f k) (arr A.Wd) (arr A.T) = arr A.er := by
  refine eq_arr _ _ fun a b => ?_
  pointwise [val_main_v8, val_main_v7, val_main_v6, val_main_v5, val_main_v4, val_main_v3, val_main_v2, val_main_cst, val_main_call0_v5, val_main_call0_v4,
    val_main_call0_v3, val_main_call0_v2, val_main_call0_v1, val_main_call0_v0, val_main_call0_cst, val_main_call0_cst_0]
  rw [ref_g, ref_u]
  simp only [arr_ix2, half_bits, sg_div]
  simp only [← EReal.coe_mul, sum_coe, ← EReal.coe_add, ← EReal.coe_sub]
  rfl
/-- its gradient of the loss -/
theorem ref_dy : val_main_v22 (F := Ideal) (arr A.H) (arr A.X) (arr fun k f => A.Wg f k) (arr fun k f => A.Wu f k) (arr A.Wd) (arr A.T) = arr A.dy := by
  refine eq_arr _ _ fun a b => ?_
  pointwise [val_main_v22, val_main_v21, val_main_v20, val_main_v19, val_main_v18, val_main_v17, val_main_v11, val_main_v10, val_main_cst_0, val_main_cst_5, val_main_cst_6, val_main_cst_7]
  rw [ref_er]
  simp only [arr_ix2, half_bits, width_bits, two_bits, mul_one]
  rw [div_coe _ _ (by norm_num), ← EReal.coe_mul, ← EReal.coe_mul]
  refine congrArg (fun x : ℝ => (x : EReal)) ?_
  unfold Args.dy
  ring
/-- and the squared errors' sum. -/
theorem ref_sq : val_main_v26 (F := Ideal) (arr A.H) (arr A.X) (arr fun k f => A.Wg f k) (arr fun k f => A.Wu f k) (arr A.Wd) (arr A.T) = arr fun _ => A.sq := by
  refine eq_arr _ _ fun a b => ?_
  have e : val_main_v23 (F := Ideal) (arr A.H) (arr A.X) (arr fun k f => A.Wg f k) (arr fun k f => A.Wu f k) (arr A.Wd) (arr A.T) = arr A.er := ref_er A
  pointwise [val_main_v26, val_main_v25, val_main_v24, val_main_cst_8]
  rw [e]
  simp only [arr_ix2, ← EReal.coe_mul, sum_coe]
  rfl

end reference

end Cert.Proof.Loss

end
-- ==== Proof.Loss.Arrays.lean ====
module

public import proofs.«01_k».proof.Proof.Loss.Value
public import proofs.«01_k».proof.Proof.Gen.Kernel5Ideal.Value
public import Idealize.ShloMosaic.Lib.Pipeline.ValueKit
public import Idealize.ShloMosaic.Lib.Pipeline.ReadBack
public import Idealize.ShloMosaic.Lib.StableHlo.Run

@[expose] public section

noncomputable section

namespace Cert.Proof.Loss

open Cert.Kernel5Ideal Cert.Kernel5Ideal.Gen
open Idealize.ShloMosaic Idealize.ShloMosaic.TcCoe Idealize.ShloMosaic.Pointwise Reals Attn Gate

attribute [local instance] Cert.Kernel5Ideal.Gen.facts

set_option maxRecDepth 8192

/-! ### The host's lines before the call -/

section host

variable (U : Valuation τ sig (Elt Ideal))

/-- The weight the other way round. -/
def turned (w : (⟨S1024x2816, .f32⟩ : BufTy).Contents (Elt Ideal)) : (⟨S2816x1024, .bf16⟩ : BufTy).Contents (Elt Ideal) :=
  truncf (F := Ideal) .bf16 (transpose S2816x1024 [1, 0] w transposes_S1024x2816_S2816x1024_1_0) bitsLt_bf16_f32

theorem host_h : StableHlo.after (List.flatten [hostOps0]) U (Proc.devRef .tc main_v0) = U (Proc.devRef .tc main_arg0) := by
  simp only [List.flatten_cons, List.flatten_nil, List.append_nil, hostOps0]; after_results_simp; rfl
theorem host_g : StableHlo.after (List.flatten [hostOps0]) U (Proc.devRef .tc main_v2) = turned (U (Proc.devRef .tc main_arg2)) := by
  simp only [List.flatten_cons, List.flatten_nil, List.append_nil, hostOps0]; after_results_simp; rfl
theorem host_u : StableHlo.after (List.flatten [hostOps0]) U (Proc.devRef .tc main_v4) = turned (U (Proc.devRef .tc main_arg3)) := by
  simp only [List.flatten_cons, List.flatten_nil, List.append_nil, hostOps0]; after_results_simp; rfl
theorem host_d : StableHlo.after (List.flatten [hostOps0]) U (Proc.devRef .tc main_v5) = U (Proc.devRef .tc main_arg4) := by
  simp only [List.flatten_cons, List.flatten_nil, List.append_nil, hostOps0]; after_results_simp; rfl
theorem host_x : StableHlo.after (List.flatten [hostOps0]) U (Proc.devRef .tc main_arg1) = U (Proc.devRef .tc main_arg1) := by
  simp only [List.flatten_cons, List.flatten_nil, List.append_nil, hostOps0]; after_results_simp
theorem host_t : StableHlo.after (List.flatten [hostOps0]) U (Proc.devRef .tc main_arg5) = U (Proc.devRef .tc main_arg5) := by
  simp only [List.flatten_cons, List.flatten_nil, List.append_nil, hostOps0]; after_results_simp

theorem turned_eq (X : ℕ → ℕ → ℝ) : turned (arr X) = arr fun k x => X x k := by
  refine eq_arr _ _ fun a b => ?_
  pointwise [turned]
  simp only [arr_ix2]

end host

/-! ### Each window's place on the grid, and its block -/

theorem at0 : ∀ t : Fin cfg0.N, win0_0.index t (0 : Fin 2) = t.val / 2 ∧ win0_0.index t (1 : Fin 2) = 0 :=
  (by decide +kernel : ∀ t : Fin grid0.N, _)
theorem at1 : ∀ t : Fin cfg0.N, win0_1.index t (0 : Fin 2) = t.val / 2 ∧ win0_1.index t (1 : Fin 2) = 0 :=
  (by decide +kernel : ∀ t : Fin grid0.N, _)
theorem at2 : ∀ t : Fin cfg0.N, win0_2.index t (0 : Fin 2) = t.val % 2 ∧ win0_2.index t (1 : Fin 2) = 0 :=
  (by decide +kernel : ∀ t : Fin grid0.N, _)
theorem at3 : ∀ t : Fin cfg0.N, win0_3.index t (0 : Fin 2) = t.val % 2 ∧ win0_3.index t (1 : Fin 2) = 0 :=
  (by decide +kernel : ∀ t : Fin grid0.N, _)
theorem at4 : ∀ t : Fin cfg0.N, win0_4.index t (0 : Fin 2) = t.val % 2 ∧ win0_4.index t (1 : Fin 2) = 0 :=
  (by decide +kernel : ∀ t : Fin grid0.N, _)
theorem at5 : ∀ t : Fin cfg0.N, win0_5.index t (0 : Fin 2) = t.val / 2 ∧ win0_5.index t (1 : Fin 2) = 0 :=
  (by decide +kernel : ∀ t : Fin grid0.N, _)
theorem at6 : ∀ t : Fin cfg0.N, win0_6.index t (0 : Fin 2) = t.val / 2 ∧ win0_6.index t (1 : Fin 2) = t.val % 2 :=
  (by decide +kernel : ∀ t : Fin grid0.N, _)
theorem at7 : ∀ t : Fin cfg0.N, win0_7.index t (0 : Fin 2) = t.val / 2 ∧ win0_7.index t (1 : Fin 2) = t.val % 2 :=
  (by decide +kernel : ∀ t : Fin grid0.N, _)
theorem at8 : ∀ t : Fin cfg0.N, win0_8.index t (0 : Fin 2) = t.val / 2 ∧ win0_8.index t (1 : Fin 2) = 0 :=
  (by decide +kernel : ∀ t : Fin grid0.N, _)
theorem at9 : ∀ t : Fin cfg0.N, win0_9.index t (0 : Fin 2) = t.val / 2 ∧ win0_9.index t (1 : Fin 2) = 0 :=
  (by decide +kernel : ∀ t : Fin grid0.N, _)
theorem at10 : ∀ t : Fin cfg0.N, win0_10.index t (0 : Fin 2) = 0 ∧ win0_10.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_v0 = arr X) (t : Fin cfg0.N) :
    iblk m c 0 t = arr fun r x => X ((t.val / 2) * 512 + r) ((0) * 1024 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 1024 + 1 * (j 1).val) : ℝ) : EReal) = ((X _ _ : ℝ) : EReal)
  rw [e0, e1, one_mul, one_mul]
theorem block1 (X : ℕ → ℕ → ℝ) (hV : V m c main_arg1 = arr X) (t : Fin cfg0.N) :
    iblk m c 1 t = arr fun r x => X ((t.val / 2) * 512 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 512 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_v2 = arr X) (t : Fin cfg0.N) :
    iblk m c 2 t = arr fun r x => X ((t.val % 2) * 1408 + r) ((0) * 1024 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 1408 + 1 * (j 0).val) (win0_2.index t (1 : Fin 2) * 1024 + 1 * (j 1).val) : ℝ) : EReal) = ((X _ _ : ℝ) : EReal)
  rw [e0, e1, one_mul, one_mul]
theorem block3 (X : ℕ → ℕ → ℝ) (hV : V m c main_v4 = arr X) (t : Fin cfg0.N) :
    iblk m c 3 t = arr fun r x => X ((t.val % 2) * 1408 + r) ((0) * 1024 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 1408 + 1 * (j 0).val) (win0_3.index t (1 : Fin 2) * 1024 + 1 * (j 1).val) : ℝ) : EReal) = ((X _ _ : ℝ) : EReal)
  rw [e0, e1, one_mul, one_mul]
theorem block4 (X : ℕ → ℕ → ℝ) (hV : V m c main_v5 = arr X) (t : Fin cfg0.N) :
    iblk m c 4 t = arr fun r x => X ((t.val % 2) * 1408 + r) ((0) * 1024 + x) := by
  obtain ⟨e0, e1⟩ := at4 t
  have hV' : V m c (Pipeline.arrRef spec0 4) = arr X := hV
  unfold iblk
  generalize V m c (Pipeline.arrRef spec0 4) = W at hV'
  subst hV'
  funext j
  show ((X (win0_4.index t (0 : Fin 2) * 1408 + 1 * (j 0).val) (win0_4.index t (1 : Fin 2) * 1024 + 1 * (j 1).val) : ℝ) : EReal) = ((X _ _ : ℝ) : EReal)
  rw [e0, e1, one_mul, one_mul]
theorem block5 (X : ℕ → ℕ → ℝ) (hV : V m c main_arg5 = arr X) (t : Fin cfg0.N) :
    iblk m c 5 t = arr fun r x => X ((t.val / 2) * 512 + r) ((0) * 1024 + x) := by
  obtain ⟨e0, e1⟩ := at5 t
  have hV' : V m c (Pipeline.arrRef spec0 5) = arr X := hV
  unfold iblk
  generalize V m c (Pipeline.arrRef spec0 5) = W at hV'
  subst hV'
  funext j
  show ((X (win0_5.index t (0 : Fin 2) * 512 + 1 * (j 0).val) (win0_5.index t (1 : Fin 2) * 1024 + 1 * (j 1).val) : ℝ) : EReal) = ((X _ _ : ℝ) : EReal)
  rw [e0, e1, one_mul, one_mul]

/-! ### What a grid point leaves in the outputs' buffers and the accumulator -/

/-- A row tile's first point starts the accumulator and keeps the sum of squares, -/
theorem even (t : Fin cfg0.N) (h0 : t.val % 2 = 0) (h1 : ¬t.val % 2 = 1) : ∃ y z, outsAt0 m c t.val t.isLt
    = (k0_pay9 (iblk m c 0 t) (iblk m c 2 t), k0_pay10 (iblk m c 0 t) (iblk m c 3 t), y, z, (outsAt0 m c (t.val - 1) (Nat.lt_of_le_of_lt (Nat.sub_le _ _) t.isLt)).2.2.2.2.1, k0_pay12 (iblk m c 0 t) (iblk m c 2 t) (iblk m c 3 t) (iblk m c 4 t)) := by
  refine ⟨View.canon [], View.canon [], ?_⟩
  rw [outsAt0_A m c t h0 h1 h1]
  frame_out
  rfl
/-- the first tile's last point stores the sum of squares, -/
theorem odd_first (t : Fin cfg0.N) (h0 : ¬t.val % 2 = 0) (h1 : t.val % 2 = 1) (h3 : t.val < 2) (h4 : ¬2 ≤ t.val) : outsAt0 m c t.val t.isLt
    = (k0_pay9 (iblk m c 0 t) (iblk m c 2 t), k0_pay10 (iblk m c 0 t) (iblk m c 3 t),
      k0_pay2 (iblk m c 1 t) (k0_pay13 (iblk m c 0 t) (iblk m c 2 t) (iblk m c 3 t) (iblk m c 4 t) (outsAt0 m c (t.val - 1) (Nat.lt_of_le_of_lt (Nat.sub_le _ _) t.isLt)).2.2.2.2.2) (iblk m c 5 t),
      k0_pay3 (iblk m c 1 t) (k0_pay13 (iblk m c 0 t) (iblk m c 2 t) (iblk m c 3 t) (iblk m c 4 t) (outsAt0 m c (t.val - 1) (Nat.lt_of_le_of_lt (Nat.sub_le _ _) t.isLt)).2.2.2.2.2) (iblk m c 5 t),
      k0_pay4 (iblk m c 1 t) (k0_pay13 (iblk m c 0 t) (iblk m c 2 t) (iblk m c 3 t) (iblk m c 4 t) (outsAt0 m c (t.val - 1) (Nat.lt_of_le_of_lt (Nat.sub_le _ _) t.isLt)).2.2.2.2.2) (iblk m c 5 t),
      k0_pay13 (iblk m c 0 t) (iblk m c 2 t) (iblk m c 3 t) (iblk m c 4 t) (outsAt0 m c (t.val - 1) (Nat.lt_of_le_of_lt (Nat.sub_le _ _) t.isLt)).2.2.2.2.2) := by
  rw [outsAt0_B m c t h0 h1 h1 h3 h4]
  frame_out
  simp only [read_unread_whole]
/-- every later one adds to it. -/
theorem odd_later (t : Fin cfg0.N) (h0 : ¬t.val % 2 = 0) (h1 : t.val % 2 = 1) (h3 : ¬t.val < 2) (h4 : 2 ≤ t.val) : outsAt0 m c t.val t.isLt
    = (k0_pay9 (iblk m c 0 t) (iblk m c 2 t), k0_pay10 (iblk m c 0 t) (iblk m c 3 t),
      k0_pay2 (iblk m c 1 t) (k0_pay13 (iblk m c 0 t) (iblk m c 2 t) (iblk m c 3 t) (iblk m c 4 t) (outsAt0 m c (t.val - 1) (Nat.lt_of_le_of_lt (Nat.sub_le _ _) t.isLt)).2.2.2.2.2) (iblk m c 5 t),
      k0_pay3 (iblk m c 1 t) (k0_pay13 (iblk m c 0 t) (iblk m c 2 t) (iblk m c 3 t) (iblk m c 4 t) (outsAt0 m c (t.val - 1) (Nat.lt_of_le_of_lt (Nat.sub_le _ _) t.isLt)).2.2.2.2.2) (iblk m c 5 t),
      k0_pay5 (iblk m c 1 t) (k0_pay13 (iblk m c 0 t) (iblk m c 2 t) (iblk m c 3 t) (iblk m c 4 t) (outsAt0 m c (t.val - 1) (Nat.lt_of_le_of_lt (Nat.sub_le _ _) t.isLt)).2.2.2.2.2) (iblk m c 5 t) (outsAt0 m c (t.val - 1) (Nat.lt_of_le_of_lt (Nat.sub_le _ _) t.isLt)).2.2.2.2.1,
      k0_pay13 (iblk m c 0 t) (iblk m c 2 t) (iblk m c 3 t) (iblk m c 4 t) (outsAt0 m c (t.val - 1) (Nat.lt_of_le_of_lt (Nat.sub_le _ _) t.isLt)).2.2.2.2.2) := by
  rw [outsAt0_C m c t h0 h1 h1 h3 h4]
  frame_out
  simp only [read_unread_whole]

/-- The arguments' arrays are the given reals. -/
structure Given (A : Args) : Prop where
  x0 : m ((c : Thread nD τ).loc main_arg0) = arr A.H
  x1 : m ((c : Thread nD τ).loc main_arg1) = arr A.X
  x2 : m ((c : Thread nD τ).loc main_arg2) = arr fun k f => A.Wg f k
  x3 : m ((c : Thread nD τ).loc main_arg3) = arr fun k f => A.Wu f k
  x4 : m ((c : Thread nD τ).loc main_arg4) = arr A.Wd
  x5 : m ((c : Thread nD τ).loc main_arg5) = arr A.T

variable {m c} {A : Args} (h : Given m c A)

include h

theorem V_g : V m c main_v2 = arr A.Wg := by
  refine (host_g (fun b => m (c, b))).trans ?_
  show turned (m ((c : Thread nD τ).loc main_arg2)) = _
  rw [h.x2, turned_eq]
theorem V_u : V m c main_v4 = arr A.Wu := by
  refine (host_u (fun b => m (c, b))).trans ?_
  show turned (m ((c : Thread nD τ).loc main_arg3)) = _
  rw [h.x3, turned_eq]
theorem V_h : V m c main_v0 = arr A.H := (host_h (fun b => m (c, b))).trans h.x0
theorem V_d : V m c main_v5 = arr A.Wd := (host_d (fun b => m (c, b))).trans h.x4
theorem V_x : V m c main_arg1 = arr A.X := (host_x (fun b => m (c, b))).trans h.x1
theorem V_t : V m c main_arg5 = arr A.T := (host_t (fun b => m (c, b))).trans h.x5

/-- The part of the down product that the first points of a row tile have added, -/
def down (A : Args) (n r x : ℕ) : ℝ := ∑ q ∈ Finset.range n, ∑ f : Fin 1408, gated A.H A.Wg A.Wu r (q * 1408 + f) * A.Wd (q * 1408 + f) x
/-- and of the sum of squares that the first row tiles have added. -/
def part (A : Args) (n x : ℕ) : ℝ := ∑ q ∈ Finset.range n, ∑ r : Fin 512, A.er (q * 512 + r) x * A.er (q * 512 + r) x

omit h in
theorem down_all (r x : ℕ) : A.X r x + 1 / 2 * down A 2 r x - A.T r x = A.er r x := by
  unfold down Args.er
  rw [tiles (fun f => gated A.H A.Wg A.Wu r f * A.Wd f x) 2 1408 2816 rfl]

/-- What a point's tiles are of the arguments. -/
theorem tile_of (n : ℕ) (hn : n < cfg0.N) :
    k0_pay9 (F := Ideal) (iblk m c 0 ⟨n, hn⟩) (iblk m c 2 ⟨n, hn⟩) = arr (fun r f => prod A.H A.Wg (n / 2 * 512 + r) (n % 2 * 1408 + f))
    ∧ k0_pay10 (F := Ideal) (iblk m c 0 ⟨n, hn⟩) (iblk m c 3 ⟨n, hn⟩) = arr (fun r f => prod A.H A.Wu (n / 2 * 512 + r) (n % 2 * 1408 + f))
    ∧ k0_pay12 (F := Ideal) (iblk m c 0 ⟨n, hn⟩) (iblk m c 2 ⟨n, hn⟩) (iblk m c 3 ⟨n, hn⟩) (iblk m c 4 ⟨n, hn⟩)
      = arr (fun r x => ∑ f : Fin 1408, gated A.H A.Wg A.Wu (n / 2 * 512 + r) (n % 2 * 1408 + f) * A.Wd (n % 2 * 1408 + f) x)
    ∧ ∀ S, k0_pay13 (F := Ideal) (iblk m c 0 ⟨n, hn⟩) (iblk m c 2 ⟨n, hn⟩) (iblk m c 3 ⟨n, hn⟩) (iblk m c 4 ⟨n, hn⟩) (arr S)
      = arr (fun r x => S r x + ∑ f : Fin 1408, gated A.H A.Wg A.Wu (n / 2 * 512 + r) (n % 2 * 1408 + f) * A.Wd (n % 2 * 1408 + f) x) := by
  rw [block0 m c _ (V_h h), block2 m c _ (V_g h), block3 m c _ (V_u h), block4 m c _ (V_d h)]
  simp only [Nat.zero_mul, Nat.zero_add]
  refine ⟨tile_g _ _, tile_u _ _, ?_, fun S => ?_⟩
  · rw [tile_start]; rfl
  · rw [tile_add]; rfl

theorem rows_of (n : ℕ) (hn : n < cfg0.N) :
    iblk m c 1 ⟨n, hn⟩ = arr (fun r x => A.X (n / 2 * 512 + r) x) ∧ iblk m c 5 ⟨n, hn⟩ = arr (fun r x => A.T (n / 2 * 512 + r) x) := by
  rw [block1 m c _ (V_x h), block5 m c _ (V_t h)]
  simp only [Nat.zero_mul, Nat.zero_add, and_self]

/-- What the buffers hold after a point. -/
structure Holds (A : Args) (n : ℕ) (o : Vec Ideal S512x1408 .bf16 × Vec Ideal S512x1408 .bf16 × Vec Ideal S512x1024 .f32 × Vec Ideal S512x1024 .bf16 × Vec Ideal S1x1024 .f32 × Vec Ideal S512x1024 .f32) : Prop where
  g : o.1 = arr fun r f => prod A.H A.Wg (n / 2 * 512 + r) (n % 2 * 1408 + f)
  u : o.2.1 = arr fun r f => prod A.H A.Wu (n / 2 * 512 + r) (n % 2 * 1408 + f)
  acc : o.2.2.2.2.2 = arr fun r x => down A (n % 2 + 1) (n / 2 * 512 + r) x
  dy : n % 2 = 1 → o.2.2.1 = arr fun r x => A.dy (n / 2 * 512 + r) x
  dy16 : n % 2 = 1 → o.2.2.2.1 = arr fun r x => A.dy (n / 2 * 512 + r) x
  sq : 1 ≤ n → o.2.2.2.2.1 = arr fun _ x => part A ((n + 1) / 2) x

theorem outs : ∀ (n : ℕ) (hn : n < cfg0.N), Holds A n (outsAt0 m c n hn) := by
  intro n
  induction n using Nat.strong_induction_on with
  | _ n ih =>
    intro hn
    have hN : n < 16 := hn
    obtain ⟨tg, tu, ts, ta⟩ := tile_of h n hn
    obtain ⟨tx, tt⟩ := rows_of h n hn
    by_cases h0 : n % 2 = 0
    · obtain ⟨y, z, e⟩ := even m c ⟨n, hn⟩ h0 (by dsimp only; omega)
      rw [tg, tu, ts] at e
      rw [e]
      refine ⟨rfl, rfl, ?_, fun k => absurd k (by omega), fun k => absurd k (by omega), fun k => ?_⟩
      · dsimp only
        refine arr_congr _ _ fun r x _ _ => ?_
        unfold down
        rw [h0, Finset.sum_range_one]
      · refine ((ih (n - 1) (by omega) (by omega)).sq (by omega)).trans ?_
        rw [show (n - 1 + 1) / 2 = (n + 1) / 2 by omega]
    · have h1 : n % 2 = 1 := by omega
      have p := ih (n - 1) (by omega) (by omega)
      have ea : k0_pay13 (F := Ideal) (iblk m c 0 ⟨n, hn⟩) (iblk m c 2 ⟨n, hn⟩) (iblk m c 3 ⟨n, hn⟩) (iblk m c 4 ⟨n, hn⟩) (outsAt0 m c (n - 1) (by omega)).2.2.2.2.2
          = arr fun r x => down A 2 (n / 2 * 512 + r) x := by
        rw [p.acc, ta]
        refine arr_congr _ _ fun r x _ _ => ?_
        rw [show (n - 1) % 2 + 1 = 1 by omega, show (n - 1) / 2 = n / 2 by omega, h1]
        exact (Finset.sum_range_succ (fun q => ∑ f : Fin 1408, gated A.H A.Wg A.Wu (n / 2 * 512 + r) (q * 1408 + f) * A.Wd (q * 1408 + f) x) 1).symm
      have ed : (fun r x => (A.X (n / 2 * 512 + r) x + 1 / 2 * down A 2 (n / 2 * 512 + r) x - A.T (n / 2 * 512 + r) x) * (1 / 1024)) = fun r x => A.dy (n / 2 * 512 + r) x := by
        funext r x; rw [down_all]; rfl
      have eq : ∀ x, (∑ r : Fin 512, (A.X (n / 2 * 512 + r) x + 1 / 2 * down A 2 (n / 2 * 512 + r) x - A.T (n / 2 * 512 + r) x)
          * (A.X (n / 2 * 512 + r) x + 1 / 2 * down A 2 (n / 2 * 512 + r) x - A.T (n / 2 * 512 + r) x)) = ∑ r : Fin 512, A.er (n / 2 * 512 + r) x * A.er (n / 2 * 512 + r) x := by
        intro x; exact Finset.sum_congr rfl fun r _ => by rw [down_all]
      by_cases h3 : n < 2
      · have e := odd_first m c ⟨n, hn⟩ h0 h1 h3 (by dsimp only; omega)
        dsimp only at e
        rw [ea, tg, tu, tx, tt, tile_dy, tile_sq, ed] at e
        rw [e]
        refine ⟨rfl, rfl, by rw [h1], fun _ => rfl, fun _ => ?_, fun k => ?_⟩
        · exact (tile_dy _ _ _).trans (congrArg arr ed)
        · dsimp only
          refine arr_congr _ _ fun z x _ _ => ?_
          rw [eq]
          obtain rfl : n = 1 := by omega
          unfold part
          rw [Finset.sum_range_one]
      · have e := odd_later m c ⟨n, hn⟩ h0 h1 h3 (by dsimp only; omega)
        dsimp only at e
        rw [ea, tg, tu, tx, tt, tile_dy, p.sq (by omega), tile_sq_add, ed] at e
        rw [e]
        refine ⟨rfl, rfl, by rw [h1], fun _ => rfl, fun _ => ?_, fun k => ?_⟩
        · exact (tile_dy _ _ _).trans (congrArg arr ed)
        · dsimp only
          refine arr_congr _ _ fun z x _ _ => ?_
          rw [eq, show (n - 1 + 1) / 2 = n / 2 by omega, show (n + 1) / 2 = n / 2 + 1 by omega]
          exact (Finset.sum_range_succ (fun q => ∑ r : Fin 512, A.er (q * 512 + r) x * A.er (q * 512 + r) x) (n / 2)).symm

/-! ### The arrays the call returns -/

theorem array6 : (dats m 0 c).arrAt 6 cfg0.N = arr (prod A.H A.Wg) := by
  refine Pipeline.Dat.arrAt_eq_of_cover _ 6 _ (fun t _ => ?_) fun i => ?_
  · obtain ⟨e0, e1⟩ := at6 t
    show (cfg0.win 6).cut (grid0.coords t) ((dats m 0 c).after 6 t) = _
    rw [after0_6, (outs h _ _).g]
    funext j
    show ((prod A.H A.Wg (t.val / 2 * 512 + (j 0).val) (t.val % 2 * 1408 + (j 1).val) : ℝ) : EReal)
      = ((prod A.H A.Wg (win0_6.index t (0 : Fin 2) * 512 + 1 * (j 0).val) (win0_6.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 0).val / 512 * 2 + (i 1).val / 1408, show _ < 16 by omega⟩
    obtain ⟨e0, e1⟩ := at6 t
    have ht : t.val = (i 0).val / 512 * 2 + (i 1).val / 1408 := rfl
    refine ⟨t, flush0_6 t, ?_⟩
    have hm := ((cfg0.win 6).blk t).view.emb_mem_set (ix2 ⟨(i 0).val % 512, by omega⟩ ⟨(i 1).val % 1408, by omega⟩)
    refine Eq.subst (motive := fun k => k ∈ ((cfg0.win 6).blk t).view.set) ?_ hm
    funext a; apply Fin.ext
    match a with
    | ⟨0, _⟩ => show win0_6.index t (0 : Fin 2) * 512 + 1 * ((i 0).val % 512) = (i 0).val; omega
    | ⟨1, _⟩ => show win0_6.index t (1 : Fin 2) * 1408 + 1 * ((i 1).val % 1408) = (i 1).val; omega

theorem array7 : (dats m 0 c).arrAt 7 cfg0.N = arr (prod A.H A.Wu) := by
  refine Pipeline.Dat.arrAt_eq_of_cover _ 7 _ (fun t _ => ?_) fun i => ?_
  · obtain ⟨e0, e1⟩ := at7 t
    show (cfg0.win 7).cut (grid0.coords t) ((dats m 0 c).after 7 t) = _
    rw [after0_7, (outs h _ _).u]
    funext j
    show ((prod A.H A.Wu (t.val / 2 * 512 + (j 0).val) (t.val % 2 * 1408 + (j 1).val) : ℝ) : EReal)
      = ((prod A.H A.Wu (win0_7.index t (0 : Fin 2) * 512 + 1 * (j 0).val) (win0_7.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 0).val / 512 * 2 + (i 1).val / 1408, show _ < 16 by omega⟩
    obtain ⟨e0, e1⟩ := at7 t
    have ht : t.val = (i 0).val / 512 * 2 + (i 1).val / 1408 := rfl
    refine ⟨t, flush0_7 t, ?_⟩
    have hm := ((cfg0.win 7).blk t).view.emb_mem_set (ix2 ⟨(i 0).val % 512, by omega⟩ ⟨(i 1).val % 1408, by omega⟩)
    refine Eq.subst (motive := fun k => k ∈ ((cfg0.win 7).blk t).view.set) ?_ hm
    funext a; apply Fin.ext
    match a with
    | ⟨0, _⟩ => show win0_7.index t (0 : Fin 2) * 512 + 1 * ((i 0).val % 512) = (i 0).val; omega
    | ⟨1, _⟩ => show win0_7.index t (1 : Fin 2) * 1408 + 1 * ((i 1).val % 1408) = (i 1).val; omega

theorem array8 : (dats m 0 c).arrAt 8 cfg0.N = arr A.dy := by
  refine Pipeline.Dat.arrAt_eq_of_cover _ 8 _ (fun t ht => ?_) fun i => ?_
  · obtain ⟨e0, e1⟩ := at8 t
    show (cfg0.win 8).cut (grid0.coords t) ((dats m 0 c).after 8 t) = _
    rw [after0_8, (outs h _ _).dy ((flush0_8 t).mp ht)]
    funext j
    show ((A.dy (t.val / 2 * 512 + (j 0).val) (j 1).val : ℝ) : EReal)
      = ((A.dy (win0_8.index t (0 : Fin 2) * 512 + 1 * (j 0).val) (win0_8.index t (1 : Fin 2) * 1024 + 1 * (j 1).val) : ℝ) : EReal)
    rw [e0, e1, one_mul, one_mul, Nat.zero_mul, Nat.zero_add]
  · have h0 : (i 0).val < 4096 := (i 0).isLt
    have h1 : (i 1).val < 1024 := (i 1).isLt
    let t : Fin cfg0.N := ⟨(i 0).val / 512 * 2 + 1, show _ < 16 by omega⟩
    obtain ⟨e0, e1⟩ := at8 t
    have ht : t.val = (i 0).val / 512 * 2 + 1 := rfl
    refine ⟨t, (flush0_8 t).mpr (by omega), ?_⟩
    have hm := ((cfg0.win 8).blk t).view.emb_mem_set (ix2 ⟨(i 0).val % 512, by omega⟩ ⟨(i 1).val, h1⟩)
    refine Eq.subst (motive := fun k => k ∈ ((cfg0.win 8).blk t).view.set) ?_ hm
    funext a; apply Fin.ext
    match a with
    | ⟨0, _⟩ => show win0_8.index t (0 : Fin 2) * 512 + 1 * ((i 0).val % 512) = (i 0).val; omega
    | ⟨1, _⟩ => show win0_8.index t (1 : Fin 2) * 1024 + 1 * (i 1).val = (i 1).val; omega

theorem array9 : (dats m 0 c).arrAt 9 cfg0.N = arr A.dy := by
  refine Pipeline.Dat.arrAt_eq_of_cover _ 9 _ (fun t ht => ?_) fun i => ?_
  · obtain ⟨e0, e1⟩ := at9 t
    show (cfg0.win 9).cut (grid0.coords t) ((dats m 0 c).after 9 t) = _
    rw [after0_9, (outs h _ _).dy16 ((flush0_9 t).mp ht)]
    funext j
    show ((A.dy (t.val / 2 * 512 + (j 0).val) (j 1).val : ℝ) : EReal)
      = ((A.dy (win0_9.index t (0 : Fin 2) * 512 + 1 * (j 0).val) (win0_9.index t (1 : Fin 2) * 1024 + 1 * (j 1).val) : ℝ) : EReal)
    rw [e0, e1, one_mul, one_mul, Nat.zero_mul, Nat.zero_add]
  · have h0 : (i 0).val < 4096 := (i 0).isLt
    have h1 : (i 1).val < 1024 := (i 1).isLt
    let t : Fin cfg0.N := ⟨(i 0).val / 512 * 2 + 1, show _ < 16 by omega⟩
    obtain ⟨e0, e1⟩ := at9 t
    have ht : t.val = (i 0).val / 512 * 2 + 1 := rfl
    refine ⟨t, (flush0_9 t).mpr (by omega), ?_⟩
    have hm := ((cfg0.win 9).blk t).view.emb_mem_set (ix2 ⟨(i 0).val % 512, by omega⟩ ⟨(i 1).val, h1⟩)
    refine Eq.subst (motive := fun k => k ∈ ((cfg0.win 9).blk t).view.set) ?_ hm
    funext a; apply Fin.ext
    match a with
    | ⟨0, _⟩ => show win0_9.index t (0 : Fin 2) * 512 + 1 * ((i 0).val % 512) = (i 0).val; omega
    | ⟨1, _⟩ => show win0_9.index t (1 : Fin 2) * 1024 + 1 * (i 1).val = (i 1).val; omega

theorem array10 : (dats m 0 c).arrAt 10 cfg0.N = arr fun _ => A.sq := by
  refine Pipeline.Dat.arrAt_eq_of_cover _ 10 _ (fun t ht => ?_) fun i => ?_
  · obtain ⟨e0, e1⟩ := at10 t
    have h15 : t.val % 16 = 15 := (flush0_10 t).mp ht
    have hN : t.val < 16 := t.isLt
    show (cfg0.win 10).cut (grid0.coords t) ((dats m 0 c).after 10 t) = _
    rw [after0_10, (outs h _ _).sq (by omega)]
    funext j
    show ((part A ((t.val + 1) / 2) (j 1).val : ℝ) : EReal) = ((A.sq (win0_10.index t (1 : Fin 2) * 1024 + 1 * (j 1).val) : ℝ) : EReal)
    rw [e1, one_mul, Nat.zero_mul, Nat.zero_add, show (t.val + 1) / 2 = 8 by omega]
    unfold part Args.sq
    rw [tiles (fun r => A.er r (j 1).val * A.er r (j 1).val) 8 512 4096 rfl]
  · have h0 : (i 0).val < 1 := (i 0).isLt
    have h1 : (i 1).val < 1024 := (i 1).isLt
    let t : Fin cfg0.N := ⟨15, show _ < 16 by omega⟩
    obtain ⟨e0, e1⟩ := at10 t
    refine ⟨t, (flush0_10 t).mpr rfl, ?_⟩
    have hm := ((cfg0.win 10).blk t).view.emb_mem_set (ix2 ⟨(i 0).val, h0⟩ ⟨(i 1).val, h1⟩)
    refine Eq.subst (motive := fun k => k ∈ ((cfg0.win 10).blk t).view.set) ?_ hm
    funext a; apply Fin.ext
    match a with
    | ⟨0, _⟩ => show win0_10.index t (0 : Fin 2) * 1 + 1 * (i 0).val = (i 0).val; omega
    | ⟨1, _⟩ => show win0_10.index t (1 : Fin 2) * 1024 + 1 * (i 1).val = (i 1).val; omega

end Cert.Proof.Loss

end
-- ==== Proof.Loss.Claims.lean ====
module

public import proofs.«01_k».proof.Proof.Loss.Arrays
public import proofs.«01_k».proof.Proof.Attn.Algebraic
public import proofs.«01_k».proof.Proof.Gen.Reference5Ideal.Run

@[expose] public section

noncomputable section

namespace Cert.Proof.Loss

open Cert.Kernel5Ideal Cert.Kernel5Ideal.Gen
open Idealize.ShloMosaic Idealize.ShloMosaic.TcCoe Idealize.ShloMosaic.Pointwise Reals Attn
open Idealize.SL.Sem
open Cert.Reference5Ideal.Read

attribute [local instance] Cert.Kernel5Ideal.Gen.facts Cert.Reference5Ideal.Gen.facts

/-- The shape facts the precondition states. -/
theorem pre_facts : Cert.Pre_finite5.Facts := ⟨by decide, by decide, by decide, by decide, by decide, by decide, by decide⟩

instance : Subsingleton Cert.Pre_finite5.S_.Idx := ⟨fun a b => funext fun i => i.elim0⟩

/-- Finite arguments are arrays of reals. -/
theorem args_of_pre [Cert.Pre_finite5.Facts] (x0 x1 : FVec Ideal S4096x1024 .f32) (x2 x3 : FVec Ideal S1024x2816 .f32) (x4 : FVec Ideal S2816x1024 .f32) (x5 : FVec Ideal S4096x1024 .f32)
    (hp : Cert.Pre_finite5.fn (F := Ideal) x0 x1 x2 x3 x4 x5 = fun _ => 1#1) :
    ∃ A : Args, x0 = arr A.H ∧ x1 = arr A.X ∧ x2 = (arr fun k f => A.Wg f k) ∧ x3 = (arr fun k f => A.Wu f k) ∧ x4 = arr A.Wd ∧ x5 = arr A.T := by
  unfold Cert.Pre_finite5.fn Cert.Pre_finite5.fn_part1 at hp
  obtain ⟨hp, h5⟩ := and_eq_one _ _ hp
  obtain ⟨hp, h4⟩ := and_eq_one _ _ hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨r4, rfl⟩ := reals_of_reduce _ _ _ (fun i => ofBits_inf) _ _ (fun i => i.elim0) (congrFun h4 _)
  obtain ⟨r5, rfl⟩ := reals_of_reduce _ _ _ (fun i => ofBits_inf) _ _ (fun i => i.elim0) (congrFun h5 _)
  obtain ⟨X0, e0⟩ := eq_arr_of_real r0
  obtain ⟨X1, e1⟩ := eq_arr_of_real r1
  obtain ⟨X2, e2⟩ := eq_arr_of_real r2
  obtain ⟨X3, e3⟩ := eq_arr_of_real r3
  obtain ⟨X4, e4⟩ := eq_arr_of_real r4
  obtain ⟨X5, e5⟩ := eq_arr_of_real r5
  exact ⟨⟨X0, X1, fun f k => X2 k f, fun f k => X3 k f, X4, X5⟩, e0, e1, e2, e3, e4, e5⟩

/-- The idealized kernel leaves the gate, the up product, the output's gradient in both formats and the summed squares, and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v6_0) = arr (prod (A c).H (A c).Wg)
      ∧ r.2.mem ((c : Thread nD τ).loc main_v6_1) = arr (prod (A c).H (A c).Wu)
      ∧ r.2.mem ((c : Thread nD τ).loc main_v6_2) = arr (A c).dy
      ∧ r.2.mem ((c : Thread nD τ).loc main_v6_3) = arr (A c).dy
      ∧ r.2.mem ((c : Thread nD τ).loc main_v6_4) = (arr fun _ => (A c).sq)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run _ _ _).mono (fun _ k c => ⟨(k c).1.trans (array6 (h c)), (k c).2.1.trans (array7 (h c)), (k c).2.2.1.trans (array8 (h c)), (k c).2.2.2.1.trans (array9 (h c)), (k c).2.2.2.2.1.trans (array10 (h c)), (k c).2.2.2.2.2⟩)
    (Cert.Kernel5Ideal.Value.run_blocks (F := Ideal) m ρ)

/-- The idealized kernel and the reference leave the same gate, up product, output gradient (twice) and summed squares. -/
theorem algebraic [Cert.Pre_finite5.Facts] : Cert.algebraic_Kernel5Ideal_Reference5Ideal_pre_finite5 := by
  intro m ρ m' ρ' hpre hagree
  choose A hA using fun c => args_of_pre _ _ _ _ _ _ (hpre c)
  refine ⟨fun c => arr (prod (A c).H (A c).Wg), fun c => arr (prod (A c).H (A c).Wu), fun c => arr (A c).dy, fun c => arr (A c).dy, fun c => arr fun _ => (A c).sq,
    kernel_run m ρ A fun c => ⟨(hA c).1, (hA c).2.1, (hA c).2.2.1, (hA c).2.2.2.1, (hA c).2.2.2.2.1, (hA c).2.2.2.2.2⟩, ?_⟩
  refine (θ_run Cert.Reference5Ideal.defs _ _).mono (fun _ h c => ?_) (Cert.Reference5Ideal.Value.run (F := Ideal) m' ρ')
  obtain ⟨h0, h1, h2, h3, h4, hargs⟩ := h c
  obtain ⟨g0, g1, g2, g3, g4, g5⟩ := hagree c
  obtain ⟨a0, a1, a2, a3, a4, a5⟩ := hA c
  have b0 := g0.trans a0
  have b1 := g1.trans a1
  have b2 := g2.trans a2
  have b3 := g3.trans a3
  have b4 := g4.trans a4
  have b5 := g5.trans a5
  refine ⟨(h0.trans (val_main_v27_eq _ _)).trans ?_, (h1.trans (val_main_v28_eq _ _)).trans ?_, (h2.trans (val_main_v22_eq _ _ _ _ _ _)).trans ?_,
    (h3.trans (val_main_v29_eq _ _ _ _ _ _)).trans ?_, (h4.trans (val_main_v26_eq _ _ _ _ _ _)).trans ?_, hargs⟩
  · refine Eq.trans ?_ (ref_g (A c).H (A c).Wg); rw [← b0, ← b2]; rfl
  · refine Eq.trans ?_ (ref_u (A c).H (A c).Wu); rw [← b0, ← b3]; rfl
  · refine Eq.trans ?_ (ref_dy (A c)); rw [← b0, ← b1, ← b2, ← b3, ← b4, ← b5]
  · refine Eq.trans ?_ (ref_dy (A c)); rw [← b0, ← b1, ← b2, ← b3, ← b4, ← b5]; rfl
  · refine Eq.trans ?_ (ref_sq (A c)); rw [← b0, ← b1, ← b2, ← b3, ← b4, ← b5]

/-- The idealized reference runs and ends quiescent. -/
theorem quiescent_reference : Cert.quiescent_Reference5Ideal := fun m ρ _ =>
  (θ_run Cert.Reference5Ideal.defs _ _).mono (fun r h => ⟨fun c => (h c).2.2.2.2.2, sem_eq_zero_of_no_sems (by decide) r.2⟩)
    (Cert.Reference5Ideal.Value.run (F := Ideal) m ρ)

end Cert.Proof.Loss

end
-- ==== Proof.Fold.Value.lean ====
module

public import proofs.«01_k».proof.Proof.Attn.Spec
public import proofs.«01_k».proof.Proof.Gen.Kernel6Ideal.Skeleton
public import proofs.«01_k».proof.Proof.Gen.Reference6Ideal.Read
public import Idealize.ShloMosaic.Lib.Pointwise

@[expose] public section

noncomputable section

namespace Cert.Proof.Fold

open Idealize.ShloMosaic Idealize.ShloMosaic.TcCoe Idealize.ShloMosaic.Pointwise Reals Attn
open Cert.Kernel6Ideal Cert.Kernel6Ideal.Gen
open Cert.Reference6Ideal.Read

attribute [local instance] Cert.Kernel6Ideal.Gen.facts Cert.Reference6Ideal.Gen.facts

/-! ### The clipped distance -/

/-- The row of the bias table a distance reads: the distance clipped to 128 either way, counted from 0. -/
def place (x : BitVec 32) : BitVec 32 := IntOp.addi (IntOp.minsi 128#32 (IntOp.maxsi 4294967168#32 x)) 128#32

theorem place_range (x : BitVec 32) : 0 ≤ (place x).toInt ∧ (place x).toInt ≤ 256 := by
  have h : (IntOp.minsi 128#32 (IntOp.maxsi 4294967168#32 x)).toInt = min 128 (max (-128) x.toInt) := by
    have e1 : (128#32 : BitVec 32).toInt = 128 := by decide
    have e2 : (4294967168#32 : BitVec 32).toInt = -128 := by decide
    unfold IntOp.minsi IntOp.maxsi
    simp only [BitVec.slt_iff_toInt_lt, apply_ite BitVec.toInt, e1, e2]
    split_ifs <;> omega
  have e : (128#32 : BitVec 32).toInt = 128 := by decide
  unfold place IntOp.addi
  rw [BitVec.toInt_add, h, e, Int.bmod_eq_of_le (by omega) (by omega)]
  omega

theorem place_toInt (x : BitVec 32) : (place x).toInt = (place x).toNat := by
  have h := (place_range x).1
  have := BitVec.toInt_eq_toNat_cond (place x)
  have := (place x).isLt
  omega

theorem place_le (x : BitVec 32) : (place x).toNat ≤ 256 := by
  have h := (place_range x).2
  rw [place_toInt] at h
  omega

/-- The row that query `t` and key `s` of a chunk's band read. -/
def row (t s : ℕ) : ℕ := (place (BitVec.ofNat 32 t + 512#32 - BitVec.ofNat 32 s)).toNat

/-- The bias table's gradient: every place's gradient, of both batches, added to the row it read. -/
def fold (D : ℕ → ℕ → ℕ → ℕ → ℝ) (h i : ℕ) : ℝ := ∑ t : Fin 64, ∑ s : Fin 576, if row t s = i then D 0 h t s + D 1 h t s else 0

/-- An array of reals over four axes. -/
def arr4 {a b c d : ℕ} (X : ℕ → ℕ → ℕ → ℕ → ℝ) : (⟨4, ![a, b, c, d]⟩ : Shape).Idx → EReal := fun i => ((X (i 0).val (i 1).val (i 2).val (i 3).val : ℝ) : EReal)

theorem int_coe (b : Bool) : (FloatOps.sitofp (F := Ideal) FTy.f32 (BitVec.setWidth 32 (BitVec.ofBool b)) : EReal) = ((if b then 1 else 0 : ℝ) : EReal) := by
  cases b
  · show (((BitVec.setWidth 32 (BitVec.ofBool false) : BitVec 32).toInt : ℝ) : EReal) = _
    norm_num
  · show (((BitVec.setWidth 32 (BitVec.ofBool true) : BitVec 32).toInt : ℝ) : EReal) = _
    rw [show (BitVec.setWidth 32 (BitVec.ofBool true) : BitVec 32).toInt = 1 by decide]
    norm_num

/-! ### The reference -/

theorem ref_row (t : Fin 64) (s : Fin 576) : val_main_v18 (F := Ideal) (ix3 t s 0) = place (BitVec.ofNat 32 t + 512#32 - BitVec.ofNat 32 s) := by
  rw [val_main_v18_apply, val_main_v17_apply, val_main_v14_apply]
  have e : ∀ j, val_main_v12 (F := Ideal) j = place (BitVec.ofNat 32 (j 0).val + 512#32 - BitVec.ofNat 32 (j 1).val) := by
    intro j
    rw [val_main_v12_apply, val_main_v11_apply, val_main_v10_apply, val_main_call0_v4_apply, val_main_call0_v2_apply, val_main_call0_v1_apply, val_main_v9_apply,
      val_main_v8_apply, val_main_v7_apply, val_main_v6_apply, val_main_v4_apply, val_main_v3_apply, val_main_v2_apply, val_main_v5_apply, val_main_v1_apply]
    rfl
  rw [e, val_main_v13_apply]
  have hn : (place (BitVec.ofNat 32 t + 512#32 - BitVec.ofNat 32 s)).slt 0#32 = false := by
    have := (place_range (BitVec.ofNat 32 t + 512#32 - BitVec.ofNat 32 s)).1
    rw [Bool.eq_false_iff, ne_eq, BitVec.slt_iff_toInt_lt, BitVec.toInt_zero]
    omega
  show Scalar.select (BitVec.ofBool ((place (BitVec.ofNat 32 t + 512#32 - BitVec.ofNat 32 s)).slt 0#32)) _ _ = _
  rw [hn]
  rfl

abbrev dims := Cert.Reference6Ideal.scatter_S8x257_S64x576x1_S8x64x576_0_1_1_2

section
variable (h : Fin 8) (t : Fin 64) (s : Fin 576)

theorem start0 : dims.start (ix3 h t s) (val_main_v18 (F := Ideal)) 0 = 0 := by
  unfold ScatterDims.start
  rw [dif_neg (by decide)]

theorem start1 : dims.start (ix3 h t s) (val_main_v18 (F := Ideal)) 1 = (row t.val s.val : ℤ) := by
  unfold ScatterDims.start
  rw [dif_pos (by decide)]
  have e : dims.siIdx (ix3 h t s) ⟨dims.scatterDimsToOperandDims.idxOf 1, by decide⟩ = ix3 t s 0 := by
    funext b
    match b with
    | ⟨0, _⟩ => rfl
    | ⟨1, _⟩ => rfl
    | ⟨2, _⟩ => rfl
  refine (congrArg (fun z => (val_main_v18 (F := Ideal) z).toInt) e).trans ?_
  rw [ref_row, place_toInt]
  rfl

theorem window0 : dims.window (ix3 h t s) 0 = h.val := by
  unfold ScatterDims.window
  rw [dif_pos (by decide)]
  rfl

theorem window1 : dims.window (ix3 h t s) 1 = 0 := by
  unfold ScatterDims.window
  rw [dif_neg (by decide)]

theorem inside (a : Fin Cert.Reference6Ideal.S8x257.rank) : 0 ≤ dims.start (ix3 h t s) (val_main_v18 (F := Ideal)) a + dims.window (ix3 h t s) a
    ∧ dims.start (ix3 h t s) (val_main_v18 (F := Ideal)) a + dims.window (ix3 h t s) a < Cert.Reference6Ideal.S8x257.size a := by
  have hr : row t.val s.val ≤ 256 := place_le _
  have hh := h.isLt
  match a with
  | ⟨0, _⟩ =>
    have e : dims.start (ix3 h t s) (val_main_v18 (F := Ideal)) 0 + (dims.window (ix3 h t s) 0 : ℤ) = h.val := by rw [start0, window0, zero_add]
    refine ⟨e.symm ▸ (by omega), e.symm ▸ ?_⟩
    show (h.val : ℤ) < (8 : ℕ)
    omega
  | ⟨1, _⟩ =>
    have e : dims.start (ix3 h t s) (val_main_v18 (F := Ideal)) 1 + (dims.window (ix3 h t s) 1 : ℤ) = row t.val s.val := by rw [start1, window1]; exact add_zero _
    refine ⟨e.symm ▸ (by omega), e.symm ▸ ?_⟩
    show (row t.val s.val : ℤ) < (257 : ℕ)
    omega

theorem at0 : dims.start (ix3 h t s) (val_main_v18 (F := Ideal)) 0 + (dims.window (ix3 h t s) 0 : ℤ) = h.val := by
  rw [start0, window0, zero_add]

theorem at1 : dims.start (ix3 h t s) (val_main_v18 (F := Ideal)) 1 + (dims.window (ix3 h t s) 1 : ℤ) = row t.val s.val := by
  rw [start1, window1]
  exact add_zero _

/-- A place of the table is known by its two coordinates. -/
theorem eq_of_vals (f : Cert.Reference6Ideal.S8x257.Idx) (a : Fin 8) (b : Fin 257) (h0 : (f 0).val = a.val) (h1 : (f 1).val = b.val) : f = ix2 a b := by
  funext x
  match x with
  | ⟨0, _⟩ => exact Fin.ext h0
  | ⟨1, _⟩ => exact Fin.ext h1

/-- Where an element of the band's gradient goes. -/
theorem goes : dims.resultIdx? (ix3 h t s) (val_main_v18 (F := Ideal)) = some (ix2 h ⟨row t.val s.val, Nat.lt_succ_of_le (place_le _)⟩) := by
  unfold ScatterDims.resultIdx?
  rw [dif_pos (inside h t s)]
  have e0 : (dims.start (ix3 h t s) (val_main_v18 (F := Ideal)) 0 + (dims.window (ix3 h t s) 0 : ℤ)).toNat = h.val := by
    rw [at0]; exact Int.toNat_natCast _
  have e1 : (dims.start (ix3 h t s) (val_main_v18 (F := Ideal)) 1 + (dims.window (ix3 h t s) 1 : ℤ)).toNat = row t.val s.val := by
    rw [at1]; exact Int.toNat_natCast _
  refine congrArg some ?_
  refine eq_of_vals _ h ⟨row t.val s.val, Nat.lt_succ_of_le (place_le _)⟩ ?_ ?_
  · exact e0
  · with_reducible exact e1

end

theorem ref_fold (D : ℕ → ℕ → ℕ → ℕ → ℝ) : val_main_v23 (F := Ideal) (arr4 D) = arr (fold D) := by
  refine eq_arr _ _ fun a b => ?_
  have hz : (FloatOps.sitofp (F := Ideal) FTy.f32 (0#32 : BitVec 32) : EReal) = ((0 : ℝ) : EReal) := by
    show (((0#32 : BitVec 32).toInt : ℝ) : EReal) = _
    norm_num
  have hs : ∀ (a : Fin 8) (b : Fin 257), val_main_v22 (F := Ideal) (arr4 D) (ix2 a b) = ((fold D a b : ℝ) : EReal) := by
    intro a b
    have e : ∀ i, val_main_v20 (F := Ideal) (arr4 D) i = ((D 0 (i 0).val (i 1).val (i 2).val + D 1 (i 0).val (i 1).val (i 2).val : ℝ) : EReal) := by
      intro i
      rw [val_main_v20_apply, val_main_cst_5_apply, Fin.sum_univ_two, EReal.coe_add]
      show Ideal.ofBits .f32 0 + _ = _
      rw [show Ideal.ofBits .f32 0 = 0 by simp, zero_add]
      rfl
    show val_main_v21 (F := Ideal) (ix2 a b) + ∑ j ∈ Finset.univ.filter (fun j => dims.resultIdx? j (val_main_v18 (F := Ideal)) = some (ix2 a b)), val_main_v20 (F := Ideal) (arr4 D) j = _
    rw [val_main_v21_apply, val_main_cst_6_apply, Finset.sum_filter, sum_idx3]
    show Ideal.ofBits .f32 0 + _ = _
    rw [show Ideal.ofBits .f32 0 = 0 by simp, zero_add]
    simp only [e]
    rw [Finset.sum_eq_single a (fun h _ hh => by
      simp only [goes, Option.some.injEq, ix2_inj]
      refine Finset.sum_eq_zero fun t _ => Finset.sum_eq_zero fun s _ => if_neg fun k => hh k.1) fun h => absurd (Finset.mem_univ _) h]
    unfold fold
    rw [← sum_coe]
    refine Finset.sum_congr rfl fun t _ => ?_
    rw [← sum_coe]
    refine Finset.sum_congr rfl fun s _ => ?_
    have hg : dims.resultIdx? (ix3 a t s) (val_main_v18 (F := Ideal)) = some (ix2 a b) ↔ row t.val s.val = b.val := by
      rw [goes, Option.some.injEq, ix2_inj, Fin.ext_iff (a := (⟨_, _⟩ : Fin 257))]
      exact and_iff_right rfl
    by_cases hk : row t.val s.val = b.val
    · rw [if_pos (hg.mpr hk), if_pos hk]; rfl
    · rw [if_neg fun k => hk (hg.mp k), if_neg hk]; rfl
  pointwise [val_main_v23]
  split_ifs with hb
  · exact hs a ⟨b.val, hb⟩
  · rw [val_main_call1_v0_apply, val_main_c_7_apply, hz]
    refine congrArg (fun x : ℝ => (x : EReal)) (Eq.symm ?_)
    refine Finset.sum_eq_zero fun t _ => Finset.sum_eq_zero fun s _ => if_neg fun k => ?_
    have hr : row t.val s.val ≤ 256 := place_le _
    omega

/-! ### The kernel -/

/-- A trip adds its query row's gradients, of both batches, to the rows of the table that its keys read. -/
theorem trip_value (k : Fin k0_t1_loop.trips) (X : ℕ → ℕ → ℝ) (P Q : ℕ → ℕ → ℝ) :
    k0_pay2 (F := Ideal) k (arr X) (fun i => ((P (i 2).val (i 3).val : ℝ) : EReal)) (fun i => ((Q (i 2).val (i 3).val : ℝ) : EReal))
      = arr fun h i => X h i + ∑ s : Fin 640, (P h s + Q h s) * (if row (k.val + 64) s = i then 1 else 0) := by
  refine eq_arr _ _ fun a b => ?_
  pointwise [k0_pay2]
  have hot : ∀ x : Fin 640, (FloatOps.sitofp (F := Ideal) FTy.f32 (BitVec.setWidth 32 (IntOp.cmpi CmpIPredicate.eq (BitVec.ofNat 32 b.val)
      (IntOp.addi (IntOp.minsi 128#32 (IntOp.maxsi 4294967168#32 (IntOp.subi (Scalar.addi (Scf.iv 0#32 1#32 k.val) 576#32) (BitVec.ofNat 32 x.val)))) 128#32))) : EReal)
      = ((if row (k.val + 64) x.val = b.val then 1 else 0 : ℝ) : EReal) := by
    intro x
    have ey : IntOp.subi (Scalar.addi (Scf.iv 0#32 1#32 k.val) 576#32) (BitVec.ofNat 32 x.val) = BitVec.ofNat 32 (k.val + 64) + 512#32 - BitVec.ofNat 32 x.val := by
      show (0#32 + BitVec.ofNat 32 k.val * 1#32) + 576#32 - BitVec.ofNat 32 x.val = _
      rw [BitVec.mul_one, BitVec.zero_add, BitVec.ofNat_add, BitVec.add_assoc]
      rfl
    refine (int_coe (BitVec.ofNat 32 b.val == place (IntOp.subi (Scalar.addi (Scf.iv 0#32 1#32 k.val) 576#32) (BitVec.ofNat 32 x.val)))).trans ?_
    rw [ey]
    refine congrArg (fun x : ℝ => (x : EReal)) (if_congr ?_ rfl rfl)
    rw [beq_iff_eq, BitVec.toNat_eq, BitVec.toNat_ofNat, Nat.mod_eq_of_lt (by have := b.isLt; omega)]
    exact eq_comm
  simp only [hot, arr_ix2, ← EReal.coe_add, ← EReal.coe_sub, ← EReal.coe_mul, sum_coe, sub_self, zero_mul, Finset.sum_const_zero, add_zero]

end Cert.Proof.Fold

end
-- ==== Proof.Fold.Arrays.lean ====
module

public import proofs.«01_k».proof.Proof.Fold.Value
public import proofs.«01_k».proof.Proof.Gen.Kernel6Ideal.Value
public import Idealize.ShloMosaic.Lib.Pipeline.ValueKit
public import Idealize.ShloMosaic.Lib.Pipeline.ReadBack
public import Idealize.ShloMosaic.Lib.StableHlo.Run
public import Idealize.ShloMosaic.Lib.VecWindow

@[expose] public section

noncomputable section

namespace Cert.Proof.Fold

open Cert.Kernel6Ideal Cert.Kernel6Ideal.Gen
open Idealize.ShloMosaic Idealize.ShloMosaic.TcCoe Idealize.ShloMosaic.Pointwise Reals Attn

attribute [local instance] Cert.Kernel6Ideal.Gen.facts

set_option maxRecDepth 8192

/-! ### The host's lines before the call -/

/-- The band's gradient by query row, 64 keys of zero before each row's. -/
def banded (x : (⟨S2x8x64x576, .f32⟩ : BufTy).Contents (Elt Ideal)) : (⟨S2x64x8x640, .f32⟩ : BufTy).Contents (Elt Ideal) :=
  pad S2x64x8x640 ![0, 0, 0, 64] ![0, 0, 0, 0] ![0, 0, 0, 0] (transpose S2x64x8x576 [0, 2, 1, 3] x transposes_S2x8x64x576_S2x64x8x576_0_2_1_3)
    (sitofp (F := Ideal) .f32 (constantI S_ 32 0#32)) pads_S2x64x8x576_S2x64x8x640_000_000_000_6400 h_S_

theorem host (U : Valuation τ sig (Elt Ideal)) :
    StableHlo.after (List.flatten [hostOps0, hostOps0_1]) U (Proc.devRef .tc main_v1) = banded (U (Proc.devRef .tc main_arg0)) := by
  simp only [List.flatten_cons, List.flatten_nil, List.append_nil, hostOps0, hostOps0_1, List.cons_append, List.nil_append]; after_results_simp; rfl

/-- The padded band's entries. -/
def padded (D : ℕ → ℕ → ℕ → ℕ → ℝ) (b t h s : ℕ) : ℝ := if 64 ≤ s then D b h t (s - 64) else 0

theorem banded_eq (D : ℕ → ℕ → ℕ → ℕ → ℝ) : banded (arr4 D) = arr4 (padded D) := by
  funext j
  unfold banded
  rw [pad_apply]
  have h3 : (j 3).val < 640 := (j 3).isLt
  by_cases h : 64 ≤ (j 3).val
  · rw [dif_pos]
    · show ((D _ _ _ _ : ℝ) : EReal) = ((ite (64 ≤ (j 3).val) _ _ : ℝ) : EReal)
      rw [if_pos h]
      refine congrArg (fun x : ℝ => (x : EReal)) ?_
      congr 1
      all_goals exact Nat.div_one _
    · intro a
      match a with
      | ⟨0, _⟩ => exact ⟨Nat.zero_le _, Nat.mod_one _, by have := (j 0).isLt; show ((j 0).val - 0) / 1 < 2; rw [Nat.div_one]; exact this⟩
      | ⟨1, _⟩ => exact ⟨Nat.zero_le _, Nat.mod_one _, by have := (j 1).isLt; show ((j 1).val - 0) / 1 < 64; rw [Nat.div_one]; exact this⟩
      | ⟨2, _⟩ => exact ⟨Nat.zero_le _, Nat.mod_one _, by have := (j 2).isLt; show ((j 2).val - 0) / 1 < 8; rw [Nat.div_one]; exact this⟩
      | ⟨3, _⟩ => exact ⟨h, Nat.mod_one _, by show ((j 3).val - 64) / 1 < 576; rw [Nat.div_one]; omega⟩
  · rw [dif_neg fun k => h (k (3 : Fin 4)).1]
    show (((0#32 : BitVec 32).toInt : ℝ) : EReal) = ((ite (64 ≤ (j 3).val) _ _ : ℝ) : EReal)
    rw [if_neg h]
    norm_num

/-! ### The loop over the chunk's query rows -/

section loop

variable (𝒱 : Variants) (c : Dev nD) (bd : Option 𝒱.V) (i : grid0.Coords) (arg1 : Memref sig .tc .vmem S2x64x8x640 .f32) (harg1 : arg1.IsWhole)
  (arg2 : Memref sig .tc .vmem S8x384 .f32) (harg2 : arg2.IsWhole) (X : BufTy.Contents (Elt Ideal) arg1.view.ty)

theorem trips : k0_t1_loop.trips = 64 := by decide +kernel

theorem row_number (k : ℕ) (hk : k < 64) : (Scalar.indexCast (Scf.iv 0#32 1#32 k) : Index).toNat = k := by
  show (0#32 + BitVec.ofNat 32 k * 1#32 : BitVec 32).toNat = k
  rw [BitVec.mul_one, BitVec.zero_add, BitVec.toNat_ofNat, Nat.mod_eq_of_lt (by omega)]

theorem off1_eq (k : Fin k0_t1_loop.trips) : k0_off1 k = ![0, k.val, 0, 0] := by
  show ![0, (Scalar.indexCast (Scf.iv 0#32 1#32 k.val) : Index).toNat, 0, 0] = _
  rw [row_number _ (trips ▸ k.isLt)]

theorem off2_eq (k : Fin k0_t1_loop.trips) : k0_off2 k = ![1, k.val, 0, 0] := by
  show ![1, (Scalar.indexCast (Scf.iv 0#32 1#32 k.val) : Index).toNat, 0, 0] = _
  rw [row_number _ (trips ▸ k.isLt)]

variable (B : ℕ → ℕ → ℕ → ℕ → ℝ) (hX : arg1.view.read (Elt Ideal) X = arr4 B)
include hX

theorem load1 (k : Fin k0_t1_loop.trips) : arg1.view.readAt (Elt Ideal) (Rect.unit (s := S2x64x8x640) (k0_off1 k) S1x1x8x640.size (k0_off1_inb k)).toLoadRect X
    = fun i => ((B 0 k.val (i 2).val (i 3).val : ℝ) : EReal) := by
  rw [View.readAt_unit _ X _ (off1_eq k) (off1_eq k ▸ k0_off1_inb k), hX]
  funext j
  have h0 : (j 0).val < 1 := (j 0).isLt
  have h1 : (j 1).val < 1 := (j 1).isLt
  show ((B (0 + 1 * (j 0).val) (k.val + 1 * (j 1).val) (0 + 1 * (j 2).val) (0 + 1 * (j 3).val) : ℝ) : EReal) = _
  rw [show 0 + 1 * (j 0).val = 0 by omega, show k.val + 1 * (j 1).val = k.val by omega, one_mul, one_mul, Nat.zero_add, Nat.zero_add]

theorem load2 (k : Fin k0_t1_loop.trips) : arg1.view.readAt (Elt Ideal) (Rect.unit (s := S2x64x8x640) (k0_off2 k) S1x1x8x640.size (k0_off2_inb k)).toLoadRect X
    = fun i => ((B 1 k.val (i 2).val (i 3).val : ℝ) : EReal) := by
  rw [View.readAt_unit _ X _ (off2_eq k) (off2_eq k ▸ k0_off2_inb k), hX]
  funext j
  have h0 : (j 0).val < 1 := (j 0).isLt
  have h1 : (j 1).val < 1 := (j 1).isLt
  show ((B (1 + 1 * (j 0).val) (k.val + 1 * (j 1).val) (0 + 1 * (j 2).val) (0 + 1 * (j 3).val) : ℝ) : EReal) = _
  rw [show 1 + 1 * (j 0).val = 1 by omega, show k.val + 1 * (j 1).val = k.val by omega, one_mul, one_mul, Nat.zero_add, Nat.zero_add]

/-- What a trip adds to the table. -/
def added (B : ℕ → ℕ → ℕ → ℕ → ℝ) (k h i : ℕ) : ℝ := ∑ s : Fin 640, (B 0 k h s + B 1 k h s) * (if row (k + 64) s = i then 1 else 0)

theorem trip (k : Fin k0_t1_loop.trips) (Y : ℕ → ℕ → ℝ) : tripR_k0_t1 (F := Ideal) 𝒱 c bd i arg1 harg1 arg2 harg2 X k (arr Y) = arr fun h x => Y h x + added B k.val h x := by
  refine Eq.trans ?_ ((congrArg₂ (k0_pay2 (F := Ideal) k (arr Y)) (load1 arg1 X B hX k) (load2 arg1 X B hX k)).trans (trip_value k Y (B 0 k.val) (B 1 k.val)))
  unfold tripR_k0_t1 trip_k0_t1
  rfl

theorem trips_sum (n : ℕ) (hn : n ≤ 64) : st_k0_t1 (F := Ideal) 𝒱 c bd i arg1 harg1 arg2 harg2 X (k0_pay1 (F := Ideal)) n
    = arr fun h x => ∑ k ∈ Finset.range n, added B k h x := by
  induction n with
  | zero =>
    refine eq_arr _ _ fun a b => ?_
    rw [st_k0_t1_zero]
    pointwise [k0_pay1]
    rw [Finset.sum_range_zero, EReal.coe_zero]
  | succ n ih =>
    have hk : n < k0_t1_loop.trips := trips ▸ hn
    rw [st_k0_t1_succ 𝒱 c bd i arg1 harg1 arg2 harg2 X _ ⟨n, hk⟩, ih (by omega), trip 𝒱 c bd i arg1 harg1 arg2 harg2 X B hX]
    refine arr_congr _ _ fun a b _ _ => ?_
    rw [Finset.sum_range_succ]

end loop

/-! ### Dropping the padding -/

theorem row_shift (t s : ℕ) : row (t + 64) (64 + s) = row t s := by
  unfold row
  rw [show BitVec.ofNat 32 (t + 64) + 512#32 - BitVec.ofNat 32 (64 + s) = BitVec.ofNat 32 t + 512#32 - BitVec.ofNat 32 s by
    rw [BitVec.ofNat_add, BitVec.ofNat_add]; bv_omega]

theorem added_padded (D : ℕ → ℕ → ℕ → ℕ → ℝ) (t h i : ℕ) :
    added (padded D) t h i = ∑ s : Fin 576, if row t s.val = i then D 0 h t s.val + D 1 h t s.val else 0 := by
  refine (Fin.sum_univ_add (a := 64) (b := 576) (fun s : Fin (64 + 576) => (padded D 0 t h s + padded D 1 t h s) * (if row (t + 64) s = i then 1 else 0))).trans ?_
  rw [Finset.sum_eq_zero, zero_add]
  · refine Finset.sum_congr rfl fun s _ => ?_
    rw [Fin.val_natAdd, row_shift]
    unfold padded
    rw [if_pos (Nat.le_add_right _ _), if_pos (Nat.le_add_right _ _), Nat.add_sub_cancel_left, mul_ite, mul_one, mul_zero]
  · intro s _
    unfold padded
    rw [Fin.val_castAdd, if_neg (by omega), if_neg (by omega), add_zero, zero_mul]

theorem sum_padded (D : ℕ → ℕ → ℕ → ℕ → ℝ) (h i : ℕ) : ∑ k ∈ Finset.range 64, added (padded D) k h i = fold D h i := by
  rw [Finset.sum_range]
  exact Finset.sum_congr rfl fun t _ => added_padded D t.val h i

/-! ### The array -/

variable (m : (ℓ : Loc nD τ sig) → Buf (Elt Ideal) ℓ) (c : Dev nD)

theorem block0 (B : ℕ → ℕ → ℕ → ℕ → ℝ) (hV : V m c main_v1 = arr4 B) (t : Fin cfg0.N) : iblk m c 0 t = arr4 B := by
  have hV' : V m c (Pipeline.arrRef spec0 0) = arr4 B := hV
  unfold iblk
  generalize V m c (Pipeline.arrRef spec0 0) = W at hV'
  subst hV'
  funext j
  show ((B (0 * 2 + 1 * (j 0).val) (0 * 64 + 1 * (j 1).val) (0 * 8 + 1 * (j 2).val) (0 * 640 + 1 * (j 3).val) : ℝ) : EReal) = ((B _ _ _ _ : ℝ) : EReal)
  simp only [Nat.zero_mul, Nat.zero_add, one_mul]

theorem out_eq (D : ℕ → ℕ → ℕ → ℕ → ℝ) (t : Fin cfg0.N) (hb : iblk m c 0 t = arr4 (padded D)) : outsAt0 m c t = arr (fold D) := by
  unfold outsAt0
  frame_out
  rw [show Scf.trips (0#32) (Scalar.addi 0#32 64#32) 1#32 = 64 from trips]
  refine (trips_sum _ c _ _ _ _ _ _ _ (padded D) ((Memref.IsWhole.read_unread _ _).trans hb) 64 (Nat.le_refl _)).trans ?_
  exact arr_congr _ _ fun a b _ _ => sum_padded D a b

/-- The output's array holds the folded gradient. -/
theorem array1 (D : ℕ → ℕ → ℕ → ℕ → ℝ) (h : m ((c : Thread nD τ).loc main_arg0) = arr4 D) : (dats m 0 c).arrAt 1 cfg0.N = arr (fold D) := by
  have hV : V m c main_v1 = arr4 (padded D) := (host _).trans ((congrArg banded h).trans (banded_eq D))
  have at1 : ∀ t : Fin cfg0.N, win0_1.index t (0 : Fin 2) = 0 ∧ win0_1.index t (1 : Fin 2) = 0 := (by decide +kernel : ∀ t : Fin grid0.N, _)
  refine Pipeline.Dat.arrAt_eq_of_cover _ 1 _ (fun t ht => ?_) fun i => ?_
  · obtain ⟨e0, e1⟩ := at1 t
    show (cfg0.win 1).cut (grid0.coords t) ((dats m 0 c).after 1 t) = _
    rw [after0_1, out_eq m c D t (block0 m c _ hV t)]
    funext j
    show ((fold D (j 0).val (j 1).val : ℝ) : EReal) = ((fold D (win0_1.index t (0 : Fin 2) * 8 + 1 * (j 0).val) (win0_1.index t (1 : Fin 2) * 384 + 1 * (j 1).val) : ℝ) : EReal)
    rw [e0, e1, one_mul, one_mul, Nat.zero_mul, Nat.zero_add, Nat.zero_add]
  · let t : Fin cfg0.N := ⟨0, show 0 < 1 by decide⟩
    obtain ⟨e0, e1⟩ := at1 t
    refine ⟨t, by decide +kernel, ?_⟩
    have hm := ((cfg0.win 1).blk t).view.emb_mem_set (ix2 ⟨(i 0).val, (i 0).isLt⟩ ⟨(i 1).val, (i 1).isLt⟩)
    refine Eq.subst (motive := fun k => k ∈ ((cfg0.win 1).blk t).view.set) ?_ hm
    funext a; apply Fin.ext
    match a with
    | ⟨0, _⟩ => show win0_1.index t (0 : Fin 2) * 8 + 1 * (i 0).val = (i 0).val; omega
    | ⟨1, _⟩ => show win0_1.index t (1 : Fin 2) * 384 + 1 * (i 1).val = (i 1).val; omega

end Cert.Proof.Fold

end
-- ==== Proof.Fold.Claims.lean ====
module

public import proofs.«01_k».proof.Proof.Fold.Arrays
public import proofs.«01_k».proof.Defs
public import proofs.«01_k».proof.Proof.Gen.Reference6Ideal.Run

@[expose] public section

noncomputable section

namespace Cert.Proof.Fold

open Cert.Kernel6Ideal Cert.Kernel6Ideal.Gen
open Idealize.ShloMosaic Idealize.ShloMosaic.TcCoe Idealize.ShloMosaic.Pointwise Reals Attn
open Idealize.SL.Sem
open Cert.Reference6Ideal.Read

attribute [local instance] Cert.Kernel6Ideal.Gen.facts Cert.Reference6Ideal.Gen.facts

/-- The shape facts the precondition states. -/
theorem pre_facts : Cert.Pre_finite6.Facts := ⟨by decide, by decide, by decide⟩

instance : Subsingleton Cert.Pre_finite6.S_.Idx := ⟨fun a b => funext fun i => i.elim0⟩

/-- Reals over four axes are an array of them. -/
theorem eq_arr4_of_real {n o p q : ℕ} (r : (⟨4, ![n, o, p, q]⟩ : Shape).Idx → ℝ) : ∃ X : ℕ → ℕ → ℕ → ℕ → ℝ, (fun i => ((r i : ℝ) : EReal)) = arr4 X := by
  refine ⟨fun a b i j => if h : a < n ∧ b < o ∧ i < p ∧ j < q then r (ix4 ⟨a, h.1⟩ ⟨b, h.2.1⟩ ⟨i, h.2.2.1⟩ ⟨j, h.2.2.2⟩) else 0, funext fun k => ?_⟩
  rw [eq_ix4 k]
  refine congrArg (fun x : ℝ => (x : EReal)) ?_
  show r (ix4 (k 0) (k 1) (k 2) (k 3)) = dite ((k 0).val < n ∧ (k 1).val < o ∧ (k 2).val < p ∧ (k 3).val < q)
    (fun h => r (ix4 ⟨(k 0).val, h.1⟩ ⟨(k 1).val, h.2.1⟩ ⟨(k 2).val, h.2.2.1⟩ ⟨(k 3).val, h.2.2.2⟩)) fun _ => 0
  rw [dif_pos ⟨(k 0).isLt, (k 1).isLt, (k 2).isLt, (k 3).isLt⟩]
  rfl

/-- A finite argument is an array of reals. -/
theorem arg_of_pre [Cert.Pre_finite6.Facts] (x0 : FVec Ideal S2x8x64x576 .f32) (hp : Cert.Pre_finite6.fn (F := Ideal) x0 = fun _ => 1#1) :
    ∃ D : ℕ → ℕ → ℕ → ℕ → ℝ, x0 = arr4 D := by
  unfold Cert.Pre_finite6.fn at hp
  obtain ⟨r0, rfl⟩ := reals_of_reduce _ _ _ (fun i => ofBits_inf) _ _ (fun i => i.elim0) (congrFun hp _)
  exact eq_arr4_of_real r0

/-- The idealized kernel leaves the folded gradient, and keeps its argument. -/
theorem kernel_run (m : (ℓ : Loc nD τ sig) → Buf (Elt Ideal) ℓ) (ρ : Dev nD → PrngReg) (D : Dev nD → ℕ → ℕ → ℕ → ℕ → ℝ)
    (h : ∀ c : Dev nD, m ((c : Thread nD τ).loc main_arg0) = arr4 (D c)) :
    θ_run (defs (F := Ideal)) (onTc (τ := τ) (main (F := Ideal))) ⟨m, fun _ => 0, ρ⟩ (fun r => ∀ c : Dev nD,
      r.2.mem ((c : Thread nD τ).loc main_v2) = arr (fold (D c))
      ∧ r.2.mem ((c : Thread nD τ).loc main_arg0) = m ((c : Thread nD τ).loc main_arg0)) :=
  (θ_run _ _ _).mono (fun _ k c => ⟨(k c).1.trans (array1 m c (D c) (h c)), (k c).2⟩)
    (Cert.Kernel6Ideal.Value.run_blocks (F := Ideal) m ρ)

/-- The idealized kernel and the reference leave the same gradient of the bias table. -/
theorem algebraic [Cert.Pre_finite6.Facts] : Cert.algebraic_Kernel6Ideal_Reference6Ideal_pre_finite6 := by
  intro m ρ m' ρ' hpre hagree
  choose D hD using fun c => arg_of_pre _ (hpre c)
  refine ⟨fun c => arr (fold (D c)), kernel_run m ρ D hD, ?_⟩
  refine (θ_run Cert.Reference6Ideal.defs _ _).mono (fun _ h c => ?_) (Cert.Reference6Ideal.Value.run (F := Ideal) m' ρ')
  obtain ⟨h0, hargs⟩ := h c
  have b0 := (hagree c).trans (hD c)
  refine ⟨(h0.trans (val_main_v23_eq _)).trans ?_, hargs⟩
  refine Eq.trans ?_ (ref_fold (D c))
  rw [← b0]

/-- The idealized reference runs and ends quiescent. -/
theorem quiescent_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Proof.Fold

end
-- ==== Proof.InProj.Value.lean ====
module

public import proofs.«01_k».proof.Proof.Norm.Value
public import proofs.«01_k».proof.Proof.Gen.Reference7Ideal.Read
public import proofs.«01_k».proof.Proof.Gen.Kernel7Ideal.Skeleton
public import Idealize.ShloMosaic.Lib.Pointwise

@[expose] public section

noncomputable section

namespace Cert.Proof.InProj

open Idealize.ShloMosaic Idealize.ShloMosaic.Pointwise Reals Attn Gate Norm

/-- The arguments of the mixer norm's gradient: the cotangent of the input product behind the norm and its weight, the rows, the
    gain, the cotangent of the rows. -/
structure Args where
  U : ℕ → ℕ → ℝ
  W : ℕ → ℕ → ℝ
  X : ℕ → ℕ → ℝ
  G : ℕ → ℝ
  Z : ℕ → ℕ → ℝ

namespace Args

variable (A : Args)

/-- The cotangent of the normed rows, the gradient of the rows, the gradient of the gain. -/
def e (r x : ℕ) : ℝ := ∑ k : Fin 3584, A.U r k * A.W x k
def dx (r x : ℕ) : ℝ := grad A.e A.X A.Z A.G r x
def dgain (x : ℕ) : ℝ := ∑ r : Fin 4096, A.e r x * (A.X r x * rs A.X r)

end Args

section kernel

open Cert.Kernel7Ideal Cert.Kernel7Ideal.Gen

theorem tile_e (U W : ℕ → ℕ → ℝ) : k0_pay3 (F := Ideal) (arr U) (arr W) = arr fun r x => ∑ k : Fin 3584, U r k * W k x := by
  refine eq_arr _ _ fun a b => ?_
  pointwise [k0_pay3]
  simp only [arr_ix2, ← EReal.coe_mul, sum_coe]
theorem tile_rs (X : ℕ → ℕ → ℝ) : k0_pay4 (F := Ideal) (arr X) = arr fun r _ => rs X r := by
  refine eq_arr _ _ fun a b => ?_
  pointwise [k0_pay4]
  simp only [arr_ix2, width_bits, eps_bits.1, ← EReal.coe_mul, sum_coe]
  rw [div_coe _ _ (by norm_num), ← EReal.coe_add]
  exact rsqrt_coe _ (ms_pos X a)
theorem tile_n (X : ℕ → ℕ → ℝ) : k0_pay5 (F := Ideal) (arr X) = arr fun r x => X r x * rs X r := by
  refine eq_arr _ _ fun a b => ?_
  pointwise [k0_pay5]
  rw [tile_rs]
  simp only [arr_ix2, ← EReal.coe_mul]
/-- What one grid point writes for the rows' gradient, of tiles whose entries are real, -/
theorem tile_dx (U W X Z : ℕ → ℕ → ℝ) (G : ℕ → ℝ) : k0_pay6 (F := Ideal) (arr U) (arr W) (arr X) (arr fun _ => G) (arr Z)
    = arr (grad (fun r x => ∑ k : Fin 3584, U r k * W k x) X Z G) := by
  refine eq_arr _ _ fun a b => ?_
  pointwise [k0_pay6]
  rw [tile_rs, tile_n, tile_e]
  simp only [arr_ix2, width_bits, ← EReal.coe_mul, sum_coe]
  rw [div_coe _ _ (by norm_num)]
  simp only [← EReal.coe_mul, ← EReal.coe_sub, ← EReal.coe_add]
  rfl
/-- and adds to the gain's gradient. -/
theorem tile_p (U W X : ℕ → ℕ → ℝ) : k0_pay8 (F := Ideal) (arr U) (arr W) (arr X) = arr fun r x => (∑ k : Fin 3584, U r k * W k x) * (X r x * rs X r) := by
  refine eq_arr _ _ fun a b => ?_
  pointwise [k0_pay8]
  rw [tile_e, tile_n]
  simp only [arr_ix2, ← EReal.coe_mul]
theorem tile_dgain (p : ℕ → ℕ → ℝ) : k0_pay1 (F := Ideal) (arr p) = arr fun _ x => ∑ r : Fin 512, p r x := by
  refine eq_arr _ _ fun a b => ?_
  pointwise [k0_pay1]
  simp only [arr_ix2, sum_coe]
theorem tile_add (p S : ℕ → ℕ → ℝ) : k0_pay2 (F := Ideal) (arr p) (arr S) = arr fun _ x => S 0 x + ∑ r : Fin 512, p r x := by
  refine eq_arr _ _ fun a b => ?_
  pointwise [k0_pay2]
  rw [tile_dgain]
  simp only [arr_ix2, ← EReal.coe_add]
  obtain rfl : a = 0 := Subsingleton.elim _ _
  rfl

end kernel

section reference

open Cert.Reference7Ideal Cert.Reference7Ideal.Gen Cert.Reference7Ideal.Read

theorem ref_ms (X : ℕ → ℕ → ℝ) : val_main_v7 (F := Ideal) (arr X) = arr fun r _ => ms X r := by
  refine eq_arr _ _ fun a b => ?_
  pointwise [val_main_v7, val_main_v6, val_main_v5, val_main_v4, val_main_v3, val_main_v2, val_main_v1, val_main_cst, val_main_cst_0, val_main_cst_1]
  simp only [arr_ix2, width_bits, eps_bits.1, ← EReal.coe_mul, sum_coe]
  rw [div_coe _ _ (by norm_num), ← EReal.coe_add]
  rfl
theorem ref_rs (X : ℕ → ℕ → ℝ) : val_main_v8 (F := Ideal) (arr X) = arr fun r _ => rs X r := by
  refine eq_arr _ _ fun a b => ?_
  pointwise [val_main_v8]
  rw [ref_ms]
  exact rsqrt_coe _ (ms_pos X a)
theorem ref_slope (X : ℕ → ℕ → ℝ) : val_main_v11 (F := Ideal) (arr X) = arr fun r _ => -(1 / 2) * (rs X r / ms X r) := by
  refine eq_arr _ _ fun a b => ?_
  pointwise [val_main_v11, val_main_v10, val_main_v9, val_main_cst_2]
  rw [ref_rs, ref_ms]
  simp only [arr_ix2, neg_half_bits]
  rw [div_coe _ _ (ms_pos X a).ne', ← EReal.coe_mul]

variable (A : Args)

theorem ref_e : val_main_v18 (F := Ideal) (arr A.U) (arr A.W) = arr A.e := by
  refine eq_arr _ _ fun a b => ?_
  pointwise [val_main_v18]
  simp only [arr_ix2, ← EReal.coe_mul, sum_coe]
  rfl
/-- The reference's gradient of the gain, -/
theorem ref_dgain : val_main_v40 (F := Ideal) (arr A.U) (arr A.W) (arr A.X) = arr fun _ => A.dgain := by
  refine eq_arr _ _ fun a b => ?_
  pointwise [val_main_v40, val_main_v24, val_main_v21, val_main_v20, val_main_v19, val_main_v13, val_main_v12, val_main_cst_3, val_main_cst_4]
  rw [ref_rs, ref_e]
  simp only [arr_ix2, ← EReal.coe_mul, sum_coe]
  refine congrArg (fun x : ℝ => (x : EReal)) ?_
  refine (Fin.sum_univ_one _).trans ?_
  unfold Args.dgain
  refine Finset.sum_congr rfl fun r _ => ?_
  ring
/-- and of the rows. -/
theorem ref_dx : val_main_v39 (F := Ideal) (arr A.U) (arr A.W) (arr A.X) (arr fun _ => A.G) (arr A.Z) = arr A.dx := by
  refine eq_arr _ _ fun a b => ?_
  pointwise [val_main_v39, val_main_v38, val_main_v37, val_main_v36, val_main_v35, val_main_v34, val_main_v33, val_main_v32, val_main_v31,
    val_main_v30, val_main_v29, val_main_v28, val_main_v27, val_main_v26, val_main_v25, val_main_v23, val_main_v22, val_main_v14, val_main_v0, val_main_cst_5, val_main_cst_6, val_main_cst_7]
  rw [ref_rs, ref_e, ref_slope]
  simp only [arr_ix2, width_bits, ← EReal.coe_mul, sum_coe]
  rw [div_coe _ _ (by norm_num)]
  simp only [← EReal.coe_mul, ← EReal.coe_add]
  refine congrArg (fun x : ℝ => (x : EReal)) ?_
  show _ = grad _ _ _ _ _ _
  unfold grad
  rw [rs_sq, show ∑ k : Fin 1024, A.e a k * A.G k * (A.X a k * rs A.X a) = (∑ k : Fin 1024, A.X a k * (A.e a k * A.G k)) * rs A.X a by
    rw [Finset.sum_mul]; exact Finset.sum_congr rfl fun k _ => by ring]
  ring

end reference

end Cert.Proof.InProj

end
-- ==== Proof.InProj.Arrays.lean ====
module

public import proofs.«01_k».proof.Proof.InProj.Value
public import proofs.«01_k».proof.Proof.Gen.Kernel7Ideal.Value
public import Idealize.ShloMosaic.Lib.Pipeline.ValueKit
public import Idealize.ShloMosaic.Lib.StableHlo.Run

@[expose] public section

noncomputable section

namespace Cert.Proof.InProj

open Cert.Kernel7Ideal Cert.Kernel7Ideal.Gen
open Idealize.ShloMosaic Idealize.ShloMosaic.TcCoe Idealize.ShloMosaic.Pointwise Reals Attn Gate Norm

attribute [local instance] Cert.Kernel7Ideal.Gen.facts

set_option maxRecDepth 8192

/-! ### The host's lines before the call -/

section host

variable (U : Valuation τ sig (Elt Ideal))

/-- The weight the other way round. -/
def turned (w : (⟨S1024x3584, .f32⟩ : BufTy).Contents (Elt Ideal)) : (⟨S3584x1024, .bf16⟩ : BufTy).Contents (Elt Ideal) :=
  truncf (F := Ideal) .bf16 (transpose S3584x1024 [1, 0] w transposes_S1024x3584_S3584x1024_1_0) bitsLt_bf16_f32

theorem host_w : StableHlo.after (List.flatten [hostOps0]) U (Proc.devRef .tc main_v1) = turned (U (Proc.devRef .tc main_arg1)) := by
  simp only [List.flatten_cons, List.flatten_nil, List.append_nil, hostOps0]; after_results_simp; rfl
theorem host_u : StableHlo.after (List.flatten [hostOps0]) U (Proc.devRef .tc main_v2) = U (Proc.devRef .tc main_arg0) := by
  simp only [List.flatten_cons, List.flatten_nil, List.append_nil, hostOps0]; after_results_simp; rfl
theorem host_2 : StableHlo.after (List.flatten [hostOps0]) U (Proc.devRef .tc main_arg2) = U (Proc.devRef .tc main_arg2) := by
  simp only [List.flatten_cons, List.flatten_nil, List.append_nil, hostOps0]; after_results_simp
theorem host_3 : StableHlo.after (List.flatten [hostOps0]) U (Proc.devRef .tc main_arg3) = U (Proc.devRef .tc main_arg3) := by
  simp only [List.flatten_cons, List.flatten_nil, List.append_nil, hostOps0]; after_results_simp
theorem host_4 : StableHlo.after (List.flatten [hostOps0]) U (Proc.devRef .tc main_arg4) = U (Proc.devRef .tc main_arg4) := by
  simp only [List.flatten_cons, List.flatten_nil, List.append_nil, hostOps0]; after_results_simp
theorem turned_eq (X : ℕ → ℕ → ℝ) : turned (arr X) = arr fun k x => X x k := by
  refine eq_arr _ _ fun a b => ?_
  pointwise [turned]
  simp only [arr_ix2]

end host

/-! ### Each window's place on the grid, and its block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)
theorem at6 : ∀ t : Fin cfg0.N, win0_6.index t (0 : Fin 2) = t.val ∧ win0_6.index t (1 : Fin 2) = 0 :=
  (by decide +kernel : ∀ t : Fin grid0.N, _)
theorem at7 : ∀ t : Fin cfg0.N, win0_7.index t (0 : Fin 2) = 0 ∧ win0_7.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_v2 = arr X) (t : Fin cfg0.N) :
    iblk m c 0 t = arr fun r x => X ((t.val) * 512 + r) ((0) * 3584 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 3584 + 1 * (j 1).val) : ℝ) : EReal) = ((X _ _ : ℝ) : EReal)
  rw [e0, e1, one_mul, one_mul]
theorem block1 (X : ℕ → ℕ → ℝ) (hV : V m c main_v1 = arr X) (t : Fin cfg0.N) :
    iblk m c 1 t = arr fun r x => X ((0) * 3584 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 3584 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_arg2 = arr X) (t : Fin cfg0.N) :
    iblk m c 2 t = arr fun r x => X ((t.val) * 512 + r) ((0) * 1024 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 512 + 1 * (j 0).val) (win0_2.index t (1 : Fin 2) * 1024 + 1 * (j 1).val) : ℝ) : EReal) = ((X _ _ : ℝ) : EReal)
  rw [e0, e1, one_mul, one_mul]
theorem block3 (X : ℕ → ℕ → ℝ) (hV : V m c main_arg3 = arr X) (t : Fin cfg0.N) :
    iblk m c 3 t = arr fun r x => X ((0) * 1 + r) ((0) * 1024 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 1 + 1 * (j 0).val) (win0_3.index t (1 : Fin 2) * 1024 + 1 * (j 1).val) : ℝ) : EReal) = ((X _ _ : ℝ) : EReal)
  rw [e0, e1, one_mul, one_mul]
theorem block4 (X : ℕ → ℕ → ℝ) (hV : V m c main_arg4 = arr X) (t : Fin cfg0.N) :
    iblk m c 4 t = arr fun r x => X ((t.val) * 512 + r) ((0) * 1024 + x) := by
  obtain ⟨e0, e1⟩ := at4 t
  have hV' : V m c (Pipeline.arrRef spec0 4) = arr X := hV
  unfold iblk
  generalize V m c (Pipeline.arrRef spec0 4) = W at hV'
  subst hV'
  funext j
  show ((X (win0_4.index t (0 : Fin 2) * 512 + 1 * (j 0).val) (win0_4.index t (1 : Fin 2) * 1024 + 1 * (j 1).val) : ℝ) : EReal) = ((X _ _ : ℝ) : EReal)
  rw [e0, e1, one_mul, one_mul]

/-! ### What a grid point leaves in the outputs' buffers -/

/-- The first point stores, -/
theorem first (t : Fin cfg0.N) (h0 : t.val % 8 = 0) (h1 : ¬1 ≤ t.val) : outsAt0 m c t.val t.isLt
    = (k0_pay6 (iblk m c 0 t) (iblk m c 1 t) (iblk m c 2 t) (iblk m c 3 t) (iblk m c 4 t),
      k0_pay6 (F := Ideal) (iblk m c 0 t) (iblk m c 1 t) (iblk m c 2 t) (iblk m c 3 t) (iblk m c 4 t),
      k0_pay1 (k0_pay8 (iblk m c 0 t) (iblk m c 1 t) (iblk m c 2 t))) := by
  rw [outsAt0_A m c t h0 h1]
  frame_out
  rfl
/-- each later one adds. -/
theorem later (t : Fin cfg0.N) (h0 : ¬t.val % 8 = 0) (h1 : 1 ≤ t.val) : outsAt0 m c t.val t.isLt
    = (k0_pay6 (iblk m c 0 t) (iblk m c 1 t) (iblk m c 2 t) (iblk m c 3 t) (iblk m c 4 t),
      k0_pay6 (F := Ideal) (iblk m c 0 t) (iblk m c 1 t) (iblk m c 2 t) (iblk m c 3 t) (iblk m c 4 t),
      k0_pay2 (k0_pay8 (iblk m c 0 t) (iblk m c 1 t) (iblk m c 2 t))
        (outsAt0 m c (t.val - 1) (Nat.lt_of_le_of_lt (Nat.sub_le _ _) t.isLt)).2.2) := by
  rw [outsAt0_B m c t h0 h1]
  frame_out
  rfl

/-- The arguments' arrays are the given reals. -/
structure Given (A : Args) : Prop where
  x0 : m ((c : Thread nD τ).loc main_arg0) = arr A.U
  x1 : m ((c : Thread nD τ).loc main_arg1) = arr A.W
  x2 : m ((c : Thread nD τ).loc main_arg2) = arr A.X
  x3 : m ((c : Thread nD τ).loc main_arg3) = arr fun _ => A.G
  x4 : m ((c : Thread nD τ).loc main_arg4) = arr A.Z

variable {m c} {A : Args} (h : Given m c A)

include h

theorem V_w : V m c main_v1 = arr fun k x => A.W x k := by
  refine (host_w (fun b => m (c, b))).trans ?_
  show turned (m ((c : Thread nD τ).loc main_arg1)) = _
  rw [h.x1, turned_eq]
theorem V_u : V m c main_v2 = arr A.U := (host_u (fun b => m (c, b))).trans h.x0
theorem V_2 : V m c main_arg2 = arr A.X := (host_2 (fun b => m (c, b))).trans h.x2
theorem V_3 : V m c main_arg3 = arr fun _ => A.G := (host_3 (fun b => m (c, b))).trans h.x3
theorem V_4 : V m c main_arg4 = arr A.Z := (host_4 (fun b => m (c, b))).trans h.x4

/-- The part of the gain's gradient that the first points have added. -/
def part (A : Args) (n x : ℕ) : ℝ := ∑ q ∈ Finset.range n, ∑ r : Fin 512, A.e (q * 512 + r) x * (A.X (q * 512 + r) x * rs A.X (q * 512 + r))

/-- The tile a point writes, and the products it adds up. -/
theorem tile (n : ℕ) (hn : n < cfg0.N) :
    k0_pay6 (F := Ideal) (iblk m c 0 ⟨n, hn⟩) (iblk m c 1 ⟨n, hn⟩) (iblk m c 2 ⟨n, hn⟩) (iblk m c 3 ⟨n, hn⟩) (iblk m c 4 ⟨n, hn⟩)
      = arr (fun r x => A.dx (n * 512 + r) x)
    ∧ k0_pay8 (F := Ideal) (iblk m c 0 ⟨n, hn⟩) (iblk m c 1 ⟨n, hn⟩) (iblk m c 2 ⟨n, hn⟩)
      = arr (fun r x => A.e (n * 512 + r) x * (A.X (n * 512 + r) x * rs A.X (n * 512 + r))) := by
  rw [block0 m c _ (V_u h), block1 m c _ (V_w h), block2 m c _ (V_2 h), block3 m c _ (V_3 h), block4 m c _ (V_4 h)]
  simp only [Nat.zero_mul, Nat.zero_add]
  refine ⟨?_, ?_⟩
  · rw [tile_dx]; rfl
  · rw [tile_p]; rfl

theorem outs : ∀ (n : ℕ) (hn : n < cfg0.N), outsAt0 m c n hn
    = (arr fun r x => A.dx (n * 512 + r) x, (arr fun r x => A.dx (n * 512 + r) x : FVec Ideal S512x1024 .f32), arr fun _ x => part A (n + 1) x) := by
  intro n
  induction n using Nat.strong_induction_on with
  | _ n ih =>
    intro hn
    have hN : n < 8 := hn
    obtain ⟨t6, t8⟩ := tile h n hn
    by_cases h0 : n % 8 = 0
    · rw [first m c ⟨n, hn⟩ h0 (by dsimp only; omega), t6, t8, tile_dgain]
      refine congrArg (fun z => (_, _, z)) (arr_congr _ _ fun z x _ _ => ?_)
      obtain rfl : n = 0 := by omega
      unfold part
      rw [Finset.sum_range_one]
    · rw [later m c ⟨n, hn⟩ h0 (by dsimp only; omega), t6, t8]
      simp only [ih (n - 1) (by omega) (by omega)]
      rw [tile_add]
      refine congrArg (fun z => (_, _, z)) (arr_congr _ _ fun z x _ _ => ?_)
      rw [show n - 1 + 1 = n by omega]
      exact (Finset.sum_range_succ (fun q => ∑ r : Fin 512, A.e (q * 512 + r) x * (A.X (q * 512 + r) x * rs A.X (q * 512 + r))) n).symm

/-! ### The arrays the call returns -/

theorem array5 : (dats m 0 c).arrAt 5 cfg0.N = arr A.dx := by
  refine Pipeline.Dat.arrAt_eq_of_cover _ 5 _ (fun t _ => ?_) fun i => ?_
  · obtain ⟨e0, e1⟩ := at5 t
    show (cfg0.win 5).cut (grid0.coords t) ((dats m 0 c).after 5 t) = _
    rw [after0_5, outs h]
    funext j
    show ((A.dx (t.val * 512 + (j 0).val) (j 1).val : ℝ) : EReal)
      = ((A.dx (win0_5.index t (0 : Fin 2) * 512 + 1 * (j 0).val) (win0_5.index t (1 : Fin 2) * 1024 + 1 * (j 1).val) : ℝ) : EReal)
    rw [e0, e1, one_mul, one_mul, Nat.zero_mul, Nat.zero_add]
  · have h0 : (i 0).val < 4096 := (i 0).isLt
    have h1 : (i 1).val < 1024 := (i 1).isLt
    let t : Fin cfg0.N := ⟨(i 0).val / 512, show _ < 8 by omega⟩
    obtain ⟨e0, e1⟩ := at5 t
    have ht : t.val = (i 0).val / 512 := rfl
    refine ⟨t, flush0_5 t, ?_⟩
    have hm := ((cfg0.win 5).blk t).view.emb_mem_set (ix2 ⟨(i 0).val % 512, by omega⟩ ⟨(i 1).val, h1⟩)
    refine Eq.subst (motive := fun k => k ∈ ((cfg0.win 5).blk t).view.set) ?_ hm
    funext a; apply Fin.ext
    match a with
    | ⟨0, _⟩ => show win0_5.index t (0 : Fin 2) * 512 + 1 * ((i 0).val % 512) = (i 0).val; omega
    | ⟨1, _⟩ => show win0_5.index t (1 : Fin 2) * 1024 + 1 * (i 1).val = (i 1).val; omega

theorem array6 : (dats m 0 c).arrAt 6 cfg0.N = arr A.dx := by
  refine Pipeline.Dat.arrAt_eq_of_cover _ 6 _ (fun t _ => ?_) fun i => ?_
  · obtain ⟨e0, e1⟩ := at6 t
    show (cfg0.win 6).cut (grid0.coords t) ((dats m 0 c).after 6 t) = _
    rw [after0_6, outs h]
    funext j
    show ((A.dx (t.val * 512 + (j 0).val) (j 1).val : ℝ) : EReal)
      = ((A.dx (win0_6.index t (0 : Fin 2) * 512 + 1 * (j 0).val) (win0_6.index t (1 : Fin 2) * 1024 + 1 * (j 1).val) : ℝ) : EReal)
    rw [e0, e1, one_mul, one_mul, Nat.zero_mul, Nat.zero_add]
  · have h0 : (i 0).val < 4096 := (i 0).isLt
    have h1 : (i 1).val < 1024 := (i 1).isLt
    let t : Fin cfg0.N := ⟨(i 0).val / 512, show _ < 8 by omega⟩
    obtain ⟨e0, e1⟩ := at6 t
    have ht : t.val = (i 0).val / 512 := rfl
    refine ⟨t, flush0_6 t, ?_⟩
    have hm := ((cfg0.win 6).blk t).view.emb_mem_set (ix2 ⟨(i 0).val % 512, by omega⟩ ⟨(i 1).val, h1⟩)
    refine Eq.subst (motive := fun k => k ∈ ((cfg0.win 6).blk t).view.set) ?_ hm
    funext a; apply Fin.ext
    match a with
    | ⟨0, _⟩ => show win0_6.index t (0 : Fin 2) * 512 + 1 * ((i 0).val % 512) = (i 0).val; omega
    | ⟨1, _⟩ => show win0_6.index t (1 : Fin 2) * 1024 + 1 * (i 1).val = (i 1).val; omega

theorem array7 : (dats m 0 c).arrAt 7 cfg0.N = arr fun _ => A.dgain := by
  refine Pipeline.Dat.arrAt_eq_of_cover _ 7 _ (fun t ht => ?_) fun i => ?_
  · obtain ⟨e0, e1⟩ := at7 t
    have h7 : t.val % 8 = 7 := (flush0_7 t).mp ht
    have hN : t.val < 8 := t.isLt
    show (cfg0.win 7).cut (grid0.coords t) ((dats m 0 c).after 7 t) = _
    rw [after0_7, outs h]
    funext j
    show ((part A (t.val + 1) (j 1).val : ℝ) : EReal) = ((A.dgain (win0_7.index t (1 : Fin 2) * 1024 + 1 * (j 1).val) : ℝ) : EReal)
    rw [e1, one_mul, Nat.zero_mul, Nat.zero_add, show t.val + 1 = 8 by omega]
    unfold part Args.dgain
    rw [tiles (fun r => A.e r (j 1).val * (A.X r (j 1).val * rs A.X r)) 8 512 4096 rfl]
  · have h0 : (i 0).val < 1 := (i 0).isLt
    have h1 : (i 1).val < 1024 := (i 1).isLt
    let t : Fin cfg0.N := ⟨7, show _ < 8 by omega⟩
    obtain ⟨e0, e1⟩ := at7 t
    refine ⟨t, (flush0_7 t).mpr rfl, ?_⟩
    have hm := ((cfg0.win 7).blk t).view.emb_mem_set (ix2 ⟨(i 0).val, h0⟩ ⟨(i 1).val, h1⟩)
    refine Eq.subst (motive := fun k => k ∈ ((cfg0.win 7).blk t).view.set) ?_ hm
    funext a; apply Fin.ext
    match a with
    | ⟨0, _⟩ => show win0_7.index t (0 : Fin 2) * 1 + 1 * (i 0).val = (i 0).val; omega
    | ⟨1, _⟩ => show win0_7.index t (1 : Fin 2) * 1024 + 1 * (i 1).val = (i 1).val; omega

end Cert.Proof.InProj

end
-- ==== Proof.InProj.Claims.lean ====
module

public import proofs.«01_k».proof.Proof.InProj.Arrays
public import proofs.«01_k».proof.Proof.Attn.Algebraic
public import proofs.«01_k».proof.Proof.Gen.Reference7Ideal.Run

@[expose] public section

noncomputable section

namespace Cert.Proof.InProj

open Cert.Kernel7Ideal Cert.Kernel7Ideal.Gen
open Idealize.ShloMosaic Idealize.ShloMosaic.TcCoe Idealize.ShloMosaic.Pointwise Reals Attn
open Idealize.SL.Sem
open Cert.Reference7Ideal.Read

attribute [local instance] Cert.Kernel7Ideal.Gen.facts Cert.Reference7Ideal.Gen.facts

/-- The shape facts the precondition states. -/
theorem pre_facts : Cert.Pre_finite7.Facts := ⟨by decide, by decide, by decide, by decide, by decide, by decide, by decide, by decide, by decide⟩

instance : Subsingleton Cert.Pre_finite7.S_.Idx := ⟨fun a b => funext fun i => i.elim0⟩

/-- Finite arguments are arrays of reals. -/
theorem args_of_pre [Cert.Pre_finite7.Facts] (x0 : FVec Ideal S4096x3584 .f32) (x1 : FVec Ideal S1024x3584 .f32) (x2 : FVec Ideal S4096x1024 .f32) (x3 : FVec Ideal S1x1024 .f32) (x4 : FVec Ideal S4096x1024 .f32)
    (hp : Cert.Pre_finite7.fn (F := Ideal) x0 x1 x2 x3 x4 = fun _ => 1#1) :
    ∃ A : Args, x0 = arr A.U ∧ x1 = arr A.W ∧ x2 = arr A.X ∧ x3 = (arr fun _ => A.G) ∧ x4 = arr A.Z := by
  unfold Cert.Pre_finite7.fn Cert.Pre_finite7.fn_part1 at hp
  obtain ⟨hp, h4⟩ := and_eq_one _ _ hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨r4, rfl⟩ := reals_of_reduce _ _ _ (fun i => ofBits_inf) _ _ (fun i => i.elim0) (congrFun h4 _)
  obtain ⟨X0, e0⟩ := eq_arr_of_real r0
  obtain ⟨X1, e1⟩ := eq_arr_of_real r1
  obtain ⟨X2, e2⟩ := eq_arr_of_real r2
  obtain ⟨X3, e3⟩ := eq_arr_of_real r3
  obtain ⟨X4, e4⟩ := eq_arr_of_real r4
  refine ⟨⟨X0, X1, X2, X3 0, X4⟩, e0, e1, e2, e3.trans (eq_arr _ (fun _ => X3 0) fun z e => ?_), e4⟩
  obtain rfl : z = 0 := Subsingleton.elim _ _
  rfl

/-- The idealized kernel leaves the gradients and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v3_0) = arr (A c).dx
      ∧ r.2.mem ((c : Thread nD τ).loc main_v3_1) = arr (A c).dx
      ∧ r.2.mem ((c : Thread nD τ).loc main_v3_2) = (arr fun _ => (A c).dgain)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run _ _ _).mono (fun _ k c => ⟨(k c).1.trans (array5 (h c)), (k c).2.1.trans (array6 (h c)), (k c).2.2.1.trans (array7 (h c)), (k c).2.2.2⟩)
    (Cert.Kernel7Ideal.Value.run_blocks (F := Ideal) m ρ)

/-- The idealized kernel and the reference leave the same gradients of the mixer norm's rows, twice, and of its gain. -/
theorem algebraic [Cert.Pre_finite7.Facts] : Cert.algebraic_Kernel7Ideal_Reference7Ideal_pre_finite7 := by
  intro m ρ m' ρ' hpre hagree
  choose A hA using fun c => args_of_pre _ _ _ _ _ (hpre c)
  refine ⟨fun c => arr (A c).dx, fun c => arr (A c).dx, fun c => arr fun _ => (A c).dgain,
    kernel_run m ρ A fun c => ⟨(hA c).1, (hA c).2.1, (hA c).2.2.1, (hA c).2.2.2.1, (hA c).2.2.2.2⟩, ?_⟩
  refine (θ_run Cert.Reference7Ideal.defs _ _).mono (fun _ h c => ?_) (Cert.Reference7Ideal.Value.run (F := Ideal) m' ρ')
  obtain ⟨h0, h1, h2, hargs⟩ := h c
  obtain ⟨g0, g1, g2, g3, g4⟩ := hagree c
  obtain ⟨a0, a1, a2, a3, a4⟩ := hA c
  have b0 := g0.trans a0
  have b1 := g1.trans a1
  have b2 := g2.trans a2
  have b3 := g3.trans a3
  have b4 := g4.trans a4
  refine ⟨(h0.trans (val_main_v39_eq _ _)).trans ?_, (h1.trans (val_main_v41_eq _ _)).trans ?_, (h2.trans (val_main_v40_eq _ _ _)).trans ?_, hargs⟩
  · refine Eq.trans ?_ (ref_dx (A c)); rw [← b0, ← b1, ← b2, ← b3, ← b4]
  · refine Eq.trans ?_ (ref_dx (A c)); rw [← b0, ← b1, ← b2, ← b3, ← b4]; rfl
  · refine Eq.trans ?_ (ref_dgain (A c)); rw [← b0, ← b1, ← b2]

/-- The idealized reference runs and ends quiescent. -/
theorem quiescent_reference : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

end Cert.Proof.InProj

end
-- ==== Proof.Lib.Rows.lean ====
module

public import proofs.«01_k».proof.Proof.Norm.Value

@[expose] public section

noncomputable section

namespace Cert.Proof.Norm

/-- The rows, each over the root of its mean square, times the gain. -/
def normed (X : ℕ → ℕ → ℝ) (G : ℕ → ℝ) (r x : ℕ) : ℝ := X r x * rs X r * G x

end Cert.Proof.Norm

end
-- ==== Proof.Rms.Value.lean ====
module

public import proofs.«01_k».proof.Proof.Lib.Rows
public import proofs.«01_k».proof.Proof.Gen.Reference8Ideal.Read
public import proofs.«01_k».proof.Proof.Gen.Kernel8Ideal.Skeleton
public import Idealize.ShloMosaic.Lib.Pointwise

@[expose] public section

noncomputable section

namespace Cert.Proof.Rms

open Idealize.ShloMosaic Idealize.ShloMosaic.Pointwise Reals Attn Gate Norm

/-- The arguments of the norm: the rows and the gain. -/
structure Args where
  X : ℕ → ℕ → ℝ
  G : ℕ → ℝ

namespace Args

variable (A : Args)

/-- The normed rows. -/
def y (r x : ℕ) : ℝ := normed A.X A.G r x

end Args

section kernel

open Cert.Kernel8Ideal Cert.Kernel8Ideal.Gen

/-- What one grid point writes, of tiles whose entries are real. -/
theorem tile (X : ℕ → ℕ → ℝ) (G : ℕ → ℝ) : k0_pay1 (F := Ideal) (arr X) (arr fun _ => G) = arr (normed X G) := by
  refine eq_arr _ _ fun a b => ?_
  pointwise [k0_pay1]
  simp only [arr_ix2, width_bits, eps_bits.1, ← EReal.coe_mul, sum_coe]
  rw [div_coe _ _ (by norm_num), ← EReal.coe_add, show Ideal.rsqrt (((∑ k : Fin 1024, X a k * X a k) / 1024 + eps : ℝ) : EReal) = ((rs X a : ℝ) : EReal) from rsqrt_coe _ (ms_pos X a)]
  simp only [← EReal.coe_mul]
  rfl

end kernel

section reference

open Cert.Reference8Ideal Cert.Reference8Ideal.Gen Cert.Reference8Ideal.Read

variable (A : Args)

theorem ref_rs : val_main_v8 (F := Ideal) (arr A.X) = arr fun r _ => rs A.X r := by
  refine eq_arr _ _ fun a b => ?_
  pointwise [val_main_v8, val_main_v7, val_main_v6, val_main_v5, val_main_v4, val_main_v3, val_main_v2, val_main_v1, val_main_cst, val_main_cst_0, val_main_cst_1]
  simp only [arr_ix2, width_bits, eps_bits.1, ← EReal.coe_mul, sum_coe]
  rw [div_coe _ _ (by norm_num), ← EReal.coe_add]
  exact rsqrt_coe _ (ms_pos A.X a)
/-- The reference's normed rows. -/
theorem ref_y : val_main_v14 (F := Ideal) (arr A.X) (arr fun _ => A.G) = arr A.y := by
  refine eq_arr _ _ fun a b => ?_
  pointwise [val_main_v14, val_main_v13, val_main_v12, val_main_v11, val_main_v10, val_main_v9, val_main_v0]
  rw [ref_rs]
  simp only [arr_ix2, ← EReal.coe_mul]
  rfl

end reference

end Cert.Proof.Rms

end
-- ==== Proof.Rms.Claims.lean ====
module

public import proofs.«01_k».proof.Proof.Rms.Value
public import proofs.«01_k».proof.Proof.Gen.Kernel8Ideal.Value
public import proofs.«01_k».proof.Proof.Attn.Algebraic
public import proofs.«01_k».proof.Proof.Gen.Reference8Ideal.Run
public import Idealize.ShloMosaic.Lib.Pipeline.ValueKit
public import Idealize.ShloMosaic.Lib.StableHlo.Run

@[expose] public section

noncomputable section

namespace Cert.Proof.Rms

open Cert.Kernel8Ideal Cert.Kernel8Ideal.Gen
open Idealize.ShloMosaic Idealize.ShloMosaic.TcCoe Idealize.ShloMosaic.Pointwise Reals Attn Gate
open Idealize.SL.Sem
open Cert.Reference8Ideal.Read

attribute [local instance] Cert.Kernel8Ideal.Gen.facts Cert.Reference8Ideal.Gen.facts

set_option maxRecDepth 8192

/-! ### Each window's place on the grid, and its block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_arg0 = arr X) (t : Fin cfg0.N) :
    iblk m c 0 t = arr fun r x => X ((t.val) * 512 + r) ((0) * 1024 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 1024 + 1 * (j 1).val) : ℝ) : EReal) = ((X _ _ : ℝ) : EReal)
  rw [e0, e1, one_mul, one_mul]
theorem block1 (X : ℕ → ℕ → ℝ) (hV : V m c main_arg1 = arr X) (t : Fin cfg0.N) :
    iblk m c 1 t = arr fun r x => X ((0) * 1 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 1 + 1 * (j 0).val) (win0_1.index t (1 : Fin 2) * 1024 + 1 * (j 1).val) : ℝ) : EReal) = ((X _ _ : ℝ) : EReal)
  rw [e0, e1, one_mul, one_mul]

/-- The arguments' arrays are the given reals. -/
structure Given (A : Args) : Prop where
  x0 : m ((c : Thread nD τ).loc main_arg0) = arr A.X
  x1 : m ((c : Thread nD τ).loc main_arg1) = arr fun _ => A.G

variable {m c} {A : Args} (h : Given m c A)

include h

theorem V_0 : V m c main_arg0 = arr A.X := h.x0
theorem V_1 : V m c main_arg1 = arr fun _ => A.G := h.x1

/-! ### The arrays the call returns -/

/-- What point `t` leaves for output window 2. -/
theorem out2 (t : Fin cfg0.N) : out0_2 (iblk m c 0 t) (iblk m c 1 t) = arr fun r x => A.y ((t.val) * 512 + r) ((0) * 1024 + x) := by
  have e : out0_2 (iblk m c 0 t) (iblk m c 1 t) = k0_pay1 (F := Ideal) (iblk m c 0 t) (iblk m c 1 t) := by
    unfold out0_2
    frame_out
  rw [e, block0 m c _ (V_0 h), block1 m c _ (V_1 h), tile]
  refine arr_congr _ _ fun r x _ _ => ?_
  simp only [Nat.zero_mul, Nat.zero_add]
  rfl
theorem array2 : (dats m 0 c).arrAt 2 cfg0.N = arr A.y := by
  refine Pipeline.Dat.arrAt_eq_of_cover _ 2 _ (fun t _ => ?_) fun i => ?_
  · obtain ⟨e0, e1⟩ := at2 t
    show (cfg0.win 2).cut (grid0.coords t) ((dats m 0 c).after 2 t) = _
    rw [Cert.Kernel8Ideal.Gen.after0_2, out2 h]
    funext j
    show ((A.y ((t.val) * 512 + (j 0).val) ((0) * 1024 + (j 1).val) : ℝ) : EReal)
      = ((A.y (win0_2.index t (0 : Fin 2) * 512 + 1 * (j 0).val) (win0_2.index t (1 : Fin 2) * 1024 + 1 * (j 1).val) : ℝ) : EReal)
    rw [e0, e1, one_mul, one_mul]
  · have h0 : (i 0).val < 4096 := (i 0).isLt
    have h1 : (i 1).val < 1024 := (i 1).isLt
    let t : Fin cfg0.N := ⟨(i 0).val / 512, show _ < 8 by omega⟩
    obtain ⟨e0, e1⟩ := at2 t
    have ht : t.val = (i 0).val / 512 := rfl
    refine ⟨t, flush0_2 t, ?_⟩
    have hm := ((cfg0.win 2).blk t).view.emb_mem_set (ix2 ⟨(i 0).val % 512, by omega⟩ ⟨(i 1).val % 1024, by omega⟩)
    refine Eq.subst (motive := fun k => k ∈ ((cfg0.win 2).blk t).view.set) ?_ hm
    funext a; apply Fin.ext
    match a with
    | ⟨0, _⟩ => show win0_2.index t (0 : Fin 2) * 512 + 1 * ((i 0).val % 512) = (i 0).val; omega
    | ⟨1, _⟩ => show win0_2.index t (1 : Fin 2) * 1024 + 1 * ((i 1).val % 1024) = (i 1).val; omega

omit h

/-! ### The claims -/

/-- The shape facts the precondition states. -/
theorem pre_facts : Cert.Pre_finite8.Facts := ⟨by decide, by decide, by decide, by decide, by decide⟩

instance : Subsingleton Cert.Pre_finite8.S_.Idx := ⟨fun a b => funext fun i => i.elim0⟩

/-- Finite arguments are arrays of reals. -/
theorem args_of_pre [Cert.Pre_finite8.Facts] (x0 : FVec Ideal S4096x1024 .f32) (x1 : FVec Ideal S1x1024 .f32)
    (hp : Cert.Pre_finite8.fn (F := Ideal) x0 x1 = fun _ => 1#1) :
    ∃ A : Args, x0 = arr A.X ∧ x1 = (arr fun _ => A.G) := by
  unfold Cert.Pre_finite8.fn at hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨X0, e0⟩ := eq_arr_of_real r0
  obtain ⟨X1, e1⟩ := eq_arr_of_real r1
  refine ⟨⟨X0, X1 0⟩, e0, e1.trans (eq_arr _ (fun _ => X1 0) fun z e => ?_)⟩
  obtain rfl : z = 0 := Subsingleton.elim _ _
  rfl

/-- The idealized kernel leaves the results and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v0) = arr (A c).y
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun _ k c => ⟨(k c).1.trans (array2 (h c)), (k c).2⟩)
    (Cert.Kernel8Ideal.Value.run_blocks (F := Ideal) m ρ)

/-- The idealized kernel and the reference leave the same results. -/
theorem algebraic [Cert.Pre_finite8.Facts] : Cert.algebraic_Kernel8Ideal_Reference8Ideal_pre_finite8 := by
  intro m ρ m' ρ' hpre hagree
  choose A hA using fun c => args_of_pre _ _ (hpre c)
  refine ⟨fun c => arr (A c).y,
    kernel_run m ρ A fun c => ⟨(hA c).1, (hA c).2⟩, ?_⟩
  refine (θ_run Cert.Reference8Ideal.defs _ _).mono (fun _ h c => ?_) (Cert.Reference8Ideal.Value.run (F := Ideal) m' ρ')
  obtain ⟨h0, hargs⟩ := h c
  obtain ⟨g0, g1⟩ := hagree c
  obtain ⟨a0, a1⟩ := hA c
  have b0 := g0.trans a0
  have b1 := g1.trans a1
  refine ⟨(h0.trans (val_main_v14_eq _ _ )).trans ?_, hargs⟩
  · refine Eq.trans ?_ (ref_y (A c)); rw [← b0, ← b1]

/-- The idealized reference runs and ends quiescent. -/
theorem quiescent_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Proof.Rms

end
-- ==== Proof.Down.Value.lean ====
module

public import proofs.«01_k».proof.Proof.Lib.Rows
public import proofs.«01_k».proof.Proof.Gen.Reference9Ideal.Read
public import proofs.«01_k».proof.Proof.Gen.Kernel9Ideal.Skeleton
public import Idealize.ShloMosaic.Lib.Pointwise

@[expose] public section

noncomputable section

namespace Cert.Proof.Down

open Idealize.ShloMosaic Idealize.ShloMosaic.Pointwise Reals Attn Gate Norm

/-- The arguments of the first feed-forward's last product and the norm behind it: the gated rows, the weight, the rows added, the gain. -/
structure Args where
  U : ℕ → ℕ → ℝ
  W : ℕ → ℕ → ℝ
  X : ℕ → ℕ → ℝ
  G : ℕ → ℝ

namespace Args

variable (A : Args)

/-- The rows with the product added, and normed. -/
def x1 (r x : ℕ) : ℝ := A.X r x + 1 / 2 * ∑ k : Fin 2816, A.U r k * A.W k x
def y (r x : ℕ) : ℝ := normed A.x1 A.G r x

end Args

section kernel

open Cert.Kernel9Ideal Cert.Kernel9Ideal.Gen

/-- What one grid point writes for the rows, of tiles whose entries are real, -/
theorem tile_x1 (U W X : ℕ → ℕ → ℝ) : k0_pay1 (F := Ideal) (arr U) (arr W) (arr X) = arr fun r x => X r x + 1 / 2 * ∑ k : Fin 2816, U r k * W k x := by
  refine eq_arr _ _ fun a b => ?_
  pointwise [k0_pay1]
  simp only [arr_ix2, half_bits, ← EReal.coe_mul, sum_coe, ← EReal.coe_add]
  refine congrArg (fun x : ℝ => (x : EReal)) ?_
  ring
/-- and for the normed rows. -/
theorem tile_y (U W X : ℕ → ℕ → ℝ) (G : ℕ → ℝ) : k0_pay2 (F := Ideal) (arr U) (arr W) (arr X) (arr fun _ => G)
    = arr (normed (fun r x => X r x + 1 / 2 * ∑ k : Fin 2816, U r k * W k x) G) := by
  refine eq_arr _ _ fun a b => ?_
  pointwise [k0_pay2]
  rw [tile_x1]
  generalize (fun r x => X r x + 1 / 2 * ∑ k : Fin 2816, U r k * W k x : ℕ → ℕ → ℝ) = Y
  simp only [arr_ix2, width_bits, eps_bits.1, ← EReal.coe_mul, sum_coe]
  rw [div_coe _ _ (by norm_num), ← EReal.coe_add, show Ideal.rsqrt (((∑ k : Fin 1024, Y a k * Y a k) / 1024 + eps : ℝ) : EReal) = ((rs Y a : ℝ) : EReal) from rsqrt_coe _ (ms_pos Y a)]
  simp only [← EReal.coe_mul]
  rfl

end kernel

section reference

open Cert.Reference9Ideal Cert.Reference9Ideal.Gen Cert.Reference9Ideal.Read

variable (A : Args)

/-- The reference's rows, -/
theorem ref_x1 : val_main_v3 (F := Ideal) (arr A.U) (arr A.W) (arr A.X) = arr A.x1 := by
  refine eq_arr _ _ fun a b => ?_
  pointwise [val_main_v3, val_main_v2, val_main_v1, val_main_v0, val_main_cst]
  simp only [arr_ix2, half_bits, ← EReal.coe_mul, sum_coe, ← EReal.coe_add]
  rfl
theorem ref_rs : val_main_v12 (F := Ideal) (arr A.U) (arr A.W) (arr A.X) = arr fun r _ => rs A.x1 r := by
  refine eq_arr _ _ fun a b => ?_
  pointwise [val_main_v12, val_main_v11, val_main_v10, val_main_v9, val_main_v8, val_main_v7, val_main_v6, val_main_v5, val_main_cst_0, val_main_cst_1, val_main_cst_2]
  rw [ref_x1]
  simp only [arr_ix2, width_bits, eps_bits.1, ← EReal.coe_mul, sum_coe]
  rw [div_coe _ _ (by norm_num), ← EReal.coe_add]
  exact rsqrt_coe _ (ms_pos A.x1 a)
/-- and its normed rows. -/
theorem ref_y : val_main_v18 (F := Ideal) (arr A.U) (arr A.W) (arr A.X) (arr fun _ => A.G) = arr A.y := by
  refine eq_arr _ _ fun a b => ?_
  pointwise [val_main_v18, val_main_v17, val_main_v16, val_main_v15, val_main_v14, val_main_v13, val_main_v4]
  rw [ref_rs, ref_x1]
  simp only [arr_ix2, ← EReal.coe_mul]
  rfl

end reference

end Cert.Proof.Down

end
-- ==== Proof.Down.Claims.lean ====
module

public import proofs.«01_k».proof.Proof.Down.Value
public import proofs.«01_k».proof.Proof.Gen.Kernel9Ideal.Value
public import proofs.«01_k».proof.Proof.Attn.Algebraic
public import proofs.«01_k».proof.Proof.Gen.Reference9Ideal.Run
public import Idealize.ShloMosaic.Lib.Pipeline.ValueKit
public import Idealize.ShloMosaic.Lib.StableHlo.Run

@[expose] public section

noncomputable section

namespace Cert.Proof.Down

open Cert.Kernel9Ideal Cert.Kernel9Ideal.Gen
open Idealize.ShloMosaic Idealize.ShloMosaic.TcCoe Idealize.ShloMosaic.Pointwise Reals Attn Gate
open Idealize.SL.Sem
open Cert.Reference9Ideal.Read

attribute [local instance] Cert.Kernel9Ideal.Gen.facts Cert.Reference9Ideal.Gen.facts

set_option maxRecDepth 8192

/-! ### The host's lines before the call -/

section host

variable (U : Valuation τ sig (Elt Ideal))

theorem host_main_v0 : StableHlo.after (List.flatten [hostOps0]) U (Proc.devRef .tc main_v0) = U (Proc.devRef .tc main_arg0) := by
  simp only [List.flatten_cons, List.flatten_nil, List.append_nil, hostOps0]; after_results_simp; rfl
theorem host_main_v1 : StableHlo.after (List.flatten [hostOps0]) U (Proc.devRef .tc main_v1) = U (Proc.devRef .tc main_arg1) := by
  simp only [List.flatten_cons, List.flatten_nil, List.append_nil, hostOps0]; after_results_simp; rfl

end host

/-! ### Each window's place on the grid, and its block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_v0 = arr X) (t : Fin cfg0.N) :
    iblk m c 0 t = arr fun r x => X ((t.val) * 512 + r) ((0) * 2816 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 2816 + 1 * (j 1).val) : ℝ) : EReal) = ((X _ _ : ℝ) : EReal)
  rw [e0, e1, one_mul, one_mul]
theorem block1 (X : ℕ → ℕ → ℝ) (hV : V m c main_v1 = arr X) (t : Fin cfg0.N) :
    iblk m c 1 t = arr fun r x => X ((0) * 2816 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 2816 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_arg2 = arr X) (t : Fin cfg0.N) :
    iblk m c 2 t = arr fun r x => X ((t.val) * 512 + r) ((0) * 1024 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 512 + 1 * (j 0).val) (win0_2.index t (1 : Fin 2) * 1024 + 1 * (j 1).val) : ℝ) : EReal) = ((X _ _ : ℝ) : EReal)
  rw [e0, e1, one_mul, one_mul]
theorem block3 (X : ℕ → ℕ → ℝ) (hV : V m c main_arg3 = arr X) (t : Fin cfg0.N) :
    iblk m c 3 t = arr fun r x => X ((0) * 1 + r) ((0) * 1024 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 1 + 1 * (j 0).val) (win0_3.index t (1 : Fin 2) * 1024 + 1 * (j 1).val) : ℝ) : EReal) = ((X _ _ : ℝ) : EReal)
  rw [e0, e1, one_mul, one_mul]

/-- The arguments' arrays are the given reals. -/
structure Given (A : Args) : Prop where
  x0 : m ((c : Thread nD τ).loc main_arg0) = arr A.U
  x1 : m ((c : Thread nD τ).loc main_arg1) = arr A.W
  x2 : m ((c : Thread nD τ).loc main_arg2) = arr A.X
  x3 : m ((c : Thread nD τ).loc main_arg3) = arr fun _ => A.G

variable {m c} {A : Args} (h : Given m c A)

include h

theorem V_0 : V m c main_v0 = arr A.U := (host_main_v0 (fun b => m (c, b))).trans h.x0
theorem V_1 : V m c main_v1 = arr A.W := (host_main_v1 (fun b => m (c, b))).trans h.x1
theorem V_2 : V m c main_arg2 = arr A.X := (V_main_arg2 m c).trans h.x2
theorem V_3 : V m c main_arg3 = arr fun _ => A.G := (V_main_arg3 m c).trans h.x3

/-! ### The arrays the call returns -/

/-- What point `t` leaves for output window 4. -/
theorem out4 (t : Fin cfg0.N) : out0_4 (iblk m c 0 t) (iblk m c 1 t) (iblk m c 2 t) (iblk m c 3 t) = arr fun r x => A.x1 ((t.val) * 512 + r) ((0) * 1024 + x) := by
  have e : out0_4 (iblk m c 0 t) (iblk m c 1 t) (iblk m c 2 t) (iblk m c 3 t) = k0_pay1 (F := Ideal) (iblk m c 0 t) (iblk m c 1 t) (iblk m c 2 t) := by
    unfold out0_4
    frame_out
  rw [e, block0 m c _ (V_0 h), block1 m c _ (V_1 h), block2 m c _ (V_2 h), tile_x1]
  refine arr_congr _ _ fun r x _ _ => ?_
  simp only [Nat.zero_mul, Nat.zero_add]
  rfl
theorem array4 : (dats m 0 c).arrAt 4 cfg0.N = arr A.x1 := by
  refine Pipeline.Dat.arrAt_eq_of_cover _ 4 _ (fun t _ => ?_) fun i => ?_
  · obtain ⟨e0, e1⟩ := at4 t
    show (cfg0.win 4).cut (grid0.coords t) ((dats m 0 c).after 4 t) = _
    rw [Cert.Kernel9Ideal.Gen.after0_4, out4 h]
    funext j
    show ((A.x1 ((t.val) * 512 + (j 0).val) ((0) * 1024 + (j 1).val) : ℝ) : EReal)
      = ((A.x1 (win0_4.index t (0 : Fin 2) * 512 + 1 * (j 0).val) (win0_4.index t (1 : Fin 2) * 1024 + 1 * (j 1).val) : ℝ) : EReal)
    rw [e0, e1, one_mul, one_mul]
  · have h0 : (i 0).val < 4096 := (i 0).isLt
    have h1 : (i 1).val < 1024 := (i 1).isLt
    let t : Fin cfg0.N := ⟨(i 0).val / 512, show _ < 8 by omega⟩
    obtain ⟨e0, e1⟩ := at4 t
    have ht : t.val = (i 0).val / 512 := rfl
    refine ⟨t, flush0_4 t, ?_⟩
    have hm := ((cfg0.win 4).blk t).view.emb_mem_set (ix2 ⟨(i 0).val % 512, by omega⟩ ⟨(i 1).val % 1024, by omega⟩)
    refine Eq.subst (motive := fun k => k ∈ ((cfg0.win 4).blk t).view.set) ?_ hm
    funext a; apply Fin.ext
    match a with
    | ⟨0, _⟩ => show win0_4.index t (0 : Fin 2) * 512 + 1 * ((i 0).val % 512) = (i 0).val; omega
    | ⟨1, _⟩ => show win0_4.index t (1 : Fin 2) * 1024 + 1 * ((i 1).val % 1024) = (i 1).val; omega

/-- What point `t` leaves for output window 5. -/
theorem out5 (t : Fin cfg0.N) : out0_5 (iblk m c 0 t) (iblk m c 1 t) (iblk m c 2 t) (iblk m c 3 t) = arr fun r x => A.y ((t.val) * 512 + r) ((0) * 1024 + x) := by
  have e : out0_5 (iblk m c 0 t) (iblk m c 1 t) (iblk m c 2 t) (iblk m c 3 t) = k0_pay2 (F := Ideal) (iblk m c 0 t) (iblk m c 1 t) (iblk m c 2 t) (iblk m c 3 t) := by
    unfold out0_5
    frame_out
  rw [e, block0 m c _ (V_0 h), block1 m c _ (V_1 h), block2 m c _ (V_2 h), block3 m c _ (V_3 h), tile_y]
  refine arr_congr _ _ fun r x _ _ => ?_
  simp only [Nat.zero_mul, Nat.zero_add]
  rfl
theorem array5 : (dats m 0 c).arrAt 5 cfg0.N = arr A.y := by
  refine Pipeline.Dat.arrAt_eq_of_cover _ 5 _ (fun t _ => ?_) fun i => ?_
  · obtain ⟨e0, e1⟩ := at5 t
    show (cfg0.win 5).cut (grid0.coords t) ((dats m 0 c).after 5 t) = _
    rw [Cert.Kernel9Ideal.Gen.after0_5, out5 h]
    funext j
    show ((A.y ((t.val) * 512 + (j 0).val) ((0) * 1024 + (j 1).val) : ℝ) : EReal)
      = ((A.y (win0_5.index t (0 : Fin 2) * 512 + 1 * (j 0).val) (win0_5.index t (1 : Fin 2) * 1024 + 1 * (j 1).val) : ℝ) : EReal)
    rw [e0, e1, one_mul, one_mul]
  · have h0 : (i 0).val < 4096 := (i 0).isLt
    have h1 : (i 1).val < 1024 := (i 1).isLt
    let t : Fin cfg0.N := ⟨(i 0).val / 512, show _ < 8 by omega⟩
    obtain ⟨e0, e1⟩ := at5 t
    have ht : t.val = (i 0).val / 512 := rfl
    refine ⟨t, flush0_5 t, ?_⟩
    have hm := ((cfg0.win 5).blk t).view.emb_mem_set (ix2 ⟨(i 0).val % 512, by omega⟩ ⟨(i 1).val % 1024, by omega⟩)
    refine Eq.subst (motive := fun k => k ∈ ((cfg0.win 5).blk t).view.set) ?_ hm
    funext a; apply Fin.ext
    match a with
    | ⟨0, _⟩ => show win0_5.index t (0 : Fin 2) * 512 + 1 * ((i 0).val % 512) = (i 0).val; omega
    | ⟨1, _⟩ => show win0_5.index t (1 : Fin 2) * 1024 + 1 * ((i 1).val % 1024) = (i 1).val; omega

omit h

/-! ### The claims -/

/-- The shape facts the precondition states. -/
theorem pre_facts : Cert.Pre_finite9.Facts := ⟨by decide, by decide, by decide, by decide, by decide, by decide, by decide, by decide, by decide⟩

instance : Subsingleton Cert.Pre_finite9.S_.Idx := ⟨fun a b => funext fun i => i.elim0⟩

/-- Finite arguments are arrays of reals. -/
theorem args_of_pre [Cert.Pre_finite9.Facts] (x0 : FVec Ideal S4096x2816 .f32) (x1 : FVec Ideal S2816x1024 .f32) (x2 : FVec Ideal S4096x1024 .f32) (x3 : FVec Ideal S1x1024 .f32)
    (hp : Cert.Pre_finite9.fn (F := Ideal) x0 x1 x2 x3 = fun _ => 1#1) :
    ∃ A : Args, x0 = arr A.U ∧ x1 = arr A.W ∧ x2 = arr A.X ∧ x3 = (arr fun _ => A.G) := by
  unfold Cert.Pre_finite9.fn Cert.Pre_finite9.fn_part1 at hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨X0, e0⟩ := eq_arr_of_real r0
  obtain ⟨X1, e1⟩ := eq_arr_of_real r1
  obtain ⟨X2, e2⟩ := eq_arr_of_real r2
  obtain ⟨X3, e3⟩ := eq_arr_of_real r3
  refine ⟨⟨X0, X1, X2, X3 0⟩, e0, e1, e2, e3.trans (eq_arr _ (fun _ => X3 0) fun z e => ?_)⟩
  obtain rfl : z = 0 := Subsingleton.elim _ _
  rfl

/-- The idealized kernel leaves the results and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v2_0) = arr (A c).x1
      ∧ r.2.mem ((c : Thread nD τ).loc main_v2_1) = arr (A c).y
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun _ k c => ⟨(k c).1.trans (array4 (h c)), (k c).2.1.trans (array5 (h c)), (k c).2.2⟩)
    (Cert.Kernel9Ideal.Value.run_blocks (F := Ideal) m ρ)

/-- The idealized kernel and the reference leave the same results. -/
theorem algebraic [Cert.Pre_finite9.Facts] : Cert.algebraic_Kernel9Ideal_Reference9Ideal_pre_finite9 := by
  intro m ρ m' ρ' hpre hagree
  choose A hA using fun c => args_of_pre _ _ _ _ (hpre c)
  refine ⟨fun c => arr (A c).x1, fun c => arr (A c).y,
    kernel_run m ρ A fun c => ⟨(hA c).1, (hA c).2.1, (hA c).2.2.1, (hA c).2.2.2⟩, ?_⟩
  refine (θ_run Cert.Reference9Ideal.defs _ _).mono (fun _ h c => ?_) (Cert.Reference9Ideal.Value.run (F := Ideal) m' ρ')
  obtain ⟨h0, h1, hargs⟩ := h c
  obtain ⟨g0, g1, g2, g3⟩ := hagree c
  obtain ⟨a0, a1, a2, a3⟩ := hA c
  have b0 := g0.trans a0
  have b1 := g1.trans a1
  have b2 := g2.trans a2
  have b3 := g3.trans a3
  refine ⟨(h0.trans (val_main_v3_eq _ _ _ )).trans ?_, (h1.trans (val_main_v18_eq _ _ _ _ )).trans ?_, hargs⟩
  · refine Eq.trans ?_ (ref_x1 (A c)); rw [← b0, ← b1, ← b2]
  · refine Eq.trans ?_ (ref_y (A c)); rw [← b0, ← b1, ← b2, ← b3]

/-- The idealized reference runs and ends quiescent. -/
theorem quiescent_reference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

end Cert.Proof.Down

end
-- ==== Proof.OutProj.Value.lean ====
module

public import proofs.«01_k».proof.Proof.Lib.Rows
public import proofs.«01_k».proof.Proof.Gen.Reference10Ideal.Read
public import proofs.«01_k».proof.Proof.Gen.Kernel10Ideal.Skeleton
public import Idealize.ShloMosaic.Lib.Pointwise

@[expose] public section

noncomputable section

namespace Cert.Proof.OutProj

open Idealize.ShloMosaic Idealize.ShloMosaic.Pointwise Reals Attn Gate Norm

/-- The arguments of the mixer's output product and the norm behind it: the mixed rows, the weight, the rows added, the gain. -/
structure Args where
  U : ℕ → ℕ → ℝ
  W : ℕ → ℕ → ℝ
  X : ℕ → ℕ → ℝ
  G : ℕ → ℝ

namespace Args

variable (A : Args)

/-- The rows with the product added, and normed. -/
def x1 (r x : ℕ) : ℝ := A.X r x + ∑ k : Fin 1024, A.U r k * A.W k x
def y (r x : ℕ) : ℝ := normed A.x1 A.G r x

end Args

section kernel

open Cert.Kernel10Ideal Cert.Kernel10Ideal.Gen

/-- What one grid point writes for the rows, of tiles whose entries are real, -/
theorem tile_x1 (U W X : ℕ → ℕ → ℝ) : k0_pay1 (F := Ideal) (arr U) (arr W) (arr X) = arr fun r x => X r x + ∑ k : Fin 1024, U r k * W k x := by
  refine eq_arr _ _ fun a b => ?_
  pointwise [k0_pay1]
  simp only [arr_ix2, ← EReal.coe_mul, sum_coe, ← EReal.coe_add]
  refine congrArg (fun x : ℝ => (x : EReal)) ?_
  ring
/-- and for the normed rows. -/
theorem tile_y (U W X : ℕ → ℕ → ℝ) (G : ℕ → ℝ) : k0_pay2 (F := Ideal) (arr U) (arr W) (arr X) (arr fun _ => G)
    = arr (normed (fun r x => X r x + ∑ k : Fin 1024, U r k * W k x) G) := by
  refine eq_arr _ _ fun a b => ?_
  pointwise [k0_pay2]
  rw [tile_x1]
  generalize (fun r x => X r x + ∑ k : Fin 1024, U r k * W k x : ℕ → ℕ → ℝ) = Y
  simp only [arr_ix2, width_bits, eps_bits.1, ← EReal.coe_mul, sum_coe]
  rw [div_coe _ _ (by norm_num), ← EReal.coe_add, show Ideal.rsqrt (((∑ k : Fin 1024, Y a k * Y a k) / 1024 + eps : ℝ) : EReal) = ((rs Y a : ℝ) : EReal) from rsqrt_coe _ (ms_pos Y a)]
  simp only [← EReal.coe_mul]
  rfl

end kernel

section reference

open Cert.Reference10Ideal Cert.Reference10Ideal.Gen Cert.Reference10Ideal.Read

variable (A : Args)

/-- The reference's rows, -/
theorem ref_x1 : val_main_v1 (F := Ideal) (arr A.U) (arr A.W) (arr A.X) = arr A.x1 := by
  refine eq_arr _ _ fun a b => ?_
  pointwise [val_main_v1, val_main_v0]
  simp only [arr_ix2, ← EReal.coe_mul, sum_coe, ← EReal.coe_add]
  rfl
theorem ref_rs : val_main_v10 (F := Ideal) (arr A.U) (arr A.W) (arr A.X) = arr fun r _ => rs A.x1 r := by
  refine eq_arr _ _ fun a b => ?_
  pointwise [val_main_v10, val_main_v9, val_main_v8, val_main_v7, val_main_v6, val_main_v5, val_main_v4, val_main_v3, val_main_cst, val_main_cst_0, val_main_cst_1]
  rw [ref_x1]
  simp only [arr_ix2, width_bits, eps_bits.1, ← EReal.coe_mul, sum_coe]
  rw [div_coe _ _ (by norm_num), ← EReal.coe_add]
  exact rsqrt_coe _ (ms_pos A.x1 a)
/-- and its normed rows. -/
theorem ref_y : val_main_v16 (F := Ideal) (arr A.U) (arr A.W) (arr A.X) (arr fun _ => A.G) = arr A.y := by
  refine eq_arr _ _ fun a b => ?_
  pointwise [val_main_v16, val_main_v15, val_main_v14, val_main_v13, val_main_v12, val_main_v11, val_main_v2]
  rw [ref_rs, ref_x1]
  simp only [arr_ix2, ← EReal.coe_mul]
  rfl

end reference

end Cert.Proof.OutProj

end
-- ==== Proof.OutProj.Claims.lean ====
module

public import proofs.«01_k».proof.Proof.OutProj.Value
public import proofs.«01_k».proof.Proof.Gen.Kernel10Ideal.Value
public import proofs.«01_k».proof.Proof.Attn.Algebraic
public import proofs.«01_k».proof.Proof.Gen.Reference10Ideal.Run
public import Idealize.ShloMosaic.Lib.Pipeline.ValueKit
public import Idealize.ShloMosaic.Lib.StableHlo.Run

@[expose] public section

noncomputable section

namespace Cert.Proof.OutProj

open Cert.Kernel10Ideal Cert.Kernel10Ideal.Gen
open Idealize.ShloMosaic Idealize.ShloMosaic.TcCoe Idealize.ShloMosaic.Pointwise Reals Attn Gate
open Idealize.SL.Sem
open Cert.Reference10Ideal.Read

attribute [local instance] Cert.Kernel10Ideal.Gen.facts Cert.Reference10Ideal.Gen.facts

set_option maxRecDepth 8192

/-! ### The host's lines before the call -/

section host

variable (U : Valuation τ sig (Elt Ideal))

theorem host_main_v0 : StableHlo.after (List.flatten [hostOps0]) U (Proc.devRef .tc main_v0) = U (Proc.devRef .tc main_arg1) := by
  simp only [List.flatten_cons, List.flatten_nil, List.append_nil, hostOps0]; after_results_simp; rfl

end host

/-! ### Each window's place on the grid, and its block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)
theorem at3 : ∀ t : Fin cfg0.N, win0_3.index t (0 : Fin 2) = 0 ∧ win0_3.index t (1 : Fin 2) = 0 :=
  (by decide +kernel : ∀ t : Fin grid0.N, _)
theorem at4 : ∀ t : Fin cfg0.N, win0_4.index t (0 : Fin 2) = t.val ∧ win0_4.index t (1 : Fin 2) = 0 :=
  (by decide +kernel : ∀ t : Fin grid0.N, _)
theorem at5 : ∀ t : Fin cfg0.N, win0_5.index t (0 : Fin 2) = t.val ∧ win0_5.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_arg0 = arr X) (t : Fin cfg0.N) :
    iblk m c 0 t = arr fun r x => X ((t.val) * 512 + r) ((0) * 1024 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 1024 + 1 * (j 1).val) : ℝ) : EReal) = ((X _ _ : ℝ) : EReal)
  rw [e0, e1, one_mul, one_mul]
theorem block1 (X : ℕ → ℕ → ℝ) (hV : V m c main_v0 = arr X) (t : Fin cfg0.N) :
    iblk m c 1 t = arr fun r x => X ((0) * 1024 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 1024 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_arg2 = arr X) (t : Fin cfg0.N) :
    iblk m c 2 t = arr fun r x => X ((t.val) * 512 + r) ((0) * 1024 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 512 + 1 * (j 0).val) (win0_2.index t (1 : Fin 2) * 1024 + 1 * (j 1).val) : ℝ) : EReal) = ((X _ _ : ℝ) : EReal)
  rw [e0, e1, one_mul, one_mul]
theorem block3 (X : ℕ → ℕ → ℝ) (hV : V m c main_arg3 = arr X) (t : Fin cfg0.N) :
    iblk m c 3 t = arr fun r x => X ((0) * 1 + r) ((0) * 1024 + x) := by
  obtain ⟨e0, e1⟩ := at3 t
  have hV' : V m c (Pipeline.arrRef spec0 3) = arr X := hV
  unfold iblk
  generalize V m c (Pipeline.arrRef spec0 3) = W at hV'
  subst hV'
  funext j
  show ((X (win0_3.index t (0 : Fin 2) * 1 + 1 * (j 0).val) (win0_3.index t (1 : Fin 2) * 1024 + 1 * (j 1).val) : ℝ) : EReal) = ((X _ _ : ℝ) : EReal)
  rw [e0, e1, one_mul, one_mul]

/-- The arguments' arrays are the given reals. -/
structure Given (A : Args) : Prop where
  x0 : m ((c : Thread nD τ).loc main_arg0) = arr A.U
  x1 : m ((c : Thread nD τ).loc main_arg1) = arr A.W
  x2 : m ((c : Thread nD τ).loc main_arg2) = arr A.X
  x3 : m ((c : Thread nD τ).loc main_arg3) = arr fun _ => A.G

variable {m c} {A : Args} (h : Given m c A)

include h

theorem V_0 : V m c main_arg0 = arr A.U := (V_main_arg0 m c).trans h.x0
theorem V_1 : V m c main_v0 = arr A.W := (host_main_v0 (fun b => m (c, b))).trans h.x1
theorem V_2 : V m c main_arg2 = arr A.X := (V_main_arg2 m c).trans h.x2
theorem V_3 : V m c main_arg3 = arr fun _ => A.G := (V_main_arg3 m c).trans h.x3

/-! ### The arrays the call returns -/

/-- What point `t` leaves for output window 4. -/
theorem out4 (t : Fin cfg0.N) : out0_4 (iblk m c 0 t) (iblk m c 1 t) (iblk m c 2 t) (iblk m c 3 t) = arr fun r x => A.x1 ((t.val) * 512 + r) ((0) * 1024 + x) := by
  have e : out0_4 (iblk m c 0 t) (iblk m c 1 t) (iblk m c 2 t) (iblk m c 3 t) = k0_pay1 (F := Ideal) (iblk m c 0 t) (iblk m c 1 t) (iblk m c 2 t) := by
    unfold out0_4
    frame_out
  rw [e, block0 m c _ (V_0 h), block1 m c _ (V_1 h), block2 m c _ (V_2 h), tile_x1]
  refine arr_congr _ _ fun r x _ _ => ?_
  simp only [Nat.zero_mul, Nat.zero_add]
  rfl
theorem array4 : (dats m 0 c).arrAt 4 cfg0.N = arr A.x1 := by
  refine Pipeline.Dat.arrAt_eq_of_cover _ 4 _ (fun t _ => ?_) fun i => ?_
  · obtain ⟨e0, e1⟩ := at4 t
    show (cfg0.win 4).cut (grid0.coords t) ((dats m 0 c).after 4 t) = _
    rw [Cert.Kernel10Ideal.Gen.after0_4, out4 h]
    funext j
    show ((A.x1 ((t.val) * 512 + (j 0).val) ((0) * 1024 + (j 1).val) : ℝ) : EReal)
      = ((A.x1 (win0_4.index t (0 : Fin 2) * 512 + 1 * (j 0).val) (win0_4.index t (1 : Fin 2) * 1024 + 1 * (j 1).val) : ℝ) : EReal)
    rw [e0, e1, one_mul, one_mul]
  · have h0 : (i 0).val < 4096 := (i 0).isLt
    have h1 : (i 1).val < 1024 := (i 1).isLt
    let t : Fin cfg0.N := ⟨(i 0).val / 512, show _ < 8 by omega⟩
    obtain ⟨e0, e1⟩ := at4 t
    have ht : t.val = (i 0).val / 512 := rfl
    refine ⟨t, flush0_4 t, ?_⟩
    have hm := ((cfg0.win 4).blk t).view.emb_mem_set (ix2 ⟨(i 0).val % 512, by omega⟩ ⟨(i 1).val % 1024, by omega⟩)
    refine Eq.subst (motive := fun k => k ∈ ((cfg0.win 4).blk t).view.set) ?_ hm
    funext a; apply Fin.ext
    match a with
    | ⟨0, _⟩ => show win0_4.index t (0 : Fin 2) * 512 + 1 * ((i 0).val % 512) = (i 0).val; omega
    | ⟨1, _⟩ => show win0_4.index t (1 : Fin 2) * 1024 + 1 * ((i 1).val % 1024) = (i 1).val; omega

/-- What point `t` leaves for output window 5. -/
theorem out5 (t : Fin cfg0.N) : out0_5 (iblk m c 0 t) (iblk m c 1 t) (iblk m c 2 t) (iblk m c 3 t) = arr fun r x => A.y ((t.val) * 512 + r) ((0) * 1024 + x) := by
  have e : out0_5 (iblk m c 0 t) (iblk m c 1 t) (iblk m c 2 t) (iblk m c 3 t) = k0_pay2 (F := Ideal) (iblk m c 0 t) (iblk m c 1 t) (iblk m c 2 t) (iblk m c 3 t) := by
    unfold out0_5
    frame_out
  rw [e, block0 m c _ (V_0 h), block1 m c _ (V_1 h), block2 m c _ (V_2 h), block3 m c _ (V_3 h), tile_y]
  refine arr_congr _ _ fun r x _ _ => ?_
  simp only [Nat.zero_mul, Nat.zero_add]
  rfl
theorem array5 : (dats m 0 c).arrAt 5 cfg0.N = arr A.y := by
  refine Pipeline.Dat.arrAt_eq_of_cover _ 5 _ (fun t _ => ?_) fun i => ?_
  · obtain ⟨e0, e1⟩ := at5 t
    show (cfg0.win 5).cut (grid0.coords t) ((dats m 0 c).after 5 t) = _
    rw [Cert.Kernel10Ideal.Gen.after0_5, out5 h]
    funext j
    show ((A.y ((t.val) * 512 + (j 0).val) ((0) * 1024 + (j 1).val) : ℝ) : EReal)
      = ((A.y (win0_5.index t (0 : Fin 2) * 512 + 1 * (j 0).val) (win0_5.index t (1 : Fin 2) * 1024 + 1 * (j 1).val) : ℝ) : EReal)
    rw [e0, e1, one_mul, one_mul]
  · have h0 : (i 0).val < 4096 := (i 0).isLt
    have h1 : (i 1).val < 1024 := (i 1).isLt
    let t : Fin cfg0.N := ⟨(i 0).val / 512, show _ < 8 by omega⟩
    obtain ⟨e0, e1⟩ := at5 t
    have ht : t.val = (i 0).val / 512 := rfl
    refine ⟨t, flush0_5 t, ?_⟩
    have hm := ((cfg0.win 5).blk t).view.emb_mem_set (ix2 ⟨(i 0).val % 512, by omega⟩ ⟨(i 1).val % 1024, by omega⟩)
    refine Eq.subst (motive := fun k => k ∈ ((cfg0.win 5).blk t).view.set) ?_ hm
    funext a; apply Fin.ext
    match a with
    | ⟨0, _⟩ => show win0_5.index t (0 : Fin 2) * 512 + 1 * ((i 0).val % 512) = (i 0).val; omega
    | ⟨1, _⟩ => show win0_5.index t (1 : Fin 2) * 1024 + 1 * ((i 1).val % 1024) = (i 1).val; omega

omit h

/-! ### The claims -/

/-- The shape facts the precondition states. -/
theorem pre_facts : Cert.Pre_finite10.Facts := ⟨by decide, by decide, by decide, by decide, by decide, by decide, by decide⟩

instance : Subsingleton Cert.Pre_finite10.S_.Idx := ⟨fun a b => funext fun i => i.elim0⟩

/-- Finite arguments are arrays of reals. -/
theorem args_of_pre [Cert.Pre_finite10.Facts] (x0 : FVec Ideal S4096x1024 .f32) (x1 : FVec Ideal S1024x1024 .f32) (x2 : FVec Ideal S4096x1024 .f32) (x3 : FVec Ideal S1x1024 .f32)
    (hp : Cert.Pre_finite10.fn (F := Ideal) x0 x1 x2 x3 = fun _ => 1#1) :
    ∃ A : Args, x0 = arr A.U ∧ x1 = arr A.W ∧ x2 = arr A.X ∧ x3 = (arr fun _ => A.G) := by
  unfold Cert.Pre_finite10.fn Cert.Pre_finite10.fn_part1 at hp
  obtain ⟨hp, h3⟩ := and_eq_one _ _ hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨r3, rfl⟩ := reals_of_reduce _ _ _ (fun i => ofBits_inf) _ _ (fun i => i.elim0) (congrFun h3 _)
  obtain ⟨X0, e0⟩ := eq_arr_of_real r0
  obtain ⟨X1, e1⟩ := eq_arr_of_real r1
  obtain ⟨X2, e2⟩ := eq_arr_of_real r2
  obtain ⟨X3, e3⟩ := eq_arr_of_real r3
  refine ⟨⟨X0, X1, X2, X3 0⟩, e0, e1, e2, e3.trans (eq_arr _ (fun _ => X3 0) fun z e => ?_)⟩
  obtain rfl : z = 0 := Subsingleton.elim _ _
  rfl

/-- The idealized kernel leaves the results and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v1_0) = arr (A c).x1
      ∧ r.2.mem ((c : Thread nD τ).loc main_v1_1) = arr (A c).y
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun _ k c => ⟨(k c).1.trans (array4 (h c)), (k c).2.1.trans (array5 (h c)), (k c).2.2⟩)
    (Cert.Kernel10Ideal.Value.run_blocks (F := Ideal) m ρ)

/-- The idealized kernel and the reference leave the same results. -/
theorem algebraic [Cert.Pre_finite10.Facts] : Cert.algebraic_Kernel10Ideal_Reference10Ideal_pre_finite10 := by
  intro m ρ m' ρ' hpre hagree
  choose A hA using fun c => args_of_pre _ _ _ _ (hpre c)
  refine ⟨fun c => arr (A c).x1, fun c => arr (A c).y,
    kernel_run m ρ A fun c => ⟨(hA c).1, (hA c).2.1, (hA c).2.2.1, (hA c).2.2.2⟩, ?_⟩
  refine (θ_run Cert.Reference10Ideal.defs _ _).mono (fun _ h c => ?_) (Cert.Reference10Ideal.Value.run (F := Ideal) m' ρ')
  obtain ⟨h0, h1, hargs⟩ := h c
  obtain ⟨g0, g1, g2, g3⟩ := hagree c
  obtain ⟨a0, a1, a2, a3⟩ := hA c
  have b0 := g0.trans a0
  have b1 := g1.trans a1
  have b2 := g2.trans a2
  have b3 := g3.trans a3
  refine ⟨(h0.trans (val_main_v1_eq _ _ _ )).trans ?_, (h1.trans (val_main_v16_eq _ _ _ _ )).trans ?_, hargs⟩
  · refine Eq.trans ?_ (ref_x1 (A c)); rw [← b0, ← b1, ← b2]
  · refine Eq.trans ?_ (ref_y (A c)); rw [← b0, ← b1, ← b2, ← b3]

/-- The idealized reference runs and ends quiescent. -/
theorem quiescent_reference : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

end Cert.Proof.OutProj

end
-- ==== Proof.Up.Value.lean ====
module

public import proofs.«01_k».proof.Proof.Lib.Rows
public import proofs.«01_k».proof.Proof.Gen.Reference11Ideal.Read
public import proofs.«01_k».proof.Proof.Gen.Kernel11Ideal.Skeleton
public import Idealize.ShloMosaic.Lib.Pointwise

@[expose] public section

noncomputable section

namespace Cert.Proof.Up

open Idealize.ShloMosaic Idealize.ShloMosaic.Pointwise Reals Attn Gate Norm

/-- The arguments of the gated product: the rows and the two weights. -/
structure Args where
  H : ℕ → ℕ → ℝ
  P : ℕ → ℕ → ℝ
  Q : ℕ → ℕ → ℝ

namespace Args

variable (A : Args)

/-- The two products, and the gated one. -/
def g (r x : ℕ) : ℝ := ∑ k : Fin 1024, A.H r k * A.P k x
def u (r x : ℕ) : ℝ := ∑ k : Fin 1024, A.H r k * A.Q k x
def a (r x : ℕ) : ℝ := A.g r x * sg (A.g r x) * A.u r x

end Args

section kernel

open Cert.Kernel11Ideal Cert.Kernel11Ideal.Gen

/-- What one grid point writes, of tiles whose entries are real: the first product, -/
theorem tile_g (H W : ℕ → ℕ → ℝ) : k0_pay2 (F := Ideal) (arr H) (arr W) = arr fun r x => ∑ k : Fin 1024, H r k * W x k := by
  refine eq_arr _ _ fun a b => ?_
  pointwise [k0_pay2, k0_pay1]
  simp only [arr_ix2, ← EReal.coe_mul, sum_coe]
theorem tile_u (H W : ℕ → ℕ → ℝ) : k0_pay3 (F := Ideal) (arr H) (arr W) = arr fun r x => ∑ k : Fin 1024, H r k * W x k := by
  refine eq_arr _ _ fun a b => ?_
  pointwise [k0_pay3, k0_pay1]
  simp only [arr_ix2, ← EReal.coe_mul, sum_coe]
theorem tile_gate (H W : ℕ → ℕ → ℝ) : k0_pay4 (F := Ideal) (arr H) (arr W) = arr fun r x => ∑ k : Fin 1024, H r k * W x k := by
  refine eq_arr _ _ fun a b => ?_
  pointwise [k0_pay4]
  rw [tile_g]
  simp only [arr_ix2]
/-- the second, -/
theorem tile_up (H W : ℕ → ℕ → ℝ) : k0_pay5 (F := Ideal) (arr H) (arr W) = arr fun r x => ∑ k : Fin 1024, H r k * W x k := by
  refine eq_arr _ _ fun a b => ?_
  pointwise [k0_pay5]
  rw [tile_u]
  simp only [arr_ix2]
/-- and the gated one. -/
theorem tile_act (H W Z : ℕ → ℕ → ℝ) : k0_pay6 (F := Ideal) (arr H) (arr W) (arr Z)
    = arr fun r x => (∑ k : Fin 1024, H r k * W x k) * sg (∑ k : Fin 1024, H r k * W x k) * ∑ k : Fin 1024, H r k * Z x k := by
  refine eq_arr _ _ fun a b => ?_
  pointwise [k0_pay6]
  rw [tile_g, tile_u]
  simp only [arr_ix2, half_bits, ← EReal.coe_mul, tanh_coe, ← EReal.coe_add, sg_tanh]

end kernel

section reference

open Cert.Reference11Ideal Cert.Reference11Ideal.Gen Cert.Reference11Ideal.Read

variable (A : Args)

/-- The reference's two products, -/
theorem ref_g0 : val_main_v0 (F := Ideal) (arr A.H) (arr A.P) = arr A.g := by
  refine eq_arr _ _ fun a b => ?_
  pointwise [val_main_v0]
  simp only [arr_ix2, ← EReal.coe_mul, sum_coe]
  rfl
theorem ref_u0 : val_main_v1 (F := Ideal) (arr A.H) (arr A.Q) = arr A.u := by
  refine eq_arr _ _ fun a b => ?_
  pointwise [val_main_v1]
  simp only [arr_ix2, ← EReal.coe_mul, sum_coe]
  rfl
theorem ref_g : val_main_v2 (F := Ideal) (arr A.H) (arr A.P) = arr A.g := by
  refine eq_arr _ _ fun a b => ?_
  pointwise [val_main_v2]
  rw [ref_g0]
  simp only [arr_ix2]
theorem ref_u : val_main_v3 (F := Ideal) (arr A.H) (arr A.Q) = arr A.u := by
  refine eq_arr _ _ fun a b => ?_
  pointwise [val_main_v3]
  rw [ref_u0]
  simp only [arr_ix2]
/-- and its gated product. -/
theorem ref_a : val_main_v6 (F := Ideal) (arr A.H) (arr A.P) (arr A.Q) = arr A.a := by
  refine eq_arr _ _ fun a b => ?_
  pointwise [val_main_v6, val_main_v5, val_main_v4, val_main_call0_v5, val_main_call0_v4, val_main_call0_v3, val_main_call0_v2, val_main_call0_v1, val_main_call0_v0, val_main_call0_cst, val_main_call0_cst_0]
  rw [ref_g0, ref_u0]
  simp only [arr_ix2, ofBits_one, sg_div, ← EReal.coe_mul]
  rfl

end reference

end Cert.Proof.Up

end
-- ==== Proof.Up.Claims.lean ====
module

public import proofs.«01_k».proof.Proof.Up.Value
public import proofs.«01_k».proof.Proof.Gen.Kernel11Ideal.Value
public import proofs.«01_k».proof.Proof.Attn.Algebraic
public import proofs.«01_k».proof.Proof.Gen.Reference11Ideal.Run
public import Idealize.ShloMosaic.Lib.Pipeline.ValueKit
public import Idealize.ShloMosaic.Lib.StableHlo.Run

@[expose] public section

noncomputable section

namespace Cert.Proof.Up

open Cert.Kernel11Ideal Cert.Kernel11Ideal.Gen
open Idealize.ShloMosaic Idealize.ShloMosaic.TcCoe Idealize.ShloMosaic.Pointwise Reals Attn Gate
open Idealize.SL.Sem
open Cert.Reference11Ideal.Read

attribute [local instance] Cert.Kernel11Ideal.Gen.facts Cert.Reference11Ideal.Gen.facts

set_option maxRecDepth 8192

/-! ### The host's lines before the call -/

section host

variable (U : Valuation τ sig (Elt Ideal))

/-- A weight the other way round. -/
def turned (w : (⟨S1024x2816, .f32⟩ : BufTy).Contents (Elt Ideal)) : (⟨S2816x1024, .bf16⟩ : BufTy).Contents (Elt Ideal) :=
  truncf (F := Ideal) .bf16 (transpose S2816x1024 [1, 0] w transposes_S1024x2816_S2816x1024_1_0) bitsLt_bf16_f32

theorem host_p : StableHlo.after (List.flatten [hostOps0]) U (Proc.devRef .tc main_v1) = turned (U (Proc.devRef .tc main_arg1)) := by
  simp only [List.flatten_cons, List.flatten_nil, List.append_nil, hostOps0]; after_results_simp; rfl
theorem host_q : StableHlo.after (List.flatten [hostOps0]) U (Proc.devRef .tc main_v3) = turned (U (Proc.devRef .tc main_arg2)) := by
  simp only [List.flatten_cons, List.flatten_nil, List.append_nil, hostOps0]; after_results_simp; rfl
theorem host_h : StableHlo.after (List.flatten [hostOps0]) U (Proc.devRef .tc main_v4) = U (Proc.devRef .tc main_arg0) := by
  simp only [List.flatten_cons, List.flatten_nil, List.append_nil, hostOps0]; after_results_simp; rfl

theorem turned_eq (X : ℕ → ℕ → ℝ) : turned (arr X) = arr fun k x => X x k := by
  refine eq_arr _ _ fun a b => ?_
  pointwise [turned]
  simp only [arr_ix2]

end host

/-! ### Each window's place on the grid, and its block -/

theorem at0 : ∀ t : Fin cfg0.N, win0_0.index t (0 : Fin 2) = t.val / 2 ∧ win0_0.index t (1 : Fin 2) = 0 :=
  (by decide +kernel : ∀ t : Fin grid0.N, _)
theorem at1 : ∀ t : Fin cfg0.N, win0_1.index t (0 : Fin 2) = t.val % 2 ∧ win0_1.index t (1 : Fin 2) = 0 :=
  (by decide +kernel : ∀ t : Fin grid0.N, _)
theorem at2 : ∀ t : Fin cfg0.N, win0_2.index t (0 : Fin 2) = t.val % 2 ∧ win0_2.index t (1 : Fin 2) = 0 :=
  (by decide +kernel : ∀ t : Fin grid0.N, _)
theorem at3 : ∀ t : Fin cfg0.N, win0_3.index t (0 : Fin 2) = t.val / 2 ∧ win0_3.index t (1 : Fin 2) = t.val % 2 :=
  (by decide +kernel : ∀ t : Fin grid0.N, _)
theorem at4 : ∀ t : Fin cfg0.N, win0_4.index t (0 : Fin 2) = t.val / 2 ∧ win0_4.index t (1 : Fin 2) = t.val % 2 :=
  (by decide +kernel : ∀ t : Fin grid0.N, _)
theorem at5 : ∀ t : Fin cfg0.N, win0_5.index t (0 : Fin 2) = t.val / 2 ∧ win0_5.index t (1 : Fin 2) = t.val % 2 :=
  (by decide +kernel : ∀ t : Fin grid0.N, _)

variable (m : (ℓ : Loc nD τ sig) → Buf (Elt Ideal) ℓ) (c : Dev nD)

theorem block0 (X : ℕ → ℕ → ℝ) (hV : V m c main_v4 = arr X) (t : Fin cfg0.N) :
    iblk m c 0 t = arr fun r x => X ((t.val / 2) * 512 + r) ((0) * 1024 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 512 + 1 * (j 0).val) (win0_0.index t (1 : Fin 2) * 1024 + 1 * (j 1).val) : ℝ) : EReal) = ((X _ _ : ℝ) : EReal)
  rw [e0, e1, one_mul, one_mul]
theorem block1 (X : ℕ → ℕ → ℝ) (hV : V m c main_v1 = arr X) (t : Fin cfg0.N) :
    iblk m c 1 t = arr fun r x => X ((t.val % 2) * 1408 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 1408 + 1 * (j 0).val) (win0_1.index t (1 : Fin 2) * 1024 + 1 * (j 1).val) : ℝ) : EReal) = ((X _ _ : ℝ) : EReal)
  rw [e0, e1, one_mul, one_mul]
theorem block2 (X : ℕ → ℕ → ℝ) (hV : V m c main_v3 = arr X) (t : Fin cfg0.N) :
    iblk m c 2 t = arr fun r x => X ((t.val % 2) * 1408 + r) ((0) * 1024 + x) := by
  obtain ⟨e0, e1⟩ := at2 t
  have hV' : V m c (Pipeline.arrRef spec0 2) = arr X := hV
  unfold iblk
  generalize V m c (Pipeline.arrRef spec0 2) = W at hV'
  subst hV'
  funext j
  show ((X (win0_2.index t (0 : Fin 2) * 1408 + 1 * (j 0).val) (win0_2.index t (1 : Fin 2) * 1024 + 1 * (j 1).val) : ℝ) : EReal) = ((X _ _ : ℝ) : EReal)
  rw [e0, e1, one_mul, one_mul]

/-- The arguments' arrays are the given reals. -/
structure Given (A : Args) : Prop where
  x0 : m ((c : Thread nD τ).loc main_arg0) = arr A.H
  x1 : m ((c : Thread nD τ).loc main_arg1) = arr A.P
  x2 : m ((c : Thread nD τ).loc main_arg2) = arr A.Q

variable {m c} {A : Args} (h : Given m c A)

include h

theorem V_0 : V m c main_v4 = arr A.H := (host_h (fun b => m (c, b))).trans h.x0
theorem V_1 : V m c main_v1 = arr fun x k => A.P k x := by
  refine (host_p (fun b => m (c, b))).trans ?_
  show turned (m ((c : Thread nD τ).loc main_arg1)) = _
  rw [h.x1, turned_eq]
theorem V_2 : V m c main_v3 = arr fun x k => A.Q k x := by
  refine (host_q (fun b => m (c, b))).trans ?_
  show turned (m ((c : Thread nD τ).loc main_arg2)) = _
  rw [h.x2, turned_eq]

/-! ### The arrays the call returns -/

/-- What point `t` leaves for output window 3. -/
theorem out3 (t : Fin cfg0.N) : out0_3 (iblk m c 0 t) (iblk m c 1 t) (iblk m c 2 t) = arr fun r x => A.g ((t.val / 2) * 512 + r) ((t.val % 2) * 1408 + x) := by
  have e : out0_3 (iblk m c 0 t) (iblk m c 1 t) (iblk m c 2 t) = k0_pay4 (F := Ideal) (iblk m c 0 t) (iblk m c 1 t) := by
    unfold out0_3
    frame_out
  rw [e, block0 m c _ (V_0 h), block1 m c _ (V_1 h), tile_gate]
  refine arr_congr _ _ fun r x _ _ => ?_
  simp only [Nat.zero_mul, Nat.zero_add]
  rfl
theorem array3 : (dats m 0 c).arrAt 3 cfg0.N = arr A.g := by
  refine Pipeline.Dat.arrAt_eq_of_cover _ 3 _ (fun t _ => ?_) fun i => ?_
  · obtain ⟨e0, e1⟩ := at3 t
    show (cfg0.win 3).cut (grid0.coords t) ((dats m 0 c).after 3 t) = _
    rw [Cert.Kernel11Ideal.Gen.after0_3, out3 h]
    funext j
    show ((A.g ((t.val / 2) * 512 + (j 0).val) ((t.val % 2) * 1408 + (j 1).val) : ℝ) : EReal)
      = ((A.g (win0_3.index t (0 : Fin 2) * 512 + 1 * (j 0).val) (win0_3.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 0).val / 512 * 2 + (i 1).val / 1408, show _ < 16 by omega⟩
    obtain ⟨e0, e1⟩ := at3 t
    have ht : t.val = (i 0).val / 512 * 2 + (i 1).val / 1408 := rfl
    refine ⟨t, flush0_3 t, ?_⟩
    have hm := ((cfg0.win 3).blk t).view.emb_mem_set (ix2 ⟨(i 0).val % 512, by omega⟩ ⟨(i 1).val % 1408, by omega⟩)
    refine Eq.subst (motive := fun k => k ∈ ((cfg0.win 3).blk t).view.set) ?_ hm
    funext a; apply Fin.ext
    match a with
    | ⟨0, _⟩ => show win0_3.index t (0 : Fin 2) * 512 + 1 * ((i 0).val % 512) = (i 0).val; omega
    | ⟨1, _⟩ => show win0_3.index t (1 : Fin 2) * 1408 + 1 * ((i 1).val % 1408) = (i 1).val; omega

/-- What point `t` leaves for output window 4. -/
theorem out4 (t : Fin cfg0.N) : out0_4 (iblk m c 0 t) (iblk m c 1 t) (iblk m c 2 t) = arr fun r x => A.u ((t.val / 2) * 512 + r) ((t.val % 2) * 1408 + x) := by
  have e : out0_4 (iblk m c 0 t) (iblk m c 1 t) (iblk m c 2 t) = k0_pay5 (F := Ideal) (iblk m c 0 t) (iblk m c 2 t) := by
    unfold out0_4
    frame_out
  rw [e, block0 m c _ (V_0 h), block2 m c _ (V_2 h), tile_up]
  refine arr_congr _ _ fun r x _ _ => ?_
  simp only [Nat.zero_mul, Nat.zero_add]
  rfl
theorem array4 : (dats m 0 c).arrAt 4 cfg0.N = arr A.u := by
  refine Pipeline.Dat.arrAt_eq_of_cover _ 4 _ (fun t _ => ?_) fun i => ?_
  · obtain ⟨e0, e1⟩ := at4 t
    show (cfg0.win 4).cut (grid0.coords t) ((dats m 0 c).after 4 t) = _
    rw [Cert.Kernel11Ideal.Gen.after0_4, out4 h]
    funext j
    show ((A.u ((t.val / 2) * 512 + (j 0).val) ((t.val % 2) * 1408 + (j 1).val) : ℝ) : EReal)
      = ((A.u (win0_4.index t (0 : Fin 2) * 512 + 1 * (j 0).val) (win0_4.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 0).val / 512 * 2 + (i 1).val / 1408, show _ < 16 by omega⟩
    obtain ⟨e0, e1⟩ := at4 t
    have ht : t.val = (i 0).val / 512 * 2 + (i 1).val / 1408 := rfl
    refine ⟨t, flush0_4 t, ?_⟩
    have hm := ((cfg0.win 4).blk t).view.emb_mem_set (ix2 ⟨(i 0).val % 512, by omega⟩ ⟨(i 1).val % 1408, by omega⟩)
    refine Eq.subst (motive := fun k => k ∈ ((cfg0.win 4).blk t).view.set) ?_ hm
    funext a; apply Fin.ext
    match a with
    | ⟨0, _⟩ => show win0_4.index t (0 : Fin 2) * 512 + 1 * ((i 0).val % 512) = (i 0).val; omega
    | ⟨1, _⟩ => show win0_4.index t (1 : Fin 2) * 1408 + 1 * ((i 1).val % 1408) = (i 1).val; omega

/-- What point `t` leaves for output window 5. -/
theorem out5 (t : Fin cfg0.N) : out0_5 (iblk m c 0 t) (iblk m c 1 t) (iblk m c 2 t) = arr fun r x => A.a ((t.val / 2) * 512 + r) ((t.val % 2) * 1408 + x) := by
  have e : out0_5 (iblk m c 0 t) (iblk m c 1 t) (iblk m c 2 t) = k0_pay6 (F := Ideal) (iblk m c 0 t) (iblk m c 1 t) (iblk m c 2 t) := by
    unfold out0_5
    frame_out
  rw [e, block0 m c _ (V_0 h), block1 m c _ (V_1 h), block2 m c _ (V_2 h), tile_act]
  refine arr_congr _ _ fun r x _ _ => ?_
  simp only [Nat.zero_mul, Nat.zero_add]
  rfl
theorem array5 : (dats m 0 c).arrAt 5 cfg0.N = arr A.a := by
  refine Pipeline.Dat.arrAt_eq_of_cover _ 5 _ (fun t _ => ?_) fun i => ?_
  · obtain ⟨e0, e1⟩ := at5 t
    show (cfg0.win 5).cut (grid0.coords t) ((dats m 0 c).after 5 t) = _
    rw [Cert.Kernel11Ideal.Gen.after0_5, out5 h]
    funext j
    show ((A.a ((t.val / 2) * 512 + (j 0).val) ((t.val % 2) * 1408 + (j 1).val) : ℝ) : EReal)
      = ((A.a (win0_5.index t (0 : Fin 2) * 512 + 1 * (j 0).val) (win0_5.index t (1 : Fin 2) * 1408 + 1 * (j 1).val) : ℝ) : EReal)
    rw [e0, e1, one_mul, one_mul]
  · have h0 : (i 0).val < 4096 := (i 0).isLt
    have h1 : (i 1).val < 2816 := (i 1).isLt
    let t : Fin cfg0.N := ⟨(i 0).val / 512 * 2 + (i 1).val / 1408, show _ < 16 by omega⟩
    obtain ⟨e0, e1⟩ := at5 t
    have ht : t.val = (i 0).val / 512 * 2 + (i 1).val / 1408 := rfl
    refine ⟨t, flush0_5 t, ?_⟩
    have hm := ((cfg0.win 5).blk t).view.emb_mem_set (ix2 ⟨(i 0).val % 512, by omega⟩ ⟨(i 1).val % 1408, by omega⟩)
    refine Eq.subst (motive := fun k => k ∈ ((cfg0.win 5).blk t).view.set) ?_ hm
    funext a; apply Fin.ext
    match a with
    | ⟨0, _⟩ => show win0_5.index t (0 : Fin 2) * 512 + 1 * ((i 0).val % 512) = (i 0).val; omega
    | ⟨1, _⟩ => show win0_5.index t (1 : Fin 2) * 1408 + 1 * ((i 1).val % 1408) = (i 1).val; omega

omit h

/-! ### The claims -/

/-- The shape facts the precondition states. -/
theorem pre_facts : Cert.Pre_finite11.Facts := ⟨by decide, by decide, by decide, by decide, by decide⟩

instance : Subsingleton Cert.Pre_finite11.S_.Idx := ⟨fun a b => funext fun i => i.elim0⟩

/-- Finite arguments are arrays of reals. -/
theorem args_of_pre [Cert.Pre_finite11.Facts] (x0 : FVec Ideal S4096x1024 .f32) (x1 : FVec Ideal S1024x2816 .f32) (x2 : FVec Ideal S1024x2816 .f32)
    (hp : Cert.Pre_finite11.fn (F := Ideal) x0 x1 x2 = fun _ => 1#1) :
    ∃ A : Args, x0 = arr A.H ∧ x1 = arr A.P ∧ x2 = arr A.Q := by
  unfold Cert.Pre_finite11.fn at hp
  obtain ⟨hp, h2⟩ := and_eq_one _ _ hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨r2, rfl⟩ := reals_of_reduce _ _ _ (fun i => ofBits_inf) _ _ (fun i => i.elim0) (congrFun h2 _)
  obtain ⟨X0, e0⟩ := eq_arr_of_real r0
  obtain ⟨X1, e1⟩ := eq_arr_of_real r1
  obtain ⟨X2, e2⟩ := eq_arr_of_real r2
  exact ⟨⟨X0, X1, X2⟩, e0, e1, e2⟩

/-- The idealized kernel leaves the results and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v5_0) = arr (A c).g
      ∧ r.2.mem ((c : Thread nD τ).loc main_v5_1) = arr (A c).u
      ∧ r.2.mem ((c : Thread nD τ).loc main_v5_2) = arr (A c).a
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run _ _ _).mono (fun _ k c => ⟨(k c).1.trans (array3 (h c)), (k c).2.1.trans (array4 (h c)), (k c).2.2.1.trans (array5 (h c)), (k c).2.2.2⟩)
    (Cert.Kernel11Ideal.Value.run_blocks (F := Ideal) m ρ)

/-- The idealized kernel and the reference leave the same results. -/
theorem algebraic [Cert.Pre_finite11.Facts] : Cert.algebraic_Kernel11Ideal_Reference11Ideal_pre_finite11 := by
  intro m ρ m' ρ' hpre hagree
  choose A hA using fun c => args_of_pre _ _ _ (hpre c)
  refine ⟨fun c => arr (A c).g, fun c => arr (A c).u, fun c => arr (A c).a,
    kernel_run m ρ A fun c => ⟨(hA c).1, (hA c).2.1, (hA c).2.2⟩, ?_⟩
  refine (θ_run Cert.Reference11Ideal.defs _ _).mono (fun _ h c => ?_) (Cert.Reference11Ideal.Value.run (F := Ideal) m' ρ')
  obtain ⟨h0, h1, h2, hargs⟩ := h c
  obtain ⟨g0, g1, g2⟩ := hagree c
  obtain ⟨a0, a1, a2⟩ := hA c
  have b0 := g0.trans a0
  have b1 := g1.trans a1
  have b2 := g2.trans a2
  refine ⟨(h0.trans (val_main_v2_eq _ _ )).trans ?_, (h1.trans (val_main_v3_eq _ _ )).trans ?_, (h2.trans (val_main_v6_eq _ _ _ )).trans ?_, hargs⟩
  · refine Eq.trans ?_ (ref_g (A c)); rw [← b0, ← b1]
  · refine Eq.trans ?_ (ref_u (A c)); rw [← b0, ← b2]
  · refine Eq.trans ?_ (ref_a (A c)); rw [← b0, ← b1, ← b2]

/-- The idealized reference runs and ends quiescent. -/
theorem quiescent_reference : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

end Cert.Proof.Up

end
-- ==== Proof.LbFwd.Claims.lean ====
module

public import proofs.«01_k».proof.Defs
public import proofs.«01_k».proof.Proof.Lb.Claims
public import proofs.«01_k».proof.Proof.Gen.Kernel12Ideal.Value
public import proofs.«01_k».proof.Proof.Gen.Reference12Ideal.Read
public import proofs.«01_k».proof.Proof.Gen.Reference12Ideal.Run

@[expose] public section

noncomputable section

namespace Cert.Proof.LbFwd

open Idealize.ShloMosaic Idealize.SL.Sem Cert.Proof.Reals Cert.Proof.Lb
open Idealize.ShloMosaic.Pointwise
open Cert.Reference12Ideal.Read

/-- The first row of the table's softmax over the rows. -/
def bound (x : T.Idx → ℝ) (j : Fin 512) : ℝ :=
  let m := max (x (ix2 0 j)) (x (ix2 1 j))
  Real.exp (x (ix2 0 j) - m) / (Real.exp (x (ix2 0 j) - m) + Real.exp (x (ix2 1 j) - m))

/-- The kernel's output, at real arguments. -/
theorem kernel_eq (x : T.Idx → ℝ) (i : Fin 1) (j : Fin 512) :
    Cert.Kernel12Ideal.Value.G1 (F := Ideal) (fun i => (x i : EReal)) (ix2 i j) = ((bound x j : ℝ) : EReal) := by
  have hs : Real.exp (x (ix2 0 j) - max (x (ix2 0 j)) (x (ix2 1 j))) + Real.exp (x (ix2 1 j) - max (x (ix2 0 j)) (x (ix2 1 j))) ≠ 0 := by positivity
  pointwise [Cert.Kernel12Ideal.Value.G1, Cert.Kernel12Ideal.Gen.k0_pay1]
  simp only [fold_max, Fin.sum_univ_two, ← EReal.coe_sub, exp_coe, ← EReal.coe_add, div_coe _ _ hs]
  obtain rfl : i = 0 := Subsingleton.elim _ _
  rfl

/-- The reference's softmax, at real arguments. -/
theorem softmax_eq (x : T.Idx → ℝ) (j : Fin 512) :
    val_main_v10 (F := Ideal) (fun i => (x i : EReal)) (ix2 0 j) = ((bound x j : ℝ) : EReal) := by
  have hs : Real.exp (x (ix2 0 j) - max (x (ix2 0 j)) (x (ix2 1 j))) + Real.exp (x (ix2 1 j) - max (x (ix2 0 j)) (x (ix2 1 j))) ≠ 0 := by positivity
  pointwise [val_main_v10, val_main_v9, val_main_v8, val_main_v7, val_main_v6, val_main_v5, val_main_v4, val_main_v3, val_main_v2, val_main_v1, val_main_v0,
    val_main_cst, val_main_cst_0, val_main_cst_1]
  simp only [fold_max]
  simp only [ofBits_neg_inf, max_bot_left, Fin.sum_univ_two, ← EReal.coe_sub, exp_coe, ← EReal.coe_add, div_coe _ _ hs]
  rfl

/-- The first row of the reference's running sum is the first row of what is summed. -/
theorem sum_eq (x : T.Idx → ℝ) (j : Fin 512) :
    val_main_v11 (F := Ideal) (fun i => (x i : EReal)) (ix2 0 j) = ((bound x j : ℝ) : EReal) := by
  have h0 : val_main_call0_call0_v0 (F := Ideal) (Shape.Idx.first Cert.Reference12Ideal.Gen.h_S_) = 0 := by
    pointwise [val_main_call0_call0_v0, val_main_call0_call0_cst]
  have hsym : ∀ n : Fin 2, (⟨2, ![2, 1]⟩ : Shape).rowMajor.symm n = ix2 n 0 := by
    intro n
    obtain rfl | rfl : n = 0 ∨ n = 1 := by omega
    all_goals
      funext a
      match a with
      | ⟨0, _⟩ => rfl
      | ⟨1, _⟩ => rfl
  have hrow : ∀ (h : ∀ a, ((ix2 (0 : Fin 2) j : T.Idx) a).val * ![1, 1] a + ((⟨2, ![2, 1]⟩ : Shape).rowMajor.symm (1 : Fin 2) a).val - ![1, 0] a < T.size a),
      (fun a => ⟨((ix2 (0 : Fin 2) j : T.Idx) a).val * ![1, 1] a + ((⟨2, ![2, 1]⟩ : Shape).rowMajor.symm (1 : Fin 2) a).val - ![1, 0] a, h a⟩ : T.Idx) = ix2 0 j := by
    intro h
    funext a
    match a with
    | ⟨0, _⟩ => exact Fin.ext (show 0 * 1 + ((⟨2, ![2, 1]⟩ : Shape).rowMajor.symm (1 : Fin 2) 0).val - 1 = 0 by rw [hsym]; rfl)
    | ⟨1, _⟩ => exact Fin.ext (show j.val * 1 + ((⟨2, ![2, 1]⟩ : Shape).rowMajor.symm (1 : Fin 2) 1).val - 0 = j.val by rw [hsym]; show j.val * 1 + 0 - 0 = _; omega)
  have hin : ∀ a : Fin 2, (![1, 0] : Fin 2 → Nat) a ≤ ((ix2 (0 : Fin 2) j : T.Idx) a).val * ![1, 1] a + ((⟨2, ![2, 1]⟩ : Shape).rowMajor.symm (1 : Fin 2) a).val
      ∧ ((ix2 (0 : Fin 2) j : T.Idx) a).val * ![1, 1] a + ((⟨2, ![2, 1]⟩ : Shape).rowMajor.symm (1 : Fin 2) a).val - ![1, 0] a < T.size a := by
    intro a
    match a with
    | ⟨0, _⟩ => exact ⟨show 1 ≤ 0 * 1 + ((⟨2, ![2, 1]⟩ : Shape).rowMajor.symm (1 : Fin 2) 0).val by rw [hsym]; exact le_refl 1,
        show 0 * 1 + ((⟨2, ![2, 1]⟩ : Shape).rowMajor.symm (1 : Fin 2) 0).val - 1 < 2 by rw [hsym]; decide⟩
    | ⟨1, _⟩ => exact ⟨Nat.zero_le _, show j.val * 1 + ((⟨2, ![2, 1]⟩ : Shape).rowMajor.symm (1 : Fin 2) 1).val - 0 < 512 by rw [hsym]; show j.val * 1 + 0 - 0 < _; omega⟩
  have hout : ¬ ∀ a : Fin 2, (![1, 0] : Fin 2 → Nat) a ≤ ((ix2 (0 : Fin 2) j : T.Idx) a).val * ![1, 1] a + ((⟨2, ![2, 1]⟩ : Shape).rowMajor.symm (0 : Fin 2) a).val
      ∧ ((ix2 (0 : Fin 2) j : T.Idx) a).val * ![1, 1] a + ((⟨2, ![2, 1]⟩ : Shape).rowMajor.symm (0 : Fin 2) a).val - ![1, 0] a < T.size a := fun h =>
    absurd (h 0).1 (show ¬ (1 ≤ 0 * 1 + ((⟨2, ![2, 1]⟩ : Shape).rowMajor.symm (0 : Fin 2) 0).val) by rw [hsym]; decide)
  unfold val_main_v11 Host.reduceWindowAdd
  rw [Ideal.hostReduceWindowAdd_def, h0]
  unfold Ideal.hostReduceWindowAdd Host.reduceWindow
  dsimp only
  rw [show List.finRange (Shape.numel ⟨2, ![2, 1]⟩) = [⟨0, by decide⟩, ⟨1, by decide⟩] by rfl]
  simp only [List.foldl_cons, List.foldl_nil]
  refine Eq.trans (congrArg₂ (· + ·) (congrArg₂ (· + ·) rfl (dif_neg hout))
    ((dif_pos hin).trans (congrArg (val_main_v10 (F := Ideal) fun i => (x i : EReal)) (hrow _)))) ?_
  rw [softmax_eq, add_zero, zero_add]

/-- The reference's result, at real arguments. -/
theorem reference_eq (x : T.Idx → ℝ) (i : Fin 1) (j : Fin 512) :
    val_main_v12 (F := Ideal) (fun i => (x i : EReal)) (ix2 i j) = ((bound x j : ℝ) : EReal) := by
  obtain rfl : i = 0 := Subsingleton.elim _ _
  pointwise [val_main_v12]
  exact sum_eq x j

/-- The shape facts the precondition states. -/
theorem pre_facts : Cert.Pre_finite12.Facts := ⟨by decide, by decide, by decide⟩

/-- An array with one index per axis of size none has one index. -/
instance : Subsingleton Cert.Pre_finite12.S_.Idx := ⟨fun a b => funext fun i => i.elim0⟩

/-- The precondition says that the table is real everywhere. -/
theorem reals_of_pre [h : Cert.Pre_finite12.Facts] (x0 : FVec Ideal T .f32) (hp : Cert.Pre_finite12.fn (F := Ideal) x0 = fun _ => 1#1) :
    ∃ x : T.Idx → ℝ, x0 = fun i => (x i : EReal) := by
  unfold Cert.Pre_finite12.fn at hp
  exact reals_of_reduce _ _ _ (fun i => ofBits_inf) _ _ (fun i => i.elim0) (congrFun hp _)

/-- The idealized kernel and the reference leave the same lower bounds. -/
theorem algebraic [Cert.Pre_finite12.Facts] : Cert.algebraic_Kernel12Ideal_Reference12Ideal_pre_finite12 := by
  intro m ρ m' ρ' hpre hagree
  refine ⟨_, Cert.Kernel12Ideal.Value.run (F := Ideal) m ρ, ?_⟩
  refine (θ_run Cert.Reference12Ideal.defs _ _).mono (fun _ h c => ⟨?_, (h c).2⟩) (Cert.Reference12Ideal.Value.run (F := Ideal) m' ρ')
  rw [(h c).1, hagree c, val_main_v12_eq]
  obtain ⟨x, hx⟩ := reals_of_pre _ (hpre c)
  funext i
  rw [hx, eq_ix2 i]
  exact (reference_eq x _ _).trans (kernel_eq x _ _).symm

/-- The idealized reference runs and ends quiescent. -/
theorem quiescent_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Proof.LbFwd

end
-- ==== Proof.Expand.Value.lean ====
module

public import proofs.«01_k».proof.Proof.Fold.Value
public import proofs.«01_k».proof.Proof.Attn.Arrays
public import proofs.«01_k».proof.Proof.Gen.Kernel13Ideal.Skeleton
public import proofs.«01_k».proof.Proof.Gen.Reference13Ideal.Read
public import Idealize.ShloMosaic.Lib.Pointwise

@[expose] public section

noncomputable section

namespace Cert.Proof.Expand

open Idealize.ShloMosaic Idealize.ShloMosaic.TcCoe Idealize.ShloMosaic.Pointwise Reals Attn
open Fold (place place_range place_toInt place_le int_coe eq_of_vals)
open Cert.Kernel13Ideal Cert.Kernel13Ideal.Gen
open Cert.Reference13Ideal.Read

attribute [local instance] Cert.Kernel13Ideal.Gen.facts Cert.Reference13Ideal.Gen.facts

/-- The row of the bias table that query `t` of a chunk and key `s` of its band read. -/
def row (t s : ℕ) : ℕ := (place (BitVec.ofNat 32 t + 576#32 - BitVec.ofNat 32 s)).toNat

/-- No row lies past the table. -/
theorem row_le (t s : ℕ) : row t s ≤ 256 := place_le _

/-- The bias of every query, head and key. -/
def bias (B : ℕ → ℕ → ℝ) (t h s : ℕ) : ℝ := B h (row t s)

/-! ### The reference -/

/-- The row the reference reads for a query and a key. -/
theorem ref_row (t : Fin 64) (s : Fin 640) : val_main_v17 (F := Ideal) (ix3 t s 0) = place (BitVec.ofNat 32 t + 576#32 - BitVec.ofNat 32 s) := by
  rw [val_main_v17_apply, val_main_v16_apply, val_main_v13_apply]
  have e : ∀ j, val_main_v11 (F := Ideal) j = place (BitVec.ofNat 32 (j 0).val + 576#32 - BitVec.ofNat 32 (j 1).val) := by
    intro j
    rw [val_main_v11_apply, val_main_v10_apply, val_main_v9_apply, val_main_call0_v4_apply, val_main_call0_v2_apply, val_main_call0_v1_apply, val_main_v8_apply,
      val_main_v7_apply, val_main_v6_apply, val_main_v5_apply, val_main_v3_apply, val_main_v2_apply, val_main_v1_apply, val_main_v4_apply]
    rfl
  rw [e, val_main_v12_apply]
  have hn : (place (BitVec.ofNat 32 t + 576#32 - BitVec.ofNat 32 s)).slt 0#32 = false := by
    have := (place_range (BitVec.ofNat 32 t + 576#32 - BitVec.ofNat 32 s)).1
    rw [Bool.eq_false_iff, ne_eq, BitVec.slt_iff_toInt_lt, BitVec.toInt_zero]
    omega
  show Scalar.select (BitVec.ofBool ((place (BitVec.ofNat 32 t + 576#32 - BitVec.ofNat 32 s)).slt 0#32)) _ _ = _
  rw [hn]
  rfl

abbrev dims := Cert.Reference13Ideal.gather_S8x257_S64x640x1_S8x64x640_0_1_n_n_1_2_81

section
variable (h : Fin 8) (t : Fin 64) (s : Fin 640)

/-- The slice starts at the first head, -/
theorem start0 : dims.start (ix3 h t s) (val_main_v17 (F := Ideal)) 0 = 0 := by
  unfold GatherDims.start
  rw [dif_neg (by decide)]

/-- at the row of the query and the key; -/
theorem start1 : dims.start (ix3 h t s) (val_main_v17 (F := Ideal)) 1 = row t.val s.val := by
  unfold GatherDims.start
  rw [dif_pos (by decide)]
  have e : dims.siIdx (ix3 h t s) ⟨dims.startIndexMap.idxOf 1, by decide⟩ = ix3 t s 0 := by
    funext b
    match b with
    | ⟨0, _⟩ => rfl
    | ⟨1, _⟩ => rfl
    | ⟨2, _⟩ => rfl
  have hr : row t.val s.val ≤ 256 := row_le _ _
  refine (congrArg (fun z => min (val_main_v17 (F := Ideal) z).toInt.toNat 256) e).trans ?_
  rw [ref_row, place_toInt, Int.toNat_natCast]
  exact Nat.min_eq_left hr

/-- the head is counted from there, -/
theorem off0 : dims.offCoord (ix3 h t s) 0 = h.val := by
  unfold GatherDims.offCoord
  rw [dif_pos (by decide)]
  rfl

/-- and the row is the slice's own. -/
theorem off1 : dims.offCoord (ix3 h t s) 1 = 0 := by
  unfold GatherDims.offCoord
  rw [dif_neg (by decide)]

/-- No axis goes with the batch. -/
theorem batch (a : Fin Cert.Reference13Ideal.S8x257.rank) : dims.batchCoord (ix3 h t s) a = 0 :=
  GatherDims.batchCoord_eq_zero _ _ _ List.not_mem_nil

/-- Where an element of the band's bias comes from. -/
theorem comes : dims.operandIdx (ix3 h t s) (val_main_v17 (F := Ideal)) = ix2 h ⟨row t.val s.val, Nat.lt_succ_of_le (row_le _ _)⟩ := by
  refine eq_of_vals _ h ⟨row t.val s.val, Nat.lt_succ_of_le (row_le _ _)⟩ ?_ ?_
  · show dims.start (ix3 h t s) (val_main_v17 (F := Ideal)) 0 + dims.batchCoord (ix3 h t s) 0 + dims.offCoord (ix3 h t s) 0 = h.val
    rw [start0, batch, off0]
    omega
  · show dims.start (ix3 h t s) (val_main_v17 (F := Ideal)) 1 + dims.batchCoord (ix3 h t s) 1 + dims.offCoord (ix3 h t s) 1 = row t.val s.val
    rw [start1, batch, off1]
    simp only [Nat.add_zero]

end

/-- The reference's bias. -/
theorem ref_bias (B : ℕ → ℕ → ℝ) : val_main_v19 (F := Ideal) (arr B) = arr3 (bias B) := by
  funext j
  obtain ⟨t, h, s, rfl⟩ : ∃ (t : Fin 64) (h : Fin 8) (s : Fin 640), j = ix3 t h s := ⟨j 0, j 1, j 2, eq_ix3 j⟩
  rw [val_main_v19_apply]
  have e : idx_main_v19 (ix3 t h s) = ix3 h t s := by
    funext b
    match b with
    | ⟨0, _⟩ => rfl
    | ⟨1, _⟩ => rfl
    | ⟨2, _⟩ => rfl
  rw [e]
  unfold val_main_v18 Host.gather
  rw [comes, arr_ix2]
  rfl

/-! ### The kernel -/

/-- The table with columns of zero behind it. -/
def padded (B : ℕ → ℕ → ℝ) (h x : ℕ) : ℝ := if x < 257 then B h x else 0

/-- A trip's product with the one-hot matrix picks the entry of the table that each key reads. -/
theorem trip_value (i : grid0.Coords) (k : Fin k0_t1_loop.trips) (B : ℕ → ℕ → ℝ) (h : Fin 8) (s : Fin 640) :
    k0_pay1 (F := Ideal) i (arr (padded B)) k (ix3 0 h s) = ((bias B ((i 0).val * 8 + k.val) h s : ℝ) : EReal) := by
  pointwise [k0_pay1]
  have hot : ∀ x : Fin 384, (FloatOps.sitofp (F := Ideal) FTy.f32 (BitVec.setWidth 32 (IntOp.cmpi CmpIPredicate.eq (BitVec.ofNat 32 x.val)
      (IntOp.addi (IntOp.minsi 128#32 (IntOp.maxsi 4294967168#32 (IntOp.subi (Scalar.addi (Scalar.addi (Scalar.muli (BitVec.ofNat 32 (i 0).val) 8#32) (Scf.iv 0#32 1#32 k.val)) 576#32)
        (BitVec.ofNat 32 s.val)))) 128#32))) : EReal)
      = ((if row ((i 0).val * 8 + k.val) s.val = x.val then 1 else 0 : ℝ) : EReal) := by
    intro x
    have ey : IntOp.subi (Scalar.addi (Scalar.addi (Scalar.muli (BitVec.ofNat 32 (i 0).val) 8#32) (Scf.iv 0#32 1#32 k.val)) 576#32) (BitVec.ofNat 32 s.val)
        = BitVec.ofNat 32 ((i 0).val * 8 + k.val) + 576#32 - BitVec.ofNat 32 s.val := by
      show (BitVec.ofNat 32 (i 0).val * 8#32 + (0#32 + BitVec.ofNat 32 k.val * 1#32)) + 576#32 - BitVec.ofNat 32 s.val = _
      rw [BitVec.mul_one, BitVec.zero_add, BitVec.ofNat_add, BitVec.ofNat_mul]
    refine (int_coe (BitVec.ofNat 32 x.val == place (IntOp.subi (Scalar.addi (Scalar.addi (Scalar.muli (BitVec.ofNat 32 (i 0).val) 8#32) (Scf.iv 0#32 1#32 k.val)) 576#32) (BitVec.ofNat 32 s.val)))).trans ?_
    rw [ey]
    refine congrArg (fun x : ℝ => (x : EReal)) (if_congr ?_ rfl rfl)
    rw [beq_iff_eq, BitVec.toNat_eq, BitVec.toNat_ofNat, Nat.mod_eq_of_lt (by have := x.isLt; omega)]
    exact eq_comm
  simp only [hot, arr_ix2, ← EReal.coe_add, ← EReal.coe_sub, ← EReal.coe_mul, sum_coe, sub_self, zero_mul, Finset.sum_const_zero, add_zero]
  refine congrArg (fun x : ℝ => (x : EReal)) ?_
  have hr : row ((i 0).val * 8 + k.val) s.val ≤ 256 := row_le _ _
  rw [Finset.sum_eq_single (⟨row ((i 0).val * 8 + k.val) s.val, by omega⟩ : Fin 384)]
  · show padded B h.val (row ((i 0).val * 8 + k.val) s.val) * (if row ((i 0).val * 8 + k.val) s.val = row ((i 0).val * 8 + k.val) s.val then 1 else 0) = _
    rw [if_pos rfl, mul_one]
    exact if_pos (by omega)
  · intro x _ hx
    rw [if_neg fun e => hx (Fin.ext e.symm), mul_zero]
  · exact fun e => absurd (Finset.mem_univ _) e

end Cert.Proof.Expand

end
-- ==== Proof.Expand.Claims.lean ====
module

public import proofs.«01_k».proof.Proof.Expand.Value
public import proofs.«01_k».proof.Defs
public import proofs.«01_k».proof.Proof.Attn.Algebraic
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack
public import Idealize.ShloMosaic.Lib.StableHlo.Run
public import Idealize.ShloMosaic.Lib.VecWindow

@[expose] public section

noncomputable section

namespace Cert.Proof.Expand

open Cert.Kernel13Ideal Cert.Kernel13Ideal.Gen
open Idealize.ShloMosaic Idealize.ShloMosaic.TcCoe Idealize.ShloMosaic.Pointwise Reals Attn
open Idealize.SL.Sem
open Cert.Reference13Ideal.Read

attribute [local instance] Cert.Kernel13Ideal.Gen.facts Cert.Reference13Ideal.Gen.facts

set_option maxRecDepth 8192

/-! ### The host's lines before the call -/

/-- The table with its columns filled up with zero. -/
def filled (x : (⟨S8x257, .f32⟩ : BufTy).Contents (Elt Ideal)) : (⟨S8x384, .f32⟩ : BufTy).Contents (Elt Ideal) :=
  pad S8x384 ![0, 0] ![0, 127] ![0, 0] x (sitofp (F := Ideal) .f32 (constantI S_ 32 0#32)) pads_S8x257_S8x384_000_01270 h_S_

/-- What the call is given is the table filled up. -/
theorem host (U : Valuation τ sig (Elt Ideal)) :
    StableHlo.after (List.flatten [hostOps0, hostOps0_1]) U (Proc.devRef .tc main_v0) = filled (U (Proc.devRef .tc main_arg0)) := by
  simp only [List.flatten_cons, List.flatten_nil, List.append_nil, hostOps0, hostOps0_1, List.cons_append, List.nil_append]; after_results_simp; rfl

/-- Its entries. -/
theorem filled_eq (B : ℕ → ℕ → ℝ) : filled (arr B) = arr (padded B) := by
  funext j
  unfold filled
  rw [pad_apply]
  have h1 : (j 1).val < 384 := (j 1).isLt
  by_cases h : (j 1).val < 257
  · rw [dif_pos]
    · show ((B _ _ : ℝ) : EReal) = ((ite ((j 1).val < 257) _ _ : ℝ) : EReal)
      rw [if_pos h]
      refine congrArg (fun x : ℝ => (x : EReal)) ?_
      congr 1
      all_goals exact Nat.div_one _
    · intro a
      match a with
      | ⟨0, _⟩ => exact ⟨Nat.zero_le _, Nat.mod_one _, by have := (j 0).isLt; show ((j 0).val - 0) / 1 < 8; rw [Nat.div_one]; exact this⟩
      | ⟨1, _⟩ => exact ⟨Nat.zero_le _, Nat.mod_one _, by show ((j 1).val - 0) / 1 < 257; rw [Nat.div_one]; omega⟩
  · rw [dif_neg fun k => h (by
      have k' : ((j 1).val - 0) / 1 < 257 := (k (1 : Fin 2)).2.2
      rw [Nat.div_one] at k'; omega)]
    show (((0#32 : BitVec 32).toInt : ℝ) : EReal) = ((ite ((j 1).val < 257) _ _ : ℝ) : EReal)
    rw [if_neg h]
    norm_num

/-! ### The loop over a point's query rows -/

/-- A point goes through eight rows. -/
theorem trips : k0_t1_loop.trips = 8 := by decide +kernel

/-- The loop counts the rows. -/
theorem row_number (k : ℕ) (hk : k < 8) : (Scalar.indexCast (Scf.iv 0#32 1#32 k) : Index).toNat = k := by
  show (0#32 + BitVec.ofNat 32 k * 1#32 : BitVec 32).toNat = k
  rw [BitVec.mul_one, BitVec.zero_add, BitVec.toNat_ofNat, Nat.mod_eq_of_lt (by omega)]

/-- A trip writes its own row. -/
theorem off_eq (k : Fin k0_t1_loop.trips) : k0_off1 k = ![k.val, 0, 0] := by
  show ![(Scalar.indexCast (Scf.iv 0#32 1#32 k.val) : Index).toNat, 0, 0] = _
  rw [row_number _ (trips ▸ k.isLt)]

section loop

variable (𝒱 : Variants) (c : Dev nD) (bd : Option 𝒱.V) (i : grid0.Coords) (arg1 : Memref sig .tc .vmem S8x384 .f32) (harg1 : arg1.IsWhole)
  (arg2 : Memref sig .tc .vmem S8x8x640 .f32) (harg2 : arg2.IsWhole) (B : ℕ → ℕ → ℝ)

/-- What a point leaves: its eight query rows of the bias. -/
abbrev left : S8x8x640.Idx → EReal := arr3 fun r h s => bias B ((i 0).val * 8 + r) h s

/-- What one trip writes, -/
theorem piece (k : Fin k0_t1_loop.trips) : tripL_k0_t1 (F := Ideal) 𝒱 c bd i arg1 harg1 arg2 harg2 (arr (padded B)) k
    = [⟨Rect.unit (s := S8x8x640) (k0_off1 k) S1x8x640.size (k0_off1_inb k), k0_pay1 (F := Ideal) i (arr (padded B)) k⟩] := by
  unfold tripL_k0_t1 trip_k0_t1
  rfl

/-- and the trips before one. -/
theorem pieces (n : ℕ) (hn : n ≤ 8) : ∀ p ∈ pb_k0_t1 (F := Ideal) 𝒱 c bd i arg1 harg1 arg2 harg2 (arr (padded B)) n,
    ∀ x : p.1.shape.Idx, p.2 x = left i B (p.1.emb x) := by
  induction n with
  | zero => intro p hp; exact absurd hp List.not_mem_nil
  | succ n ih =>
    have hk : n < k0_t1_loop.trips := trips ▸ hn
    rw [pb_k0_t1_succ 𝒱 c bd i arg1 harg1 arg2 harg2 _ ⟨n, hk⟩, piece]
    intro p hp
    rcases List.mem_append.mp hp with hp | hp
    · obtain rfl := List.mem_singleton.mp hp
      intro x
      obtain ⟨z, h, s, rfl⟩ : ∃ (z : Fin 1) (h : Fin 8) (s : Fin 640), x = ix3 z h s := ⟨x 0, x 1, x 2, eq_ix3 x⟩
      obtain rfl : z = 0 := Subsingleton.elim _ _
      refine (trip_value i ⟨n, hk⟩ B h s).trans ?_
      show _ = ((bias B ((i 0).val * 8 + (k0_off1 ⟨n, hk⟩ 0 + 1 * 0)) (k0_off1 ⟨n, hk⟩ 1 + 1 * h.val) (k0_off1 ⟨n, hk⟩ 2 + 1 * s.val) : ℝ) : EReal)
      rw [off_eq]
      show _ = ((bias B ((i 0).val * 8 + (n + 1 * 0)) (0 + 1 * h.val) (0 + 1 * s.val) : ℝ) : EReal)
      simp only [one_mul, Nat.zero_add, Nat.mul_zero, Nat.add_zero]
    · exact ih (by omega) p hp

end loop

/-! ### The array -/

variable (m : (ℓ : Loc nD τ sig) → Buf (Elt Ideal) ℓ) (c : Dev nD)

/-- Every point is given the whole table. -/
theorem block0 (X : ℕ → ℕ → ℝ) (hV : V m c main_v0 = arr X) (t : Fin cfg0.N) : iblk m c 0 t = arr X := by
  have hV' : V m c (Pipeline.arrRef spec0 0) = arr X := hV
  unfold iblk
  generalize V m c (Pipeline.arrRef spec0 0) = W at hV'
  subst hV'
  funext j
  show ((X (0 * 8 + 1 * (j 0).val) (0 * 384 + 1 * (j 1).val) : ℝ) : EReal) = ((X _ _ : ℝ) : EReal)
  simp only [Nat.zero_mul, Nat.zero_add, one_mul]

/-- What a point leaves in its block. -/
theorem out_eq (B : ℕ → ℕ → ℝ) (t : Fin cfg0.N) (hb : iblk m c 0 t = arr (padded B)) : outsAt0 m c t = left (grid0.coords t) B := by
  unfold outsAt0 out0_A_1
  rw [hb]
  funext y
  refine View.read_writes_apply_of_pieces _ _ _ _ ?_ y (cover0_A_1 (F := Ideal) c (grid0.coords t) (ms0_0 t) (hs0_0 t) (ms0_1 t) (hs0_1 t) _ y)
  have e : (kernelRun0_A (F := Ideal) c (grid0.coords t) (ms0_0 t) (hs0_0 t) (ms0_1 t) (hs0_1 t) (arr (padded B))).1
      = pb_k0_t1 (F := Ideal) Variants.none c none (grid0.coords t) (ms0_0 t) (hs0_0 t) (ms0_1 t) (hs0_1 t)
        ((ms0_0 t).view.readAt (Elt Ideal) (Rect.unit (s := S8x384) ![0, 0] S8x384.size inb_S8x384_S8x384_0_0).toLoadRect ((hs0_0 t).unread (arr (padded B)))) k0_t1_loop.trips := by
    unfold kernelRun0_A
    rfl
  have ew : (ms0_0 t).view.readAt (Elt Ideal) (Rect.unit (s := S8x384) ![0, 0] S8x384.size inb_S8x384_S8x384_0_0).toLoadRect ((hs0_0 t).unread (arr (padded B))) = arr (padded B) :=
    (View.readAt_full _ _ _).trans (Memref.IsWhole.read_unread _ _)
  rw [e, ew, trips]
  exact pieces _ c _ _ _ _ _ _ B 8 (Nat.le_refl _)

/-- The output's array holds the bias. -/
theorem array1 (B : ℕ → ℕ → ℝ) (h : m ((c : Thread nD τ).loc main_arg0) = arr B) : (dats m 0 c).arrAt 1 cfg0.N = arr3 (bias B) := by
  have hV : V m c main_v0 = arr (padded B) := (host _).trans ((congrArg filled h).trans (filled_eq B))
  have at1 : ∀ t : Fin cfg0.N, win0_1.index t (0 : Fin 3) = t.val ∧ win0_1.index t (1 : Fin 3) = 0 ∧ win0_1.index t (2 : Fin 3) = 0 ∧ (grid0.coords t 0).val = t.val :=
    (by decide +kernel : ∀ t : Fin grid0.N, _)
  refine Pipeline.Dat.arrAt_eq_of_cover _ 1 _ (fun t ht => ?_) fun i => ?_
  · obtain ⟨e0, e1, e2, e3⟩ := at1 t
    show (cfg0.win 1).cut (grid0.coords t) ((dats m 0 c).after 1 t) = _
    rw [Cert.Kernel13Ideal.Gen.after0_1, out_eq m c B t (block0 m c _ hV t)]
    funext j
    show ((bias B ((grid0.coords t 0).val * 8 + (j 0).val) (j 1).val (j 2).val : ℝ) : EReal)
      = ((bias B (win0_1.index t (0 : Fin 3) * 8 + 1 * (j 0).val) (win0_1.index t (1 : Fin 3) * 8 + 1 * (j 1).val) (win0_1.index t (2 : Fin 3) * 640 + 1 * (j 2).val) : ℝ) : EReal)
    rw [e0, e1, e2, e3]
    simp only [one_mul, Nat.zero_mul, Nat.zero_add]
  · have h0 : (i 0).val < 64 := (i 0).isLt
    let t : Fin cfg0.N := ⟨(i 0).val / 8, show _ < 8 by omega⟩
    obtain ⟨e0, e1, e2, e3⟩ := at1 t
    have ht : t.val = (i 0).val / 8 := rfl
    refine ⟨t, flush0_1 t, ?_⟩
    have hm := ((cfg0.win 1).blk t).view.emb_mem_set (ix3 ⟨(i 0).val % 8, by omega⟩ ⟨(i 1).val, (i 1).isLt⟩ ⟨(i 2).val, (i 2).isLt⟩)
    refine Eq.subst (motive := fun k => k ∈ ((cfg0.win 1).blk t).view.set) ?_ hm
    funext a; apply Fin.ext
    match a with
    | ⟨0, _⟩ => show win0_1.index t (0 : Fin 3) * 8 + 1 * ((i 0).val % 8) = (i 0).val; omega
    | ⟨1, _⟩ => show win0_1.index t (1 : Fin 3) * 8 + 1 * (i 1).val = (i 1).val; omega
    | ⟨2, _⟩ => show win0_1.index t (2 : Fin 3) * 640 + 1 * (i 2).val = (i 2).val; omega

/-! ### The claims -/

/-- The shape facts the precondition states. -/
theorem pre_facts : Cert.Pre_finite13.Facts := ⟨by decide, by decide, by decide⟩

instance : Subsingleton Cert.Pre_finite13.S_.Idx := ⟨fun a b => funext fun i => i.elim0⟩

/-- A finite argument is an array of reals. -/
theorem arg_of_pre [Cert.Pre_finite13.Facts] (x0 : FVec Ideal S8x257 .f32) (hp : Cert.Pre_finite13.fn (F := Ideal) x0 = fun _ => 1#1) :
    ∃ B : ℕ → ℕ → ℝ, x0 = arr B := by
  unfold Cert.Pre_finite13.fn at hp
  obtain ⟨r0, rfl⟩ := reals_of_reduce _ _ _ (fun i => ofBits_inf) _ _ (fun i => i.elim0) (congrFun hp _)
  exact eq_arr_of_real r0

/-- The idealized kernel leaves the bias, and keeps its argument. -/
theorem kernel_run (m : (ℓ : Loc nD τ sig) → Buf (Elt Ideal) ℓ) (ρ : Dev nD → PrngReg) (B : Dev nD → ℕ → ℕ → ℝ)
    (h : ∀ c : Dev nD, m ((c : Thread nD τ).loc main_arg0) = arr (B c)) :
    θ_run (defs (F := Ideal)) (onTc (τ := τ) (main (F := Ideal))) ⟨m, fun _ => 0, ρ⟩ (fun r => ∀ c : Dev nD,
      r.2.mem ((c : Thread nD τ).loc main_v1) = arr3 (bias (B c))
      ∧ r.2.mem ((c : Thread nD τ).loc main_arg0) = m ((c : Thread nD τ).loc main_arg0)) :=
  (θ_run _ _ _).mono (fun _ k c => ⟨(k c).1.trans (array1 m c (B c) (h c)), (k c).2⟩)
    (Cert.Kernel13Ideal.Value.run_blocks (F := Ideal) m ρ)

/-- The idealized kernel and the reference leave the same bias. -/
theorem algebraic [Cert.Pre_finite13.Facts] : Cert.algebraic_Kernel13Ideal_Reference13Ideal_pre_finite13 := by
  intro m ρ m' ρ' hpre hagree
  choose B hB using fun c => arg_of_pre _ (hpre c)
  refine ⟨fun c => arr3 (bias (B c)), kernel_run m ρ B hB, ?_⟩
  refine (θ_run Cert.Reference13Ideal.defs _ _).mono (fun _ h c => ?_) (Cert.Reference13Ideal.Value.run (F := Ideal) m' ρ')
  obtain ⟨h0, hargs⟩ := h c
  have b0 := (hagree c).trans (hB c)
  refine ⟨(h0.trans (val_main_v19_eq _)).trans ?_, hargs⟩
  refine Eq.trans ?_ (ref_bias (B c))
  rw [← b0]

/-- The idealized reference runs and ends quiescent. -/
theorem quiescent_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Proof.Expand

end
-- ==== Proof.InDot.Value.lean ====
module

public import proofs.«01_k».proof.Proof.Lib.Rows
public import proofs.«01_k».proof.Proof.Gen.Reference14Ideal.Read
public import proofs.«01_k».proof.Proof.Gen.Kernel14Ideal.Skeleton
public import Idealize.ShloMosaic.Lib.Pointwise

@[expose] public section

noncomputable section

namespace Cert.Proof.InDot

open Idealize.ShloMosaic Idealize.ShloMosaic.Pointwise Reals Attn Gate Norm

/-- The arguments of the input product: the rows and the weight. -/
structure Args where
  H : ℕ → ℕ → ℝ
  P : ℕ → ℕ → ℝ

namespace Args

variable (A : Args)

/-- The product. -/
def y (r x : ℕ) : ℝ := ∑ k : Fin 1024, A.H r k * A.P k x

end Args

section kernel

open Cert.Kernel14Ideal Cert.Kernel14Ideal.Gen

/-- What one grid point writes, of tiles whose entries are real. -/
theorem tile (H W : ℕ → ℕ → ℝ) : k0_pay1 (F := Ideal) (arr H) (arr W) = arr fun r x => ∑ k : Fin 1024, H r k * W x k := by
  refine eq_arr _ _ fun a b => ?_
  pointwise [k0_pay1]
  simp only [arr_ix2, ← EReal.coe_mul, sum_coe]

end kernel

section reference

open Cert.Reference14Ideal Cert.Reference14Ideal.Gen Cert.Reference14Ideal.Read

variable (A : Args)

/-- The reference's product. -/
theorem ref_y : val_main_v0 (F := Ideal) (arr A.H) (arr A.P) = arr A.y := by
  refine eq_arr _ _ fun a b => ?_
  pointwise [val_main_v0]
  simp only [arr_ix2, ← EReal.coe_mul, sum_coe]
  rfl

end reference

end Cert.Proof.InDot

end
-- ==== Proof.InDot.Claims.lean ====
module

public import proofs.«01_k».proof.Proof.InDot.Value
public import proofs.«01_k».proof.Proof.Gen.Kernel14Ideal.Value
public import proofs.«01_k».proof.Proof.Attn.Algebraic
public import proofs.«01_k».proof.Proof.Gen.Reference14Ideal.Run
public import Idealize.ShloMosaic.Lib.Pipeline.ValueKit
public import Idealize.ShloMosaic.Lib.StableHlo.Run

@[expose] public section

noncomputable section

namespace Cert.Proof.InDot

open Cert.Kernel14Ideal Cert.Kernel14Ideal.Gen
open Idealize.ShloMosaic Idealize.ShloMosaic.TcCoe Idealize.ShloMosaic.Pointwise Reals Attn Gate
open Idealize.SL.Sem
open Cert.Reference14Ideal.Read

attribute [local instance] Cert.Kernel14Ideal.Gen.facts Cert.Reference14Ideal.Gen.facts

set_option maxRecDepth 8192

/-! ### The host's lines before the call -/

section host

variable (U : Valuation τ sig (Elt Ideal))

/-- The weight the other way round. -/
def turned (w : (⟨S1024x3584, .f32⟩ : BufTy).Contents (Elt Ideal)) : (⟨S3584x1024, .bf16⟩ : BufTy).Contents (Elt Ideal) :=
  truncf (F := Ideal) .bf16 (transpose S3584x1024 [1, 0] w transposes_S1024x3584_S3584x1024_1_0) bitsLt_bf16_f32

theorem host_p : StableHlo.after hostOps0 U (Proc.devRef .tc main_v1) = turned (U (Proc.devRef .tc main_arg1)) := by
  simp only [hostOps0]; after_results_simp; rfl
theorem host_h : StableHlo.after hostOps0 U (Proc.devRef .tc main_v2) = U (Proc.devRef .tc main_arg0) := by
  simp only [hostOps0]; after_results_simp; rfl

theorem turned_eq (X : ℕ → ℕ → ℝ) : turned (arr X) = arr fun k x => X x k := by
  refine eq_arr _ _ fun a b => ?_
  pointwise [turned]
  simp only [arr_ix2]

end host

/-! ### Each window's place on the grid, and its block -/

theorem at0 : ∀ t : Fin cfg0.N, win0_0.index t (0 : Fin 2) = t.val ∧ win0_0.index t (1 : Fin 2) = 0 :=
  (by decide +kernel : ∀ t : Fin grid0.N, _)
theorem at1 : ∀ t : Fin cfg0.N, win0_1.index t (0 : Fin 2) = 0 ∧ win0_1.index t (1 : Fin 2) = 0 :=
  (by decide +kernel : ∀ t : Fin grid0.N, _)
theorem at2 : ∀ t : Fin cfg0.N, win0_2.index t (0 : Fin 2) = t.val ∧ win0_2.index t (1 : Fin 2) = 0 :=
  (by decide +kernel : ∀ t : Fin grid0.N, _)

variable (m : (ℓ : Loc nD τ sig) → Buf (Elt Ideal) ℓ) (c : Dev nD)

theorem block0 (X : ℕ → ℕ → ℝ) (hV : V m c main_v2 = arr X) (t : Fin cfg0.N) :
    iblk m c 0 t = arr fun r x => X ((t.val) * 256 + r) ((0) * 1024 + x) := by
  obtain ⟨e0, e1⟩ := at0 t
  have hV' : V m c (Pipeline.arrRef spec0 0) = arr X := hV
  unfold iblk
  generalize V m c (Pipeline.arrRef spec0 0) = W at hV'
  subst hV'
  funext j
  show ((X (win0_0.index t (0 : Fin 2) * 256 + 1 * (j 0).val) (win0_0.index t (1 : Fin 2) * 1024 + 1 * (j 1).val) : ℝ) : EReal) = ((X _ _ : ℝ) : EReal)
  rw [e0, e1, one_mul, one_mul]
theorem block1 (X : ℕ → ℕ → ℝ) (hV : V m c main_v1 = arr X) (t : Fin cfg0.N) :
    iblk m c 1 t = arr fun r x => X ((0) * 3584 + r) ((0) * 1024 + x) := by
  obtain ⟨e0, e1⟩ := at1 t
  have hV' : V m c (Pipeline.arrRef spec0 1) = arr X := hV
  unfold iblk
  generalize V m c (Pipeline.arrRef spec0 1) = W at hV'
  subst hV'
  funext j
  show ((X (win0_1.index t (0 : Fin 2) * 3584 + 1 * (j 0).val) (win0_1.index t (1 : Fin 2) * 1024 + 1 * (j 1).val) : ℝ) : EReal) = ((X _ _ : ℝ) : EReal)
  rw [e0, e1, one_mul, one_mul]

/-- The arguments' arrays are the given reals. -/
structure Given (A : Args) : Prop where
  x0 : m ((c : Thread nD τ).loc main_arg0) = arr A.H
  x1 : m ((c : Thread nD τ).loc main_arg1) = arr A.P

variable {m c} {A : Args} (h : Given m c A)

include h

theorem V_0 : V m c main_v2 = arr A.H := (host_h (fun b => m (c, b))).trans h.x0
theorem V_1 : V m c main_v1 = arr fun x k => A.P k x := by
  refine (host_p (fun b => m (c, b))).trans ?_
  show turned (m ((c : Thread nD τ).loc main_arg1)) = _
  rw [h.x1, turned_eq]

/-! ### The arrays the call returns -/

/-- What point `t` leaves for output window 2. -/
theorem out2 (t : Fin cfg0.N) : out0_2 (iblk m c 0 t) (iblk m c 1 t) = arr fun r x => A.y ((t.val) * 256 + r) ((0) * 3584 + x) := by
  have e : out0_2 (iblk m c 0 t) (iblk m c 1 t) = k0_pay1 (F := Ideal) (iblk m c 0 t) (iblk m c 1 t) := by
    unfold out0_2
    frame_out
  rw [e, block0 m c _ (V_0 h), block1 m c _ (V_1 h), tile]
  refine arr_congr _ _ fun r x _ _ => ?_
  simp only [Nat.zero_mul, Nat.zero_add]
  rfl
theorem array2 : (dats m 0 c).arrAt 2 cfg0.N = arr A.y := by
  refine Pipeline.Dat.arrAt_eq_of_cover _ 2 _ (fun t _ => ?_) fun i => ?_
  · obtain ⟨e0, e1⟩ := at2 t
    show (cfg0.win 2).cut (grid0.coords t) ((dats m 0 c).after 2 t) = _
    rw [Cert.Kernel14Ideal.Gen.after0_2, out2 h]
    funext j
    show ((A.y ((t.val) * 256 + (j 0).val) ((0) * 3584 + (j 1).val) : ℝ) : EReal)
      = ((A.y (win0_2.index t (0 : Fin 2) * 256 + 1 * (j 0).val) (win0_2.index t (1 : Fin 2) * 3584 + 1 * (j 1).val) : ℝ) : EReal)
    rw [e0, e1, one_mul, one_mul]
  · have h0 : (i 0).val < 4096 := (i 0).isLt
    have h1 : (i 1).val < 3584 := (i 1).isLt
    let t : Fin cfg0.N := ⟨(i 0).val / 256, show _ < 16 by omega⟩
    obtain ⟨e0, e1⟩ := at2 t
    have ht : t.val = (i 0).val / 256 := rfl
    refine ⟨t, flush0_2 t, ?_⟩
    have hm := ((cfg0.win 2).blk t).view.emb_mem_set (ix2 ⟨(i 0).val % 256, by omega⟩ ⟨(i 1).val % 3584, by omega⟩)
    refine Eq.subst (motive := fun k => k ∈ ((cfg0.win 2).blk t).view.set) ?_ hm
    funext a; apply Fin.ext
    match a with
    | ⟨0, _⟩ => show win0_2.index t (0 : Fin 2) * 256 + 1 * ((i 0).val % 256) = (i 0).val; omega
    | ⟨1, _⟩ => show win0_2.index t (1 : Fin 2) * 3584 + 1 * ((i 1).val % 3584) = (i 1).val; omega

omit h

/-! ### The claims -/

/-- The shape facts the precondition states. -/
theorem pre_facts : Cert.Pre_finite14.Facts := ⟨by decide, by decide, by decide, by decide, by decide⟩

instance : Subsingleton Cert.Pre_finite14.S_.Idx := ⟨fun a b => funext fun i => i.elim0⟩

/-- Finite arguments are arrays of reals. -/
theorem args_of_pre [Cert.Pre_finite14.Facts] (x0 : FVec Ideal S4096x1024 .f32) (x1 : FVec Ideal S1024x3584 .f32)
    (hp : Cert.Pre_finite14.fn (F := Ideal) x0 x1 = fun _ => 1#1) :
    ∃ A : Args, x0 = arr A.H ∧ x1 = arr A.P := by
  unfold Cert.Pre_finite14.fn at hp
  obtain ⟨h0, h1⟩ := and_eq_one _ _ hp
  obtain ⟨r0, rfl⟩ := reals_of_reduce _ _ _ (fun i => ofBits_inf) _ _ (fun i => i.elim0) (congrFun h0 _)
  obtain ⟨r1, rfl⟩ := reals_of_reduce _ _ _ (fun i => ofBits_inf) _ _ (fun i => i.elim0) (congrFun h1 _)
  obtain ⟨X0, e0⟩ := eq_arr_of_real r0
  obtain ⟨X1, e1⟩ := eq_arr_of_real r1
  exact ⟨⟨X0, X1⟩, e0, e1⟩

/-- The idealized kernel leaves the results and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v3) = arr (A c).y
      ∧ r.2.mem ((c : Thread nD τ).loc main_arg0) = m ((c : Thread nD τ).loc main_arg0)
      ∧ r.2.mem ((c : Thread nD τ).loc main_arg1) = m ((c : Thread nD τ).loc main_arg1)) :=
  (θ_run _ _ _).mono (fun _ k c => ⟨(k c).1.trans (array2 (h c)), (k c).2⟩)
    (Cert.Kernel14Ideal.Value.run_blocks (F := Ideal) m ρ)

/-- The idealized kernel and the reference leave the same results. -/
theorem algebraic [Cert.Pre_finite14.Facts] : Cert.algebraic_Kernel14Ideal_Reference14Ideal_pre_finite14 := by
  intro m ρ m' ρ' hpre hagree
  choose A hA using fun c => args_of_pre _ _ (hpre c)
  refine ⟨fun c => arr (A c).y,
    kernel_run m ρ A fun c => ⟨(hA c).1, (hA c).2⟩, ?_⟩
  refine (θ_run Cert.Reference14Ideal.defs _ _).mono (fun _ h c => ?_) (Cert.Reference14Ideal.Value.run (F := Ideal) m' ρ')
  obtain ⟨h0, hargs⟩ := h c
  obtain ⟨g0, g1⟩ := hagree c
  obtain ⟨a0, a1⟩ := hA c
  have b0 := g0.trans a0
  have b1 := g1.trans a1
  refine ⟨(h0.trans (val_main_v0_eq _ _ )).trans ?_, hargs⟩
  · refine Eq.trans ?_ (ref_y (A c)); rw [← b0, ← b1]

/-- The idealized reference runs and ends quiescent. -/
theorem quiescent_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

end Cert.Proof.InDot

end
-- ==== Proof.Adam.Value.lean ====
module

public import proofs.«01_k».proof.Proof.Attn.Arrays
public import proofs.«01_k».proof.Proof.Gen.Reference15Ideal.Read
public import proofs.«01_k».proof.Proof.Gen.Kernel15Ideal.Frame
public import Idealize.ShloMosaic.Lib.Pointwise

@[expose] public section

noncomputable section

namespace Cert.Proof.Adam

open Idealize.ShloMosaic Idealize.ShloMosaic.Pointwise

/-- An array of three axes, by its entries. -/
def ext3 {n p q : ℕ} (X : ℕ → ℕ → ℕ → EReal) : (⟨3, ![n, p, q]⟩ : Shape).Idx → EReal := fun i => X (i 0).val (i 1).val (i 2).val

/-- Its entries. -/
theorem ext3_ix3 {n p q : ℕ} (X : ℕ → ℕ → ℕ → EReal) (a : Fin n) (b : Fin p) (c : Fin q) : ext3 X (ix3 a b c) = X a.val b.val c.val := rfl

/-- Two arrays are equal if their entries are. -/
theorem eq_ext3 {n p q : ℕ} (x : (⟨3, ![n, p, q]⟩ : Shape).Idx → EReal) (X : ℕ → ℕ → ℕ → EReal)
    (h : ∀ (a : Fin n) (b : Fin p) (c : Fin q), x (ix3 a b c) = X a.val b.val c.val) : x = ext3 X := by
  funext i
  obtain ⟨a, b, c, rfl⟩ : ∃ (a : Fin n) (b : Fin p) (c : Fin q), i = ix3 a b c := ⟨i 0, i 1, i 2, eq_ix3 i⟩
  exact h a b c

/-- Every array of three axes is given by its entries. -/
theorem exists_ext3 {n p q : ℕ} (x : (⟨3, ![n, p, q]⟩ : Shape).Idx → EReal) : ∃ X : ℕ → ℕ → ℕ → EReal, x = ext3 X :=
  ⟨fun a b c => if h : a < n ∧ b < p ∧ c < q then x (ix3 ⟨a, h.1⟩ ⟨b, h.2.1⟩ ⟨c, h.2.2⟩) else 0,
    eq_ext3 _ _ fun a b c => by rw [dif_pos ⟨a.isLt, b.isLt, c.isLt⟩]⟩

/-- The arguments of the optimiser: the weight, the two moments, and the four chips' parts of the gradient. Their entries are extended
    reals: nothing is asked of them. -/
structure Args where
  W : ℕ → ℕ → ℕ → EReal
  M : ℕ → ℕ → ℕ → EReal
  V : ℕ → ℕ → ℕ → EReal
  P : ℕ → ℕ → ℕ → EReal

namespace Args

variable (A : Args)

/-- The gradient: the sum of the parts. -/
def g (r x : ℕ) : EReal := ∑ k : Fin 4, A.P k.val r x
/-- The new first moment. -/
def m (z r x : ℕ) : EReal := Ideal.ofBits FTy.f32 0x3F666666#32 * A.M z r x + Ideal.ofBits FTy.f32 0x3DCCCCCD#32 * A.g r x
/-- The new second moment. -/
def v (z r x : ℕ) : EReal := Ideal.ofBits FTy.f32 0x3F7FBE77#32 * A.V z r x + Ideal.ofBits FTy.f32 0x3A83126F#32 * (A.g r x * A.g r x)
/-- The update: the moments, each divided by its correction, and the weight's decay. -/
def delta (z r x : ℕ) : EReal := Ideal.ofBits FTy.f32 0xBA83126F#32 *
  (Ideal.div (Ideal.div (A.m z r x) (Ideal.ofBits FTy.f32 0x3F26BD02#32))
      (Ideal.sqrt (Ideal.div (A.v z r x) (Ideal.ofBits FTy.f32 0x3C231ACC#32)) + Ideal.ofBits FTy.f32 0x322BCC77#32)
    + Ideal.ofBits FTy.f32 0x3C23D70A#32 * A.W z r x)

/-- The arguments as a point of the grid sees them: its 32 rows, from row `o`. -/
def from_ (o : ℕ) : Args :=
  ⟨fun z r x => A.W z (o + r) x, fun z r x => A.M z (o + r) x, fun z r x => A.V z (o + r) x, fun k r x => A.P k (o + r) x⟩

end Args

section kernel

open Cert.Kernel15Ideal Cert.Kernel15Ideal.Gen

variable (A : Args)

/-- The parts a point loads, one chip's after the other. -/
def part (k : ℕ) : Vec Ideal S1x32x1024 .bf16 := ext3 fun _ r x => A.P k r x

/-- The gradient a point computes. -/
theorem tile_g (a : Fin 1) (b : Fin 32) (c : Fin 1024) : k0_pay2 (F := Ideal) (part A 0) (part A 1) (part A 2) (part A 3) (ix3 a b c) = A.g b c := by
  pointwise [k0_pay2]
  simp only [part, ext3_ix3]
  exact (Fin.sum_univ_four fun k : Fin 4 => A.P k.val b.val c.val).symm

/-- The first moment. -/
theorem tile_m (a : Fin 1) (b : Fin 32) (c : Fin 1024) : k0_pay3 (F := Ideal) (part A 0) (part A 1) (part A 2) (part A 3) (ext3 A.M) (ix3 a b c) = A.m a b c := by
  obtain rfl : a = 0 := Subsingleton.elim _ _
  pointwise [k0_pay3]
  rw [tile_g, ext3_ix3]
  rfl

/-- The second moment. -/
theorem tile_v (a : Fin 1) (b : Fin 32) (c : Fin 1024) : k0_pay4 (F := Ideal) (part A 0) (part A 1) (part A 2) (part A 3) (ext3 A.V) (ix3 a b c) = A.v a b c := by
  obtain rfl : a = 0 := Subsingleton.elim _ _
  pointwise [k0_pay4]
  rw [tile_g, ext3_ix3]
  rfl

/-- The update. -/
theorem tile_delta (a : Fin 1) (b : Fin 32) (c : Fin 1024) :
    k0_pay1 (F := Ideal) (k0_pay5 (F := Ideal) (part A 0) (part A 1) (part A 2) (part A 3) (ext3 A.M)) (k0_pay6 (F := Ideal) (part A 0) (part A 1) (part A 2) (part A 3) (ext3 A.V))
      (ext3 A.W) (ix3 a b c) = A.delta a b c := by
  obtain rfl : a = 0 := Subsingleton.elim _ _
  pointwise [k0_pay1, k0_pay5, k0_pay6]
  rw [tile_m, tile_v, ext3_ix3]
  rfl

/-- The loads of the four parts. -/
theorem load0 (x : Vec Ideal S4x32x1024 .bf16) (h : x = ext3 A.P) : View.ld x r0_0 = part A 0 := by
  subst h
  refine eq_ext3 _ _ fun a b c => ?_
  obtain rfl : a = 0 := Subsingleton.elim _ _
  show A.P (0 + 1 * 0) (0 + 1 * b.val) (0 + 1 * c.val) = _
  simp only [Nat.zero_add, one_mul, Nat.add_zero]
theorem load1 (x : Vec Ideal S4x32x1024 .bf16) (h : x = ext3 A.P) : View.ld x r0_1 = part A 1 := by
  subst h
  refine eq_ext3 _ _ fun a b c => ?_
  obtain rfl : a = 0 := Subsingleton.elim _ _
  show A.P (1 + 1 * 0) (0 + 1 * b.val) (0 + 1 * c.val) = _
  simp only [Nat.zero_add, one_mul, Nat.add_zero]
theorem load2 (x : Vec Ideal S4x32x1024 .bf16) (h : x = ext3 A.P) : View.ld x r0_2 = part A 2 := by
  subst h
  refine eq_ext3 _ _ fun a b c => ?_
  obtain rfl : a = 0 := Subsingleton.elim _ _
  show A.P (2 + 1 * 0) (0 + 1 * b.val) (0 + 1 * c.val) = _
  simp only [Nat.zero_add, one_mul, Nat.add_zero]
theorem load3 (x : Vec Ideal S4x32x1024 .bf16) (h : x = ext3 A.P) : View.ld x r0_3 = part A 3 := by
  subst h
  refine eq_ext3 _ _ fun a b c => ?_
  obtain rfl : a = 0 := Subsingleton.elim _ _
  show A.P (3 + 1 * 0) (0 + 1 * b.val) (0 + 1 * c.val) = _
  simp only [Nat.zero_add, one_mul, Nat.add_zero]

/-- The load of a whole block. -/
theorem load4 (X : ℕ → ℕ → ℕ → EReal) (x : Vec Ideal S1x32x1024 .f32) (h : x = ext3 X) : View.ld x r0_4 = (ext3 X : Vec Ideal S1x32x1024 .f32) := by
  subst h
  refine eq_ext3 _ _ fun a b c => ?_
  show X (0 + 1 * a.val) (0 + 1 * b.val) (0 + 1 * c.val) = _
  simp only [Nat.zero_add, one_mul]

end kernel

section reference

open Cert.Reference15Ideal Cert.Reference15Ideal.Gen Cert.Reference15Ideal.Read

variable (A : Args)

/-- The reference's gradient. -/
theorem ref_g' (a : Fin 1) (b : Fin 128) (c : Fin 1024) : val_main_v2 (F := Ideal) (ext3 A.P) (ix3 a b c) = A.g b c := by
  pointwise [val_main_v2, val_main_v1, val_main_v0, val_main_cst]
  simp only [ext3_ix3]
  rfl
theorem ref_m' (a : Fin 1) (b : Fin 128) (c : Fin 1024) : val_main_v7 (F := Ideal) (ext3 A.M) (ext3 A.P) (ix3 a b c) = A.m a b c := by
  obtain rfl : a = 0 := Subsingleton.elim _ _
  pointwise [val_main_v7, val_main_v4, val_main_v6, val_main_v3, val_main_v5, val_main_cst_0, val_main_cst_1]
  rw [ref_g', ext3_ix3]
  rfl
theorem ref_v' (a : Fin 1) (b : Fin 128) (c : Fin 1024) : val_main_v13 (F := Ideal) (ext3 A.V) (ext3 A.P) (ix3 a b c) = A.v a b c := by
  obtain rfl : a = 0 := Subsingleton.elim _ _
  pointwise [val_main_v13, val_main_v9, val_main_v12, val_main_v8, val_main_v10, val_main_v11, val_main_cst_2, val_main_cst_3]
  rw [ref_g', ext3_ix3]
  rfl
theorem ref_delta' (a : Fin 1) (b : Fin 128) (c : Fin 1024) :
    val_main_v26 (F := Ideal) (ext3 A.W) (ext3 A.M) (ext3 A.V) (ext3 A.P) (ix3 a b c) = A.delta a b c := by
  obtain rfl : a = 0 := Subsingleton.elim _ _
  pointwise [val_main_v26, val_main_v25, val_main_v24, val_main_v21, val_main_v20, val_main_v18, val_main_v17, val_main_v15, val_main_v14, val_main_v16, val_main_v19,
    val_main_v23, val_main_v22, val_main_cst_4, val_main_cst_5, val_main_cst_6, val_main_cst_7, val_main_cst_8]
  rw [ref_m', ref_v', ext3_ix3]
  rfl

/-- The reference's four results. -/
theorem ref_g : val_main_v2 (F := Ideal) (ext3 A.P) = ext3 fun _ r x => A.g r x := eq_ext3 _ _ (ref_g' A)
theorem ref_m : val_main_v7 (F := Ideal) (ext3 A.M) (ext3 A.P) = ext3 A.m := eq_ext3 _ _ (ref_m' A)
theorem ref_v : val_main_v13 (F := Ideal) (ext3 A.V) (ext3 A.P) = ext3 A.v := eq_ext3 _ _ (ref_v' A)
theorem ref_delta : val_main_v26 (F := Ideal) (ext3 A.W) (ext3 A.M) (ext3 A.V) (ext3 A.P) = ext3 A.delta := eq_ext3 _ _ (ref_delta' A)

end reference

end Cert.Proof.Adam

end
-- ==== Proof.Adam.Claims.lean ====
module

public import proofs.«01_k».proof.Proof.Adam.Value
public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack
public import Idealize.ShloMosaic.Lib.StableHlo.Run
public import Idealize.ShloMosaic.Lib.VecWindow

@[expose] public section

noncomputable section

namespace Cert.Proof.Adam

open Cert.Kernel15Ideal Cert.Kernel15Ideal.Gen
open Idealize.ShloMosaic Idealize.ShloMosaic.TcCoe Idealize.ShloMosaic.Pointwise
open Idealize.SL.Sem
open Cert.Reference15Ideal.Read

attribute [local instance] Cert.Kernel15Ideal.Gen.facts Cert.Reference15Ideal.Gen.facts

set_option maxRecDepth 8192

/-! ### Each window's place on the grid, and its block -/

theorem at0 : ∀ t : Fin cfg0.N, win0_0.index t (0 : Fin 3) = 0 ∧ win0_0.index t (1 : Fin 3) = t.val ∧ win0_0.index t (2 : Fin 3) = 0 :=
  (by decide +kernel : ∀ t : Fin grid0.N, _)
theorem at1 : ∀ t : Fin cfg0.N, win0_1.index t (0 : Fin 3) = 0 ∧ win0_1.index t (1 : Fin 3) = t.val ∧ win0_1.index t (2 : Fin 3) = 0 :=
  (by decide +kernel : ∀ t : Fin grid0.N, _)
theorem at2 : ∀ t : Fin cfg0.N, win0_2.index t (0 : Fin 3) = 0 ∧ win0_2.index t (1 : Fin 3) = t.val ∧ win0_2.index t (2 : Fin 3) = 0 :=
  (by decide +kernel : ∀ t : Fin grid0.N, _)
theorem at3 : ∀ t : Fin cfg0.N, win0_3.index t (0 : Fin 3) = 0 ∧ win0_3.index t (1 : Fin 3) = t.val ∧ win0_3.index t (2 : Fin 3) = 0 :=
  (by decide +kernel : ∀ t : Fin grid0.N, _)
theorem at4 : ∀ t : Fin cfg0.N, win0_4.index t (0 : Fin 3) = 0 ∧ win0_4.index t (1 : Fin 3) = t.val ∧ win0_4.index t (2 : Fin 3) = 0 :=
  (by decide +kernel : ∀ t : Fin grid0.N, _)
theorem at5 : ∀ t : Fin cfg0.N, win0_5.index t (0 : Fin 3) = 0 ∧ win0_5.index t (1 : Fin 3) = t.val ∧ win0_5.index t (2 : Fin 3) = 0 :=
  (by decide +kernel : ∀ t : Fin grid0.N, _)
theorem at6 : ∀ t : Fin cfg0.N, win0_6.index t (0 : Fin 3) = 0 ∧ win0_6.index t (1 : Fin 3) = t.val ∧ win0_6.index t (2 : Fin 3) = 0 :=
  (by decide +kernel : ∀ t : Fin grid0.N, _)
theorem at7 : ∀ t : Fin cfg0.N, win0_7.index t (0 : Fin 3) = 0 ∧ win0_7.index t (1 : Fin 3) = t.val ∧ win0_7.index t (2 : Fin 3) = 0 :=
  (by decide +kernel : ∀ t : Fin grid0.N, _)

variable (m : (ℓ : Loc nD τ sig) → Buf (Elt Ideal) ℓ) (c : Dev nD)

theorem block0 (X : ℕ → ℕ → ℕ → EReal) (hV : V m c main_arg0 = ext3 X) (t : Fin cfg0.N) :
    iblk m c 0 t = ext3 fun z r x => X z (t.val * 32 + r) x := by
  obtain ⟨e0, e1, e2⟩ := at0 t
  have hV' : V m c (Pipeline.arrRef spec0 0) = ext3 X := hV
  unfold iblk
  generalize V m c (Pipeline.arrRef spec0 0) = W at hV'
  subst hV'
  funext j
  show X (win0_0.index t (0 : Fin 3) * 1 + 1 * (j 0).val) (win0_0.index t (1 : Fin 3) * 32 + 1 * (j 1).val) (win0_0.index t (2 : Fin 3) * 1024 + 1 * (j 2).val)
    = X (j 0).val (t.val * 32 + (j 1).val) (j 2).val
  rw [e0, e1, e2]
  simp only [one_mul, Nat.zero_mul, Nat.zero_add]
theorem block1 (X : ℕ → ℕ → ℕ → EReal) (hV : V m c main_arg1 = ext3 X) (t : Fin cfg0.N) :
    iblk m c 1 t = ext3 fun z r x => X z (t.val * 32 + r) x := by
  obtain ⟨e0, e1, e2⟩ := at1 t
  have hV' : V m c (Pipeline.arrRef spec0 1) = ext3 X := hV
  unfold iblk
  generalize V m c (Pipeline.arrRef spec0 1) = W at hV'
  subst hV'
  funext j
  show X (win0_1.index t (0 : Fin 3) * 1 + 1 * (j 0).val) (win0_1.index t (1 : Fin 3) * 32 + 1 * (j 1).val) (win0_1.index t (2 : Fin 3) * 1024 + 1 * (j 2).val)
    = X (j 0).val (t.val * 32 + (j 1).val) (j 2).val
  rw [e0, e1, e2]
  simp only [one_mul, Nat.zero_mul, Nat.zero_add]
theorem block2 (X : ℕ → ℕ → ℕ → EReal) (hV : V m c main_arg2 = ext3 X) (t : Fin cfg0.N) :
    iblk m c 2 t = ext3 fun z r x => X z (t.val * 32 + r) x := by
  obtain ⟨e0, e1, e2⟩ := at2 t
  have hV' : V m c (Pipeline.arrRef spec0 2) = ext3 X := hV
  unfold iblk
  generalize V m c (Pipeline.arrRef spec0 2) = W at hV'
  subst hV'
  funext j
  show X (win0_2.index t (0 : Fin 3) * 1 + 1 * (j 0).val) (win0_2.index t (1 : Fin 3) * 32 + 1 * (j 1).val) (win0_2.index t (2 : Fin 3) * 1024 + 1 * (j 2).val)
    = X (j 0).val (t.val * 32 + (j 1).val) (j 2).val
  rw [e0, e1, e2]
  simp only [one_mul, Nat.zero_mul, Nat.zero_add]
theorem block3 (X : ℕ → ℕ → ℕ → EReal) (hV : V m c main_arg3 = ext3 X) (t : Fin cfg0.N) :
    iblk m c 3 t = ext3 fun z r x => X z (t.val * 32 + r) x := by
  obtain ⟨e0, e1, e2⟩ := at3 t
  have hV' : V m c (Pipeline.arrRef spec0 3) = ext3 X := hV
  unfold iblk
  generalize V m c (Pipeline.arrRef spec0 3) = W at hV'
  subst hV'
  funext j
  show X (win0_3.index t (0 : Fin 3) * 4 + 1 * (j 0).val) (win0_3.index t (1 : Fin 3) * 32 + 1 * (j 1).val) (win0_3.index t (2 : Fin 3) * 1024 + 1 * (j 2).val)
    = X (j 0).val (t.val * 32 + (j 1).val) (j 2).val
  rw [e0, e1, e2]
  simp only [one_mul, Nat.zero_mul, Nat.zero_add]

/-- The arguments' arrays hold the given entries. -/
structure Given (A : Args) : Prop where
  x0 : m ((c : Thread nD τ).loc main_arg0) = ext3 A.W
  x1 : m ((c : Thread nD τ).loc main_arg1) = ext3 A.M
  x2 : m ((c : Thread nD τ).loc main_arg2) = ext3 A.V
  x3 : m ((c : Thread nD τ).loc main_arg3) = ext3 A.P

variable {m c} {A : Args} (h : Given m c A)

include h

/-- The point's own blocks are its rows of the arguments. -/
theorem b0 (t : Fin cfg0.N) : iblk m c 0 t = ext3 (A.from_ (t.val * 32)).W := block0 m c _ ((V_main_arg0 m c).trans h.x0) t
theorem b1 (t : Fin cfg0.N) : iblk m c 1 t = ext3 (A.from_ (t.val * 32)).M := block1 m c _ ((V_main_arg1 m c).trans h.x1) t
theorem b2 (t : Fin cfg0.N) : iblk m c 2 t = ext3 (A.from_ (t.val * 32)).V := block2 m c _ ((V_main_arg2 m c).trans h.x2) t
theorem b3 (t : Fin cfg0.N) : iblk m c 3 t = ext3 (A.from_ (t.val * 32)).P := block3 m c _ ((V_main_arg3 m c).trans h.x3) t

/-! ### The arrays the call returns -/

/-- What point `t` leaves of the gradient. -/
theorem out4 (t : Fin cfg0.N) : out0_4 (iblk m c 0 t) (iblk m c 1 t) (iblk m c 2 t) (iblk m c 3 t)
    = (ext3 (fun _ r x => (A.from_ (t.val * 32)).g r x) : Vec Ideal S1x32x1024 .f32) := by
  have e : ∀ (x0 x1 x2 : Vec Ideal S1x32x1024 .f32) (x3 : Vec Ideal S4x32x1024 .bf16), out0_4 x0 x1 x2 x3 = k0_pay2 (F := Ideal) (View.ld x3 r0_0) (View.ld x3 r0_1) (View.ld x3 r0_2) (View.ld x3 r0_3) := by
    intro x0 x1 x2 x3
    unfold out0_4
    frame_out
  rw [e, load0 _ _ (b3 h t), load1 _ _ (b3 h t), load2 _ _ (b3 h t), load3 _ _ (b3 h t)]
  skip
  exact eq_ext3 _ _ fun a b x => tile_g (A.from_ (t.val * 32)) a b x
/-- The array of the gradient. -/
theorem array4 : (dats m 0 c).arrAt 4 cfg0.N = (ext3 (fun _ r x => A.g r x) : (⟨S1x128x1024, .f32⟩ : BufTy).Contents (Elt Ideal)) := by
  refine Pipeline.Dat.arrAt_eq_of_cover _ 4 _ (fun t _ => ?_) fun i => ?_
  · obtain ⟨e0, e1, e2⟩ := at4 t
    show (cfg0.win 4).cut (grid0.coords t) ((dats m 0 c).after 4 t) = _
    rw [Cert.Kernel15Ideal.Gen.after0_4, out4 h]
    funext j
    show A.g (t.val * 32 + (j 1).val) ((j 2).val)
      = A.g (win0_4.index t (1 : Fin 3) * 32 + 1 * (j 1).val) (win0_4.index t (2 : Fin 3) * 1024 + 1 * (j 2).val)
    rw [e1, e2]
    simp only [one_mul, Nat.zero_mul, Nat.zero_add]
  · have h0 : (i 0).val < 1 := (i 0).isLt
    have h1 : (i 1).val < 128 := (i 1).isLt
    let t : Fin cfg0.N := ⟨(i 1).val / 32, show _ < 4 by omega⟩
    obtain ⟨e0, e1, e2⟩ := at4 t
    have ht : t.val = (i 1).val / 32 := rfl
    refine ⟨t, flush0_4 t, ?_⟩
    have hm := ((cfg0.win 4).blk t).view.emb_mem_set (ix3 ⟨(i 0).val, (i 0).isLt⟩ ⟨(i 1).val % 32, by omega⟩ ⟨(i 2).val, (i 2).isLt⟩)
    refine Eq.subst (motive := fun k => k ∈ ((cfg0.win 4).blk t).view.set) ?_ hm
    funext a; apply Fin.ext
    match a with
    | ⟨0, _⟩ => show win0_4.index t (0 : Fin 3) * 1 + 1 * (i 0).val = (i 0).val; omega
    | ⟨1, _⟩ => show win0_4.index t (1 : Fin 3) * 32 + 1 * ((i 1).val % 32) = (i 1).val; omega
    | ⟨2, _⟩ => show win0_4.index t (2 : Fin 3) * 1024 + 1 * (i 2).val = (i 2).val; omega
/-- What point `t` leaves of the update. -/
theorem out5 (t : Fin cfg0.N) : out0_5 (iblk m c 0 t) (iblk m c 1 t) (iblk m c 2 t) (iblk m c 3 t)
    = (ext3 (A.from_ (t.val * 32)).delta : Vec Ideal S1x32x1024 .f32) := by
  have e : ∀ (x0 x1 x2 : Vec Ideal S1x32x1024 .f32) (x3 : Vec Ideal S4x32x1024 .bf16), out0_5 x0 x1 x2 x3 = k0_pay1 (F := Ideal) (k0_pay5 (F := Ideal) (View.ld x3 r0_0) (View.ld x3 r0_1) (View.ld x3 r0_2) (View.ld x3 r0_3) x1) (k0_pay6 (F := Ideal) (View.ld x3 r0_0) (View.ld x3 r0_1) (View.ld x3 r0_2) (View.ld x3 r0_3) x2) x0 := by
    intro x0 x1 x2 x3
    unfold out0_5
    frame_out
  rw [e, load0 _ _ (b3 h t), load1 _ _ (b3 h t), load2 _ _ (b3 h t), load3 _ _ (b3 h t)]
  rw [b0 h t, b1 h t, b2 h t]
  exact eq_ext3 _ _ fun a b x => tile_delta (A.from_ (t.val * 32)) a b x
/-- The array of the update. -/
theorem array5 : (dats m 0 c).arrAt 5 cfg0.N = (ext3 (A.delta) : (⟨S1x128x1024, .f32⟩ : BufTy).Contents (Elt Ideal)) := by
  refine Pipeline.Dat.arrAt_eq_of_cover _ 5 _ (fun t _ => ?_) fun i => ?_
  · obtain ⟨e0, e1, e2⟩ := at5 t
    show (cfg0.win 5).cut (grid0.coords t) ((dats m 0 c).after 5 t) = _
    rw [Cert.Kernel15Ideal.Gen.after0_5, out5 h]
    funext j
    show A.delta ((j 0).val) (t.val * 32 + (j 1).val) ((j 2).val)
      = A.delta (win0_5.index t (0 : Fin 3) * 1 + 1 * (j 0).val) (win0_5.index t (1 : Fin 3) * 32 + 1 * (j 1).val) (win0_5.index t (2 : Fin 3) * 1024 + 1 * (j 2).val)
    rw [e0, e1, e2]
    simp only [one_mul, Nat.zero_mul, Nat.zero_add]
  · have h0 : (i 0).val < 1 := (i 0).isLt
    have h1 : (i 1).val < 128 := (i 1).isLt
    let t : Fin cfg0.N := ⟨(i 1).val / 32, show _ < 4 by omega⟩
    obtain ⟨e0, e1, e2⟩ := at5 t
    have ht : t.val = (i 1).val / 32 := rfl
    refine ⟨t, flush0_5 t, ?_⟩
    have hm := ((cfg0.win 5).blk t).view.emb_mem_set (ix3 ⟨(i 0).val, (i 0).isLt⟩ ⟨(i 1).val % 32, by omega⟩ ⟨(i 2).val, (i 2).isLt⟩)
    refine Eq.subst (motive := fun k => k ∈ ((cfg0.win 5).blk t).view.set) ?_ hm
    funext a; apply Fin.ext
    match a with
    | ⟨0, _⟩ => show win0_5.index t (0 : Fin 3) * 1 + 1 * (i 0).val = (i 0).val; omega
    | ⟨1, _⟩ => show win0_5.index t (1 : Fin 3) * 32 + 1 * ((i 1).val % 32) = (i 1).val; omega
    | ⟨2, _⟩ => show win0_5.index t (2 : Fin 3) * 1024 + 1 * (i 2).val = (i 2).val; omega
/-- What point `t` leaves of the first moment. -/
theorem out6 (t : Fin cfg0.N) : out0_6 (iblk m c 0 t) (iblk m c 1 t) (iblk m c 2 t) (iblk m c 3 t)
    = (ext3 (A.from_ (t.val * 32)).m : Vec Ideal S1x32x1024 .f32) := by
  have e : ∀ (x0 x1 x2 : Vec Ideal S1x32x1024 .f32) (x3 : Vec Ideal S4x32x1024 .bf16), out0_6 x0 x1 x2 x3 = k0_pay3 (F := Ideal) (View.ld x3 r0_0) (View.ld x3 r0_1) (View.ld x3 r0_2) (View.ld x3 r0_3) x1 := by
    intro x0 x1 x2 x3
    unfold out0_6
    frame_out
  rw [e, load0 _ _ (b3 h t), load1 _ _ (b3 h t), load2 _ _ (b3 h t), load3 _ _ (b3 h t)]
  rw [b1 h t]
  exact eq_ext3 _ _ fun a b x => tile_m (A.from_ (t.val * 32)) a b x
/-- The array of the first moment. -/
theorem array6 : (dats m 0 c).arrAt 6 cfg0.N = (ext3 (A.m) : (⟨S1x128x1024, .f32⟩ : BufTy).Contents (Elt Ideal)) := by
  refine Pipeline.Dat.arrAt_eq_of_cover _ 6 _ (fun t _ => ?_) fun i => ?_
  · obtain ⟨e0, e1, e2⟩ := at6 t
    show (cfg0.win 6).cut (grid0.coords t) ((dats m 0 c).after 6 t) = _
    rw [Cert.Kernel15Ideal.Gen.after0_6, out6 h]
    funext j
    show A.m ((j 0).val) (t.val * 32 + (j 1).val) ((j 2).val)
      = A.m (win0_6.index t (0 : Fin 3) * 1 + 1 * (j 0).val) (win0_6.index t (1 : Fin 3) * 32 + 1 * (j 1).val) (win0_6.index t (2 : Fin 3) * 1024 + 1 * (j 2).val)
    rw [e0, e1, e2]
    simp only [one_mul, Nat.zero_mul, Nat.zero_add]
  · have h0 : (i 0).val < 1 := (i 0).isLt
    have h1 : (i 1).val < 128 := (i 1).isLt
    let t : Fin cfg0.N := ⟨(i 1).val / 32, show _ < 4 by omega⟩
    obtain ⟨e0, e1, e2⟩ := at6 t
    have ht : t.val = (i 1).val / 32 := rfl
    refine ⟨t, flush0_6 t, ?_⟩
    have hm := ((cfg0.win 6).blk t).view.emb_mem_set (ix3 ⟨(i 0).val, (i 0).isLt⟩ ⟨(i 1).val % 32, by omega⟩ ⟨(i 2).val, (i 2).isLt⟩)
    refine Eq.subst (motive := fun k => k ∈ ((cfg0.win 6).blk t).view.set) ?_ hm
    funext a; apply Fin.ext
    match a with
    | ⟨0, _⟩ => show win0_6.index t (0 : Fin 3) * 1 + 1 * (i 0).val = (i 0).val; omega
    | ⟨1, _⟩ => show win0_6.index t (1 : Fin 3) * 32 + 1 * ((i 1).val % 32) = (i 1).val; omega
    | ⟨2, _⟩ => show win0_6.index t (2 : Fin 3) * 1024 + 1 * (i 2).val = (i 2).val; omega
/-- What point `t` leaves of the second moment. -/
theorem out7 (t : Fin cfg0.N) : out0_7 (iblk m c 0 t) (iblk m c 1 t) (iblk m c 2 t) (iblk m c 3 t)
    = (ext3 (A.from_ (t.val * 32)).v : Vec Ideal S1x32x1024 .f32) := by
  have e : ∀ (x0 x1 x2 : Vec Ideal S1x32x1024 .f32) (x3 : Vec Ideal S4x32x1024 .bf16), out0_7 x0 x1 x2 x3 = k0_pay4 (F := Ideal) (View.ld x3 r0_0) (View.ld x3 r0_1) (View.ld x3 r0_2) (View.ld x3 r0_3) x2 := by
    intro x0 x1 x2 x3
    unfold out0_7
    frame_out
  rw [e, load0 _ _ (b3 h t), load1 _ _ (b3 h t), load2 _ _ (b3 h t), load3 _ _ (b3 h t)]
  rw [b2 h t]
  exact eq_ext3 _ _ fun a b x => tile_v (A.from_ (t.val * 32)) a b x
/-- The array of the second moment. -/
theorem array7 : (dats m 0 c).arrAt 7 cfg0.N = (ext3 (A.v) : (⟨S1x128x1024, .f32⟩ : BufTy).Contents (Elt Ideal)) := by
  refine Pipeline.Dat.arrAt_eq_of_cover _ 7 _ (fun t _ => ?_) fun i => ?_
  · obtain ⟨e0, e1, e2⟩ := at7 t
    show (cfg0.win 7).cut (grid0.coords t) ((dats m 0 c).after 7 t) = _
    rw [Cert.Kernel15Ideal.Gen.after0_7, out7 h]
    funext j
    show A.v ((j 0).val) (t.val * 32 + (j 1).val) ((j 2).val)
      = A.v (win0_7.index t (0 : Fin 3) * 1 + 1 * (j 0).val) (win0_7.index t (1 : Fin 3) * 32 + 1 * (j 1).val) (win0_7.index t (2 : Fin 3) * 1024 + 1 * (j 2).val)
    rw [e0, e1, e2]
    simp only [one_mul, Nat.zero_mul, Nat.zero_add]
  · have h0 : (i 0).val < 1 := (i 0).isLt
    have h1 : (i 1).val < 128 := (i 1).isLt
    let t : Fin cfg0.N := ⟨(i 1).val / 32, show _ < 4 by omega⟩
    obtain ⟨e0, e1, e2⟩ := at7 t
    have ht : t.val = (i 1).val / 32 := rfl
    refine ⟨t, flush0_7 t, ?_⟩
    have hm := ((cfg0.win 7).blk t).view.emb_mem_set (ix3 ⟨(i 0).val, (i 0).isLt⟩ ⟨(i 1).val % 32, by omega⟩ ⟨(i 2).val, (i 2).isLt⟩)
    refine Eq.subst (motive := fun k => k ∈ ((cfg0.win 7).blk t).view.set) ?_ hm
    funext a; apply Fin.ext
    match a with
    | ⟨0, _⟩ => show win0_7.index t (0 : Fin 3) * 1 + 1 * (i 0).val = (i 0).val; omega
    | ⟨1, _⟩ => show win0_7.index t (1 : Fin 3) * 32 + 1 * ((i 1).val % 32) = (i 1).val; omega
    | ⟨2, _⟩ => show win0_7.index t (2 : Fin 3) * 1024 + 1 * (i 2).val = (i 2).val; omega

omit h

/-! ### The claims -/

/-- The idealized kernel leaves the gradient, the update and the moments, and keeps its arguments. -/
theorem kernel_run (m : (ℓ : Loc nD τ sig) → Buf (Elt Ideal) ℓ) (ρ : Dev nD → PrngReg) (A : Dev nD → Args) (h : ∀ c, Given m c (A c)) :
    θ_run (defs (F := Ideal)) (onTc (τ := τ) (main (F := Ideal))) ⟨m, fun _ => 0, ρ⟩ (fun r => ∀ c : Dev nD,
      r.2.mem ((c : Thread nD τ).loc main_v0_0) = ext3 (fun _ r x => (A c).g r x)
      ∧ r.2.mem ((c : Thread nD τ).loc main_v0_1) = ext3 (A c).delta
      ∧ r.2.mem ((c : Thread nD τ).loc main_v0_2) = ext3 (A c).m
      ∧ r.2.mem ((c : Thread nD τ).loc main_v0_3) = ext3 (A c).v
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run _ _ _).mono (fun _ k c => ⟨(k c).1.trans (array4 (h c)), (k c).2.1.trans (array5 (h c)), (k c).2.2.1.trans (array6 (h c)),
      (k c).2.2.2.1.trans (array7 (h c)), (k c).2.2.2.2⟩)
    (Cert.Kernel15Ideal.Value.run_blocks (F := Ideal) m ρ)

/-- Any arguments are given by their entries. -/
theorem exists_args (x0 x1 x2 : (⟨3, ![1, 128, 1024]⟩ : Shape).Idx → EReal) (x3 : (⟨3, ![4, 128, 1024]⟩ : Shape).Idx → EReal) :
    ∃ A : Args, x0 = ext3 A.W ∧ x1 = ext3 A.M ∧ x2 = ext3 A.V ∧ x3 = ext3 A.P := by
  obtain ⟨X0, e0⟩ := exists_ext3 x0
  obtain ⟨X1, e1⟩ := exists_ext3 x1
  obtain ⟨X2, e2⟩ := exists_ext3 x2
  obtain ⟨X3, e3⟩ := exists_ext3 x3
  exact ⟨⟨X0, X1, X2, X3⟩, e0, e1, e2, e3⟩

/-- The idealized kernel and the reference leave the same results, whatever the arguments. -/
theorem algebraic : Cert.algebraic_Kernel15Ideal_Reference15Ideal := by
  intro m ρ m' ρ' _ hagree
  choose A hA using fun c : Dev nD => exists_args (m ((c : Thread nD τ).loc main_arg0)) (m ((c : Thread nD τ).loc main_arg1))
    (m ((c : Thread nD τ).loc main_arg2)) (m ((c : Thread nD τ).loc main_arg3))
  refine ⟨fun c => ext3 (fun _ r x => (A c).g r x), fun c => ext3 (A c).delta, fun c => ext3 (A c).m, fun c => ext3 (A c).v,
    kernel_run m ρ A fun c => ⟨(hA c).1, (hA c).2.1, (hA c).2.2.1, (hA c).2.2.2⟩, ?_⟩
  refine (θ_run Cert.Reference15Ideal.defs _ _).mono (fun _ h c => ?_) (Cert.Reference15Ideal.Value.run (F := Ideal) m' ρ')
  obtain ⟨h0, h1, h2, h3, hargs⟩ := h c
  obtain ⟨g0, g1, g2, g3⟩ := hagree c
  obtain ⟨a0, a1, a2, a3⟩ := hA c
  have b0 := g0.trans a0
  have b1 := g1.trans a1
  have b2 := g2.trans a2
  have b3 := g3.trans a3
  refine ⟨(h0.trans (val_main_v2_eq _)).trans ?_, (h1.trans (val_main_v26_eq _ _ _ _)).trans ?_, (h2.trans (val_main_v7_eq _ _)).trans ?_,
    (h3.trans (val_main_v13_eq _ _)).trans ?_, hargs⟩
  · refine Eq.trans ?_ (ref_g (A c)); rw [← b3]
  · refine Eq.trans ?_ (ref_delta (A c)); rw [← b0, ← b1, ← b2, ← b3]
  · refine Eq.trans ?_ (ref_m (A c)); rw [← b1, ← b3]
  · refine Eq.trans ?_ (ref_v (A c)); rw [← b2, ← b3]

/-- The idealized reference runs and ends quiescent. -/
theorem quiescent_reference : Cert.quiescent_Reference15Ideal := fun m ρ _ =>
  (θ_run Cert.Reference15Ideal.defs _ _).mono (fun r h => ⟨fun c => (h c).2.2.2.2, sem_eq_zero_of_no_sems (by decide) r.2⟩)
    (Cert.Reference15Ideal.Value.run (F := Ideal) m ρ)

end Cert.Proof.Adam

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal.Frame
public import proofs.«01_k».proof.Proof.Gen.Kernel2Ideal.Loops
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Lb.Claims
public import proofs.«01_k».proof.Proof.Attn.Algebraic
public import proofs.«01_k».proof.Proof.Ffn.Claims
public import proofs.«01_k».proof.Proof.Norm.Claims
public import proofs.«01_k».proof.Proof.Loss.Claims
public import proofs.«01_k».proof.Proof.Fold.Claims
public import proofs.«01_k».proof.Proof.InProj.Claims
public import proofs.«01_k».proof.Proof.Rms.Claims
public import proofs.«01_k».proof.Proof.Down.Claims
public import proofs.«01_k».proof.Proof.OutProj.Claims
public import proofs.«01_k».proof.Proof.Up.Claims
public import proofs.«01_k».proof.Proof.LbFwd.Claims
public import proofs.«01_k».proof.Proof.Expand.Claims
public import proofs.«01_k».proof.Proof.InDot.Claims
public import proofs.«01_k».proof.Proof.Adam.Claims

@[expose] public section

noncomputable section

namespace Cert.Proof

open Idealize.ShloMosaic Idealize.SL.Sem

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Lb.pre_facts, Attn.pre_facts, Ffn.pre_facts, Norm.pre_facts, Loss.pre_facts, Fold.pre_facts, InProj.pre_facts, Rms.pre_facts, Down.pre_facts, OutProj.pre_facts, Up.pre_facts, LbFwd.pre_facts, Expand.pre_facts, InDot.pre_facts,
  fun m ρ _ => Cert.Kernel.Gen.frame m ρ, fun m ρ _ => Cert.KernelIdeal.Gen.frame m ρ,
  fun m ρ _ => Cert.KernelIdeal.Gen.frame m ρ,
  Lb.quiescent_reference, fun m ρ _ => Lb.quiescent_reference m ρ trivial,
  Attn.quiescent_kernel2, Attn.quiescent_kernel2_ideal, fun m ρ _ => Attn.quiescent_kernel2_ideal m ρ trivial,
  Attn.quiescent_reference2, fun m ρ _ => Attn.quiescent_reference2 m ρ trivial,
  fun m ρ _ => Cert.Kernel3.Gen.frame m ρ, fun m ρ _ => Cert.Kernel3Ideal.Gen.frame m ρ, fun m ρ _ => Cert.Kernel3Ideal.Gen.frame m ρ,
  Ffn.quiescent_reference, fun m ρ _ => Ffn.quiescent_reference m ρ trivial,
  fun m ρ _ => Cert.Kernel4.Gen.frame m ρ, fun m ρ _ => Cert.Kernel4Ideal.Gen.frame m ρ, fun m ρ _ => Cert.Kernel4Ideal.Gen.frame m ρ,
  Norm.quiescent_reference, fun m ρ _ => Norm.quiescent_reference m ρ trivial,
  fun m ρ _ => Cert.Kernel5.Gen.frame m ρ, fun m ρ _ => Cert.Kernel5Ideal.Gen.frame m ρ, fun m ρ _ => Cert.Kernel5Ideal.Gen.frame m ρ,
  Loss.quiescent_reference, fun m ρ _ => Loss.quiescent_reference m ρ trivial,
  fun m ρ _ => Cert.Kernel6.Gen.frame m ρ, fun m ρ _ => Cert.Kernel6Ideal.Gen.frame m ρ, fun m ρ _ => Cert.Kernel6Ideal.Gen.frame m ρ,
  Fold.quiescent_reference, fun m ρ _ => Fold.quiescent_reference m ρ trivial,
  fun m ρ _ => Cert.Kernel7.Gen.frame m ρ, fun m ρ _ => Cert.Kernel7Ideal.Gen.frame m ρ, fun m ρ _ => Cert.Kernel7Ideal.Gen.frame m ρ,
  InProj.quiescent_reference, fun m ρ _ => InProj.quiescent_reference m ρ trivial,
  fun m ρ _ => Cert.Kernel8.Gen.frame m ρ, fun m ρ _ => Cert.Kernel8Ideal.Gen.frame m ρ, fun m ρ _ => Cert.Kernel8Ideal.Gen.frame m ρ,
  Rms.quiescent_reference, fun m ρ _ => Rms.quiescent_reference m ρ trivial,
  fun m ρ _ => Cert.Kernel9.Gen.frame m ρ, fun m ρ _ => Cert.Kernel9Ideal.Gen.frame m ρ, fun m ρ _ => Cert.Kernel9Ideal.Gen.frame m ρ,
  Down.quiescent_reference, fun m ρ _ => Down.quiescent_reference m ρ trivial,
  fun m ρ _ => Cert.Kernel10.Gen.frame m ρ, fun m ρ _ => Cert.Kernel10Ideal.Gen.frame m ρ, fun m ρ _ => Cert.Kernel10Ideal.Gen.frame m ρ,
  OutProj.quiescent_reference, fun m ρ _ => OutProj.quiescent_reference m ρ trivial,
  fun m ρ _ => Cert.Kernel11.Gen.frame m ρ, fun m ρ _ => Cert.Kernel11Ideal.Gen.frame m ρ, fun m ρ _ => Cert.Kernel11Ideal.Gen.frame m ρ,
  Up.quiescent_reference, fun m ρ _ => Up.quiescent_reference m ρ trivial,
  fun m ρ _ => Cert.Kernel12.Gen.frame m ρ, fun m ρ _ => Cert.Kernel12Ideal.Gen.frame m ρ, fun m ρ _ => Cert.Kernel12Ideal.Gen.frame m ρ,
  LbFwd.quiescent_reference, fun m ρ _ => LbFwd.quiescent_reference m ρ trivial,
  fun m ρ _ => Cert.Kernel13.Gen.frame m ρ, fun m ρ _ => Cert.Kernel13Ideal.Gen.frame m ρ, fun m ρ _ => Cert.Kernel13Ideal.Gen.frame m ρ,
  Expand.quiescent_reference, fun m ρ _ => Expand.quiescent_reference m ρ trivial,
  fun m ρ _ => Cert.Kernel14.Gen.frame m ρ, fun m ρ _ => Cert.Kernel14Ideal.Gen.frame m ρ, fun m ρ _ => Cert.Kernel14Ideal.Gen.frame m ρ,
  InDot.quiescent_reference, fun m ρ _ => InDot.quiescent_reference m ρ trivial,
  fun m ρ _ => Cert.Kernel15.Gen.frame m ρ, fun m ρ _ => Cert.Kernel15Ideal.Gen.frame m ρ,
  Adam.quiescent_reference,
  (trivial : Cert.preserves_Kernel_KernelIdeal), @Lb.algebraic Lb.pre_facts,
  (trivial : Cert.preserves_Kernel2_Kernel2Ideal), @Attn.algebraic Attn.pre_facts,
  (trivial : Cert.preserves_Kernel3_Kernel3Ideal), @Ffn.algebraic Ffn.pre_facts,
  (trivial : Cert.preserves_Kernel4_Kernel4Ideal), @Norm.algebraic Norm.pre_facts,
  (trivial : Cert.preserves_Kernel5_Kernel5Ideal), @Loss.algebraic Loss.pre_facts,
  (trivial : Cert.preserves_Kernel6_Kernel6Ideal), @Fold.algebraic Fold.pre_facts,
  (trivial : Cert.preserves_Kernel7_Kernel7Ideal), @InProj.algebraic InProj.pre_facts,
  (trivial : Cert.preserves_Kernel8_Kernel8Ideal), @Rms.algebraic Rms.pre_facts,
  (trivial : Cert.preserves_Kernel9_Kernel9Ideal), @Down.algebraic Down.pre_facts,
  (trivial : Cert.preserves_Kernel10_Kernel10Ideal), @OutProj.algebraic OutProj.pre_facts,
  (trivial : Cert.preserves_Kernel11_Kernel11Ideal), @Up.algebraic Up.pre_facts,
  (trivial : Cert.preserves_Kernel12_Kernel12Ideal), @LbFwd.algebraic LbFwd.pre_facts,
  (trivial : Cert.preserves_Kernel13_Kernel13Ideal), @Expand.algebraic Expand.pre_facts,
  (trivial : Cert.preserves_Kernel14_Kernel14Ideal), @InDot.algebraic InDot.pre_facts,
  (trivial : Cert.preserves_Kernel15_Kernel15Ideal), Adam.algebraic⟩

end Cert.Proof

end
